-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ln1 (m : (ℓ : Loc Cert.Ln1.nD Cert.Ln1.τ Cert.Ln1.sig) → Buf (Elt Bits) ℓ) : Prop :=
  True

def Pre_Ln1Ideal (m : (ℓ : Loc Cert.Ln1Ideal.nD Cert.Ln1Ideal.τ Cert.Ln1Ideal.sig) → Buf (Elt Ideal) ℓ) : Prop :=
  True

def Pre_Ln1ReferenceIdeal (m : (ℓ : Loc Cert.Ln1ReferenceIdeal.nD Cert.Ln1ReferenceIdeal.τ Cert.Ln1ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Ln1 [hLn1 : Cert.Ln1.Facts] : Prop :=
  ∀ (m : (ℓ : Loc Cert.Ln1.nD Cert.Ln1.τ Cert.Ln1.sig) → Buf (Elt Bits) ℓ) (g : Dev Cert.Ln1.nD → PrngReg), Pre_Ln1 m →
    θ_run (Cert.Ln1.defs (F := Bits)) (onTc (τ := Cert.Ln1.τ) (Cert.Ln1.main (F := Bits))) ⟨m, fun _ => 0, g⟩ (fun r => (∀ c : Dev Cert.Ln1.nD,
      r.2.mem ((c.tc : Thread Cert.Ln1.nD Cert.Ln1.τ).loc Cert.Ln1.main_arg0) = m ((c.tc : Thread Cert.Ln1.nD Cert.Ln1.τ).loc Cert.Ln1.main_arg0)
      ∧ r.2.mem ((c.tc : Thread Cert.Ln1.nD Cert.Ln1.τ).loc Cert.Ln1.main_arg1) = m ((c.tc : Thread Cert.Ln1.nD Cert.Ln1.τ).loc Cert.Ln1.main_arg1)
      ∧ r.2.mem ((c.tc : Thread Cert.Ln1.nD Cert.Ln1.τ).loc Cert.Ln1.main_arg2) = m ((c.tc : Thread Cert.Ln1.nD Cert.Ln1.τ).loc Cert.Ln1.main_arg2))
      ∧ r.2.sem = fun _ => 0)

def quiescent_Ln1Ideal [hLn1Ideal : Cert.Ln1Ideal.Facts] : Prop :=
  ∀ (m : (ℓ : Loc Cert.Ln1Ideal.nD Cert.Ln1Ideal.τ Cert.Ln1Ideal.sig) → Buf (Elt Ideal) ℓ) (g : Dev Cert.Ln1Ideal.nD → PrngReg), Pre_Ln1Ideal m →
    θ_run (Cert.Ln1Ideal.defs (F := Ideal)) (onTc (τ := Cert.Ln1Ideal.τ) (Cert.Ln1Ideal.main (F := Ideal))) ⟨m, fun _ => 0, g⟩ (fun r => (∀ c : Dev Cert.Ln1Ideal.nD,
      r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
      ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
      ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2))
      ∧ r.2.sem = fun _ => 0)

def quiescent_Ln1ReferenceIdeal [hLn1ReferenceIdeal : Cert.Ln1ReferenceIdeal.Facts] : Prop :=
  ∀ (m : (ℓ : Loc Cert.Ln1ReferenceIdeal.nD Cert.Ln1ReferenceIdeal.τ Cert.Ln1ReferenceIdeal.sig) → Buf (Elt Ideal) ℓ) (g : Dev Cert.Ln1ReferenceIdeal.nD → PrngReg), Pre_Ln1ReferenceIdeal m →
    θ_run (Cert.Ln1ReferenceIdeal.defs (F := Ideal)) (onTc (τ := Cert.Ln1ReferenceIdeal.τ) (Cert.Ln1ReferenceIdeal.main (F := Ideal))) ⟨m, fun _ => 0, g⟩ (fun r => (∀ c : Dev Cert.Ln1ReferenceIdeal.nD,
      r.2.mem ((c.tc : Thread Cert.Ln1ReferenceIdeal.nD Cert.Ln1ReferenceIdeal.τ).loc Cert.Ln1ReferenceIdeal.main_arg0) = m ((c.tc : Thread Cert.Ln1ReferenceIdeal.nD Cert.Ln1ReferenceIdeal.τ).loc Cert.Ln1ReferenceIdeal.main_arg0)
      ∧ r.2.mem ((c.tc : Thread Cert.Ln1ReferenceIdeal.nD Cert.Ln1ReferenceIdeal.τ).loc Cert.Ln1ReferenceIdeal.main_arg1) = m ((c.tc : Thread Cert.Ln1ReferenceIdeal.nD Cert.Ln1ReferenceIdeal.τ).loc Cert.Ln1ReferenceIdeal.main_arg1)
      ∧ r.2.mem ((c.tc : Thread Cert.Ln1ReferenceIdeal.nD Cert.Ln1ReferenceIdeal.τ).loc Cert.Ln1ReferenceIdeal.main_arg2) = m ((c.tc : Thread Cert.Ln1ReferenceIdeal.nD Cert.Ln1ReferenceIdeal.τ).loc Cert.Ln1ReferenceIdeal.main_arg2))
      ∧ r.2.sem = fun _ => 0)

def preserves_Kernel_KernelIdeal : Prop :=
  IdealRules.named_const.Statement Cert.KernelIdeal.κ "inv_c" .f32 0x3C2AAAAB#32 ((1 / 96 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)) (v3 : (c : Dev Cert.KernelIdeal.nD) → Buf (Elt Ideal) ((c.tc : Thread Cert.KernelIdeal.nD Cert.KernelIdeal.τ).loc Cert.KernelIdeal.main_v21_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_v21_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_v6_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Ln1_Ln1Ideal : Prop :=
  True

def algebraic_Ln1Ideal_Ln1ReferenceIdeal [hLn1Ideal : Cert.Ln1Ideal.Facts] [hLn1ReferenceIdeal : Cert.Ln1ReferenceIdeal.Facts] : Prop :=
  ∀ (m : (ℓ : Loc Cert.Ln1Ideal.nD Cert.Ln1Ideal.τ Cert.Ln1Ideal.sig) → Buf (Elt Ideal) ℓ) (g : Dev Cert.Ln1Ideal.nD → PrngReg)
    (m' : (ℓ : Loc Cert.Ln1ReferenceIdeal.nD Cert.Ln1ReferenceIdeal.τ Cert.Ln1ReferenceIdeal.sig) → Buf (Elt Ideal) ℓ) (g' : Dev Cert.Ln1ReferenceIdeal.nD → PrngReg), Pre_Ln1Ideal m →
    (∀ c : Dev Cert.Ln1Ideal.nD,
      m' ((c.tc : Thread Cert.Ln1ReferenceIdeal.nD Cert.Ln1ReferenceIdeal.τ).loc Cert.Ln1ReferenceIdeal.main_arg0) = m ((c.tc : Thread Cert.Ln1Ideal.nD Cert.Ln1Ideal.τ).loc Cert.Ln1Ideal.main_arg0)
      ∧ m' ((c.tc : Thread Cert.Ln1ReferenceIdeal.nD Cert.Ln1ReferenceIdeal.τ).loc Cert.Ln1ReferenceIdeal.main_arg1) = m ((c.tc : Thread Cert.Ln1Ideal.nD Cert.Ln1Ideal.τ).loc Cert.Ln1Ideal.main_arg1)
      ∧ m' ((c.tc : Thread Cert.Ln1ReferenceIdeal.nD Cert.Ln1ReferenceIdeal.τ).loc Cert.Ln1ReferenceIdeal.main_arg2) = m ((c.tc : Thread Cert.Ln1Ideal.nD Cert.Ln1Ideal.τ).loc Cert.Ln1Ideal.main_arg2)) →
    ∃ (v0 : (c : Dev Cert.Ln1Ideal.nD) → Buf (Elt Ideal) ((c.tc : Thread Cert.Ln1Ideal.nD Cert.Ln1Ideal.τ).loc Cert.Ln1Ideal.main_v13_0)) (v1 : (c : Dev Cert.Ln1Ideal.nD) → Buf (Elt Ideal) ((c.tc : Thread Cert.Ln1Ideal.nD Cert.Ln1Ideal.τ).loc Cert.Ln1Ideal.main_v13_1)),
      θ_run (Cert.Ln1Ideal.defs (F := Ideal)) (onTc (τ := Cert.Ln1Ideal.τ) (Cert.Ln1Ideal.main (F := Ideal))) ⟨m, fun _ => 0, g⟩ (fun r => ∀ c : Dev Cert.Ln1Ideal.nD,
          r.2.mem ((c.tc : Thread Cert.Ln1Ideal.nD Cert.Ln1Ideal.τ).loc Cert.Ln1Ideal.main_v13_0) = v0 c
          ∧ r.2.mem ((c.tc : Thread Cert.Ln1Ideal.nD Cert.Ln1Ideal.τ).loc Cert.Ln1Ideal.main_v13_1) = v1 c
          ∧ r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
          ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
          ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2))
      ∧ θ_run (Cert.Ln1ReferenceIdeal.defs (F := Ideal)) (onTc (τ := Cert.Ln1ReferenceIdeal.τ) (Cert.Ln1ReferenceIdeal.main (F := Ideal))) ⟨m', fun _ => 0, g'⟩ (fun r => ∀ c : Dev Cert.Ln1ReferenceIdeal.nD,
          r.2.mem ((c.tc : Thread Cert.Ln1ReferenceIdeal.nD Cert.Ln1ReferenceIdeal.τ).loc Cert.Ln1ReferenceIdeal.main_v35) = v0 c
          ∧ r.2.mem ((c.tc : Thread Cert.Ln1ReferenceIdeal.nD Cert.Ln1ReferenceIdeal.τ).loc Cert.Ln1ReferenceIdeal.main_v30) = v1 c
          ∧ r.2.mem ((c.tc : Thread Cert.Ln1ReferenceIdeal.nD Cert.Ln1ReferenceIdeal.τ).loc Cert.Ln1ReferenceIdeal.main_arg0) = m' ((c.tc : Thread Cert.Ln1ReferenceIdeal.nD Cert.Ln1ReferenceIdeal.τ).loc Cert.Ln1ReferenceIdeal.main_arg0)
          ∧ r.2.mem ((c.tc : Thread Cert.Ln1ReferenceIdeal.nD Cert.Ln1ReferenceIdeal.τ).loc Cert.Ln1ReferenceIdeal.main_arg1) = m' ((c.tc : Thread Cert.Ln1ReferenceIdeal.nD Cert.Ln1ReferenceIdeal.τ).loc Cert.Ln1ReferenceIdeal.main_arg1)
          ∧ r.2.mem ((c.tc : Thread Cert.Ln1ReferenceIdeal.nD Cert.Ln1ReferenceIdeal.τ).loc Cert.Ln1ReferenceIdeal.main_arg2) = m' ((c.tc : Thread Cert.Ln1ReferenceIdeal.nD Cert.Ln1ReferenceIdeal.τ).loc Cert.Ln1ReferenceIdeal.main_arg2))

def Claim : Prop :=
  ∃ (hKernel : Cert.Kernel.Facts) (hKernelIdeal : Cert.KernelIdeal.Facts) (hReferenceIdeal : Cert.ReferenceIdeal.Facts) (hLn1 : Cert.Ln1.Facts) (hLn1Ideal : Cert.Ln1Ideal.Facts) (hLn1ReferenceIdeal : Cert.Ln1ReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ln1 (hLn1 := hLn1)
    ∧ quiescent_Ln1Ideal (hLn1Ideal := hLn1Ideal)
    ∧ quiescent_Ln1ReferenceIdeal (hLn1ReferenceIdeal := hLn1ReferenceIdeal)
    ∧ preserves_Kernel_KernelIdeal
    ∧ algebraic_KernelIdeal_ReferenceIdeal (hKernelIdeal := hKernelIdeal) (hReferenceIdeal := hReferenceIdeal)
    ∧ preserves_Ln1_Ln1Ideal
    ∧ algebraic_Ln1Ideal_Ln1ReferenceIdeal (hLn1Ideal := hLn1Ideal) (hLn1ReferenceIdeal := hLn1ReferenceIdeal)
-- ==== Kernel.lean ====
abbrev S2x5x96x128x640 : Shape := ⟨5, ![2, 5, 96, 128, 640]⟩
abbrev S2x5x96x640x128 : Shape := ⟨5, ![2, 5, 96, 640, 128]⟩
abbrev S2x96x640 : Shape := ⟨3, ![2, 96, 640]⟩
abbrev S2x640x640x128 : Shape := ⟨4, ![2, 640, 640, 128]⟩
abbrev S2x640x640 : Shape := ⟨3, ![2, 640, 640]⟩
abbrev S128x512 : Shape := ⟨2, ![128, 512]⟩
abbrev S512 : Shape := ⟨1, ![512]⟩
abbrev S96 : Shape := ⟨1, ![96]⟩
abbrev S96x128 : Shape := ⟨2, ![96, 128]⟩
abbrev S128 : Shape := ⟨1, ![128]⟩
abbrev S128x128 : Shape := ⟨2, ![128, 128]⟩
abbrev S_ : Shape := ⟨0, ![]⟩
abbrev S512x128 : Shape := ⟨2, ![512, 128]⟩
abbrev S128x1 : Shape := ⟨2, ![128, 1]⟩
abbrev S128x96 : Shape := ⟨2, ![128, 96]⟩
abbrev S96x1 : Shape := ⟨2, ![96, 1]⟩
abbrev S2x640x96x640 : Shape := ⟨4, ![2, 640, 96, 640]⟩
abbrev S1x96x128 : Shape := ⟨3, ![1, 96, 128]⟩
abbrev S1x16x128x128 : Shape := ⟨4, ![1, 16, 128, 128]⟩
abbrev S1x16x128 : Shape := ⟨3, ![1, 16, 128]⟩
abbrev S1x16x96x128 : Shape := ⟨4, ![1, 16, 96, 128]⟩
abbrev S96x128x640 : Shape := ⟨3, ![96, 128, 640]⟩
abbrev S5x96x640x128 : Shape := ⟨4, ![5, 96, 640, 128]⟩
abbrev S24576x128 : Shape := ⟨2, ![24576, 128]⟩
abbrev S256x128 : Shape := ⟨2, ![256, 128]⟩
abbrev S768x128 : Shape := ⟨2, ![768, 128]⟩
abbrev S2 : Shape := ⟨1, ![2]⟩
abbrev S1 : Shape := ⟨1, ![1]⟩
abbrev S1x5x96x640x128 : Shape := ⟨5, ![1, 5, 96, 640, 128]⟩
abbrev S1x1x96x128x640 : Shape := ⟨5, ![1, 1, 96, 128, 640]⟩
abbrev S1x1x640x128 : Shape := ⟨4, ![1, 1, 640, 128]⟩
abbrev S640x128 : Shape := ⟨2, ![640, 128]⟩
abbrev S640x256 : Shape := ⟨2, ![640, 256]⟩
abbrev S1x128x640 : Shape := ⟨3, ![1, 128, 640]⟩
abbrev S128x640 : Shape := ⟨2, ![128, 640]⟩
abbrev S128x256 : Shape := ⟨2, ![128, 256]⟩
abbrev S1x1x128 : Shape := ⟨3, ![1, 1, 128]⟩
abbrev S1x128 : Shape := ⟨2, ![1, 128]⟩
abbrev S8x128 : Shape := ⟨2, ![8, 128]⟩
abbrev S1x8x128 : Shape := ⟨3, ![1, 8, 128]⟩
abbrev S1x1x96x128 : Shape := ⟨4, ![1, 1, 96, 128]⟩
abbrev S96x256 : Shape := ⟨2, ![96, 256]⟩
abbrev S1x2x128x128 : Shape := ⟨4, ![1, 2, 128, 128]⟩
abbrev S2x128x128 : Shape := ⟨3, ![2, 128, 128]⟩
abbrev S1x1x128x128 : Shape := ⟨4, ![1, 1, 128, 128]⟩

abbrev nBuf : Space → Nat
  | .hbm => 41
  | .vmem => 32
  | .smem => 0
  | _ => 0

abbrev bufTy : (tb : Table) → Fin (tcTables nBuf tb) → BufTy
  | .hbm, ⟨0, _⟩ => ⟨S2x5x96x128x640, .fp8e4m3⟩
  | .hbm, ⟨1, _⟩ => ⟨S2x5x96x640x128, .fp8e4m3⟩
  | .hbm, ⟨2, _⟩ => ⟨S2x96x640, .f32⟩
  | .hbm, ⟨3, _⟩ => ⟨S2x96x640, .f32⟩
  | .hbm, ⟨4, _⟩ => ⟨S2x640x640x128, .bf16⟩
  | .hbm, ⟨5, _⟩ => ⟨S2x640x640x128, .fp8e4m3⟩
  | .hbm, ⟨6, _⟩ => ⟨S2x640x640, .f32⟩
  | .hbm, ⟨7, _⟩ => ⟨S128x512, .fp8e4m3⟩
  | .hbm, ⟨8, _⟩ => ⟨S512, .f32⟩
  | .hbm, ⟨9, _⟩ => ⟨S96, .f32⟩
  | .hbm, ⟨10, _⟩ => ⟨S96, .f32⟩
  | .hbm, ⟨11, _⟩ => ⟨S96x128, .fp8e4m3⟩
  | .hbm, ⟨12, _⟩ => ⟨S128, .f32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S128x128, .bf16⟩
  | .hbm, ⟨20, _⟩ => ⟨S512x128, .fp8e4m3⟩
  | .hbm, ⟨21, _⟩ => ⟨S128, .f32⟩
  | .hbm, ⟨22, _⟩ => ⟨S128x1, .f32⟩
  | .hbm, ⟨23, _⟩ => ⟨S128x128, .f32⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S128x96, .fp8e4m3⟩
  | .hbm, ⟨28, _⟩ => ⟨S128x1, .f32⟩
  | .hbm, ⟨29, _⟩ => ⟨S128x128, .f32⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S96x1, .f32⟩
  | .hbm, ⟨34, _⟩ => ⟨S96x128, .f32⟩
  | .hbm, ⟨35, _⟩ => ⟨S96x1, .f32⟩
  | .hbm, ⟨36, _⟩ => ⟨S96x128, .f32⟩
  | .hbm, ⟨37, _⟩ => ⟨S2x640x640x128, .bf16⟩
  | .hbm, ⟨38, _⟩ => ⟨S2x640x640, .f32⟩
  | .hbm, ⟨39, _⟩ => ⟨S2x640x96x640, .fp8e4m3⟩
  | .hbm, ⟨40, _⟩ => ⟨S2x640x640, .f32⟩
  | .local _ .vmem, ⟨0, _⟩ => ⟨S1x96x128, .f32⟩
  | .local _ .vmem, ⟨1, _⟩ => ⟨S1x96x128, .f32⟩
  | .local _ .vmem, ⟨2, _⟩ => ⟨S1x96x128, .f32⟩
  | .local _ .vmem, ⟨3, _⟩ => ⟨S1x96x128, .f32⟩
  | .local _ .vmem, ⟨4, _⟩ => ⟨S1x96x128, .f32⟩
  | .local _ .vmem, ⟨5, _⟩ => ⟨S1x96x128, .f32⟩
  | .local _ .vmem, ⟨6, _⟩ => ⟨S1x16x128x128, .bf16⟩
  | .local _ .vmem, ⟨7, _⟩ => ⟨S1x16x128x128, .bf16⟩
  | .local _ .vmem, ⟨8, _⟩ => ⟨S1x16x128x128, .fp8e4m3⟩
  | .local _ .vmem, ⟨9, _⟩ => ⟨S1x16x128x128, .fp8e4m3⟩
  | .local _ .vmem, ⟨10, _⟩ => ⟨S1x16x128, .f32⟩
  | .local _ .vmem, ⟨11, _⟩ => ⟨S1x16x128, .f32⟩
  | .local _ .vmem, ⟨12, _⟩ => ⟨S128x128, .bf16⟩
  | .local _ .vmem, ⟨13, _⟩ => ⟨S128x128, .fp8e4m3⟩
  | .local _ .vmem, ⟨14, _⟩ => ⟨S128x128, .f32⟩
  | .local _ .vmem, ⟨15, _⟩ => ⟨S128x96, .fp8e4m3⟩
  | .local _ .vmem, ⟨16, _⟩ => ⟨S128x128, .f32⟩
  | .local _ .vmem, ⟨17, _⟩ => ⟨S96x128, .f32⟩
  | .local _ .vmem, ⟨18, _⟩ => ⟨S96x128, .f32⟩
  | .local _ .vmem, ⟨19, _⟩ => ⟨S1x16x128x128, .bf16⟩
  | .local _ .vmem, ⟨20, _⟩ => ⟨S1x16x128x128, .bf16⟩
  | .local _ .vmem, ⟨21, _⟩ => ⟨S1x16x128, .f32⟩
  | .local _ .vmem, ⟨22, _⟩ => ⟨S1x16x128, .f32⟩
  | .local _ .vmem, ⟨23, _⟩ => ⟨S1x16x96x128, .fp8e4m3⟩
  | .local _ .vmem, ⟨24, _⟩ => ⟨S1x16x96x128, .fp8e4m3⟩
  | .local _ .vmem, ⟨25, _⟩ => ⟨S1x16x128, .f32⟩
  | .local _ .vmem, ⟨26, _⟩ => ⟨S1x16x128, .f32⟩
  | .local _ .vmem, ⟨27, _⟩ => ⟨S96x128x640, .fp8e4m3⟩
  | .local _ .vmem, ⟨28, _⟩ => ⟨S5x96x640x128, .fp8e4m3⟩
  | .local _ .vmem, ⟨29, _⟩ => ⟨S24576x128, .f32⟩
  | .local _ .vmem, ⟨30, _⟩ => ⟨S256x128, .f32⟩
  | .local _ .vmem, ⟨31, _⟩ => ⟨S768x128, .f32⟩
  | _, _ => ⟨S2x5x96x128x640, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev main_v21_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨4, ![2, 5, 5, 8], ![false, false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let arg3 : BitVec 32 := BitVec.ofNat 32 (i 3).val
  let c0_i32_1 : BitVec 32 := 0#32
  let v3 : BitVec 1 := Scalar.cmpi .eq arg3 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def k0_off1 (i : grid0.Coords) : Fin 5 → Nat :=
  let arg0 : BitVec 32 := BitVec.ofNat 32 (i 0).val
  let c0_i32_3769 : BitVec 32 := 0#32
  let c0_i32_3770 : BitVec 32 := 0#32
  let c0_i32_3771 : BitVec 32 := 0#32
  let c0_i32_3772 : BitVec 32 := 0#32
  ![arg0.toNat, 0, 0, 0, 0]
def k0_cond2 (i : grid0.Coords) : BitVec 1 :=
  let arg2 : BitVec 32 := BitVec.ofNat 32 (i 2).val
  let c0_i32_3 : BitVec 32 := 0#32
  let v7 : BitVec 1 := Scalar.cmpi .eq arg2 c0_i32_3
  let arg3 : BitVec 32 := BitVec.ofNat 32 (i 3).val
  let c0_i32_4 : BitVec 32 := 0#32
  let v8 : BitVec 1 := Scalar.cmpi .eq arg3 c0_i32_4
  let v9 : BitVec 1 := Scalar.andi v7 v8
  let v10 : BitVec 32 := Scalar.extui v9
  let c0_i32_5 : BitVec 32 := 0#32
  let v11 : BitVec 1 := Scalar.cmpi .ne v10 c0_i32_5
  v11

def k0_off2 (i : grid0.Coords) : Fin 5 → Nat :=
  let arg0 : BitVec 32 := BitVec.ofNat 32 (i 0).val
  let arg1 : BitVec 32 := BitVec.ofNat 32 (i 1).val
  let c0_i32_3768 : BitVec 32 := 0#32
  let c0_i32_3769 : BitVec 32 := 0#32
  let c0_i32_3770 : BitVec 32 := 0#32
  ![arg0.toNat, arg1.toNat, 0, 0, 0]
def k0_cond3 (i : grid0.Coords) : BitVec 1 :=
  let arg3 : BitVec 32 := BitVec.ofNat 32 (i 3).val
  let c0_i32_6 : BitVec 32 := 0#32
  let v13 : BitVec 1 := Scalar.cmpi .eq arg3 c0_i32_6
  let arg2 : BitVec 32 := BitVec.ofNat 32 (i 2).val
  let c2_i32 : BitVec 32 := 2#32
  let v12 : BitVec 32 := Scalar.remsi arg2 c2_i32
  let c0_i32_7 : BitVec 32 := 0#32
  let v14 : BitVec 1 := Scalar.cmpi .eq v12 c0_i32_7
  let v15 : BitVec 1 := Scalar.andi v13 v14
  let c4_i32 : BitVec 32 := 4#32
  let v16 : BitVec 1 := Scalar.cmpi .slt arg2 c4_i32
  let v17 : BitVec 1 := Scalar.andi v15 v16
  let v18 : BitVec 32 := Scalar.extui v17
  let c0_i32_8 : BitVec 32 := 0#32
  let v19 : BitVec 1 := Scalar.cmpi .ne v18 c0_i32_8
  v19

@[reducible] def k0_t1_loop : Scf.Loop 32 :=
  let c0_i32_3771 : BitVec 32 := 0#32
  let c24_i32 : BitVec 32 := 24#32
  let v8641 : BitVec 32 := Scalar.addi c0_i32_3771 c24_i32
  let c1_i32 : BitVec 32 := 1#32
  ⟨c0_i32_3771, v8641, c1_i32⟩
def k0_off3 (i : grid0.Coords) (k0_t1 : Fin k0_t1_loop.trips) (c0_i32_3775 : BitVec 32) (c0_i32_3774 : BitVec 32) : Fin 4 → Nat :=
  let arg2 : BitVec 32 := BitVec.ofNat 32 (i 2).val
  let v8644 : BitVec 32 := Scalar.addi arg2 c0_i32_3775
  let v8645 : Index := Scalar.indexCast v8644
  let c0_i32_3771 : BitVec 32 := 0#32
  let c1_i32 : BitVec 32 := 1#32
  let arg29 : BitVec 32 := Scf.iv c0_i32_3771 c1_i32 k0_t1
  let c4_i32_3773 : BitVec 32 := 4#32
  let v8642 : BitVec 32 := Scalar.muli arg29 c4_i32_3773
  let v8643 : BitVec 32 := Scalar.addi v8642 c0_i32_3774
  let v8646 : Index := Scalar.indexCast v8643
  let c0_3776 : Index := 0#32
  let c0_3777 : Index := 0#32
  ![v8645.toNat, v8646.toNat, 0, 0]
def k0_off4 (k0_t1 : Fin k0_t1_loop.trips) (c0_i32_3774 : BitVec 32) : Fin 3 → Nat :=
  let c0_i32_3771 : BitVec 32 := 0#32
  let c1_i32 : BitVec 32 := 1#32
  let arg29 : BitVec 32 := Scf.iv c0_i32_3771 c1_i32 k0_t1
  let c4_i32_3773 : BitVec 32 := 4#32
  let v8642 : BitVec 32 := Scalar.muli arg29 c4_i32_3773
  let v8643 : BitVec 32 := Scalar.addi v8642 c0_i32_3774
  let v8655 : Index := Scalar.indexCast v8643
  let c0_3781 : Index := 0#32
  let c0_3782 : Index := 0#32
  ![v8655.toNat, 0, 0]
def k0_off5 (k0_t1 : Fin k0_t1_loop.trips) (c0_i32_3774 : BitVec 32) : Fin 3 → Nat :=
  let c0_3784 : Index := 0#32
  let c0_i32_3771 : BitVec 32 := 0#32
  let c1_i32 : BitVec 32 := 1#32
  let arg29 : BitVec 32 := Scf.iv c0_i32_3771 c1_i32 k0_t1
  let c4_i32_3773 : BitVec 32 := 4#32
  let v8642 : BitVec 32 := Scalar.muli arg29 c4_i32_3773
  let v8643 : BitVec 32 := Scalar.addi v8642 c0_i32_3774
  let v8659 : Index := Scalar.indexCast v8643
  let c0_3785 : Index := 0#32
  ![0, v8659.toNat, 0]
def k0_off6 (k0_t1 : Fin k0_t1_loop.trips) (c0_i32_3789 : BitVec 32) (c0_i32_3774 : BitVec 32) : Fin 2 → Nat :=
  let c0_i32_3771 : BitVec 32 := 0#32
  let c1_i32 : BitVec 32 := 1#32
  let arg29 : BitVec 32 := Scf.iv c0_i32_3771 c1_i32 k0_t1
  let c4_i32_3773 : BitVec 32 := 4#32
  let v8642 : BitVec 32 := Scalar.muli arg29 c4_i32_3773
  let v8643 : BitVec 32 := Scalar.addi v8642 c0_i32_3774
  let c128_i32_3788 : BitVec 32 := 128#32
  let v8672 : BitVec 32 := Scalar.muli v8643 c128_i32_3788
  let v8673 : BitVec 32 := Scalar.addi c0_i32_3789 v8672
  let v8674 : Index := Scalar.indexCast v8673
  let c0_3790 : Index := 0#32
  ![v8674.toNat, 0]
def k0_cond4 (i : grid0.Coords) : BitVec 1 :=
  let arg3 : BitVec 32 := BitVec.ofNat 32 (i 3).val
  let c0_i32_9 : BitVec 32 := 0#32
  let v20 : BitVec 1 := Scalar.cmpi .eq arg3 c0_i32_9
  let arg2 : BitVec 32 := BitVec.ofNat 32 (i 2).val
  let c2_i32 : BitVec 32 := 2#32
  let v12 : BitVec 32 := Scalar.remsi arg2 c2_i32
  let c0_i32_10 : BitVec 32 := 0#32
  let v21 : BitVec 1 := Scalar.cmpi .eq v12 c0_i32_10
  let v22 : BitVec 1 := Scalar.andi v20 v21
  let c4_i32_11 : BitVec 32 := 4#32
  let v23 : BitVec 1 := Scalar.cmpi .eq arg2 c4_i32_11
  let v24 : BitVec 1 := Scalar.andi v22 v23
  let v25 : BitVec 32 := Scalar.extui v24
  let c0_i32_12 : BitVec 32 := 0#32
  let v26 : BitVec 1 := Scalar.cmpi .ne v25 c0_i32_12
  v26

@[reducible] def k0_t2_loop : Scf.Loop 32 :=
  let c0_i32_3771 : BitVec 32 := 0#32
  let c24_i32 : BitVec 32 := 24#32
  let v8641 : BitVec 32 := Scalar.addi c0_i32_3771 c24_i32
  let c1_i32 : BitVec 32 := 1#32
  ⟨c0_i32_3771, v8641, c1_i32⟩
def k0_off7 (i : grid0.Coords) (k0_t2 : Fin k0_t2_loop.trips) (c0_i32_3774 : BitVec 32) : Fin 4 → Nat :=
  let arg2 : BitVec 32 := BitVec.ofNat 32 (i 2).val
  let c0_i32_3775 : BitVec 32 := 0#32
  let v8644 : BitVec 32 := Scalar.addi arg2 c0_i32_3775
  let v8645 : Index := Scalar.indexCast v8644
  let c0_i32_3771 : BitVec 32 := 0#32
  let c1_i32 : BitVec 32 := 1#32
  let arg29 : BitVec 32 := Scf.iv c0_i32_3771 c1_i32 k0_t2
  let c4_i32_3773 : BitVec 32 := 4#32
  let v8642 : BitVec 32 := Scalar.muli arg29 c4_i32_3773
  let v8643 : BitVec 32 := Scalar.addi v8642 c0_i32_3774
  let v8646 : Index := Scalar.indexCast v8643
  let c0_3776 : Index := 0#32
  let c0_3777 : Index := 0#32
  ![v8645.toNat, v8646.toNat, 0, 0]
def k0_off8 (k0_t2 : Fin k0_t2_loop.trips) (c0_i32_3774 : BitVec 32) : Fin 3 → Nat :=
  let c0_i32_3771 : BitVec 32 := 0#32
  let c1_i32 : BitVec 32 := 1#32
  let arg29 : BitVec 32 := Scf.iv c0_i32_3771 c1_i32 k0_t2
  let c4_i32_3773 : BitVec 32 := 4#32
  let v8642 : BitVec 32 := Scalar.muli arg29 c4_i32_3773
  let v8643 : BitVec 32 := Scalar.addi v8642 c0_i32_3774
  let v8649 : Index := Scalar.indexCast v8643
  let c0_3778 : Index := 0#32
  let c0_3779 : Index := 0#32
  ![v8649.toNat, 0, 0]
def k0_off9 (k0_t2 : Fin k0_t2_loop.trips) (c0_i32_3774 : BitVec 32) : Fin 3 → Nat :=
  let c0_3781 : Index := 0#32
  let c0_i32_3771 : BitVec 32 := 0#32
  let c1_i32 : BitVec 32 := 1#32
  let arg29 : BitVec 32 := Scf.iv c0_i32_3771 c1_i32 k0_t2
  let c4_i32_3773 : BitVec 32 := 4#32
  let v8642 : BitVec 32 := Scalar.muli arg29 c4_i32_3773
  let v8643 : BitVec 32 := Scalar.addi v8642 c0_i32_3774
  let v8653 : Index := Scalar.indexCast v8643
  let c0_3782 : Index := 0#32
  ![0, v8653.toNat, 0]
def k0_off10 (k0_t2 : Fin k0_t2_loop.trips) (c0_i32_3774 : BitVec 32) : Fin 2 → Nat :=
  let c0_i32_3786 : BitVec 32 := 0#32
  let c0_i32_3771 : BitVec 32 := 0#32
  let c1_i32 : BitVec 32 := 1#32
  let arg29 : BitVec 32 := Scf.iv c0_i32_3771 c1_i32 k0_t2
  let c4_i32_3773 : BitVec 32 := 4#32
  let v8642 : BitVec 32 := Scalar.muli arg29 c4_i32_3773
  let v8643 : BitVec 32 := Scalar.addi v8642 c0_i32_3774
  let c128_i32_3785 : BitVec 32 := 128#32
  let v8665 : BitVec 32 := Scalar.muli v8643 c128_i32_3785
  let v8666 : BitVec 32 := Scalar.addi c0_i32_3786 v8665
  let v8667 : Index := Scalar.indexCast v8666
  let c0_3787 : Index := 0#32
  ![v8667.toNat, 0]
def k0_off11 (i : grid0.Coords) (c0_i32_13 : BitVec 32) : Fin 2 → Nat :=
  let arg2 : BitVec 32 := BitVec.ofNat 32 (i 2).val
  let c2_i32 : BitVec 32 := 2#32
  let v12 : BitVec 32 := Scalar.remsi arg2 c2_i32
  let c128_i32 : BitVec 32 := 128#32
  let v29 : BitVec 32 := Scalar.muli v12 c128_i32
  let arg3 : BitVec 32 := BitVec.ofNat 32 (i 3).val
  let c16_i32 : BitVec 32 := 16#32
  let v27 : BitVec 32 := Scalar.muli arg3 c16_i32
  let v28 : BitVec 32 := Scalar.addi v27 c0_i32_13
  let v30 : BitVec 32 := Scalar.addi v29 v28
  let v31 : Index := Scalar.indexCast v30
  let c0 : Index := 0#32
  ![v31.toNat, 0]
def k0_off12 (i : grid0.Coords) (c0_i32_15 : BitVec 32) (c0_i32_13 : BitVec 32) : Fin 2 → Nat :=
  let arg2 : BitVec 32 := BitVec.ofNat 32 (i 2).val
  let c2_i32 : BitVec 32 := 2#32
  let v12 : BitVec 32 := Scalar.remsi arg2 c2_i32
  let c12288_i32 : BitVec 32 := 12288#32
  let v35 : BitVec 32 := Scalar.muli v12 c12288_i32
  let arg3 : BitVec 32 := BitVec.ofNat 32 (i 3).val
  let c16_i32 : BitVec 32 := 16#32
  let v27 : BitVec 32 := Scalar.muli arg3 c16_i32
  let v28 : BitVec 32 := Scalar.addi v27 c0_i32_13
  let v36 : BitVec 32 := Scalar.addi v35 v28
  let v38 : BitVec 32 := Scalar.addi c0_i32_15 v36
  let v39 : Index := Scalar.indexCast v38
  let c0_16 : Index := 0#32
  ![v39.toNat, 0]
def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.addi arg2 c1_i32
  let c4_i32 : BitVec 32 := 4#32
  let v1 : BitVec 32 := Scalar.minsi v0 c4_i32
  let c0_i32 : BitVec 32 := 0#32
  let c0_i32_0 : BitVec 32 := 0#32
  ![arg0.toNat, c0_i32.toNat, v1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg3
  let c0_i32 : BitVec 32 := 0#32
  let c0_i32_0 : BitVec 32 := 0#32
  ![arg0.toNat, v1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg3
  let c0_i32 : BitVec 32 := 0#32
  let c0_i32_0 : BitVec 32 := 0#32
  ![arg0.toNat, v1.toNat, arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg3
  let c0_i32 : BitVec 32 := 0#32
  ![arg0.toNat, v1.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let c0_i32 : BitVec 32 := 0#32
  let c0_i32_0 : BitVec 32 := 0#32
  ![c3_i32.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg3
  let c0_i32 : BitVec 32 := 0#32
  let c0_i32_0 : BitVec 32 := 0#32
  ![arg0.toNat, v1.toNat, arg2.toNat, c0_i32.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg3
  let c0_i32 : BitVec 32 := 0#32
  ![arg0.toNat, v1.toNat, arg2.toNat]

def cc0_transform_17 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg3
  let c0_i32 : BitVec 32 := 0#32
  let c0_i32_0 : BitVec 32 := 0#32
  ![arg0.toNat, v1.toNat, c0_i32.toNat, arg2.toNat]

def cc0_transform_18 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg3
  let c0_i32 : BitVec 32 := 0#32
  ![arg0.toNat, v1.toNat, arg2.toNat]

abbrev stage0_0 : Fin 2 → Memref sig .tc .vmem S1x96x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false]

abbrev stage0_1 : Fin 2 → Memref sig .tc .vmem S1x96x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false]

abbrev stage0_2 : Fin 2 → Memref sig .tc .vmem S1x96x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true, false]

abbrev stage0_3 : Fin 2 → Memref sig .tc .vmem S1x16x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x16x128x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false, false]

abbrev stage0_7 : Fin 1 → Memref sig .tc .vmem S128x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false, false]

abbrev stage0_9 : Fin 1 → Memref sig .tc .vmem S128x96 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false, false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false, false]

abbrev stage0_11 : Fin 1 → Memref sig .tc .vmem S96x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false, false]

abbrev stage0_12 : Fin 1 → Memref sig .tc .vmem S96x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false, false]

abbrev stage0_13 : Fin 2 → Memref sig .tc .vmem S1x16x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true, true]

abbrev stage0_14 : Fin 2 → Memref sig .tc .vmem S1x16x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true, true]

abbrev stage0_15 : Fin 2 → Memref sig .tc .vmem S1x16x96x128 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true, true]

abbrev stage0_16 : Fin 2 → Memref sig .tc .vmem S1x16x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true, true]
-- ==== KernelIdeal.lean ====
variable {F : FTy → Type} [FloatOps F] [Named F]
def κ : String → Option EReal := fun
  | "inv_c" => some ((1 / 96 : ℝ) : EReal)
  | _ => none
-- ==== ReferenceIdeal.lean ====
abbrev S2x5x96x128x640 : Shape := ⟨5, ![2, 5, 96, 128, 640]⟩
abbrev S2x5x96x640x128 : Shape := ⟨5, ![2, 5, 96, 640, 128]⟩
abbrev S2x96x640 : Shape := ⟨3, ![2, 96, 640]⟩
abbrev S2x640x640x128 : Shape := ⟨4, ![2, 640, 640, 128]⟩
abbrev S2x640x640 : Shape := ⟨3, ![2, 640, 640]⟩
abbrev S128x512 : Shape := ⟨2, ![128, 512]⟩
abbrev S512 : Shape := ⟨1, ![512]⟩
abbrev S96 : Shape := ⟨1, ![96]⟩
abbrev S96x128 : Shape := ⟨2, ![96, 128]⟩
abbrev S128 : Shape := ⟨1, ![128]⟩
abbrev S2x96x5x128x640 : Shape := ⟨5, ![2, 96, 5, 128, 640]⟩
abbrev S2x96x640x640 : Shape := ⟨4, ![2, 96, 640, 640]⟩
abbrev S2x96x640x5x128 : Shape := ⟨5, ![2, 96, 640, 5, 128]⟩
abbrev S128x128 : Shape := ⟨2, ![128, 128]⟩
abbrev S2x640x96x640 : Shape := ⟨4, ![2, 640, 96, 640]⟩
abbrev S2x640x96 : Shape := ⟨3, ![2, 640, 96]⟩
abbrev S2x640x640x96 : Shape := ⟨4, ![2, 640, 640, 96]⟩
abbrev S2x640x1x96 : Shape := ⟨4, ![2, 640, 1, 96]⟩
abbrev S2x1x640x96 : Shape := ⟨4, ![2, 1, 640, 96]⟩
abbrev S2x640x640x1 : Shape := ⟨4, ![2, 640, 640, 1]⟩
abbrev S1x1x1x96 : Shape := ⟨4, ![1, 1, 1, 96]⟩
abbrev S1x1x1x128 : Shape := ⟨4, ![1, 1, 1, 128]⟩

abbrev nBuf : Space → Nat
  | .hbm => 23
  | .vmem => 17
  | .smem => 0
  | _ => 0

abbrev bufTy : (tb : Table) → Fin (tcTables nBuf tb) → BufTy
  | .hbm, ⟨0, _⟩ => ⟨S2x5x96x128x640, .fp8e4m3⟩
  | .hbm, ⟨1, _⟩ => ⟨S2x5x96x640x128, .fp8e4m3⟩
  | .hbm, ⟨2, _⟩ => ⟨S2x96x640, .f32⟩
  | .hbm, ⟨3, _⟩ => ⟨S2x96x640, .f32⟩
  | .hbm, ⟨4, _⟩ => ⟨S2x640x640x128, .bf16⟩
  | .hbm, ⟨5, _⟩ => ⟨S2x640x640x128, .fp8e4m3⟩
  | .hbm, ⟨6, _⟩ => ⟨S2x640x640, .f32⟩
  | .hbm, ⟨7, _⟩ => ⟨S128x512, .fp8e4m3⟩
  | .hbm, ⟨8, _⟩ => ⟨S512, .f32⟩
  | .hbm, ⟨9, _⟩ => ⟨S96, .f32⟩
  | .hbm, ⟨10, _⟩ => ⟨S96, .f32⟩
  | .hbm, ⟨11, _⟩ => ⟨S96x128, .fp8e4m3⟩
  | .hbm, ⟨12, _⟩ => ⟨S128, .f32⟩
  | .hbm, ⟨13, _⟩ => ⟨S2x96x5x128x640, .fp8e4m3⟩
  | .hbm, ⟨14, _⟩ => ⟨S2x96x640x640, .fp8e4m3⟩
  | .hbm, ⟨15, _⟩ => ⟨S2x96x640x5x128, .fp8e4m3⟩
  | .hbm, ⟨16, _⟩ => ⟨S2x96x640x640, .fp8e4m3⟩
  | .hbm, ⟨17, _⟩ => ⟨S128x128, .fp8e4m3⟩
  | .hbm, ⟨18, _⟩ => ⟨S128, .f32⟩
  | .hbm, ⟨19, _⟩ => ⟨S2x640x640x128, .bf16⟩
  | .hbm, ⟨20, _⟩ => ⟨S2x640x640, .f32⟩
  | .hbm, ⟨21, _⟩ => ⟨S2x640x96x640, .fp8e4m3⟩
  | .hbm, ⟨22, _⟩ => ⟨S2x640x640, .f32⟩
  | .local _ .vmem, ⟨0, _⟩ => ⟨S2x96x640x640, .fp8e4m3⟩
  | .local _ .vmem, ⟨1, _⟩ => ⟨S2x96x640x640, .fp8e4m3⟩
  | .local _ .vmem, ⟨2, _⟩ => ⟨S2x96x640, .f32⟩
  | .local _ .vmem, ⟨3, _⟩ => ⟨S2x96x640, .f32⟩
  | .local _ .vmem, ⟨4, _⟩ => ⟨S2x640x640x128, .bf16⟩
  | .local _ .vmem, ⟨5, _⟩ => ⟨S2x640x640x128, .fp8e4m3⟩
  | .local _ .vmem, ⟨6, _⟩ => ⟨S2x640x640, .f32⟩
  | .local _ .vmem, ⟨7, _⟩ => ⟨S128x128, .fp8e4m3⟩
  | .local _ .vmem, ⟨8, _⟩ => ⟨S128, .f32⟩
  | .local _ .vmem, ⟨9, _⟩ => ⟨S96, .f32⟩
  | .local _ .vmem, ⟨10, _⟩ => ⟨S96, .f32⟩
  | .local _ .vmem, ⟨11, _⟩ => ⟨S96x128, .fp8e4m3⟩
  | .local _ .vmem, ⟨12, _⟩ => ⟨S128, .f32⟩
  | .local _ .vmem, ⟨13, _⟩ => ⟨S2x640x640x128, .bf16⟩
  | .local _ .vmem, ⟨14, _⟩ => ⟨S2x640x640, .f32⟩
  | .local _ .vmem, ⟨15, _⟩ => ⟨S2x640x96x640, .fp8e4m3⟩
  | .local _ .vmem, ⟨16, _⟩ => ⟨S2x640x640, .f32⟩
  | _, _ => ⟨S2x5x96x128x640, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev main_v6_3 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S2x96x640x640 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x96x640x640 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x96x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x96x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x640x640x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x640x640x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x640x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S96x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x640x640x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x640x640 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x640x96x640 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x640x640 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Ln1.lean ====
abbrev S2x640x640x128 : Shape := ⟨4, ![2, 640, 640, 128]⟩
abbrev S128 : Shape := ⟨1, ![128]⟩
abbrev S128x128 : Shape := ⟨2, ![128, 128]⟩
abbrev S_ : Shape := ⟨0, ![]⟩
abbrev S128x1 : Shape := ⟨2, ![128, 1]⟩
abbrev S2x640x640 : Shape := ⟨3, ![2, 640, 640]⟩
abbrev S1x8x640x128 : Shape := ⟨4, ![1, 8, 640, 128]⟩
abbrev S1x8x640 : Shape := ⟨3, ![1, 8, 640]⟩
abbrev S1x2x640x128 : Shape := ⟨4, ![1, 2, 640, 128]⟩
abbrev S2x640x128 : Shape := ⟨3, ![2, 640, 128]⟩
abbrev S1280x128 : Shape := ⟨2, ![1280, 128]⟩
abbrev S256x128 : Shape := ⟨2, ![256, 128]⟩
abbrev S128x256 : Shape := ⟨2, ![128, 256]⟩
abbrev S1x128 : Shape := ⟨2, ![1, 128]⟩
abbrev S1x1x128x128 : Shape := ⟨4, ![1, 1, 128, 128]⟩
abbrev S1x1x128 : Shape := ⟨3, ![1, 1, 128]⟩

abbrev nBuf : Space → Nat
  | .hbm => 20
  | .vmem => 9
  | .smem => 0
  | _ => 0

abbrev bufTy : (tb : Table) → Fin (tcTables nBuf tb) → BufTy
  | .hbm, ⟨0, _⟩ => ⟨S2x640x640x128, .bf16⟩
  | .hbm, ⟨1, _⟩ => ⟨S128, .f32⟩
  | .hbm, ⟨2, _⟩ => ⟨S128, .f32⟩
  | .hbm, ⟨3, _⟩ => ⟨S128x128, .i32⟩
  | .hbm, ⟨4, _⟩ => ⟨S128x128, .i32⟩
  | .hbm, ⟨5, _⟩ => ⟨S_, .i32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S128x128, .f32⟩
  | .hbm, ⟨10, _⟩ => ⟨S_, .f32⟩
  | .hbm, ⟨11, _⟩ => ⟨S128x128, .f32⟩
  | .hbm, ⟨12, _⟩ => ⟨S128x128, .f32⟩
  | .hbm, ⟨13, _⟩ => ⟨S128x128, .bf16⟩
  | .hbm, ⟨14, _⟩ => ⟨S128x1, .f32⟩
  | .hbm, ⟨15, _⟩ => ⟨S128x128, .f32⟩
  | .hbm, ⟨16, _⟩ => ⟨S128x1, .f32⟩
  | .hbm, ⟨17, _⟩ => ⟨S128x128, .f32⟩
  | .hbm, ⟨18, _⟩ => ⟨S2x640x640x128, .fp8e4m3⟩
  | .hbm, ⟨19, _⟩ => ⟨S2x640x640, .f32⟩
  | .local _ .vmem, ⟨0, _⟩ => ⟨S1x8x640x128, .bf16⟩
  | .local _ .vmem, ⟨1, _⟩ => ⟨S1x8x640x128, .bf16⟩
  | .local _ .vmem, ⟨2, _⟩ => ⟨S128x128, .bf16⟩
  | .local _ .vmem, ⟨3, _⟩ => ⟨S128x128, .f32⟩
  | .local _ .vmem, ⟨4, _⟩ => ⟨S128x128, .f32⟩
  | .local _ .vmem, ⟨5, _⟩ => ⟨S1x8x640x128, .fp8e4m3⟩
  | .local _ .vmem, ⟨6, _⟩ => ⟨S1x8x640x128, .fp8e4m3⟩
  | .local _ .vmem, ⟨7, _⟩ => ⟨S1x8x640, .f32⟩
  | .local _ .vmem, ⟨8, _⟩ => ⟨S1x8x640, .f32⟩
  | _, _ => ⟨S2x640x640x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 80], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x640x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x640x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Ln1ReferenceIdeal.lean ====
abbrev S2x640x640x128 : Shape := ⟨4, ![2, 640, 640, 128]⟩
abbrev S128 : Shape := ⟨1, ![128]⟩
abbrev S_ : Shape := ⟨0, ![]⟩
abbrev S2x640x640 : Shape := ⟨3, ![2, 640, 640]⟩
abbrev S2x640x640x1 : Shape := ⟨4, ![2, 640, 640, 1]⟩
abbrev S1x1x1x128 : Shape := ⟨4, ![1, 1, 1, 128]⟩

abbrev nBuf : Space → Nat
  | .hbm => 57
  | .vmem => 0
  | .smem => 0
  | _ => 0

abbrev bufTy : (tb : Table) → Fin (tcTables nBuf tb) → BufTy
  | .hbm, ⟨0, _⟩ => ⟨S2x640x640x128, .bf16⟩
  | .hbm, ⟨1, _⟩ => ⟨S128, .f32⟩
  | .hbm, ⟨2, _⟩ => ⟨S128, .f32⟩
  | .hbm, ⟨3, _⟩ => ⟨S2x640x640x128, .f32⟩
  | .hbm, ⟨4, _⟩ => ⟨S_, .f32⟩
  | .hbm, ⟨5, _⟩ => ⟨S2x640x640, .f32⟩
  | .hbm, ⟨6, _⟩ => ⟨S2x640x640x1, .f32⟩
  | .hbm, ⟨7, _⟩ => ⟨S_, .f32⟩
  | .hbm, ⟨8, _⟩ => ⟨S2x640x640x1, .f32⟩
  | .hbm, ⟨9, _⟩ => ⟨S2x640x640x1, .f32⟩
  | .hbm, ⟨10, _⟩ => ⟨S2x640x640x128, .f32⟩
  | .hbm, ⟨11, _⟩ => ⟨S2x640x640x128, .f32⟩
  | .hbm, ⟨12, _⟩ => ⟨S2x640x640x128, .f32⟩
  | .hbm, ⟨13, _⟩ => ⟨S_, .f32⟩
  | .hbm, ⟨14, _⟩ => ⟨S2x640x640, .f32⟩
  | .hbm, ⟨15, _⟩ => ⟨S2x640x640x1, .f32⟩
  | .hbm, ⟨16, _⟩ => ⟨S_, .f32⟩
  | .hbm, ⟨17, _⟩ => ⟨S2x640x640x1, .f32⟩
  | .hbm, ⟨18, _⟩ => ⟨S2x640x640x1, .f32⟩
  | .hbm, ⟨19, _⟩ => ⟨S_, .f32⟩
  | .hbm, ⟨20, _⟩ => ⟨S2x640x640x1, .f32⟩
  | .hbm, ⟨21, _⟩ => ⟨S2x640x640x1, .f32⟩
  | .hbm, ⟨22, _⟩ => ⟨S2x640x640x1, .f32⟩
  | .hbm, ⟨23, _⟩ => ⟨S2x640x640x128, .f32⟩
  | .hbm, ⟨24, _⟩ => ⟨S2x640x640x128, .f32⟩
  | .hbm, ⟨25, _⟩ => ⟨S1x1x1x128, .f32⟩
  | .hbm, ⟨26, _⟩ => ⟨S2x640x640x128, .f32⟩
  | .hbm, ⟨27, _⟩ => ⟨S2x640x640x128, .f32⟩
  | .hbm, ⟨28, _⟩ => ⟨S1x1x1x128, .f32⟩
  | .hbm, ⟨29, _⟩ => ⟨S2x640x640x128, .f32⟩
  | .hbm, ⟨30, _⟩ => ⟨S2x640x640x128, .f32⟩
  | .hbm, ⟨31, _⟩ => ⟨S2x640x640, .f32⟩
  | .hbm, ⟨32, _⟩ => ⟨S2x640x640x128, .f32⟩
  | .hbm, ⟨33, _⟩ => ⟨S_, .f32⟩
  | .hbm, ⟨34, _⟩ => ⟨S2x640x640, .f32⟩
  | .hbm, ⟨35, _⟩ => ⟨S_, .f32⟩
  | .hbm, ⟨36, _⟩ => ⟨S2x640x640, .f32⟩
  | .hbm, ⟨37, _⟩ => ⟨S2x640x640, .i1⟩
  | .hbm, ⟨38, _⟩ => ⟨S_, .f32⟩
  | .hbm, ⟨39, _⟩ => ⟨S2x640x640, .f32⟩
  | .hbm, ⟨40, _⟩ => ⟨S2x640x640, .f32⟩
  | .hbm, ⟨41, _⟩ => ⟨S_, .f32⟩
  | .hbm, ⟨42, _⟩ => ⟨S_, .f32⟩
  | .hbm, ⟨43, _⟩ => ⟨S2x640x640, .f32⟩
  | .hbm, ⟨44, _⟩ => ⟨S2x640x640, .f32⟩
  | .hbm, ⟨45, _⟩ => ⟨S2x640x640x1, .f32⟩
  | .hbm, ⟨46, _⟩ => ⟨S2x640x640x128, .f32⟩
  | .hbm, ⟨47, _⟩ => ⟨S2x640x640x128, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2x640x640x128, .f32⟩
  | .hbm, ⟨52, _⟩ => ⟨S2x640x640x128, .f32⟩
  | .hbm, ⟨53, _⟩ => ⟨S_, .f32⟩
  | .hbm, ⟨54, _⟩ => ⟨S2x640x640x128, .f32⟩
  | .hbm, ⟨55, _⟩ => ⟨S2x640x640x128, .f32⟩
  | .hbm, ⟨56, _⟩ => ⟨S2x640x640x128, .fp8e4m3⟩
  | _, _ => ⟨S2x640x640x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_call0_v0 : Ref sig .tc := ⟨.hbm, 42, rfl⟩
abbrev main_call0_v1 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_cst_9 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Proof.Loop.lean ====
/- The body of the triangle kernel written with loops, and the equation of the printed body with it. -/
module

public import proofs.«01_k».proof.Proof.Gen.Kernel.Skeleton
public import Idealize.ShloMosaic.Lib.Pipeline.Regions

@[expose] public section

set_option synthInstance.maxSize 4096
set_option maxRecDepth 65536

noncomputable section

namespace Cert.Kernel.Tri

open Idealize.ShloMosaic Idealize.SL.Sem Cert.Kernel
open Cert.Kernel.Facts₀ Cert.Kernel.Facts

universe v

/-- A loop of `m` trips from the counter `c` on, each trip passing its value on to the next; `k` is what follows. -/
def loopK {E : Type → Type v} {α σ : Type} {N : Nat} [NeZero N] (f : Fin N → σ → (σ → Prog E α) → Prog E α) :
    Nat → Nat → σ → (σ → Prog E α) → Prog E α
  | 0, _, s, k => k s
  | m + 1, c, s, k => f (Fin.ofNat N c) s fun s' => loopK f m (c + 1) s' k

/-- Row `c` of the two affine tables lies inside them. -/
theorem tabInb (c : Fin 96) : ∀ a, (![c.val, 0] : Fin 2 → Nat) a + S1x128.size a ≤ S96x128.size a := by
  intro a; have := c.isLt; fin_cases a <;> simp <;> omega
/-- The eight rows of channel `c` lie inside the staging buffer. -/
theorem stgInb (c : Fin 96) : ∀ a, (![8 * c.val, 0] : Fin 2 → Nat) a + S8x128.size a ≤ S768x128.size a := by
  intro a; have := c.isLt; fin_cases a <;> simp <;> omega
/-- Every eighth row from row `r` on lies inside the staging buffer. -/
theorem strInb (r : Fin 8) : ∀ a, S96x128.size a = 0 ∨
    (![r.val, 0] : Fin 2 → Nat) a + (![8, 1] : Fin 2 → Nat) a * (S96x128.size a - 1) < S768x128.size a := by
  intro a; have := r.isLt; fin_cases a <;> simp <;> omega
/-- Eight rows of a block of sixteen. -/
theorem rowsInb (g : Fin 2) : ∀ a, (![0, 8 * g.val, 0] : Fin 3 → Nat) a + S1x8x128.size a ≤ S1x16x128.size a := by
  intro a; have := g.isLt; fin_cases a <;> simp <;> omega
/-- One row of a block of sixteen. -/
theorem rowInb (r : Fin 16) : ∀ a, (![0, r.val, 0] : Fin 3 → Nat) a + S1x1x128.size a ≤ S1x16x128.size a := by
  intro a; have := r.isLt; fin_cases a <;> simp <;> omega
/-- One row of a block of sixteen rows of codes. -/
theorem codeInb (r : Fin 16) : ∀ a, (![0, r.val, 0, 0] : Fin 4 → Nat) a + S1x1x96x128.size a ≤ S1x16x96x128.size a := by
  intro a; have := r.isLt; fin_cases a <;> simp <;> omega
/-- One row of a block of sixteen rows of outputs. -/
theorem outInb (r : Fin 16) : ∀ a, (![0, r.val, 0, 0] : Fin 4 → Nat) a + S1x1x128x128.size a ≤ S1x16x128x128.size a := by
  intro a; have := r.isLt; fin_cases a <;> simp <;> omega
/-- Two rows of a block of sixteen rows of inputs. -/
theorem pairInb (p : Fin 8) : ∀ a, (![0, 2 * p.val, 0, 0] : Fin 4 → Nat) a + S1x2x128x128.size a ≤ S1x16x128x128.size a := by
  intro a; have := p.isLt; fin_cases a <;> simp <;> omega
/-- A row of codes is a whole number of packed rows. -/
theorem codePacked : ∀ r : Fin 16, (Rect.unit (s := S1x16x96x128) ![0, r.val, 0, 0] S1x1x96x128.size (codeInb r)).PackedRows
    (EltTy.packing .fp8e4m3) := by decide
/-- A row of outputs is a whole number of packed rows. -/
theorem outPacked : ∀ r : Fin 16, (Rect.unit (s := S1x16x128x128) ![0, r.val, 0, 0] S1x1x128x128.size (outInb r)).PackedRows
    (EltTy.packing .bf16) := by decide

/-- Half `h` of the two tiles of sums. -/
theorem sumInb (h : Fin 2) : ∀ a, (![128 * h.val, 0] : Fin 2 → Nat) a + S128x128.size a ≤ S256x128.size a := by
  revert h; decide

/-- The row of a block of sixteen that is number `r` of its group `g` of eight. -/
def row16 (g : Fin 2) (r : Fin 8) : Fin 16 := ⟨8 * g.val + r.val, by omega⟩
/-- The row of a block of sixteen that is number `h` of its pair `p`. -/
def pair16 (p : Fin 8) (h : Fin 2) : Fin 16 := ⟨2 * p.val + h.val, by omega⟩

/-- Eight rows of channel `c` in the buffer of the products. -/
def xRect (i : grid0.Coords) (g : Fin 2) (c : Fin 96) : Rect S24576x128 :=
  Rect.unit (s := S24576x128) (k0_off12 i (BitVec.ofNat 32 (128 * c.val)) (BitVec.ofNat 32 (8 * g.val))) S8x128.size (k0_off12_inb i c g)

section
variable {F : FTy → Type} [FloatOps F]

/-- The mean of a column from its sum. -/
def pMean (v : Vec F S8x128 .f32) : FVec F S8x128 .f32 := mulf v (broadcast S8x128 (Scalar.ofBits .f32 0x3C2AAAAB#32))
/-- The standard deviation from the sum of the squares. -/
def pStd (v : FVec F S8x128 .f32) : FVec F S8x128 .f32 :=
  sqrt (addf (mulf v (broadcast S8x128 (Scalar.ofBits .f32 0x3C2AAAAB#32))) (broadcast S8x128 (Scalar.ofBits .f32 0x3727C5AC#32)))
/-- One over it. -/
def pRcp (v : FVec F S8x128 .f32) : FVec F S8x128 .f32 := divf (broadcast S8x128 (Scalar.ofBits .f32 0x3F800000#32)) v
/-- The zero with which both accumulations begin. -/
def pZero : FVec F S8x128 .f32 := broadcast S8x128 (Scalar.ofBits .f32 0x00000000#32)
/-- The normalised channel. -/
def pY (rstd : FVec F S8x128 .f32) (x : Vec F S8x128 .f32) (g b : Vec F S1x128 .f32) : FVec F S8x128 .f32 :=
  addf (mulf (mulf x rstd) (broadcastTo S8x128 (shapeCast S1x128 g shapeCasts_S1x128_S1x128) broadcasts_S1x128_S8x128))
    (broadcastTo S8x128 (shapeCast S1x128 b shapeCasts_S1x128_S1x128) broadcasts_S1x128_S8x128)
/-- The scale from the largest magnitude. -/
def pScale (amax : FVec F S8x128 .f32) : FVec F S8x128 .f32 :=
  select (cmpf .ogt amax (broadcast S8x128 (Scalar.ofBits .f32 0x00000000#32)))
    (divf amax (broadcast S8x128 (Scalar.ofBits .f32 0x43E00000#32))) (broadcast S8x128 (Scalar.ofBits .f32 0x3F800000#32))
/-- The clipped quotient. -/
def pClip (inv : FVec F S8x128 .f32) (x : Vec F S8x128 .f32) : FVec F S8x128 .f32 :=
  minimumf (broadcast S8x128 (Scalar.ofBits .f32 0x43E00000#32))
    (maximumf (broadcast S8x128 (Scalar.ofBits .f32 0xC3E00000#32)) (mulf x inv))
/-- The codes of a row. -/
def pCode (v : Vec F S96x128 .f32) : FVec F S1x1x96x128 .fp8e4m3 :=
  shapeCast S1x1x96x128 (truncf .fp8e4m3 v bitsLt_fp8e4m3_f32) shapeCasts_S96x128_S1x1x96x128
/-- The product of one channel's tile of `a` with two tiles of `b` side by side. -/
def pPair (b0 b1 : Vec F S1x1x640x128 .fp8e4m3) (a : Vec F S1x128x640 .fp8e4m3) : FVec F S128x256 .f32 :=
  matmul dot_S128x640_S640x256_S128x256_1_0_0_1_n_n none (shapeCast S128x640 a shapeCasts_S1x128x640_S128x640)
    (concatenate S640x256 1 [⟨S640x128, shapeCast S640x128 b0 shapeCasts_S1x1x640x128_S640x128⟩,
      ⟨S640x128, shapeCast S640x128 b1 shapeCasts_S1x1x640x128_S640x128⟩] concatenates_S640x128_S640x128_S640x256_d1)
    (constant S128x256 .f32 0x00000000#32)
/-- The product of one channel's tile of `a` with one tile of `b`. -/
def pOne (b : Vec F S1x1x640x128 .fp8e4m3) (a : Vec F S1x128x640 .fp8e4m3) : FVec F S128x128 .f32 :=
  matmul dot_S128x640_S640x128_S128x128_1_0_0_1_n_n none (shapeCast S128x640 a shapeCasts_S1x128x640_S128x640)
    (shapeCast S640x128 b shapeCasts_S1x1x640x128_S640x128) (constant S128x128 .f32 0x00000000#32)
/-- A product with its row factor and its column factor. -/
def pFac (o : FVec F S128x128 .f32) (fa fb : Vec F S1x1x128 .f32) : FVec F S128x128 .f32 :=
  mulf (mulf o (transpose S128x128 [1, 0]
      (broadcastTo S128x128 (shapeCast S1x128 (shapeCast S1x128 fa shapeCasts_S1x1x128_S1x128) shapeCasts_S1x128_S1x128)
        broadcasts_S1x128_S128x128) transposes_S128x128_p1_0_S128x128))
    (broadcastTo S128x128 (shapeCast S1x128 fb shapeCasts_S1x1x128_S1x128) broadcasts_S1x128_S128x128)
/-- The output projection of two rows. -/
def pO (q q' : Vec F S1x1x96x128 .fp8e4m3) (wo : Vec F S128x96 .fp8e4m3) : FVec F S128x256 .f32 :=
  matmul dot_S128x96_S96x256_S128x256_1_0_0_1_n_n none (shapeCast S128x96 wo shapeCasts_S128x96_S128x96)
    (concatenate S96x256 1 [⟨S96x128, shapeCast S96x128 q shapeCasts_S1x1x96x128_S96x128⟩,
      ⟨S96x128, shapeCast S96x128 q' shapeCasts_S1x1x96x128_S96x128⟩] concatenates_S96x128_S96x128_S96x256_d1)
    (constant S128x256 .f32 0x00000000#32)
/-- The gate projection of two rows. -/
def pP (w5 : Vec F S128x128 .fp8e4m3) (q1 : Vec F S1x2x128x128 .fp8e4m3) : FVec F S128x256 .f32 :=
  matmul dot_S128x128_S256x128_S128x256_1_1_0_0_n_n none (shapeCast S128x128 w5 shapeCasts_S128x128_S128x128)
    (shapeCast S256x128 (shapeCast S2x128x128 q1 shapeCasts_S1x2x128x128_S2x128x128) shapeCasts_S2x128x128_S256x128)
    (constant S128x256 .f32 0x00000000#32)
/-- Two rows of the input, transposed by a product with the identity. -/
def pZ (eye : Vec F S128x128 .bf16) (z : Vec F S1x2x128x128 .bf16) : FVec F S128x256 .f32 :=
  matmul dot_S128x128_S256x128_S128x256_1_1_0_0_n_n none (shapeCast S128x128 eye shapeCasts_S128x128_S128x128)
    (shapeCast S256x128 (shapeCast S2x128x128 z shapeCasts_S1x2x128x128_S2x128x128) shapeCasts_S2x128x128_S256x128)
    (constant S128x256 .f32 0x00000000#32)
/-- Half `h` of two rows side by side lies inside them. -/
theorem halfSlices (h : Fin 2) : S128x256.Slices ![0, 128 * h.val] S128x128 := by
  fin_cases h
  · exact slices_S128x256_o0_0_S128x128
  · exact slices_S128x256_o0_128_S128x128
/-- A product with a row of scales and a table of scales. -/
def pScaled (h : Fin 2) (p : FVec F S128x256 .f32) (s1 : Vec F S1x1x128 .f32) (s5 : Vec F S128x128 .f32) : FVec F S128x128 .f32 :=
  mulf (mulf (extractStridedSlice S128x128 ![0, 128 * h.val] p (halfSlices h))
    (broadcastTo S128x128 (shapeCast S1x128 s1 shapeCasts_S1x1x128_S1x128) broadcasts_S1x128_S128x128))
    (shapeCast S128x128 s5 shapeCasts_S128x128_S128x128)
/-- The output of one row. -/
def pOut (h : Fin 2) (o p zt : FVec F S128x256 .f32) (s1 : Vec F S1x1x128 .f32) (s5 : Vec F S128x128 .f32)
    (s2 : Vec F S1x1x128 .f32) (so : Vec F S128x128 .f32) : FVec F S1x1x128x128 .bf16 :=
  shapeCast S1x1x128x128 (transpose S128x128 [1, 0] (truncf .bf16
    (addf (extractStridedSlice S128x128 ![0, 128 * h.val] zt (halfSlices h))
      (mulf (addf (tanh (pScaled h p s1 s5)) (broadcast S128x128 (Scalar.ofBits .f32 0x3F800000#32))) (pScaled h o s2 so)))
    bitsLt_bf16_f32) transposes_S128x128_p1_0_S128x128) shapeCasts_S128x128_S1x1x128x128

variable (i : grid0.Coords) (arg6 : Memref sig .tc .vmem S1x96x128 .f32) (arg7 : Memref sig .tc .vmem S1x96x128 .f32)
  (arg8 : Memref sig .tc .vmem S1x96x128 .f32) (arg9 : Memref sig .tc .vmem S1x16x128x128 .bf16)
  (arg10 : Memref sig .tc .vmem S1x16x128x128 .fp8e4m3) (arg11 : Memref sig .tc .vmem S1x16x128 .f32)
  (arg12 : Memref sig .tc .vmem S128x128 .bf16) (arg13 : Memref sig .tc .vmem S128x128 .fp8e4m3)
  (arg14 : Memref sig .tc .vmem S128x128 .f32) (arg15 : Memref sig .tc .vmem S128x96 .fp8e4m3)
  (arg16 : Memref sig .tc .vmem S128x128 .f32) (arg17 : Memref sig .tc .vmem S96x128 .f32)
  (arg18 : Memref sig .tc .vmem S96x128 .f32)
  (arg19 : Memref sig .tc .vmem S1x16x128x128 .bf16) (harg19 : arg19.IsWhole)
  (arg20 : Memref sig .tc .vmem S1x16x128 .f32)
  (arg21 : Memref sig .tc .vmem S1x16x96x128 .fp8e4m3) (harg21 : arg21.IsWhole)
  (arg22 : Memref sig .tc .vmem S1x16x128 .f32)
  (arg25 : Memref sig .tc .vmem S24576x128 .f32) (arg26 : Memref sig .tc .vmem S256x128 .f32)
  (arg27 : Memref sig .tc .vmem S768x128 .f32)

/-- The effects of the kernel. -/
abbrev Eff (F : FTy → Type) : Type → Type _ := TpuEff nD τ sig (Elt F) Λ₀ .tc

/-- Channel `c`: the mean is taken off and the square added to the sum of squares. -/
def stepA (g : Fin 2) (mean : FVec F S8x128 .f32) (c : Fin 96) (var : FVec F S8x128 .f32)
    (k : FVec F S8x128 .f32 → Prog (Eff F) PUnit) : Prog (Eff F) PUnit :=
  .op (.load arg25 (xRect i g c).toLoadRect (View.loadsAt_vmem h_S8x128)) fun v : Vec F S8x128 .f32 =>
  .op (.load arg25 (xRect i g c).toLoadRect (View.loadsAt_vmem h_S8x128)) fun _ : Vec F S8x128 .f32 =>
  .op (.store arg25 (xRect i g c) (shapeCast S8x128 (subf v mean) shapeCasts_S8x128_S8x128) Finset.univ
    (View.stores_vmem_bits_univ h_S8x128 rfl) (.inl rfl)) fun _ =>
  k (addf var (mulf (subf v mean) (subf v mean)))

/-- Channel `c`: it is normalised and its magnitude taken into the largest. -/
def stepB (g : Fin 2) (rstd : FVec F S8x128 .f32) (c : Fin 96) (amax : FVec F S8x128 .f32)
    (k : FVec F S8x128 .f32 → Prog (Eff F) PUnit) : Prog (Eff F) PUnit :=
  .op (.load arg25 (xRect i g c).toLoadRect (View.loadsAt_vmem h_S8x128)) fun v : Vec F S8x128 .f32 =>
  .op (.load arg17 (Rect.unit (s := S96x128) ![c.val, 0] S1x128.size (tabInb c)).toLoadRect (View.loadsAt_vmem h_S1x128)) fun ga : Vec F S1x128 .f32 =>
  .op (.load arg18 (Rect.unit (s := S96x128) ![c.val, 0] S1x128.size (tabInb c)).toLoadRect (View.loadsAt_vmem h_S1x128)) fun be : Vec F S1x128 .f32 =>
  .op (.load arg25 (xRect i g c).toLoadRect (View.loadsAt_vmem h_S8x128)) fun _ : Vec F S8x128 .f32 =>
  .op (.store arg25 (xRect i g c) (shapeCast S8x128 (pY rstd v ga be) shapeCasts_S8x128_S8x128) Finset.univ
    (View.stores_vmem_bits_univ h_S8x128 rfl) (.inl rfl)) fun _ =>
  k (maximumf amax (absf (pY rstd v ga be)))

/-- Channel `c`: its clipped quotient by the scale goes into the staging buffer. -/
def stepC (g : Fin 2) (inv : FVec F S8x128 .f32) (c : Fin 96) (u : PUnit.{1})
    (k : PUnit.{1} → Prog (Eff F) PUnit) : Prog (Eff F) PUnit :=
  .op (.load arg25 (xRect i g c).toLoadRect (View.loadsAt_vmem h_S8x128)) fun v : Vec F S8x128 .f32 =>
  .op (.load arg27 (Rect.unit (s := S768x128) ![8 * c.val, 0] S8x128.size (stgInb c)).toLoadRect (View.loadsAt_vmem h_S8x128)) fun _ : Vec F S8x128 .f32 =>
  .op (.store arg27 (Rect.unit (s := S768x128) ![8 * c.val, 0] S8x128.size (stgInb c))
    (shapeCast S8x128 (pClip inv v) shapeCasts_S8x128_S8x128) Finset.univ
    (View.stores_vmem_bits_univ h_S8x128 rfl) (.inl rfl)) fun _ =>
  k ⟨⟩

/-- Row `r` of the group: its codes are gathered from the staging buffer. -/
def stepD (g : Fin 2) (r : Fin 8) (u : PUnit.{1}) (k : PUnit.{1} → Prog (Eff F) PUnit) : Prog (Eff F) PUnit :=
  .op (.load arg27 (⟨![r.val, 0], S96x128.size, ![8, 1], strInb r⟩ : LoadRect S768x128) (View.loadsAt_vmem h_S96x128)) fun v : Vec F S96x128 .f32 =>
  .op (.load arg21 (Rect.unit (s := S1x16x96x128) ![0, (row16 g r).val, 0, 0] S1x1x96x128.size (codeInb (row16 g r))).toLoadRect
    (View.loadsAt_vmem h_S1x1x96x128)) fun _ : Vec F S1x1x96x128 .fp8e4m3 =>
  .op (.store arg21 (Rect.unit (s := S1x16x96x128) ![0, (row16 g r).val, 0, 0] S1x1x96x128.size (codeInb (row16 g r)))
    (pCode v) Finset.univ
    (View.stores_vmem h_S1x1x96x128 (harg21.storeExact_slice rfl _ (codePacked (row16 g r))) (fun _ => rfl)) (.inl rfl)) fun _ =>
  k ⟨⟩

/-- Eight rows: layer normalisation over the channels, then the codes and their scale. -/
def group (g : Fin 2) (u : PUnit.{1}) (k : PUnit.{1} → Prog (Eff F) PUnit) : Prog (Eff F) PUnit :=
  .op (.load arg26 (Rect.unit (s := S256x128) (k0_off11 i (BitVec.ofNat 32 (8 * g.val))) S8x128.size (k0_off11_inb i g)).toLoadRect
    (View.loadsAt_vmem h_S8x128)) fun s : Vec F S8x128 .f32 =>
  loopK (stepA i arg25 g (pMean s)) 96 0 pZero fun var =>
  .op (.load arg20 (Rect.unit (s := S1x16x128) ![0, 8 * g.val, 0] S1x8x128.size (rowsInb g)).toLoadRect (View.loadsAt_vmem h_S1x8x128)) fun _ : Vec F S1x8x128 .f32 =>
  .op (.store arg20 (Rect.unit (s := S1x16x128) ![0, 8 * g.val, 0] S1x8x128.size (rowsInb g))
    (shapeCast S1x8x128 (pStd var) shapeCasts_S8x128_S1x8x128) Finset.univ
    (View.stores_vmem_bits_univ h_S1x8x128 rfl) (.inl rfl)) fun _ =>
  loopK (stepB i arg17 arg18 arg25 g (pRcp (pStd var))) 96 0 pZero fun amax =>
  .op (.load arg22 (Rect.unit (s := S1x16x128) ![0, 8 * g.val, 0] S1x8x128.size (rowsInb g)).toLoadRect (View.loadsAt_vmem h_S1x8x128)) fun _ : Vec F S1x8x128 .f32 =>
  .op (.store arg22 (Rect.unit (s := S1x16x128) ![0, 8 * g.val, 0] S1x8x128.size (rowsInb g))
    (shapeCast S1x8x128 (pScale amax) shapeCasts_S8x128_S1x8x128) Finset.univ
    (View.stores_vmem_bits_univ h_S1x8x128 rfl) (.inl rfl)) fun _ =>
  loopK (stepC i arg25 arg27 g (pRcp (pScale amax))) 96 0 ⟨⟩ fun _ =>
  loopK (stepD arg21 harg21 arg27 g) 8 0 ⟨⟩ k

/-- One row of the output. -/
def stepE (p : Fin 8) (o pg zt : FVec F S128x256 .f32) (h : Fin 2) (u : PUnit.{1}) (k : PUnit.{1} → Prog (Eff F) PUnit) :
    Prog (Eff F) PUnit :=
  .op (.load arg11 (Rect.unit (s := S1x16x128) ![0, (pair16 p h).val, 0] S1x1x128.size (rowInb (pair16 p h))).toLoadRect (View.loadsAt_vmem h_S1x1x128)) fun s1 : Vec F S1x1x128 .f32 =>
  .op (.load arg14 (Rect.unit (s := S128x128) ![0, 0] S128x128.size inb_S128x128_S128x128_0_0).toLoadRect (View.loadsAt_vmem h_S128x128)) fun s5 : Vec F S128x128 .f32 =>
  .op (.load arg22 (Rect.unit (s := S1x16x128) ![0, (pair16 p h).val, 0] S1x1x128.size (rowInb (pair16 p h))).toLoadRect (View.loadsAt_vmem h_S1x1x128)) fun s2 : Vec F S1x1x128 .f32 =>
  .op (.load arg16 (Rect.unit (s := S128x128) ![0, 0] S128x128.size inb_S128x128_S128x128_0_0).toLoadRect (View.loadsAt_vmem h_S128x128)) fun so : Vec F S128x128 .f32 =>
  .op (.load arg19 (Rect.unit (s := S1x16x128x128) ![0, (pair16 p h).val, 0, 0] S1x1x128x128.size (outInb (pair16 p h))).toLoadRect
    (View.loadsAt_vmem h_S1x1x128x128)) fun _ : Vec F S1x1x128x128 .bf16 =>
  .op (.store arg19 (Rect.unit (s := S1x16x128x128) ![0, (pair16 p h).val, 0, 0] S1x1x128x128.size (outInb (pair16 p h)))
    (pOut h o pg zt s1 s5 s2 so) Finset.univ
    (View.stores_vmem h_S1x1x128x128 (harg19.storeExact_slice rfl _ (outPacked (pair16 p h))) (fun _ => rfl)) (.inl rfl)) fun _ =>
  k ⟨⟩

/-- Two rows of the output: the three products, then each row. -/
def outPair (p : Fin 8) (u : PUnit.{1}) (k : PUnit.{1} → Prog (Eff F) PUnit) : Prog (Eff F) PUnit :=
  .op (.load arg21 (Rect.unit (s := S1x16x96x128) ![0, (pair16 p 0).val, 0, 0] S1x1x96x128.size (codeInb (pair16 p 0))).toLoadRect
    (View.loadsAt_vmem h_S1x1x96x128)) fun q : Vec F S1x1x96x128 .fp8e4m3 =>
  .op (.load arg21 (Rect.unit (s := S1x16x96x128) ![0, (pair16 p 1).val, 0, 0] S1x1x96x128.size (codeInb (pair16 p 1))).toLoadRect
    (View.loadsAt_vmem h_S1x1x96x128)) fun q' : Vec F S1x1x96x128 .fp8e4m3 =>
  .op (.load arg15 (Rect.unit (s := S128x96) ![0, 0] S128x96.size inb_S128x96_S128x96_0_0).toLoadRect (View.loadsAt_vmem h_S128x96)) fun wo : Vec F S128x96 .fp8e4m3 =>
  .op (.load arg13 (Rect.unit (s := S128x128) ![0, 0] S128x128.size inb_S128x128_S128x128_0_0).toLoadRect (View.loadsAt_vmem h_S128x128)) fun w5 : Vec F S128x128 .fp8e4m3 =>
  .op (.load arg10 (Rect.unit (s := S1x16x128x128) ![0, 2 * p.val, 0, 0] S1x2x128x128.size (pairInb p)).toLoadRect (View.loadsAt_vmem h_S1x2x128x128)) fun q1 : Vec F S1x2x128x128 .fp8e4m3 =>
  .op (.load arg12 (Rect.unit (s := S128x128) ![0, 0] S128x128.size inb_S128x128_S128x128_0_0).toLoadRect (View.loadsAt_vmem h_S128x128)) fun eye : Vec F S128x128 .bf16 =>
  .op (.load arg9 (Rect.unit (s := S1x16x128x128) ![0, 2 * p.val, 0, 0] S1x2x128x128.size (pairInb p)).toLoadRect (View.loadsAt_vmem h_S1x2x128x128)) fun z : Vec F S1x2x128x128 .bf16 =>
  loopK (stepE arg11 arg14 arg16 arg19 harg19 arg22 p (pO q q' wo) (pP w5 q1) (pZ eye z)) 2 0 ⟨⟩ k

/-- Half `h` of a pair's product for channel `u` of trip `t`: its factors, the product stored and added to the sum. -/
def stepP (arg25 : Memref sig .tc .vmem S24576x128 .f32) (arg26 : Memref sig .tc .vmem S256x128 .f32)
    (argb : Memref sig .tc .vmem S1x96x128 .f32) (t : Fin k0_t1_loop.trips) (k0_h3 : k0_cond3 i = 1#1)
    (fa : Vec F S1x1x128 .f32) (o : FVec F S128x256 .f32) (u : Fin 4) (h : Fin 2)
    (k : Prog (Eff F) PUnit) : Prog (Eff F) PUnit :=
  .op (.load argb (Rect.unit (s := S1x96x128) (k0_off5 t (BitVec.ofNat 32 u.val)) S1x1x128.size (k0_off5_inb i t k0_h3 u)).toLoadRect (View.loadsAt_vmem h_S1x1x128)) fun fb : Vec F S1x1x128 .f32 =>
  .op (.load arg25 (Rect.unit (s := S24576x128) (k0_off6 t (BitVec.ofNat 32 (12288 * h.val)) (BitVec.ofNat 32 u.val)) S128x128.size (k0_off6_inb i t k0_h3 h u)).toLoadRect (View.loadsAt_vmem h_S128x128)) fun _ : Vec F S128x128 .f32 =>
  .op (.store arg25 (Rect.unit (s := S24576x128) (k0_off6 t (BitVec.ofNat 32 (12288 * h.val)) (BitVec.ofNat 32 u.val)) S128x128.size (k0_off6_inb i t k0_h3 h u))
    (shapeCast S128x128 (pFac (extractStridedSlice S128x128 ![0, 128 * h.val] o (halfSlices h)) fa fb) shapeCasts_S128x128_S128x128) Finset.univ
    (View.stores_vmem_bits_univ h_S128x128 rfl) (.inl rfl)) fun _ =>
  .op (.load arg26 (Rect.unit (s := S256x128) ![128 * h.val, 0] S128x128.size (sumInb h)).toLoadRect (View.loadsAt_vmem h_S128x128)) fun s : Vec F S128x128 .f32 =>
  .op (.load arg26 (Rect.unit (s := S256x128) ![128 * h.val, 0] S128x128.size (sumInb h)).toLoadRect (View.loadsAt_vmem h_S128x128)) fun _ : Vec F S128x128 .f32 =>
  .op (.store arg26 (Rect.unit (s := S256x128) ![128 * h.val, 0] S128x128.size (sumInb h))
    (shapeCast S128x128 (addf s (pFac (extractStridedSlice S128x128 ![0, 128 * h.val] o (halfSlices h)) fa fb)) shapeCasts_S128x128_S128x128) Finset.univ
    (View.stores_vmem_bits_univ h_S128x128 rfl) (.inl rfl)) fun _ =>
  k

/-- Channel `u` of trip `t`, two tiles wide. -/
def step2 (arg6 arg7 arg8 : Memref sig .tc .vmem S1x96x128 .f32) (arg23 : Memref sig .tc .vmem S96x128x640 .fp8e4m3)
    (arg24 : Memref sig .tc .vmem S5x96x640x128 .fp8e4m3) (arg25 : Memref sig .tc .vmem S24576x128 .f32)
    (arg26 : Memref sig .tc .vmem S256x128 .f32) (t : Fin k0_t1_loop.trips) (k0_h3 : k0_cond3 i = 1#1) (u : Fin 4) (_ : PUnit.{1})
    (k : PUnit.{1} → Prog (Eff F) PUnit) : Prog (Eff F) PUnit :=
  .op (.load arg24 (Rect.unit (s := S5x96x640x128) (k0_off3 i t 0#32 (BitVec.ofNat 32 u.val)) S1x1x640x128.size (k0_off3_inb i t k0_h3 0 u)).toLoadRect (View.loadsAt_vmem h_S1x1x640x128)) fun b0 : Vec F S1x1x640x128 .fp8e4m3 =>
  .op (.load arg24 (Rect.unit (s := S5x96x640x128) (k0_off3 i t 1#32 (BitVec.ofNat 32 u.val)) S1x1x640x128.size (k0_off3_inb i t k0_h3 1 u)).toLoadRect (View.loadsAt_vmem h_S1x1x640x128)) fun b1 : Vec F S1x1x640x128 .fp8e4m3 =>
  .op (.load arg23 (Rect.unit (s := S96x128x640) (k0_off4 t (BitVec.ofNat 32 u.val)) S1x128x640.size (k0_off4_inb i t k0_h3 u)).toLoadRect (View.loadsAt_vmem h_S1x128x640)) fun a : Vec F S1x128x640 .fp8e4m3 =>
  .op (.load arg6 (Rect.unit (s := S1x96x128) (k0_off5 t (BitVec.ofNat 32 u.val)) S1x1x128.size (k0_off5_inb i t k0_h3 u)).toLoadRect (View.loadsAt_vmem h_S1x1x128)) fun fa : Vec F S1x1x128 .f32 =>
  stepP i arg25 arg26 arg7 t k0_h3 fa (pPair b0 b1 a) u 0 (stepP i arg25 arg26 arg8 t k0_h3 fa (pPair b0 b1 a) u 1 (k ⟨⟩))

/-- Channel `u` of trip `t`, one tile wide. -/
def step1 (arg6 arg7 : Memref sig .tc .vmem S1x96x128 .f32) (arg23 : Memref sig .tc .vmem S96x128x640 .fp8e4m3)
    (arg24 : Memref sig .tc .vmem S5x96x640x128 .fp8e4m3) (arg25 : Memref sig .tc .vmem S24576x128 .f32)
    (arg26 : Memref sig .tc .vmem S256x128 .f32) (t : Fin k0_t2_loop.trips) (k0_h4 : k0_cond4 i = 1#1) (u : Fin 4) (_ : PUnit.{1})
    (k : PUnit.{1} → Prog (Eff F) PUnit) : Prog (Eff F) PUnit :=
  .op (.load arg24 (Rect.unit (s := S5x96x640x128) (k0_off7 i t (BitVec.ofNat 32 u.val)) S1x1x640x128.size (k0_off7_inb i t k0_h4 u)).toLoadRect (View.loadsAt_vmem h_S1x1x640x128)) fun b : Vec F S1x1x640x128 .fp8e4m3 =>
  .op (.load arg23 (Rect.unit (s := S96x128x640) (k0_off8 t (BitVec.ofNat 32 u.val)) S1x128x640.size (k0_off8_inb i t k0_h4 u)).toLoadRect (View.loadsAt_vmem h_S1x128x640)) fun a : Vec F S1x128x640 .fp8e4m3 =>
  .op (.load arg6 (Rect.unit (s := S1x96x128) (k0_off9 t (BitVec.ofNat 32 u.val)) S1x1x128.size (k0_off9_inb i t k0_h4 u)).toLoadRect (View.loadsAt_vmem h_S1x1x128)) fun fa : Vec F S1x1x128 .f32 =>
  .op (.load arg7 (Rect.unit (s := S1x96x128) (k0_off9 t (BitVec.ofNat 32 u.val)) S1x1x128.size (k0_off9_inb i t k0_h4 u)).toLoadRect (View.loadsAt_vmem h_S1x1x128)) fun fb : Vec F S1x1x128 .f32 =>
  .op (.load arg25 (Rect.unit (s := S24576x128) (k0_off10 t (BitVec.ofNat 32 u.val)) S128x128.size (k0_off10_inb i t k0_h4 u)).toLoadRect (View.loadsAt_vmem h_S128x128)) fun _ : Vec F S128x128 .f32 =>
  .op (.store arg25 (Rect.unit (s := S24576x128) (k0_off10 t (BitVec.ofNat 32 u.val)) S128x128.size (k0_off10_inb i t k0_h4 u))
    (shapeCast S128x128 (pFac (pOne b a) fa fb) shapeCasts_S128x128_S128x128) Finset.univ
    (View.stores_vmem_bits_univ h_S128x128 rfl) (.inl rfl)) fun _ =>
  .op (.load arg26 (Rect.unit (s := S256x128) ![0, 0] S128x128.size inb_S256x128_S128x128_0_0).toLoadRect (View.loadsAt_vmem h_S128x128)) fun s : Vec F S128x128 .f32 =>
  .op (.load arg26 (Rect.unit (s := S256x128) ![0, 0] S128x128.size inb_S256x128_S128x128_0_0).toLoadRect (View.loadsAt_vmem h_S128x128)) fun _ : Vec F S128x128 .f32 =>
  .op (.store arg26 (Rect.unit (s := S256x128) ![0, 0] S128x128.size inb_S256x128_S128x128_0_0)
    (shapeCast S128x128 (addf s (pFac (pOne b a) fa fb)) shapeCasts_S128x128_S128x128) Finset.univ
    (View.stores_vmem_bits_univ h_S128x128 rfl) (.inl rfl)) fun _ =>
  k ⟨⟩

/-- What the body does after the products: the two groups of eight rows, then the eight pairs of output rows. -/
def rest : Prog (Eff F) PUnit :=
  loopK (group i arg17 arg18 arg20 arg21 harg21 arg22 arg25 arg26 arg27) 2 0 ⟨⟩ fun _ =>
  loopK (outPair arg9 arg10 arg11 arg12 arg13 arg14 arg15 arg16 arg19 harg19 arg21 arg22) 8 0 ⟨⟩ fun _ => .ret ⟨⟩

end

end Cert.Kernel.Tri
-- ==== Proof.Run.lean ====
/- The buffers the body loads and stores, owned together at named contents, and the rules by which a program of loads and
   stores takes the contents it begins with to those it ends with. -/
module

public import proofs.«01_k».proof.Proof.Loop
public import Idealize.ShloMosaic.Lib.VecWindow
public import Idealize.ShloMosaic.Lib.Writes
public import Idealize.ShloMosaic.Lib.Tactic
public import Idealize.ShloMosaic.Lib.Pipeline.Frame

@[expose] public section

noncomputable section

namespace Cert.Kernel.Tri

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel

/-- The buffers of the body: the staged blocks and the scratch. -/
inductive Bf
  | fa | fb0 | fb1 | z | q1 | s1 | eye | w5 | s5 | wo | so | ga | be | zo | std | q2 | s2 | a | b | x | sum | stg
  deriving DecidableEq

/-- The buffers listed. -/
def Bf.list : List Bf := [.fa, .fb0, .fb1, .z, .q1, .s1, .eye, .w5, .s5, .wo, .so, .ga, .be, .zo, .std, .q2, .s2, .a, .b, .x, .sum, .stg]

instance : Fintype Bf := ⟨⟨Bf.list, by decide⟩, fun n => by cases n <;> decide⟩

/-- The shape of a buffer. -/
@[reducible] def shp : Bf → Shape
  | .fa => S1x96x128 | .fb0 => S1x96x128 | .fb1 => S1x96x128 | .z => S1x16x128x128 | .q1 => S1x16x128x128
  | .s1 => S1x16x128 | .eye => S128x128 | .w5 => S128x128 | .s5 => S128x128 | .wo => S128x96 | .so => S128x128
  | .ga => S96x128 | .be => S96x128 | .zo => S1x16x128x128 | .std => S1x16x128 | .q2 => S1x16x96x128 | .s2 => S1x16x128
  | .a => S96x128x640 | .b => S5x96x640x128 | .x => S24576x128 | .sum => S256x128 | .stg => S768x128

/-- The element type of a buffer. -/
@[reducible] def elt : Bf → EltTy
  | .fa => .f32 | .fb0 => .f32 | .fb1 => .f32 | .z => .bf16 | .q1 => .fp8e4m3
  | .s1 => .f32 | .eye => .bf16 | .w5 => .fp8e4m3 | .s5 => .f32 | .wo => .fp8e4m3 | .so => .f32
  | .ga => .f32 | .be => .f32 | .zo => .bf16 | .std => .f32 | .q2 => .fp8e4m3 | .s2 => .f32
  | .a => .fp8e4m3 | .b => .fp8e4m3 | .x => .f32 | .sum => .f32 | .stg => .f32

variable {F : FTy → Type} [FloatOps F]

/-- The contents of every buffer. -/
abbrev St (F : FTy → Type) : Type := (n : Bf) → (shp n).Idx → Elt F (elt n)

/-- The memrefs through which the body reaches the buffers. -/
abbrev Mems : Type := (n : Bf) → Memref sig .tc .vmem (shp n) (elt n)

/-- The state with buffer `n` at new contents. -/
def St.set (σ : St F) (n : Bf) (v : (shp n).Idx → Elt F (elt n)) : St F := Function.update σ n v

theorem St.set_same (σ : St F) (n : Bf) (v) : (σ.set n v) n = v := Function.update_self _ _ _
theorem St.set_ne (σ : St F) {n m : Bf} (h : m ≠ n) (v) : (σ.set n v) m = σ m := Function.update_of_ne h _ _
theorem St.set_set (σ : St F) (n : Bf) (v w) : (σ.set n v).set n w = σ.set n w := Function.update_idem _ _ _

local notation "𝕄" => MT nD τ sig Unit (Elt F) ℕ (Pipeline.UD sig nD τ) ℕ

section rules

variable (defs : Defs nD τ sig (Elt F) Λ₀) (𝒱 : Variants) (c : Dev nD) (bd : Option 𝒱.V)

/-- A load from a memref owned at `X` continues at what the load's coordinates read of `X`. -/
theorem owns_load {s : Shape} {e : EltTy} {m : Memref sig .tc .vmem s e} {r : LoadRect s} {hl : m.view.LoadsAt r}
    {X : s.Idx → Elt F e} {q : PosShare TreeShare} {k : (r.shape.Idx → Elt F e) → Prog (Eff F) PUnit} {Q : PUnit → sProp 𝕄} :
    (owns (c : Thread nD τ) m q X : sProp 𝕄)
      ⊢ iprop((owns (c : Thread nD τ) m q X -∗ wp frame (wpE defs 𝒱 (c : Thread nD τ) bd) Set.univ (k fun j => X (r.idx j)) Q)
        -∗ wp frame (wpE defs 𝒱 (c : Thread nD τ) bd) Set.univ (.op (.load m r hl) k) Q) := by
  unfold owns
  iintro ⟨%f, %hf, H⟩ Hk
  iapply (wp_load 𝒱 (c : Thread nD τ) bd Set.univ (m := m) (r := r) (hl := hl) (k := k) (Q := Q) (f := f)
    (S := m.view.set) (m.view.setOn_subset_set _)) $$ H
  iintro H
  have e : m.view.readAt (Elt F) r f = fun j => X (r.idx j) := by subst hf; rfl
  rw [e]
  iapply Hk
  iexists f
  isplitr
  · ipureintro; exact hf
  · iexact H

/-- A store into a memref owned at `X` leaves `X` with the payload put over the window. -/
theorem owns_store {s : Shape} {e : EltTy} {m : Memref sig .tc .vmem s e} {off size : Fin s.rank → ℕ}
    {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {X : s.Idx → Elt F e} {k : PUnit → Prog (Eff F) PUnit} {Q : PUnit → sProp 𝕄} :
    (owns (c : Thread nD τ) m fullShare X : sProp 𝕄)
      ⊢ iprop((owns (c : Thread nD τ) m fullShare (VecWindow.put X off size w) -∗ wp frame (wpE defs 𝒱 (c : Thread nD τ) bd) Set.univ (k ⟨⟩) Q)
        -∗ wp frame (wpE defs 𝒱 (c : Thread nD τ) bd) Set.univ (.op (.store m (Rect.unit off size inb) w Finset.univ hx hm) k) Q) := by
  unfold owns
  iintro ⟨%f, %hf, H⟩ Hk
  iapply (wp_store 𝒱 (c : Thread nD τ) bd Set.univ (m := m) (r := Rect.unit off size inb) (w := w) (Mk := Finset.univ) (hx := hx) (hm := hm)
    (k := k) (Q := Q) (f := f) (S := m.view.set) (m.setOn_access_subset _ _)) $$ H
  iintro H
  iapply Hk
  iexists ((m.access (Rect.unit off size inb)).write (Elt F) f w Finset.univ)
  isplitr
  · ipureintro
    have h := View.read_writes_cons_put m.view f inb w [] rfl
    rw [View.writes_nil, hf] at h
    exact h
  · iexact H

/-- All the buffers owned at the state `σ`. -/
def Own (M : Mems) (σ : St F) : sProp 𝕄 := bigSep Finset.univ fun n => owns (c : Thread nD τ) (M n) fullShare (σ n)

/-- One buffer taken out of the state, and put back at any contents. -/
theorem Own_take (M : Mems) (σ : St F) (n : Bf) :
    (Own c M σ : sProp 𝕄) ⊢ iprop(owns (c : Thread nD τ) (M n) fullShare (σ n)
      ∗ (∀ v, owns (c : Thread nD τ) (M n) fullShare v -∗ Own c M (σ.set n v))) := by
  have e (σ' : St F) : (Own c M σ' : sProp 𝕄) = iprop(owns (c : Thread nD τ) (M n) fullShare (σ' n)
      ∗ bigSep (Finset.univ.erase n) fun n => owns (c : Thread nD τ) (M n) fullShare (σ' n)) := by
    unfold Own; exact bigSep_erase (Finset.mem_univ n)
  rw [e σ]
  iintro ⟨H, Hr⟩
  isplitl [H]
  · iexact H
  iintro %v H
  rw [e (σ.set n v), St.set_same]
  isplitl [H]
  · iexact H
  have h : (bigSep (Finset.univ.erase n) fun k => owns (c : Thread nD τ) (M k) fullShare ((σ.set n v) k) : sProp 𝕄)
      = bigSep (Finset.univ.erase n) fun k => owns (c : Thread nD τ) (M k) fullShare (σ k) :=
    bigSep_congr fun k hk => by rw [St.set_ne σ (Finset.ne_of_mem_erase hk)]
  rw [h]
  iexact Hr

variable (M : Mems)

/-- The program `P`, given any rest, takes the buffers from `σ` to some state and result as `post` says, and goes on with the rest. -/
def Runs {R : Type} (P : (R → Prog (Eff F) PUnit) → Prog (Eff F) PUnit) (σ : St F) (post : St F → R → Prop) : Prop :=
  ∀ (k : R → Prog (Eff F) PUnit) (G : sProp 𝕄) (Q : PUnit → sProp 𝕄),
    (∀ σ' r, post σ' r → iprop(Own c M σ' ∗ G) ⊢ wp frame (wpE defs 𝒱 (c : Thread nD τ) bd) Set.univ (k r) Q)
      → iprop(Own c M σ ∗ G) ⊢ wp frame (wpE defs 𝒱 (c : Thread nD τ) bd) Set.univ (P k) Q

variable {defs 𝒱 c bd M}

/-- A load of buffer `n`. -/
theorem ld (n : Bf) {σ : St F} {r : LoadRect (shp n)} {hl : (M n).view.LoadsAt r}
    {k : (r.shape.Idx → Elt F (elt n)) → Prog (Eff F) PUnit} {G : sProp 𝕄} {Q : PUnit → sProp 𝕄}
    (h : iprop(Own c M σ ∗ G) ⊢ wp frame (wpE defs 𝒱 (c : Thread nD τ) bd) Set.univ (k fun j => σ n (r.idx j)) Q) :
    iprop(Own c M σ ∗ G) ⊢ wp frame (wpE defs 𝒱 (c : Thread nD τ) bd) Set.univ (.op (.load (M n) r hl) k) Q := by
  iintro ⟨H, HG⟩
  icases (Own_take c M σ n) $$ H with ⟨Hn, Hr⟩
  iapply (owns_load defs 𝒱 c bd) $$ Hn
  iintro Hn
  iapply h
  isplitr [HG]
  · ispecialize Hr $$ %(σ n) Hn
    have e : σ.set n (σ n) = σ := Function.update_eq_self _ _
    rw [e]
    iexact Hr
  · iexact HG

/-- A store into buffer `n`. -/
theorem st (n : Bf) {σ : St F} {off size : Fin (shp n).rank → ℕ}
    {inb : ∀ a, off a + size a ≤ (shp n).size a} {w : (Rect.unit off size inb).shape.Idx → Elt F (elt n)}
    {hx : ((M n).access (Rect.unit off size inb)).Stores Finset.univ} {hm : Finset.univ = Finset.univ ∨ ∀ a, (Rect.unit off size inb).stride a = 1}
    {k : PUnit → Prog (Eff F) PUnit} {G : sProp 𝕄} {Q : PUnit → sProp 𝕄}
    (h : iprop(Own c M (σ.set n (VecWindow.put (σ n) off size w)) ∗ G) ⊢ wp frame (wpE defs 𝒱 (c : Thread nD τ) bd) Set.univ (k ⟨⟩) Q) :
    iprop(Own c M σ ∗ G) ⊢ wp frame (wpE defs 𝒱 (c : Thread nD τ) bd) Set.univ
      (.op (.store (M n) (Rect.unit off size inb) w Finset.univ hx hm) k) Q := by
  iintro ⟨H, HG⟩
  icases (Own_take c M σ n) $$ H with ⟨Hn, Hr⟩
  iapply (owns_store defs 𝒱 c bd) $$ Hn
  iintro Hn
  iapply h
  isplitr [HG]
  · ispecialize Hr $$ %(VecWindow.put (σ n) off size w) Hn
    iexact Hr
  · iexact HG

/-- A counted loop by an invariant of the trips made, the state and the carried value. -/
theorem Runs.loop {N : ℕ} [NeZero N] {S : Type} {step : Fin N → S → (S → Prog (Eff F) PUnit) → Prog (Eff F) PUnit}
    (I : ℕ → St F → S → Prop)
    (h : ∀ (j : Fin N) σ s, I j.val σ s → Runs defs 𝒱 c bd M (step j s) σ (I (j.val + 1)))
    {σ : St F} {s : S} (h₀ : I 0 σ s) : Runs defs 𝒱 c bd M (loopK step N 0 s) σ (I N) := by
  suffices H : ∀ n c₀ σ s, c₀ + n = N → I c₀ σ s → Runs defs 𝒱 c bd M (loopK step n c₀ s) σ (I N) from H N 0 σ s (Nat.zero_add _) h₀
  intro n
  induction n with
  | zero =>
    intro c₀ σ s e hI k G Q hk
    exact hk σ s (by obtain rfl : c₀ = N := e; exact hI)
  | succ n ih =>
    intro c₀ σ s e hI k G Q hk
    have hc : (Fin.ofNat N c₀).val = c₀ := Nat.mod_eq_of_lt (by omega)
    refine h (Fin.ofNat N c₀) σ s (by rw [hc]; exact hI) _ G Q fun σ' r hr => ?_
    exact ih (c₀ + 1) σ' r (by omega) (by rw [hc] at hr; exact hr) k G Q hk

/-- A weaker postcondition. -/
theorem Runs.mono {R : Type} {P : (R → Prog (Eff F) PUnit) → Prog (Eff F) PUnit} {σ : St F} {p p' : St F → R → Prop}
    (h : Runs defs 𝒱 c bd M P σ p) (hp : ∀ σ' r, p σ' r → p' σ' r) : Runs defs 𝒱 c bd M P σ p' :=
  fun k G Q hk => h k G Q fun σ' r hr => hk σ' r (hp σ' r hr)

end rules

end Cert.Kernel.Tri
-- ==== Proof.Steps.lean ====
/- What every step of the body does to the buffers' contents. -/
module

public import proofs.«01_k».proof.Proof.Run

@[expose] public section

noncomputable section

namespace Cert.Kernel.Tri

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Facts₀ Cert.Kernel.Facts

variable {F : FTy → Type} [FloatOps F]

/-- What a load of buffer `n` reads. -/
@[reducible] def St.rd (σ : St F) (n : Bf) (r : LoadRect (shp n)) : r.shape.Idx → Elt F (elt n) := fun j => σ n (r.idx j)

/-- The state after a store into buffer `n`. -/
@[reducible] def St.wr (σ : St F) (n : Bf) (off size : Fin (shp n).rank → ℕ)
    (w : ((a : Fin (shp n).rank) → Fin (size a)) → Elt F (elt n)) : St F := σ.set n (VecWindow.put (σ n) off size w)

variable {defs : Defs nD τ sig (Elt F) Λ₀} {𝒱 : Variants} {c : Dev nD} {bd : Option 𝒱.V} {M : Mems}

section

variable (i : grid0.Coords)

/-- The eight rows of channel `j` that group `g` reads. -/
@[reducible] def St.x8 (σ : St F) (g : Fin 2) (j : Fin 96) : Vec F S8x128 .f32 := σ.rd .x (xRect i g j).toLoadRect

/-- The state with the eight rows of channel `j` of group `g` at new values. -/
@[reducible] def St.setx (σ : St F) (g : Fin 2) (j : Fin 96) (w : Vec F S8x128 .f32) : St F :=
  σ.wr .x (xRect i g j).off (xRect i g j).size w

/-- The sums of the eight rows of group `g`. -/
@[reducible] def St.sum8 (σ : St F) (g : Fin 2) : Vec F S8x128 .f32 :=
  σ.rd .sum (Rect.unit (s := S256x128) (k0_off11 i (BitVec.ofNat 32 (8 * g.val))) S8x128.size (k0_off11_inb i g)).toLoadRect

theorem stepA_runs (g : Fin 2) (mean : FVec F S8x128 .f32) (j : Fin 96) (var : FVec F S8x128 .f32) (σ : St F) :
    Runs defs 𝒱 c bd M (stepA i (M .x) g mean j var) σ fun σ' r =>
      σ' = σ.setx i g j (shapeCast S8x128 (subf (σ.x8 i g j) mean) shapeCasts_S8x128_S8x128)
      ∧ r = addf var (mulf (subf (σ.x8 i g j) mean) (subf (σ.x8 i g j) mean)) :=
  fun k G Q hk => ld .x (ld .x (st .x (hk _ _ ⟨rfl, rfl⟩)))

/-- Row `j` of a table of one row per channel. -/
@[reducible] def St.ga1 (σ : St F) (j : Fin 96) : Vec F S1x128 .f32 := σ.rd .ga (Rect.unit (s := S96x128) ![j.val, 0] S1x128.size (tabInb j)).toLoadRect
/-- Row `j` of a table of one row per channel. -/
@[reducible] def St.be1 (σ : St F) (j : Fin 96) : Vec F S1x128 .f32 := σ.rd .be (Rect.unit (s := S96x128) ![j.val, 0] S1x128.size (tabInb j)).toLoadRect

theorem stepB_runs (g : Fin 2) (rstd : FVec F S8x128 .f32) (j : Fin 96) (amax : FVec F S8x128 .f32) (σ : St F) :
    Runs defs 𝒱 c bd M (stepB i (M .ga) (M .be) (M .x) g rstd j amax) σ fun σ' r =>
      σ' = σ.setx i g j (shapeCast S8x128 (pY rstd (σ.x8 i g j) (σ.ga1 j) (σ.be1 j)) shapeCasts_S8x128_S8x128)
      ∧ r = maximumf amax (absf (pY rstd (σ.x8 i g j) (σ.ga1 j) (σ.be1 j))) :=
  fun k G Q hk => ld .x (ld .ga (ld .be (ld .x (st .x (hk _ _ ⟨rfl, rfl⟩)))))

theorem stepC_runs (g : Fin 2) (inv : FVec F S8x128 .f32) (j : Fin 96) (u : PUnit) (σ : St F) :
    Runs defs 𝒱 c bd M (stepC i (M .x) (M .stg) g inv j u) σ fun σ' _ =>
      σ' = σ.wr .stg ![8 * j.val, 0] S8x128.size (shapeCast S8x128 (pClip inv (σ.x8 i g j)) shapeCasts_S8x128_S8x128) :=
  fun k G Q hk => ld .x (ld .stg (st .stg (hk _ _ rfl)))

/-- The staged values of row `r` of a group: every eighth row. -/
@[reducible] def St.stg8 (σ : St F) (r : Fin 8) : Vec F S96x128 .f32 :=
  σ.rd .stg (⟨![r.val, 0], S96x128.size, ![8, 1], strInb r⟩ : LoadRect S768x128)

theorem stepD_runs (h21 : (M .q2).IsWhole) (g : Fin 2) (r : Fin 8) (u : PUnit) (σ : St F) :
    Runs defs 𝒱 c bd M (stepD (M .q2) h21 (M .stg) g r u) σ fun σ' _ =>
      σ' = σ.wr .q2 ![0, (row16 g r).val, 0, 0] S1x1x96x128.size (pCode (σ.stg8 r)) :=
  fun k G Q hk => ld .stg (ld .q2 (st .q2 (hk _ _ rfl)))

/-- Row `r` of the scales of the block's first quantisation. -/
@[reducible] def St.s1r (σ : St F) (r : Fin 16) : Vec F S1x1x128 .f32 :=
  σ.rd .s1 (Rect.unit (s := S1x16x128) ![0, r.val, 0] S1x1x128.size (rowInb r)).toLoadRect
/-- Row `r` of the scales of the block's second quantisation. -/
@[reducible] def St.s2r (σ : St F) (r : Fin 16) : Vec F S1x1x128 .f32 :=
  σ.rd .s2 (Rect.unit (s := S1x16x128) ![0, r.val, 0] S1x1x128.size (rowInb r)).toLoadRect
/-- A whole table of the output stage. -/
@[reducible] def St.s5w (σ : St F) : Vec F S128x128 .f32 := σ.rd .s5 (Rect.unit (s := S128x128) ![0, 0] S128x128.size inb_S128x128_S128x128_0_0).toLoadRect
/-- A whole table of the output stage. -/
@[reducible] def St.sow (σ : St F) : Vec F S128x128 .f32 := σ.rd .so (Rect.unit (s := S128x128) ![0, 0] S128x128.size inb_S128x128_S128x128_0_0).toLoadRect

theorem stepE_runs (h19 : (M .zo).IsWhole) (p : Fin 8) (o pg zt : FVec F S128x256 .f32) (h : Fin 2) (u : PUnit) (σ : St F) :
    Runs defs 𝒱 c bd M (stepE (M .s1) (M .s5) (M .so) (M .zo) h19 (M .s2) p o pg zt h u) σ fun σ' _ =>
      σ' = σ.wr .zo ![0, (pair16 p h).val, 0, 0] S1x1x128x128.size
        (pOut h o pg zt (σ.s1r (pair16 p h)) σ.s5w (σ.s2r (pair16 p h)) σ.sow) :=
  fun k G Q hk => ld .s1 (ld .s5 (ld .s2 (ld .so (ld .zo (st .zo (hk _ _ rfl))))))

/-- A whole table of the output stage. -/
@[reducible] def St.wow (σ : St F) : Vec F S128x96 .fp8e4m3 := σ.rd .wo (Rect.unit (s := S128x96) ![0, 0] S128x96.size inb_S128x96_S128x96_0_0).toLoadRect
/-- A whole table of the output stage. -/
@[reducible] def St.w5w (σ : St F) : Vec F S128x128 .fp8e4m3 := σ.rd .w5 (Rect.unit (s := S128x128) ![0, 0] S128x128.size inb_S128x128_S128x128_0_0).toLoadRect
/-- A whole table of the output stage. -/
@[reducible] def St.eyew (σ : St F) : Vec F S128x128 .bf16 := σ.rd .eye (Rect.unit (s := S128x128) ![0, 0] S128x128.size inb_S128x128_S128x128_0_0).toLoadRect
/-- The codes of row `r`. -/
@[reducible] def St.q2r (σ : St F) (r : Fin 16) : Vec F S1x1x96x128 .fp8e4m3 :=
  σ.rd .q2 (Rect.unit (s := S1x16x96x128) ![0, r.val, 0, 0] S1x1x96x128.size (codeInb r)).toLoadRect
/-- Two rows of the codes of the first quantisation. -/
@[reducible] def St.q1p (σ : St F) (p : Fin 8) : Vec F S1x2x128x128 .fp8e4m3 :=
  σ.rd .q1 (Rect.unit (s := S1x16x128x128) ![0, 2 * p.val, 0, 0] S1x2x128x128.size (pairInb p)).toLoadRect
/-- Two rows of `z`. -/
@[reducible] def St.zp (σ : St F) (p : Fin 8) : Vec F S1x2x128x128 .bf16 :=
  σ.rd .z (Rect.unit (s := S1x16x128x128) ![0, 2 * p.val, 0, 0] S1x2x128x128.size (pairInb p)).toLoadRect

/-- A pair of output rows: whatever the two row steps leave. -/
theorem outPair_runs (h19 : (M .zo).IsWhole) (p : Fin 8) (u : PUnit) (σ : St F) (post : St F → PUnit → Prop)
    (h : Runs defs 𝒱 c bd M (loopK (stepE (M .s1) (M .s5) (M .so) (M .zo) h19 (M .s2) p (pO (σ.q2r (pair16 p 0)) (σ.q2r (pair16 p 1)) σ.wow)
      (pP σ.w5w (σ.q1p p)) (pZ σ.eyew (σ.zp p))) 2 0 ⟨⟩) σ post) :
    Runs defs 𝒱 c bd M (outPair (M .z) (M .q1) (M .s1) (M .eye) (M .w5) (M .s5) (M .wo) (M .so) (M .zo) h19 (M .q2) (M .s2) p u) σ post :=
  fun k G Q hk => ld .q2 (ld .q2 (ld .wo (ld .w5 (ld .q1 (ld .eye (ld .z (h k G Q hk)))))))

attribute [local irreducible] loopK in
/-- A group of eight rows, by an invariant of each of its four loops: of the trips made, the state, and what is accumulated. -/
theorem group_runs (h21 : (M .q2).IsWhole) (g : Fin 2) (u : PUnit) (σ : St F)
    (IA : ℕ → St F → FVec F S8x128 .f32 → Prop) (IB : FVec F S8x128 .f32 → ℕ → St F → FVec F S8x128 .f32 → Prop)
    (IC : FVec F S8x128 .f32 → FVec F S8x128 .f32 → ℕ → St F → Prop) (ID : FVec F S8x128 .f32 → FVec F S8x128 .f32 → ℕ → St F → Prop)
    (hA0 : IA 0 σ pZero)
    (hA : ∀ (j : Fin 96) σ' var, IA j.val σ' var → IA (j.val + 1)
      (σ'.setx i g j (shapeCast S8x128 (subf (σ'.x8 i g j) (pMean (σ.sum8 i g))) shapeCasts_S8x128_S8x128))
      (addf var (mulf (subf (σ'.x8 i g j) (pMean (σ.sum8 i g))) (subf (σ'.x8 i g j) (pMean (σ.sum8 i g))))))
    (hB0 : ∀ σ' var, IA 96 σ' var → IB var 0 (σ'.wr .std ![0, 8 * g.val, 0] S1x8x128.size (shapeCast S1x8x128 (pStd var) shapeCasts_S8x128_S1x8x128)) pZero)
    (hB : ∀ var (j : Fin 96) σ' am, IB var j.val σ' am → IB var (j.val + 1)
      (σ'.setx i g j (shapeCast S8x128 (pY (pRcp (pStd var)) (σ'.x8 i g j) (σ'.ga1 j) (σ'.be1 j)) shapeCasts_S8x128_S8x128))
      (maximumf am (absf (pY (pRcp (pStd var)) (σ'.x8 i g j) (σ'.ga1 j) (σ'.be1 j)))))
    (hC0 : ∀ σ' var am, IB var 96 σ' am → IC var am 0 (σ'.wr .s2 ![0, 8 * g.val, 0] S1x8x128.size (shapeCast S1x8x128 (pScale am) shapeCasts_S8x128_S1x8x128)))
    (hC : ∀ var am (j : Fin 96) σ', IC var am j.val σ' → IC var am (j.val + 1)
      (σ'.wr .stg ![8 * j.val, 0] S8x128.size (shapeCast S8x128 (pClip (pRcp (pScale am)) (σ'.x8 i g j)) shapeCasts_S8x128_S8x128)))
    (hD0 : ∀ σ' var am, IC var am 96 σ' → ID var am 0 σ')
    (hD : ∀ var am (r : Fin 8) σ', ID var am r.val σ' → ID var am (r.val + 1)
      (σ'.wr .q2 ![0, (row16 g r).val, 0, 0] S1x1x96x128.size (pCode (σ'.stg8 r)))) :
    Runs defs 𝒱 c bd M (group i (M .ga) (M .be) (M .std) (M .q2) h21 (M .s2) (M .x) (M .sum) (M .stg) g u) σ
      fun σ' _ => ∃ var am, ID var am 8 σ' := by
  intro k G Q hk
  refine ld .sum ?_
  refine Runs.loop IA (fun j σ' v hI => (stepA_runs i g _ j v σ').mono ?_) hA0 _ G Q ?_
  · rintro _ _ ⟨rfl, rfl⟩; exact hA j σ' v hI
  intro σ₁ var h₁
  refine ld .std (st .std ?_)
  refine Runs.loop (IB var) (fun j σ' v hI => (stepB_runs i g _ j v σ').mono ?_) (hB0 σ₁ var h₁) _ G Q ?_
  · rintro _ _ ⟨rfl, rfl⟩; exact hB var j σ' v hI
  intro σ₂ am h₂
  refine ld .s2 (st .s2 ?_)
  refine Runs.loop (fun n σ' _ => IC var am n σ') (fun j σ' v hI => (stepC_runs i g _ j v σ').mono ?_) (hC0 σ₂ var am h₂) _ G Q ?_
  · rintro _ _ rfl; exact hC var am j σ' hI
  intro σ₃ _ h₃
  refine Runs.loop (fun n σ' _ => ID var am n σ') (fun r σ' v hI => (stepD_runs h21 g r v σ').mono ?_) (hD0 σ₃ var am h₃) _ G Q ?_
  · rintro _ _ rfl; exact hD var am r σ' hI
  intro σ₄ _ h₄
  exact hk σ₄ _ ⟨var, am, h₄⟩

/-- The rows of tile `h` of the pair, channel `u` of trip `t`, at new values, and the sum with them added. -/
@[reducible] def St.addx (σ : St F) (t : Fin k0_t1_loop.trips) (u : Fin 4) (h : Fin 2) (w : FVec F S128x128 .f32) : St F :=
  let σ' := σ.wr .x (k0_off6 t (BitVec.ofNat 32 (12288 * h.val)) (BitVec.ofNat 32 u.val)) S128x128.size (shapeCast S128x128 w shapeCasts_S128x128_S128x128)
  σ'.wr .sum ![128 * h.val, 0] S128x128.size (shapeCast S128x128
    (addf (σ'.rd .sum (Rect.unit (s := S256x128) ![128 * h.val, 0] S128x128.size (sumInb h)).toLoadRect) w) shapeCasts_S128x128_S128x128)

/-- The product of a trip's channel, two tiles wide. -/
@[reducible] def St.pair (σ : St F) (t : Fin k0_t1_loop.trips) (h3 : k0_cond3 i = 1#1) (u : Fin 4) : FVec F S128x256 .f32 :=
  pPair (σ.rd .b (Rect.unit (s := S5x96x640x128) (k0_off3 i t 0#32 (BitVec.ofNat 32 u.val)) S1x1x640x128.size (k0_off3_inb i t h3 0 u)).toLoadRect)
    (σ.rd .b (Rect.unit (s := S5x96x640x128) (k0_off3 i t 1#32 (BitVec.ofNat 32 u.val)) S1x1x640x128.size (k0_off3_inb i t h3 1 u)).toLoadRect)
    (σ.rd .a (Rect.unit (s := S96x128x640) (k0_off4 t (BitVec.ofNat 32 u.val)) S1x128x640.size (k0_off4_inb i t h3 u)).toLoadRect)

/-- A factor of a trip's channel. -/
@[reducible] def St.fac (σ : St F) (t : Fin k0_t1_loop.trips) (h3 : k0_cond3 i = 1#1) (u : Fin 4) : Vec F S1x1x128 .f32 :=
  σ.rd .fa (Rect.unit (s := S1x96x128) (k0_off5 t (BitVec.ofNat 32 u.val)) S1x1x128.size (k0_off5_inb i t h3 u)).toLoadRect
/-- A factor of a trip's channel. -/
@[reducible] def St.fbc0 (σ : St F) (t : Fin k0_t1_loop.trips) (h3 : k0_cond3 i = 1#1) (u : Fin 4) : Vec F S1x1x128 .f32 :=
  σ.rd .fb0 (Rect.unit (s := S1x96x128) (k0_off5 t (BitVec.ofNat 32 u.val)) S1x1x128.size (k0_off5_inb i t h3 u)).toLoadRect
/-- A factor of a trip's channel. -/
@[reducible] def St.fbc1 (σ : St F) (t : Fin k0_t1_loop.trips) (h3 : k0_cond3 i = 1#1) (u : Fin 4) : Vec F S1x1x128 .f32 :=
  σ.rd .fb1 (Rect.unit (s := S1x96x128) (k0_off5 t (BitVec.ofNat 32 u.val)) S1x1x128.size (k0_off5_inb i t h3 u)).toLoadRect

/-- Channel `u` of trip `t`, two tiles wide. -/
theorem step2_runs (t : Fin k0_t1_loop.trips) (h3 : k0_cond3 i = 1#1) (u : Fin 4) (v : PUnit) (σ : St F) :
    Runs defs 𝒱 c bd M (step2 i (M .fa) (M .fb0) (M .fb1) (M .a) (M .b) (M .x) (M .sum) t h3 u v) σ fun σ' _ =>
      σ' = (σ.addx t u 0 (pFac (extractStridedSlice S128x128 ![0, 128 * (0 : Fin 2).val] (σ.pair i t h3 u) (halfSlices 0)) (σ.fac i t h3 u) (σ.fbc0 i t h3 u))).addx
        t u 1 (pFac (extractStridedSlice S128x128 ![0, 128 * (1 : Fin 2).val] (σ.pair i t h3 u) (halfSlices 1)) (σ.fac i t h3 u) (σ.fbc1 i t h3 u)) :=
  fun k G Q hk => ld .b <| ld .b <| ld .a <| ld .fa <| ld .fb0 <| ld .x <| st .x <| ld .sum <| ld .sum <| st .sum <|
    ld .fb1 <| ld .x <| st .x <| ld .sum <| ld .sum <| st .sum <| hk _ _ rfl

/-- The rows of the one tile, channel `u` of trip `t`, at new values, and the sum with them added. -/
@[reducible] def St.addx1 (σ : St F) (t : Fin k0_t2_loop.trips) (u : Fin 4) (w : FVec F S128x128 .f32) : St F :=
  let σ' := σ.wr .x (k0_off10 t (BitVec.ofNat 32 u.val)) S128x128.size (shapeCast S128x128 w shapeCasts_S128x128_S128x128)
  σ'.wr .sum ![0, 0] S128x128.size (shapeCast S128x128
    (addf (σ'.rd .sum (Rect.unit (s := S256x128) ![0, 0] S128x128.size inb_S256x128_S128x128_0_0).toLoadRect) w) shapeCasts_S128x128_S128x128)

/-- Channel `u` of trip `t`, one tile wide. -/
theorem step1_runs (t : Fin k0_t2_loop.trips) (h4 : k0_cond4 i = 1#1) (u : Fin 4) (v : PUnit) (σ : St F) :
    Runs defs 𝒱 c bd M (step1 i (M .fa) (M .fb0) (M .a) (M .b) (M .x) (M .sum) t h4 u v) σ fun σ' _ =>
      σ' = σ.addx1 t u (pFac (pOne
        (σ.rd .b (Rect.unit (s := S5x96x640x128) (k0_off7 i t (BitVec.ofNat 32 u.val)) S1x1x640x128.size (k0_off7_inb i t h4 u)).toLoadRect)
        (σ.rd .a (Rect.unit (s := S96x128x640) (k0_off8 t (BitVec.ofNat 32 u.val)) S1x128x640.size (k0_off8_inb i t h4 u)).toLoadRect))
        (σ.rd .fa (Rect.unit (s := S1x96x128) (k0_off9 t (BitVec.ofNat 32 u.val)) S1x1x128.size (k0_off9_inb i t h4 u)).toLoadRect)
        (σ.rd .fb0 (Rect.unit (s := S1x96x128) (k0_off9 t (BitVec.ofNat 32 u.val)) S1x1x128.size (k0_off9_inb i t h4 u)).toLoadRect)) :=
  fun k G Q hk => ld .b <| ld .a <| ld .fa <| ld .fb0 <| ld .x <| st .x <| ld .sum <| ld .sum <| st .sum <| hk _ _ rfl

end

end Cert.Kernel.Tri
-- ==== Proof.LoopEq.lean ====
/- The printed body is the body with loops. -/
module

public import proofs.«01_k».proof.Proof.Loop

@[expose] public section

set_option synthInstance.maxSize 4096
set_option maxRecDepth 65536

noncomputable section

namespace Cert.Kernel.Tri

open Idealize.ShloMosaic Idealize.SL.Sem Cert.Kernel

variable {F : FTy → Type} [FloatOps F]

/-- The printed body is its first part, the copies and the products, then the loops of `rest`. -/
theorem tri_eq (i : grid0.Coords) (arg4 : Memref sig .tc .hbm S2x5x96x128x640 .fp8e4m3) (harg4 : arg4.IsWhole) (arg5 : Memref sig .tc .hbm S2x5x96x640x128 .fp8e4m3) (harg5 : arg5.IsWhole) (arg6 : Memref sig .tc .vmem S1x96x128 .f32) (harg6 : arg6.IsWhole) (arg7 : Memref sig .tc .vmem S1x96x128 .f32) (harg7 : arg7.IsWhole) (arg8 : Memref sig .tc .vmem S1x96x128 .f32) (harg8 : arg8.IsWhole) (arg9 : Memref sig .tc .vmem S1x16x128x128 .bf16) (harg9 : arg9.IsWhole) (arg10 : Memref sig .tc .vmem S1x16x128x128 .fp8e4m3) (harg10 : arg10.IsWhole) (arg11 : Memref sig .tc .vmem S1x16x128 .f32) (harg11 : arg11.IsWhole) (arg12 : Memref sig .tc .vmem S128x128 .bf16) (harg12 : arg12.IsWhole) (arg13 : Memref sig .tc .vmem S128x128 .fp8e4m3) (harg13 : arg13.IsWhole) (arg14 : Memref sig .tc .vmem S128x128 .f32) (harg14 : arg14.IsWhole) (arg15 : Memref sig .tc .vmem S128x96 .fp8e4m3) (harg15 : arg15.IsWhole) (arg16 : Memref sig .tc .vmem S128x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S1x16x128x128 .bf16) (harg19 : arg19.IsWhole) (arg20 : Memref sig .tc .vmem S1x16x128 .f32) (harg20 : arg20.IsWhole) (arg21 : Memref sig .tc .vmem S1x16x96x128 .fp8e4m3) (harg21 : arg21.IsWhole) (arg22 : Memref sig .tc .vmem S1x16x128 .f32) (harg22 : arg22.IsWhole) (arg23 : Memref sig .tc .vmem S96x128x640 .fp8e4m3) (harg23 : arg23.IsWhole) (arg24 : Memref sig .tc .vmem S5x96x640x128 .fp8e4m3) (harg24 : arg24.IsWhole) (arg25 : Memref sig .tc .vmem S24576x128 .f32) (harg25 : arg25.IsWhole) (arg26 : Memref sig .tc .vmem S256x128 .f32) (harg26 : arg26.IsWhole) (arg27 : Memref sig .tc .vmem S768x128 .f32) (harg27 : arg27.IsWhole) (arg28 : DmaSems sig S2) :
    Gen.cc0_tri_skel (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28
      = (k0_part10 i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28) >>= fun _ => rest i arg9 arg10 arg11 arg12 arg13 arg14 arg15 arg16 arg17 arg18 arg19 harg19 arg20 arg21 harg21 arg22 arg25 arg26 arg27 := by
  unfold Gen.cc0_tri_skel k0_part231
  rw [Prog.bind_assoc]
  refine congrArg _ (funext fun r => ?_)
  chain_rfl

/-- A trip of the two-tile product is its four channels one after the other. -/
theorem t1_eq (i : grid0.Coords) (arg4 : Memref sig .tc .hbm S2x5x96x128x640 .fp8e4m3) (harg4 : arg4.IsWhole) (arg5 : Memref sig .tc .hbm S2x5x96x640x128 .fp8e4m3) (harg5 : arg5.IsWhole) (arg6 : Memref sig .tc .vmem S1x96x128 .f32) (harg6 : arg6.IsWhole) (arg7 : Memref sig .tc .vmem S1x96x128 .f32) (harg7 : arg7.IsWhole) (arg8 : Memref sig .tc .vmem S1x96x128 .f32) (harg8 : arg8.IsWhole) (arg9 : Memref sig .tc .vmem S1x16x128x128 .bf16) (harg9 : arg9.IsWhole) (arg10 : Memref sig .tc .vmem S1x16x128x128 .fp8e4m3) (harg10 : arg10.IsWhole) (arg11 : Memref sig .tc .vmem S1x16x128 .f32) (harg11 : arg11.IsWhole) (arg12 : Memref sig .tc .vmem S128x128 .bf16) (harg12 : arg12.IsWhole) (arg13 : Memref sig .tc .vmem S128x128 .fp8e4m3) (harg13 : arg13.IsWhole) (arg14 : Memref sig .tc .vmem S128x128 .f32) (harg14 : arg14.IsWhole) (arg15 : Memref sig .tc .vmem S128x96 .fp8e4m3) (harg15 : arg15.IsWhole) (arg16 : Memref sig .tc .vmem S128x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S1x16x128x128 .bf16) (harg19 : arg19.IsWhole) (arg20 : Memref sig .tc .vmem S1x16x128 .f32) (harg20 : arg20.IsWhole) (arg21 : Memref sig .tc .vmem S1x16x96x128 .fp8e4m3) (harg21 : arg21.IsWhole) (arg22 : Memref sig .tc .vmem S1x16x128 .f32) (harg22 : arg22.IsWhole) (arg23 : Memref sig .tc .vmem S96x128x640 .fp8e4m3) (harg23 : arg23.IsWhole) (arg24 : Memref sig .tc .vmem S5x96x640x128 .fp8e4m3) (harg24 : arg24.IsWhole) (arg25 : Memref sig .tc .vmem S24576x128 .f32) (harg25 : arg25.IsWhole) (arg26 : Memref sig .tc .vmem S256x128 .f32) (harg26 : arg26.IsWhole) (arg27 : Memref sig .tc .vmem S768x128 .f32) (harg27 : arg27.IsWhole) (arg28 : DmaSems sig S2) (arg2 : BitVec 32) (k0_h3 : k0_cond3 i = 1#1) (t : Fin k0_t1_loop.trips) (u : PUnit) :
    Gen.k0_t1_body (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg2 k0_h3 t u
      = loopK (step2 i arg6 arg7 arg8 arg23 arg24 arg25 arg26 t k0_h3) 4 0 ⟨⟩ fun _ => .ret ⟨⟩ := by
  chain_rfl

/-- A trip of the one-tile product is its four channels one after the other. -/
theorem t2_eq (i : grid0.Coords) (arg4 : Memref sig .tc .hbm S2x5x96x128x640 .fp8e4m3) (harg4 : arg4.IsWhole) (arg5 : Memref sig .tc .hbm S2x5x96x640x128 .fp8e4m3) (harg5 : arg5.IsWhole) (arg6 : Memref sig .tc .vmem S1x96x128 .f32) (harg6 : arg6.IsWhole) (arg7 : Memref sig .tc .vmem S1x96x128 .f32) (harg7 : arg7.IsWhole) (arg8 : Memref sig .tc .vmem S1x96x128 .f32) (harg8 : arg8.IsWhole) (arg9 : Memref sig .tc .vmem S1x16x128x128 .bf16) (harg9 : arg9.IsWhole) (arg10 : Memref sig .tc .vmem S1x16x128x128 .fp8e4m3) (harg10 : arg10.IsWhole) (arg11 : Memref sig .tc .vmem S1x16x128 .f32) (harg11 : arg11.IsWhole) (arg12 : Memref sig .tc .vmem S128x128 .bf16) (harg12 : arg12.IsWhole) (arg13 : Memref sig .tc .vmem S128x128 .fp8e4m3) (harg13 : arg13.IsWhole) (arg14 : Memref sig .tc .vmem S128x128 .f32) (harg14 : arg14.IsWhole) (arg15 : Memref sig .tc .vmem S128x96 .fp8e4m3) (harg15 : arg15.IsWhole) (arg16 : Memref sig .tc .vmem S128x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S1x16x128x128 .bf16) (harg19 : arg19.IsWhole) (arg20 : Memref sig .tc .vmem S1x16x128 .f32) (harg20 : arg20.IsWhole) (arg21 : Memref sig .tc .vmem S1x16x96x128 .fp8e4m3) (harg21 : arg21.IsWhole) (arg22 : Memref sig .tc .vmem S1x16x128 .f32) (harg22 : arg22.IsWhole) (arg23 : Memref sig .tc .vmem S96x128x640 .fp8e4m3) (harg23 : arg23.IsWhole) (arg24 : Memref sig .tc .vmem S5x96x640x128 .fp8e4m3) (harg24 : arg24.IsWhole) (arg25 : Memref sig .tc .vmem S24576x128 .f32) (harg25 : arg25.IsWhole) (arg26 : Memref sig .tc .vmem S256x128 .f32) (harg26 : arg26.IsWhole) (arg27 : Memref sig .tc .vmem S768x128 .f32) (harg27 : arg27.IsWhole) (arg28 : DmaSems sig S2) (arg2 : BitVec 32) (k0_h4 : k0_cond4 i = 1#1) (t : Fin k0_t2_loop.trips) (u : PUnit) :
    Gen.k0_t2_body (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg2 k0_h4 t u
      = loopK (step1 i arg6 arg7 arg23 arg24 arg25 arg26 t k0_h4) 4 0 ⟨⟩ fun _ => .ret ⟨⟩ := by
  chain_rfl

end Cert.Kernel.Tri
-- ==== Proof.Part.lean ====
/- The first part of the body, the copies and the products, one statement after the other. -/
module

public import proofs.«01_k».proof.Proof.LoopEq

@[expose] public section

set_option synthInstance.maxSize 4096
set_option maxRecDepth 65536

noncomputable section

namespace Cert.Kernel.Tri

open Idealize.ShloMosaic Idealize.SL.Sem Cert.Kernel Cert.Kernel.Facts₀ Cert.Kernel.Facts

variable {F : FTy → Type} [FloatOps F]

section

variable (i : grid0.Coords)

/-- The tile of the second operand that is copied in. -/
@[reducible] def srcB (arg5 : Memref sig .tc .hbm S2x5x96x640x128 .fp8e4m3) (h : k0_cond1 i = 1#1) : Memref sig .tc .hbm S5x96x640x128 .fp8e4m3 :=
  (arg5.slice (Rect.unit (s := S2x5x96x640x128) (k0_off1 i) S1x5x96x640x128.size (k0_off1_inb i h)) (fun _ => rfl)).squeeze S5x96x640x128 squeezes_S1x5x96x640x128_S5x96x640x128

/-- The tile of the first operand that is copied in. -/
@[reducible] def srcA (arg4 : Memref sig .tc .hbm S2x5x96x128x640 .fp8e4m3) (h : k0_cond2 i = 1#1) : Memref sig .tc .hbm S96x128x640 .fp8e4m3 :=
  (arg4.slice (Rect.unit (s := S2x5x96x128x640) (k0_off2 i) S1x1x96x128x640.size (k0_off2_inb i h)) (fun _ => rfl)).squeeze S96x128x640 squeezes_S1x1x96x128x640_S96x128x640

/-- The semaphore of the first copy. -/
@[reducible] def sem0 (arg28 : DmaSems sig S2) : DmaSem sig := ((arg28.slice (Rect.unit (s := S2) ![0] S1.size inb_S2_S1_0)).squeeze S_ squeezes_S1_S_).sem
/-- The semaphore of the second copy. -/
@[reducible] def sem1 (arg28 : DmaSems sig S2) : DmaSem sig := ((arg28.slice (Rect.unit (s := S2) ![1] S1.size inb_S2_S1_1)).squeeze S_ squeezes_S1_S_).sem

/-- The copy of the second operand's tile, at the first step of a batch element. -/
def copyB (arg5 : Memref sig .tc .hbm S2x5x96x640x128 .fp8e4m3) (harg5 : arg5.IsWhole) (arg24 : Memref sig .tc .vmem S5x96x640x128 .fp8e4m3) (harg24 : arg24.IsWhole)
    (arg28 : DmaSems sig S2) {α : Type} (k : Prog (Eff F) α) : Prog (Eff F) α :=
  if h : k0_cond1 i = 1#1 then
    .op (.enqueueDma (srcB i arg5 h) (.here arg24) (.dma (sem0 arg28)) ((harg5.wordExact_slice rfl _ (k0_off1_wordsfp8e4m3 i h)).reshape _ _) harg24.wordExact ⟨Or.inl rfl, trivial⟩) fun _ =>
    .op (.waitDma2 (sem0 arg28) (srcB i arg5 h) arg24 ((harg5.wordExact_slice rfl _ (k0_off1_wordsfp8e4m3 i h)).reshape _ _) harg24.wordExact) fun _ => k
  else k

/-- The copy of the first operand's tile, at the first step of a row of tiles. -/
def copyA (arg4 : Memref sig .tc .hbm S2x5x96x128x640 .fp8e4m3) (harg4 : arg4.IsWhole) (arg23 : Memref sig .tc .vmem S96x128x640 .fp8e4m3) (harg23 : arg23.IsWhole)
    (arg28 : DmaSems sig S2) {α : Type} (k : Prog (Eff F) α) : Prog (Eff F) α :=
  if h : k0_cond2 i = 1#1 then
    .op (.enqueueDma (srcA i arg4 h) (.here arg23) (.dma (sem1 arg28)) ((harg4.wordExact_slice rfl _ (k0_off2_wordsfp8e4m3 i h)).reshape _ _) harg23.wordExact ⟨Or.inl rfl, trivial⟩) fun _ =>
    .op (.waitDma2 (sem1 arg28) (srcA i arg4 h) arg23 ((harg4.wordExact_slice rfl _ (k0_off2_wordsfp8e4m3 i h)).reshape _ _) harg23.wordExact) fun _ => k
  else k

/-- The products of two tiles. -/
def prod2 (arg6 arg7 arg8 : Memref sig .tc .vmem S1x96x128 .f32) (arg23 : Memref sig .tc .vmem S96x128x640 .fp8e4m3)
    (arg24 : Memref sig .tc .vmem S5x96x640x128 .fp8e4m3) (arg25 : Memref sig .tc .vmem S24576x128 .f32)
    (arg26 : Memref sig .tc .vmem S256x128 .f32) {α : Type} (k : Prog (Eff F) α) : Prog (Eff F) α :=
  if h : k0_cond3 i = 1#1 then
    .op (.load arg26 (Rect.unit (s := S256x128) ![0, 0] S256x128.size inb_S256x128_S256x128_0_0).toLoadRect (View.loadsAt_vmem h_S256x128)) fun _ : Vec F S256x128 .f32 =>
    .op (.store arg26 (Rect.unit (s := S256x128) ![0, 0] S256x128.size inb_S256x128_S256x128_0_0) (Gen.k0_pay45 (F := F)) Finset.univ
      (View.stores_vmem_bits_univ h_S256x128 rfl) (.inl rfl)) fun _ =>
    Scf.Loop.for k0_t1_loop (k0_t1_ok i h) PUnit.unit (fun t _ => loopK (step2 i arg6 arg7 arg8 arg23 arg24 arg25 arg26 t h) 4 0 ⟨⟩ fun _ => .ret ⟨⟩) >>= fun _ => k
  else k

/-- The products of the last tile alone. -/
def prod1 (arg6 arg7 : Memref sig .tc .vmem S1x96x128 .f32) (arg23 : Memref sig .tc .vmem S96x128x640 .fp8e4m3)
    (arg24 : Memref sig .tc .vmem S5x96x640x128 .fp8e4m3) (arg25 : Memref sig .tc .vmem S24576x128 .f32)
    (arg26 : Memref sig .tc .vmem S256x128 .f32) {α : Type} (k : Prog (Eff F) α) : Prog (Eff F) α :=
  if h : k0_cond4 i = 1#1 then
    .op (.load arg26 (Rect.unit (s := S256x128) ![0, 0] S256x128.size inb_S256x128_S256x128_0_0).toLoadRect (View.loadsAt_vmem h_S256x128)) fun _ : Vec F S256x128 .f32 =>
    .op (.store arg26 (Rect.unit (s := S256x128) ![0, 0] S256x128.size inb_S256x128_S256x128_0_0) (Gen.k0_pay48 (F := F)) Finset.univ
      (View.stores_vmem_bits_univ h_S256x128 rfl) (.inl rfl)) fun _ =>
    Scf.Loop.for k0_t2_loop (k0_t2_ok i h) PUnit.unit (fun t _ => loopK (step1 i arg6 arg7 arg23 arg24 arg25 arg26 t h) 4 0 ⟨⟩ fun _ => .ret ⟨⟩) >>= fun _ => k
  else k

end

/-- The first part is the two copies and the products, each under its condition. -/
theorem part10_eq (i : grid0.Coords) (arg4 : Memref sig .tc .hbm S2x5x96x128x640 .fp8e4m3) (harg4 : arg4.IsWhole) (arg5 : Memref sig .tc .hbm S2x5x96x640x128 .fp8e4m3) (harg5 : arg5.IsWhole) (arg6 : Memref sig .tc .vmem S1x96x128 .f32) (harg6 : arg6.IsWhole) (arg7 : Memref sig .tc .vmem S1x96x128 .f32) (harg7 : arg7.IsWhole) (arg8 : Memref sig .tc .vmem S1x96x128 .f32) (harg8 : arg8.IsWhole) (arg9 : Memref sig .tc .vmem S1x16x128x128 .bf16) (harg9 : arg9.IsWhole) (arg10 : Memref sig .tc .vmem S1x16x128x128 .fp8e4m3) (harg10 : arg10.IsWhole) (arg11 : Memref sig .tc .vmem S1x16x128 .f32) (harg11 : arg11.IsWhole) (arg12 : Memref sig .tc .vmem S128x128 .bf16) (harg12 : arg12.IsWhole) (arg13 : Memref sig .tc .vmem S128x128 .fp8e4m3) (harg13 : arg13.IsWhole) (arg14 : Memref sig .tc .vmem S128x128 .f32) (harg14 : arg14.IsWhole) (arg15 : Memref sig .tc .vmem S128x96 .fp8e4m3) (harg15 : arg15.IsWhole) (arg16 : Memref sig .tc .vmem S128x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S1x16x128x128 .bf16) (harg19 : arg19.IsWhole) (arg20 : Memref sig .tc .vmem S1x16x128 .f32) (harg20 : arg20.IsWhole) (arg21 : Memref sig .tc .vmem S1x16x96x128 .fp8e4m3) (harg21 : arg21.IsWhole) (arg22 : Memref sig .tc .vmem S1x16x128 .f32) (harg22 : arg22.IsWhole) (arg23 : Memref sig .tc .vmem S96x128x640 .fp8e4m3) (harg23 : arg23.IsWhole) (arg24 : Memref sig .tc .vmem S5x96x640x128 .fp8e4m3) (harg24 : arg24.IsWhole) (arg25 : Memref sig .tc .vmem S24576x128 .f32) (harg25 : arg25.IsWhole) (arg26 : Memref sig .tc .vmem S256x128 .f32) (harg26 : arg26.IsWhole) (arg27 : Memref sig .tc .vmem S768x128 .f32) (harg27 : arg27.IsWhole) (arg28 : DmaSems sig S2) :
    ∃ r, k0_part10 (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28
      = (copyB (F := F) i arg5 harg5 arg24 harg24 arg28 <| copyA i arg4 harg4 arg23 harg23 arg28 <|
        prod2 i arg6 arg7 arg8 arg23 arg24 arg25 arg26 <| prod1 i arg6 arg7 arg23 arg24 arg25 arg26 <| .ret r) := by
  refine ⟨⟨BitVec.ofNat 32 (i 3).val, Scalar.remsi (BitVec.ofNat 32 (i 2).val) 2#32, Scalar.addi (Scalar.muli (BitVec.ofNat 32 (i 3).val) 16#32) 0#32⟩, ?_⟩
  chain_rfl

end Cert.Kernel.Tri
-- ==== Proof.Body.lean ====
/- The body's run: the copies, the products, the normalisation and the output, by an invariant of each. -/
module

public import proofs.«01_k».proof.Proof.Steps
public import proofs.«01_k».proof.Proof.Part

@[expose] public section

noncomputable section

namespace Cert.Kernel.Tri

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Facts₀ Cert.Kernel.Facts

variable {F : FTy → Type} [FloatOps F]

local notation "𝕄" => MT nD τ sig Unit (Elt F) ℕ (Pipeline.UD sig nD τ) ℕ

variable {defs : Defs nD τ sig (Elt F) Λ₀} {𝒱 : Variants} {c : Dev nD} {bd : Option 𝒱.V} {M : Mems}

/-- A copy issued and waited for at once: the destination holds what the source reads, the source, the semaphore and the
    record of waits are held as before. -/
theorem copy_wp {s : Shape} {e : EltTy} {src : Memref sig .tc .hbm s e} {dst : Memref sig .tc .vmem s e} {sm : DmaSem sig}
    {hs : src.view.WordExact} {hd : dst.view.WordExact} {ht : DmaTarget.Typed (nD := nD) (τ := τ) (p := .tc) .hbm (.dma sm) (.here dst)}
    (hN : 0 < dst.view.dmaCredit) {S : Finset (Idx (src.view.loc (c : Thread nD τ)))} (hS : src.view.set ⊆ S)
    {fs : Buf (Elt F) (src.view.loc (c : Thread nD τ))} {X : s.Idx → Elt F e}
    {k : PUnit → Prog (Eff F) PUnit} {Q : PUnit → sProp 𝕄} :
    iprop((src.view.loc (c : Thread nD τ) ↦[S]{fullShare} fs) ∗ owns (c : Thread nD τ) dst fullShare X
        ∗ semVal ((c : Thread nD τ), SemLoc.dma sm) 0 ∗ (∃ W, owes (c : Thread nD τ) 0 W))
      ⊢ (iprop((iprop((src.view.loc (c : Thread nD τ) ↦[S]{fullShare} fs) ∗ owns (c : Thread nD τ) dst fullShare (src.view.read (Elt F) fs)
          ∗ semVal ((c : Thread nD τ), SemLoc.dma sm) 0 ∗ (∃ W, owes (c : Thread nD τ) 0 W))
          -∗ wp frame (wpE defs 𝒱 (c : Thread nD τ) bd) Set.univ (k ⟨⟩) Q)
        -∗ wp frame (wpE defs 𝒱 (c : Thread nD τ) bd) Set.univ
          (.op (.enqueueDma src (.here dst) (.dma sm) hs hd ht) fun _ => .op (.waitDma2 sm src dst hs hd) k) Q) : sProp 𝕄) := by
  unfold owns
  iintro ⟨Hs, ⟨%f, %hf, Hd⟩, Hv, ⟨%W, HW⟩⟩ Hk
  icases (pointsTo_split_subset hS).1 $$ Hs with ⟨Hs, Hr⟩
  iapply (Transfers.wp_dmaLocal (Lvl := ℕ) (countersEmb (U := Pipeline.UD sig nD τ)) 𝒱 (c : Thread nD τ) bd (q := fullShare) (fs := fs) (dst := dst) (Sd := dst.view.set) (fd := f)
    () dst.view.dmaCredit rfl hN subset_rfl) $$ [Hs Hd Hv]
  · isplitl [Hs]; · iexact Hs
    isplitl [Hd]; · iexact Hd
    iexact Hv
  iintro HF
  iapply (Transfers.wp_waitLocal (Lvl := ℕ) (countersEmb (U := Pipeline.UD sig nD τ)) 𝒱 (c : Thread nD τ) bd () rfl) $$ [HF HW]
  · isplitl [HF]; · iexact HF
    iexact HW
  iintro ⟨⟨Hd, Hs⟩, Hv, HW⟩
  iapply Hk
  isplitl [Hs Hr]
  · iapply (pointsTo_split_subset hS).2
    isplitl [Hs]; · iexact Hs
    iexact Hr
  isplitl [Hd]
  · iexists _
    isplitr
    swap
    · iexact Hd
    · ipureintro
      rw [View.read_write_univ]
  isplitl [Hv]; · iexact Hv
  iexists _
  iexact HW

/-- What the body holds beside its buffers: the two arrays it copies from, its two semaphores at zero, its record of waits. -/
def Held (c : Dev nD) (arg4 : Memref sig .tc .hbm S2x5x96x128x640 .fp8e4m3) (arg5 : Memref sig .tc .hbm S2x5x96x640x128 .fp8e4m3) (arg28 : DmaSems sig S2)
    (f4 : Buf (Elt F) (arg4.view.loc (c : Thread nD τ))) (f5 : Buf (Elt F) (arg5.view.loc (c : Thread nD τ))) : sProp 𝕄 :=
  iprop((arg4.view.loc (c : Thread nD τ) ↦[Finset.univ]{fullShare} f4) ∗ (arg5.view.loc (c : Thread nD τ) ↦[Finset.univ]{fullShare} f5)
    ∗ semVal ((c : Thread nD τ), SemLoc.dma (sem0 arg28)) 0 ∗ semVal ((c : Thread nD τ), SemLoc.dma (sem1 arg28)) 0 ∗ (∃ W, owes (c : Thread nD τ) 0 W))

section

variable (i : grid0.Coords) {arg4 : Memref sig .tc .hbm S2x5x96x128x640 .fp8e4m3} {arg5 : Memref sig .tc .hbm S2x5x96x640x128 .fp8e4m3} {arg28 : DmaSems sig S2}
  {f4 : Buf (Elt F) (arg4.view.loc (c : Thread nD τ))} {f5 : Buf (Elt F) (arg5.view.loc (c : Thread nD τ))}

/-- What the copy of the second operand's tile puts in its buffer. -/
def tileB (i : grid0.Coords) (arg5 : Memref sig .tc .hbm S2x5x96x640x128 .fp8e4m3) (f5 : Buf (Elt F) (arg5.view.loc (c : Thread nD τ))) (h : k0_cond1 i = 1#1) :
    Vec F S5x96x640x128 .fp8e4m3 := (srcB i arg5 h).view.read (Elt F) f5

/-- What the copy of the first operand's tile puts in its buffer. -/
def tileA (i : grid0.Coords) (arg4 : Memref sig .tc .hbm S2x5x96x128x640 .fp8e4m3) (f4 : Buf (Elt F) (arg4.view.loc (c : Thread nD τ))) (h : k0_cond2 i = 1#1) :
    Vec F S96x128x640 .fp8e4m3 := (srcA i arg4 h).view.read (Elt F) f4

theorem copyB_ok {harg5 : arg5.IsWhole} {h24 : (M .b).IsWhole} {σ : St F} {k : Prog (Eff F) PUnit} {G : sProp 𝕄} {Q : PUnit → sProp 𝕄}
    (h : ∀ h1, iprop(Own c M (σ.set .b (tileB i arg5 f5 h1)) ∗ Held c arg4 arg5 arg28 f4 f5 ∗ G) ⊢ wp frame (wpE defs 𝒱 (c : Thread nD τ) bd) Set.univ k Q)
    (h' : k0_cond1 i ≠ 1#1 → iprop(Own c M σ ∗ Held c arg4 arg5 arg28 f4 f5 ∗ G) ⊢ wp frame (wpE defs 𝒱 (c : Thread nD τ) bd) Set.univ k Q) :
    iprop(Own c M σ ∗ Held c arg4 arg5 arg28 f4 f5 ∗ G)
      ⊢ wp frame (wpE defs 𝒱 (c : Thread nD τ) bd) Set.univ (copyB i arg5 harg5 (M .b) h24 arg28 k) Q := by
  unfold copyB
  by_cases h1 : k0_cond1 i = 1#1
  · rw [dif_pos h1]
    have hk := h h1
    unfold Held at hk ⊢
    iintro ⟨HO, ⟨H4, H5, Hv0, Hv1, HW⟩, HG⟩
    icases (Own_take c M σ .b) $$ HO with ⟨Hb, HO⟩
    iapply (copy_wp (src := srcB i arg5 h1) (dst := M .b) (S := Finset.univ) (fs := f5) (View.dmaCredit_pos _ (by decide)) (Finset.subset_univ _)) $$ [H5 Hb Hv0 HW]
    · isplitl [H5]; · iexact H5
      isplitl [Hb]; · iexact Hb
      isplitl [Hv0]; · iexact Hv0
      iexact HW
    iintro ⟨H5, Hb, Hv0, HW⟩
    ispecialize HO $$ %_ Hb
    iapply hk
    isplitl [HO]; · iexact HO
    isplitr [HG]
    · isplitl [H4]; · iexact H4
      isplitl [H5]; · iexact H5
      isplitl [Hv0]; · iexact Hv0
      isplitl [Hv1]; · iexact Hv1
      iexact HW
    · iexact HG
  · rw [dif_neg h1]; exact h' h1

theorem copyA_ok {harg4 : arg4.IsWhole} {h23 : (M .a).IsWhole} {σ : St F} {k : Prog (Eff F) PUnit} {G : sProp 𝕄} {Q : PUnit → sProp 𝕄}
    (h : ∀ h1, iprop(Own c M (σ.set .a (tileA i arg4 f4 h1)) ∗ Held c arg4 arg5 arg28 f4 f5 ∗ G) ⊢ wp frame (wpE defs 𝒱 (c : Thread nD τ) bd) Set.univ k Q)
    (h' : k0_cond2 i ≠ 1#1 → iprop(Own c M σ ∗ Held c arg4 arg5 arg28 f4 f5 ∗ G) ⊢ wp frame (wpE defs 𝒱 (c : Thread nD τ) bd) Set.univ k Q) :
    iprop(Own c M σ ∗ Held c arg4 arg5 arg28 f4 f5 ∗ G)
      ⊢ wp frame (wpE defs 𝒱 (c : Thread nD τ) bd) Set.univ (copyA i arg4 harg4 (M .a) h23 arg28 k) Q := by
  unfold copyA
  by_cases h1 : k0_cond2 i = 1#1
  · rw [dif_pos h1]
    have hk := h h1
    unfold Held at hk ⊢
    iintro ⟨HO, ⟨H4, H5, Hv0, Hv1, HW⟩, HG⟩
    icases (Own_take c M σ .a) $$ HO with ⟨Hb, HO⟩
    iapply (copy_wp (src := srcA i arg4 h1) (dst := M .a) (S := Finset.univ) (fs := f4) (View.dmaCredit_pos _ (by decide)) (Finset.subset_univ _)) $$ [H4 Hb Hv1 HW]
    · isplitl [H4]; · iexact H4
      isplitl [Hb]; · iexact Hb
      isplitl [Hv1]; · iexact Hv1
      iexact HW
    iintro ⟨H4, Hb, Hv1, HW⟩
    ispecialize HO $$ %_ Hb
    iapply hk
    isplitl [HO]; · iexact HO
    isplitr [HG]
    · isplitl [H4]; · iexact H4
      isplitl [H5]; · iexact H5
      isplitl [Hv0]; · iexact Hv0
      isplitl [Hv1]; · iexact Hv1
      iexact HW
    · iexact HG
  · rw [dif_neg h1]; exact h' h1

theorem prod2_ok {k : Prog (Eff F) PUnit} {G : sProp 𝕄} {Q : PUnit → sProp 𝕄} (I : ℕ → St F → Prop) (σ : St F)
    (h0 : k0_cond3 i = 1#1 → I 0 (σ.wr .sum ![0, 0] S256x128.size (Gen.k0_pay45 (F := F))))
    (hI : ∀ (h : k0_cond3 i = 1#1) (t : Fin k0_t1_loop.trips) σ', I t.val σ' →
      Runs defs 𝒱 c bd M (loopK (step2 i (M .fa) (M .fb0) (M .fb1) (M .a) (M .b) (M .x) (M .sum) t h) 4 0 ⟨⟩) σ' fun σ'' _ => I (t.val + 1) σ'')
    (h : k0_cond3 i = 1#1 → ∀ σ', I k0_t1_loop.trips σ' → iprop(Own c M σ' ∗ G) ⊢ wp frame (wpE defs 𝒱 (c : Thread nD τ) bd) Set.univ k Q)
    (h' : k0_cond3 i ≠ 1#1 → iprop(Own c M σ ∗ G) ⊢ wp frame (wpE defs 𝒱 (c : Thread nD τ) bd) Set.univ k Q) :
    iprop(Own c M σ ∗ G) ⊢ wp frame (wpE defs 𝒱 (c : Thread nD τ) bd) Set.univ
      (prod2 i (M .fa) (M .fb0) (M .fb1) (M .a) (M .b) (M .x) (M .sum) k) Q := by
  unfold prod2
  by_cases h3 : k0_cond3 i = 1#1
  · rw [dif_pos h3]
    refine ld .sum (st .sum ?_)
    iintro H
    iapply (Scf.wp_for_bind frame (wpE defs 𝒱 (c : Thread nD τ) bd) Set.univ _ _ _ (k0_t1_ok i h3) PUnit.unit _
      (fun n _ => iprop(∃ σ', ⌜I n σ'⌝ ∗ Own c M σ' ∗ G)) ?_) $$ [H]
    · intro t u
      iintro ⟨%σ', %hσ, H⟩
      iapply (hI h3 t σ' hσ (fun _ => .ret ⟨⟩) G _ ?_) $$ H
      intro σ'' _ hσ'
      rw [wp_ret]
      iintro H
      imodintro
      iexists σ''
      isplitr
      · ipureintro; exact hσ'
      · iexact H
    · iexists _
      isplitr
      · ipureintro; exact h0 h3
      · iexact H
    iintro %_ ⟨%σ', %hσ, H⟩
    iapply (h h3 σ' hσ)
    iexact H
  · rw [dif_neg h3]; exact h' h3

theorem prod1_ok {k : Prog (Eff F) PUnit} {G : sProp 𝕄} {Q : PUnit → sProp 𝕄} (I : ℕ → St F → Prop) (σ : St F)
    (h0 : k0_cond4 i = 1#1 → I 0 (σ.wr .sum ![0, 0] S256x128.size (Gen.k0_pay48 (F := F))))
    (hI : ∀ (h : k0_cond4 i = 1#1) (t : Fin k0_t2_loop.trips) σ', I t.val σ' →
      Runs defs 𝒱 c bd M (loopK (step1 i (M .fa) (M .fb0) (M .a) (M .b) (M .x) (M .sum) t h) 4 0 ⟨⟩) σ' fun σ'' _ => I (t.val + 1) σ'')
    (h : k0_cond4 i = 1#1 → ∀ σ', I k0_t2_loop.trips σ' → iprop(Own c M σ' ∗ G) ⊢ wp frame (wpE defs 𝒱 (c : Thread nD τ) bd) Set.univ k Q)
    (h' : k0_cond4 i ≠ 1#1 → iprop(Own c M σ ∗ G) ⊢ wp frame (wpE defs 𝒱 (c : Thread nD τ) bd) Set.univ k Q) :
    iprop(Own c M σ ∗ G) ⊢ wp frame (wpE defs 𝒱 (c : Thread nD τ) bd) Set.univ
      (prod1 i (M .fa) (M .fb0) (M .a) (M .b) (M .x) (M .sum) k) Q := by
  unfold prod1
  by_cases h4 : k0_cond4 i = 1#1
  · rw [dif_pos h4]
    refine ld .sum (st .sum ?_)
    iintro H
    iapply (Scf.wp_for_bind frame (wpE defs 𝒱 (c : Thread nD τ) bd) Set.univ _ _ _ (k0_t2_ok i h4) PUnit.unit _
      (fun n _ => iprop(∃ σ', ⌜I n σ'⌝ ∗ Own c M σ' ∗ G)) ?_) $$ [H]
    · intro t u
      iintro ⟨%σ', %hσ, H⟩
      iapply (hI h4 t σ' hσ (fun _ => .ret ⟨⟩) G _ ?_) $$ H
      intro σ'' _ hσ'
      rw [wp_ret]
      iintro H
      imodintro
      iexists σ''
      isplitr
      · ipureintro; exact hσ'
      · iexact H
    · iexists _
      isplitr
      · ipureintro; exact h0 h4
      · iexact H
    iintro %_ ⟨%σ', %hσ, H⟩
    iapply (h h4 σ' hσ)
    iexact H
  · rw [dif_neg h4]; exact h' h4

theorem copyB_bind {α β : Type} (harg5 : arg5.IsWhole) (arg24 : Memref sig .tc .vmem S5x96x640x128 .fp8e4m3) (h24 : arg24.IsWhole) (k : Prog (Eff F) α) (f : α → Prog (Eff F) β) :
    copyB i arg5 harg5 arg24 h24 arg28 k >>= f = copyB i arg5 harg5 arg24 h24 arg28 (k >>= f) := by
  unfold copyB; split <;> rfl
theorem copyA_bind {α β : Type} (harg4 : arg4.IsWhole) (arg23 : Memref sig .tc .vmem S96x128x640 .fp8e4m3) (h23 : arg23.IsWhole) (k : Prog (Eff F) α) (f : α → Prog (Eff F) β) :
    copyA i arg4 harg4 arg23 h23 arg28 k >>= f = copyA i arg4 harg4 arg23 h23 arg28 (k >>= f) := by
  unfold copyA; split <;> rfl
theorem prod2_bind {α β : Type} (a6 a7 a8) (a23) (a24) (a25) (a26) (k : Prog (Eff F) α) (f : α → Prog (Eff F) β) :
    prod2 i a6 a7 a8 a23 a24 a25 a26 k >>= f = prod2 i a6 a7 a8 a23 a24 a25 a26 (k >>= f) := by
  unfold prod2; split
  · exact congrArg (Prog.op _) (funext fun _ => congrArg (Prog.op _) (funext fun _ => Prog.bind_assoc ..))
  · rfl
theorem prod1_bind {α β : Type} (a6 a7) (a23) (a24) (a25) (a26) (k : Prog (Eff F) α) (f : α → Prog (Eff F) β) :
    prod1 i a6 a7 a23 a24 a25 a26 k >>= f = prod1 i a6 a7 a23 a24 a25 a26 (k >>= f) := by
  unfold prod1; split
  · exact congrArg (Prog.op _) (funext fun _ => congrArg (Prog.op _) (funext fun _ => Prog.bind_assoc ..))
  · rfl

attribute [local irreducible] loopK group outPair in
/-- The printed body: the copies, the products, the two groups of rows and the eight pairs of output rows, by an invariant of each. -/
theorem body_ok {harg4 : arg4.IsWhole} {harg5 : arg5.IsWhole} (hM : ∀ n, (M n).IsWhole) (σ : St F)
    (P1 P2 P3 P4 : St F → Prop) (I2 I1 IG IO : ℕ → St F → Prop)
    (hB : ∀ h, P1 (σ.set .b (tileB i arg5 f5 h))) (hB' : k0_cond1 i ≠ 1#1 → P1 σ)
    (hA : ∀ σ h, P1 σ → P2 (σ.set .a (tileA i arg4 f4 h))) (hA' : ∀ σ, k0_cond2 i ≠ 1#1 → P1 σ → P2 σ)
    (h20 : ∀ σ, k0_cond3 i = 1#1 → P2 σ → I2 0 (σ.wr .sum ![0, 0] S256x128.size (Gen.k0_pay45 (F := F))))
    (h2 : ∀ (h : k0_cond3 i = 1#1) (t : Fin k0_t1_loop.trips) σ, I2 t.val σ →
      Runs defs 𝒱 c bd M (loopK (step2 i (M .fa) (M .fb0) (M .fb1) (M .a) (M .b) (M .x) (M .sum) t h) 4 0 ⟨⟩) σ fun σ' _ => I2 (t.val + 1) σ')
    (h2e : ∀ σ, k0_cond3 i = 1#1 → I2 k0_t1_loop.trips σ → P3 σ) (h2' : ∀ σ, k0_cond3 i ≠ 1#1 → P2 σ → P3 σ)
    (h10 : ∀ σ, k0_cond4 i = 1#1 → P3 σ → I1 0 (σ.wr .sum ![0, 0] S256x128.size (Gen.k0_pay48 (F := F))))
    (h1 : ∀ (h : k0_cond4 i = 1#1) (t : Fin k0_t2_loop.trips) σ, I1 t.val σ →
      Runs defs 𝒱 c bd M (loopK (step1 i (M .fa) (M .fb0) (M .a) (M .b) (M .x) (M .sum) t h) 4 0 ⟨⟩) σ fun σ' _ => I1 (t.val + 1) σ')
    (h1e : ∀ σ, k0_cond4 i = 1#1 → I1 k0_t2_loop.trips σ → P4 σ) (h1' : ∀ σ, k0_cond4 i ≠ 1#1 → P3 σ → P4 σ)
    (hG0 : ∀ σ, P4 σ → IG 0 σ)
    (hG : ∀ (g : Fin 2) σ, IG g.val σ →
      Runs defs 𝒱 c bd M (group i (M .ga) (M .be) (M .std) (M .q2) (hM .q2) (M .s2) (M .x) (M .sum) (M .stg) g ⟨⟩) σ fun σ' _ => IG (g.val + 1) σ')
    (hO0 : ∀ σ, IG 2 σ → IO 0 σ)
    (hO : ∀ (p : Fin 8) σ, IO p.val σ →
      Runs defs 𝒱 c bd M (outPair (M .z) (M .q1) (M .s1) (M .eye) (M .w5) (M .s5) (M .wo) (M .so) (M .zo) (hM .zo) (M .q2) (M .s2) p ⟨⟩) σ fun σ' _ => IO (p.val + 1) σ')
    (G : sProp 𝕄) :
    iprop(Own c M σ ∗ Held c arg4 arg5 arg28 f4 f5 ∗ G) ⊢ wp frame (wpE defs 𝒱 (c : Thread nD τ) bd) Set.univ
      (Gen.cc0_tri_skel (F := F) i arg4 harg4 arg5 harg5 (M .fa) (hM .fa) (M .fb0) (hM .fb0) (M .fb1) (hM .fb1) (M .z) (hM .z) (M .q1) (hM .q1) (M .s1) (hM .s1) (M .eye) (hM .eye) (M .w5) (hM .w5) (M .s5) (hM .s5) (M .wo) (hM .wo) (M .so) (hM .so) (M .ga) (hM .ga) (M .be) (hM .be) (M .zo) (hM .zo) (M .std) (hM .std) (M .q2) (hM .q2) (M .s2) (hM .s2) (M .a) (hM .a) (M .b) (hM .b) (M .x) (hM .x) (M .sum) (hM .sum) (M .stg) (hM .stg) arg28)
      fun _ => iprop(∃ σ', ⌜IO 8 σ'⌝ ∗ Own c M σ' ∗ Held c arg4 arg5 arg28 f4 f5 ∗ G) := by
  rw [tri_eq]
  obtain ⟨r, hr⟩ := part10_eq (F := F) i arg4 harg4 arg5 harg5 (M .fa) (hM .fa) (M .fb0) (hM .fb0) (M .fb1) (hM .fb1) (M .z) (hM .z) (M .q1) (hM .q1) (M .s1) (hM .s1) (M .eye) (hM .eye) (M .w5) (hM .w5) (M .s5) (hM .s5) (M .wo) (hM .wo) (M .so) (hM .so) (M .ga) (hM .ga) (M .be) (hM .be) (M .zo) (hM .zo) (M .std) (hM .std) (M .q2) (hM .q2) (M .s2) (hM .s2) (M .a) (hM .a) (M .b) (hM .b) (M .x) (hM .x) (M .sum) (hM .sum) (M .stg) (hM .stg) arg28
  rw [hr]
  have e : ∀ k : Prog (Eff F) PUnit, (copyB (F := F) i arg5 harg5 (M .b) (hM .b) arg28 <| copyA i arg4 harg4 (M .a) (hM .a) arg28 <|
        prod2 i (M .fa) (M .fb0) (M .fb1) (M .a) (M .b) (M .x) (M .sum) <| prod1 i (M .fa) (M .fb0) (M .a) (M .b) (M .x) (M .sum) <| .ret r) >>= (fun _ => k)
      = (copyB (F := F) i arg5 harg5 (M .b) (hM .b) arg28 <| copyA i arg4 harg4 (M .a) (hM .a) arg28 <|
        prod2 i (M .fa) (M .fb0) (M .fb1) (M .a) (M .b) (M .x) (M .sum) <| prod1 i (M .fa) (M .fb0) (M .a) (M .b) (M .x) (M .sum) <| k) := fun k => by
    rw [copyB_bind, copyA_bind, prod2_bind, prod1_bind]; rfl
  rw [e (rest i (M .z) (M .q1) (M .s1) (M .eye) (M .w5) (M .s5) (M .wo) (M .so) (M .ga) (M .be) (M .zo) (hM .zo) (M .std) (M .q2) (hM .q2) (M .s2) (M .x) (M .sum) (M .stg))]
  have hrest : ∀ σ, P4 σ → iprop(Own c M σ ∗ Held c arg4 arg5 arg28 f4 f5 ∗ G) ⊢ wp frame (wpE defs 𝒱 (c : Thread nD τ) bd) Set.univ
      (rest i (M .z) (M .q1) (M .s1) (M .eye) (M .w5) (M .s5) (M .wo) (M .so) (M .ga) (M .be) (M .zo) (hM .zo) (M .std) (M .q2) (hM .q2) (M .s2) (M .x) (M .sum) (M .stg))
      fun _ => iprop(∃ σ', ⌜IO 8 σ'⌝ ∗ Own c M σ' ∗ Held c arg4 arg5 arg28 f4 f5 ∗ G) := fun σ hσ => by
    unfold rest
    refine Runs.loop (step := group i (M .ga) (M .be) (M .std) (M .q2) (hM .q2) (M .s2) (M .x) (M .sum) (M .stg)) (fun n σ' _ => IG n σ') ?_ (hG0 σ hσ) _ iprop(Held c arg4 arg5 arg28 f4 f5 ∗ G) _ ?_
    · intro g σ' _ hI; exact hG g σ' hI
    intro σ₁ _ h₁
    refine Runs.loop (step := outPair (M .z) (M .q1) (M .s1) (M .eye) (M .w5) (M .s5) (M .wo) (M .so) (M .zo) (hM .zo) (M .q2) (M .s2)) (fun n σ' _ => IO n σ') ?_ (hO0 σ₁ h₁) _ iprop(Held c arg4 arg5 arg28 f4 f5 ∗ G) _ ?_
    · intro p σ' _ hI; exact hO p σ' hI
    intro σ₂ _ h₂
    rw [wp_ret]
    iintro H
    imodintro
    iexists σ₂
    isplitr
    · ipureintro; exact h₂
    · iexact H
  have h4 : ∀ σ, P3 σ → iprop(Own c M σ ∗ Held c arg4 arg5 arg28 f4 f5 ∗ G) ⊢ wp frame (wpE defs 𝒱 (c : Thread nD τ) bd) Set.univ
      (prod1 i (M .fa) (M .fb0) (M .a) (M .b) (M .x) (M .sum) (rest i (M .z) (M .q1) (M .s1) (M .eye) (M .w5) (M .s5) (M .wo) (M .so) (M .ga) (M .be) (M .zo) (hM .zo) (M .std) (M .q2) (hM .q2) (M .s2) (M .x) (M .sum) (M .stg)))
      fun _ => iprop(∃ σ', ⌜IO 8 σ'⌝ ∗ Own c M σ' ∗ Held c arg4 arg5 arg28 f4 f5 ∗ G) := fun σ hσ =>
    prod1_ok i I1 σ (fun h => h10 σ h hσ) h1 (fun h σ' hI => hrest σ' (h1e σ' h hI)) (fun h => hrest σ (h1' σ h hσ))
  have h3 : ∀ σ, P2 σ → iprop(Own c M σ ∗ Held c arg4 arg5 arg28 f4 f5 ∗ G) ⊢ wp frame (wpE defs 𝒱 (c : Thread nD τ) bd) Set.univ
      (prod2 i (M .fa) (M .fb0) (M .fb1) (M .a) (M .b) (M .x) (M .sum) (prod1 i (M .fa) (M .fb0) (M .a) (M .b) (M .x) (M .sum) (rest i (M .z) (M .q1) (M .s1) (M .eye) (M .w5) (M .s5) (M .wo) (M .so) (M .ga) (M .be) (M .zo) (hM .zo) (M .std) (M .q2) (hM .q2) (M .s2) (M .x) (M .sum) (M .stg))))
      fun _ => iprop(∃ σ', ⌜IO 8 σ'⌝ ∗ Own c M σ' ∗ Held c arg4 arg5 arg28 f4 f5 ∗ G) := fun σ hσ =>
    prod2_ok i I2 σ (fun h => h20 σ h hσ) h2 (fun h σ' hI => h4 σ' (h2e σ' h hI)) (fun h => h4 σ (h2' σ h hσ))
  exact copyB_ok i (fun h => copyA_ok i (fun h' => h3 _ (hA _ h' (hB h))) (fun h' => h3 _ (hA' _ h' (hB h))))
    (fun h => copyA_ok i (fun h' => h3 _ (hA _ h' (hB' h))) (fun h' => h3 _ (hA' _ h' (hB' h))))

end

end Cert.Kernel.Tri
-- ==== Proof.Keep.lean ====
/- The body keeps the blocks it reads: whatever it begins with, it ends with the input blocks as they were. -/
module

public import proofs.«01_k».proof.Proof.Body

@[expose] public section

noncomputable section

namespace Cert.Kernel.Tri

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Facts₀ Cert.Kernel.Facts

/-- The buffers the body only reads. -/
def Bf.reads : Bf → Bool
  | .zo | .std | .q2 | .s2 | .a | .b | .x | .sum | .stg => false
  | _ => true

variable {F : FTy → Type} [FloatOps F]

/-- The read blocks are as they were. -/
def Kept (σ₀ σ : St F) : Prop := ∀ n, n.reads = true → σ n = σ₀ n

theorem Kept.refl (σ : St F) : Kept σ σ := fun _ _ => rfl

theorem Kept.set {σ₀ σ : St F} (h : Kept σ₀ σ) {n : Bf} (hn : n.reads = false) (v) : Kept σ₀ (σ.set n v) := fun m hm => by
  rw [St.set_ne σ (fun e => by rw [e, hn] at hm; cases hm), h m hm]

section

variable {defs : Defs nD τ sig (Elt F) Λ₀} {𝒱 : Variants} {c : Dev nD} {bd : Option 𝒱.V}
variable {M : Mems} (i : grid0.Coords)
variable {arg4 : Memref sig .tc .hbm S2x5x96x128x640 .fp8e4m3} {arg5 : Memref sig .tc .hbm S2x5x96x640x128 .fp8e4m3} {arg28 : DmaSems sig S2}
variable {f4 : Buf (Elt F) (View.loc (c : Thread nD τ) arg4.view)} {f5 : Buf (Elt F) (View.loc (c : Thread nD τ) arg5.view)}

local notation "𝕄" => MT nD τ sig Unit (Elt F) ℕ (Pipeline.UD sig nD τ) ℕ

/-- The body ends with the read blocks as it found them. -/
theorem body_keeps {harg4 : arg4.IsWhole} {harg5 : arg5.IsWhole} (hM : ∀ n, (M n).IsWhole) (σ : St F) (G : sProp 𝕄) :
    iprop(Own c M σ ∗ Held c arg4 arg5 arg28 f4 f5 ∗ G) ⊢ wp frame (wpE defs 𝒱 (c : Thread nD τ) bd) Set.univ
      (Gen.cc0_tri_skel (F := F) i arg4 harg4 arg5 harg5 (M .fa) (hM .fa) (M .fb0) (hM .fb0) (M .fb1) (hM .fb1) (M .z) (hM .z) (M .q1) (hM .q1) (M .s1) (hM .s1) (M .eye) (hM .eye) (M .w5) (hM .w5) (M .s5) (hM .s5) (M .wo) (hM .wo) (M .so) (hM .so) (M .ga) (hM .ga) (M .be) (hM .be) (M .zo) (hM .zo) (M .std) (hM .std) (M .q2) (hM .q2) (M .s2) (hM .s2) (M .a) (hM .a) (M .b) (hM .b) (M .x) (hM .x) (M .sum) (hM .sum) (M .stg) (hM .stg) arg28)
      fun _ => iprop(∃ σ', ⌜Kept σ σ'⌝ ∗ Own c M σ' ∗ Held c arg4 arg5 arg28 f4 f5 ∗ G) := by
  refine body_ok i hM σ (Kept σ) (Kept σ) (Kept σ) (Kept σ) (fun _ => Kept σ) (fun _ => Kept σ) (fun _ => Kept σ) (fun _ => Kept σ)
    (fun _ => (Kept.refl σ).set rfl _) (fun _ => Kept.refl σ) (fun σ' _ h => h.set rfl _) (fun _ _ h => h)
    (fun σ' _ h => h.set rfl _) (fun h3 t σ' h => ?_) (fun _ _ h => h) (fun _ _ h => h)
    (fun σ' _ h => h.set rfl _) (fun h4 t σ' h => ?_) (fun _ _ h => h) (fun _ _ h => h) (fun _ h => h) (fun g σ' h => ?_) (fun _ h => h) (fun p σ' h => ?_) G
  · refine Runs.loop (fun _ σ₁ _ => Kept σ σ₁) (fun u σ₁ v h => (step2_runs i t h3 u v σ₁).mono ?_) h
    rintro _ _ rfl
    exact (((h.set rfl _).set rfl _).set rfl _).set rfl _
  · refine Runs.loop (fun _ σ₁ _ => Kept σ σ₁) (fun u σ₁ v h => (step1_runs i t h4 u v σ₁).mono ?_) h
    rintro _ _ rfl
    exact (h.set rfl _).set rfl _
  · refine (group_runs i (hM .q2) g ⟨⟩ σ' (fun _ σ₁ _ => Kept σ σ₁) (fun _ _ σ₁ _ => Kept σ σ₁) (fun _ _ _ σ₁ => Kept σ σ₁) (fun _ _ _ σ₁ => Kept σ σ₁)
      h ?_ ?_ ?_ ?_ ?_ ?_ ?_).mono ?_
    · exact fun _ _ _ h => h.set rfl _
    · exact fun _ _ h => h.set rfl _
    · exact fun _ _ _ _ h => h.set rfl _
    · exact fun _ _ _ h => h.set rfl _
    · exact fun _ _ _ _ h => h.set rfl _
    · exact fun _ _ _ h => h
    · exact fun _ _ _ _ h => h.set rfl _
    · rintro σ₁ _ ⟨_, _, h⟩; exact h
  · refine outPair_runs (hM .zo) p ⟨⟩ σ' _ (Runs.loop (fun _ σ₁ _ => Kept σ σ₁) (fun u σ₁ v h => (stepE_runs (hM .zo) p _ _ _ u v σ₁).mono ?_) h)
    rintro _ _ rfl
    exact h.set rfl _

end

end Cert.Kernel.Tri
-- ==== Proof.Point.lean ====
/- A point of the pipeline: the memrefs the body is called with, what it holds beside them, and its buffers owned one by one. -/

module

public import proofs.«01_k».proof.Proof.Keep
public import proofs.«01_k».proof.Proof.Gen.Kernel.Frame

@[expose] public section

set_option maxRecDepth 16384

noncomputable section

namespace Cert.Kernel.Tri

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)
open Cert.Kernel Cert.Kernel.Facts₀ Cert.Kernel.Facts

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the body holds beside the staged windows -/

/-- The two semaphores of the copies. -/
abbrev osem0 : Fin 2 → SemLoc sig := fun j => (![SemLoc.dma (sem0 cc0_scratch5), SemLoc.dma (sem1 cc0_scratch5)] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (sem0 cc0_scratch5)) 0 ∗ semVal ((c : Thread nD τ), SemLoc.dma (sem1 cc0_scratch5)) 0) := by
  rw [Pipeline.ownSems0_eq_of_list c osem0 [0, 1] (by decide) (by decide)]; rfl
/-- The two arrays the copies read. -/
def H0 : Finset (Ref sig .tc) := {main_arg0, main_arg1}
theorem H0_sub : H0 ⊆ Pipeline.restRefs sig spec0 := by decide
theorem hbmPts0_eq (c : Dev nD) :
    (bigSep H0 (fun b => ((c : Thread nD τ).loc b) ↦{fullShare} Gen.V m c b) : sProp 𝕄)
      = iprop((((c : Thread nD τ).loc main_arg0) ↦{fullShare} Gen.V m c main_arg0) ∗ (((c : Thread nD τ).loc main_arg1) ↦{fullShare} Gen.V m c main_arg1)) := by
  rw [BI.bigSep_eq_bigSepL_of_eq [main_arg0, main_arg1] (by decide) (by decide)]; rfl

/-- The memrefs of a point: the windows' staging buffers and the scratch. -/
def mems (t : Fin cfg0.N) : Mems
  | .fa => Gen.st0_0 t
  | .fb0 => Gen.st0_1 t
  | .fb1 => Gen.st0_2 t
  | .z => Gen.st0_3 t
  | .q1 => Gen.st0_4 t
  | .s1 => Gen.st0_5 t
  | .eye => Gen.st0_6 t
  | .w5 => Gen.st0_7 t
  | .s5 => Gen.st0_8 t
  | .wo => Gen.st0_9 t
  | .so => Gen.st0_10 t
  | .ga => Gen.st0_11 t
  | .be => Gen.st0_12 t
  | .zo => Gen.st0_13 t
  | .std => Gen.st0_14 t
  | .q2 => Gen.st0_15 t
  | .s2 => Gen.st0_16 t
  | .a => Memref.whole cc0_scratch0
  | .b => Memref.whole cc0_scratch1
  | .x => Memref.whole cc0_scratch2
  | .sum => Memref.whole cc0_scratch3
  | .stg => Memref.whole cc0_scratch4

theorem mems_whole (t : Fin cfg0.N) (n : Bf) : (mems t n).IsWhole := by
  cases n
  case' a => exact Memref.isWhole_whole _
  case' b => exact Memref.isWhole_whole _
  case' x => exact Memref.isWhole_whole _
  case' sum => exact Memref.isWhole_whole _
  case' stg => exact Memref.isWhole_whole _
  case' fa => exact hstage0_0 ((cfg0.slots t 0).cast nbuf0_0)
  case' fb0 => exact hstage0_1 ((cfg0.slots t 1).cast nbuf0_1)
  case' fb1 => exact hstage0_2 ((cfg0.slots t 2).cast nbuf0_2)
  case' z => exact hstage0_3 ((cfg0.slots t 3).cast nbuf0_3)
  case' q1 => exact hstage0_4 ((cfg0.slots t 4).cast nbuf0_4)
  case' s1 => exact hstage0_5 ((cfg0.slots t 5).cast nbuf0_5)
  case' eye => exact hstage0_6 ((cfg0.slots t 6).cast nbuf0_6)
  case' w5 => exact hstage0_7 ((cfg0.slots t 7).cast nbuf0_7)
  case' s5 => exact hstage0_8 ((cfg0.slots t 8).cast nbuf0_8)
  case' wo => exact hstage0_9 ((cfg0.slots t 9).cast nbuf0_9)
  case' so => exact hstage0_10 ((cfg0.slots t 10).cast nbuf0_10)
  case' ga => exact hstage0_11 ((cfg0.slots t 11).cast nbuf0_11)
  case' be => exact hstage0_12 ((cfg0.slots t 12).cast nbuf0_12)
  case' zo => exact hstage0_13 ((cfg0.slots t 13).cast nbuf0_13)
  case' std => exact hstage0_14 ((cfg0.slots t 14).cast nbuf0_14)
  case' q2 => exact hstage0_15 ((cfg0.slots t 15).cast nbuf0_15)
  case' s2 => exact hstage0_16 ((cfg0.slots t 16).cast nbuf0_16)

/-- A state from the contents of its buffers. -/
def mkSt (ffa : (shp .fa).Idx → Elt F (elt .fa)) (ffb0 : (shp .fb0).Idx → Elt F (elt .fb0)) (ffb1 : (shp .fb1).Idx → Elt F (elt .fb1)) (fz : (shp .z).Idx → Elt F (elt .z)) (fq1 : (shp .q1).Idx → Elt F (elt .q1)) (fs1 : (shp .s1).Idx → Elt F (elt .s1)) (feye : (shp .eye).Idx → Elt F (elt .eye)) (fw5 : (shp .w5).Idx → Elt F (elt .w5)) (fs5 : (shp .s5).Idx → Elt F (elt .s5)) (fwo : (shp .wo).Idx → Elt F (elt .wo)) (fso : (shp .so).Idx → Elt F (elt .so)) (fga : (shp .ga).Idx → Elt F (elt .ga)) (fbe : (shp .be).Idx → Elt F (elt .be)) (fzo : (shp .zo).Idx → Elt F (elt .zo)) (fstd : (shp .std).Idx → Elt F (elt .std)) (fq2 : (shp .q2).Idx → Elt F (elt .q2)) (fs2 : (shp .s2).Idx → Elt F (elt .s2)) (fa : (shp .a).Idx → Elt F (elt .a)) (fb : (shp .b).Idx → Elt F (elt .b)) (fx : (shp .x).Idx → Elt F (elt .x)) (fsum : (shp .sum).Idx → Elt F (elt .sum)) (fstg : (shp .stg).Idx → Elt F (elt .stg)) : St F
  | .fa => ffa
  | .fb0 => ffb0
  | .fb1 => ffb1
  | .z => fz
  | .q1 => fq1
  | .s1 => fs1
  | .eye => feye
  | .w5 => fw5
  | .s5 => fs5
  | .wo => fwo
  | .so => fso
  | .ga => fga
  | .be => fbe
  | .zo => fzo
  | .std => fstd
  | .q2 => fq2
  | .s2 => fs2
  | .a => fa
  | .b => fb
  | .x => fx
  | .sum => fsum
  | .stg => fstg

/-- The buffers owned together, one by one. -/
theorem Own_eq (c : Dev nD) (M : Mems) (σ : St F) : (Own c M σ : sProp 𝕄) = iprop(owns (c : Thread nD τ) (M .fa) fullShare (σ .fa) ∗ owns (c : Thread nD τ) (M .fb0) fullShare (σ .fb0) ∗ owns (c : Thread nD τ) (M .fb1) fullShare (σ .fb1) ∗ owns (c : Thread nD τ) (M .z) fullShare (σ .z) ∗ owns (c : Thread nD τ) (M .q1) fullShare (σ .q1) ∗ owns (c : Thread nD τ) (M .s1) fullShare (σ .s1) ∗ owns (c : Thread nD τ) (M .eye) fullShare (σ .eye) ∗ owns (c : Thread nD τ) (M .w5) fullShare (σ .w5) ∗ owns (c : Thread nD τ) (M .s5) fullShare (σ .s5) ∗ owns (c : Thread nD τ) (M .wo) fullShare (σ .wo) ∗ owns (c : Thread nD τ) (M .so) fullShare (σ .so) ∗ owns (c : Thread nD τ) (M .ga) fullShare (σ .ga) ∗ owns (c : Thread nD τ) (M .be) fullShare (σ .be) ∗ owns (c : Thread nD τ) (M .zo) fullShare (σ .zo) ∗ owns (c : Thread nD τ) (M .std) fullShare (σ .std) ∗ owns (c : Thread nD τ) (M .q2) fullShare (σ .q2) ∗ owns (c : Thread nD τ) (M .s2) fullShare (σ .s2) ∗ owns (c : Thread nD τ) (M .a) fullShare (σ .a) ∗ owns (c : Thread nD τ) (M .b) fullShare (σ .b) ∗ owns (c : Thread nD τ) (M .x) fullShare (σ .x) ∗ owns (c : Thread nD τ) (M .sum) fullShare (σ .sum) ∗ owns (c : Thread nD τ) (M .stg) fullShare (σ .stg)) := by
  unfold Own
  rw [BI.bigSep_univ_eq_bigSepL Bf.list (by decide) (by decide)]
  rfl

/-- Staging owned at contents `σ` for the windows, the scratch at some contents. -/
theorem hMemProgram (c : Dev nD) (t : Fin cfg0.N) :
    Gen.bodyAt0 (F := F) t = Gen.cc0_tri_skel (F := F) (grid0.coords t) (Memref.whole main_arg0) (Memref.isWhole_whole _) (Memref.whole main_arg1) (Memref.isWhole_whole _) (mems t .fa) (mems_whole t .fa) (mems t .fb0) (mems_whole t .fb0) (mems t .fb1) (mems_whole t .fb1) (mems t .z) (mems_whole t .z) (mems t .q1) (mems_whole t .q1) (mems t .s1) (mems_whole t .s1) (mems t .eye) (mems_whole t .eye) (mems t .w5) (mems_whole t .w5) (mems t .s5) (mems_whole t .s5) (mems t .wo) (mems_whole t .wo) (mems t .so) (mems_whole t .so) (mems t .ga) (mems_whole t .ga) (mems t .be) (mems_whole t .be) (mems t .zo) (mems_whole t .zo) (mems t .std) (mems_whole t .std) (mems t .q2) (mems_whole t .q2) (mems t .s2) (mems_whole t .s2) (mems t .a) (mems_whole t .a) (mems t .b) (mems_whole t .b) (mems t .x) (mems_whole t .x) (mems t .sum) (mems_whole t .sum) (mems t .stg) (mems_whole t .stg) cc0_scratch5 := rfl

end Cert.Kernel.Tri
-- ==== Proof.FrameK.lean ====
/- The frame: every argument array ends as it began. The pipeline's proof data keep the staged inputs and forget the results;
   the body's triple at a point is `body_keeps`. -/
module

public import proofs.«01_k».proof.Proof.Point

@[expose] public section

set_option maxRecDepth 16384

noncomputable section

namespace Cert.Kernel.Tri

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)
open Cert.Kernel Cert.Kernel.Facts₀ Cert.Kernel.Facts

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The proof data: the arrays as the region finds them, each staged input left in place. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => Gen.iblk m c 6 t
    | ⟨7, _⟩ => Gen.iblk m c 7 t
    | ⟨8, _⟩ => Gen.iblk m c 8 t
    | ⟨9, _⟩ => Gen.iblk m c 9 t
    | ⟨10, _⟩ => Gen.iblk m c 10 t
    | ⟨11, _⟩ => Gen.iblk m c 11 t
    | ⟨12, _⟩ => Gen.iblk m c 12 t
    | ⟨13, _⟩ => Gen.iblk m c 13 t
    | ⟨14, _⟩ => Gen.iblk m c 14 t
    | ⟨15, _⟩ => Gen.iblk m c 15 t
    | ⟨16, _⟩ => Gen.iblk m c 16 t
    | ⟨n + 17, h⟩ => absurd (show n + 17 < 17 from h) (by omega)
  Φ _ := Pipeline.ΦD osem0 spec0 H0 (Gen.V m) c
  q w := Pipeline.shareOf spec0 w
  owed _ := 0

/-- The windows whose contents are not tracked: the results. -/
def fgt : Fin 17 → Bool := ![false, false, false, false, false, false, false, false, false, false, false, false, false, true, true, true, true]

set_option maxHeartbeats 2000000 in
/-- A staged input holds its block at every point. -/
theorem before_in (c : Dev nD) (w : Fin 17) (hw : (spec0 w).isOut = false) (t : Fin cfg0.N) (d) :
    (dats m 0 c).before w t d = (dats m 0 c).after w t := by
  fin_cases w <;> first
    | exact absurd hw (by decide)
    | exact (Dat.before_in_eq_fetched _ _ rfl (fun _ => rfl) (fun _ _ _ => rfl) (fun t => rfl) t d).trans rfl

/-- What the body takes at a point. -/
def bodyPre (c : Dev nD) (t : Fin cfg0.N) : sProp 𝕄 :=
  iprop(Pipeline.ΦD osem0 spec0 H0 (Gen.V m) c ∗ (dats m 0 c).owesAt () t.castSucc
    ∗ (∃ d, owns (c : Thread nD τ) (Gen.st0_0 t) fullShare ((dats m 0 c).before 0 t d)) ∗ (∃ d, owns (c : Thread nD τ) (Gen.st0_1 t) fullShare ((dats m 0 c).before 1 t d)) ∗ (∃ d, owns (c : Thread nD τ) (Gen.st0_2 t) fullShare ((dats m 0 c).before 2 t d)) ∗ (∃ d, owns (c : Thread nD τ) (Gen.st0_3 t) fullShare ((dats m 0 c).before 3 t d)) ∗ (∃ d, owns (c : Thread nD τ) (Gen.st0_4 t) fullShare ((dats m 0 c).before 4 t d)) ∗ (∃ d, owns (c : Thread nD τ) (Gen.st0_5 t) fullShare ((dats m 0 c).before 5 t d)) ∗ (∃ d, owns (c : Thread nD τ) (Gen.st0_6 t) fullShare ((dats m 0 c).before 6 t d)) ∗ (∃ d, owns (c : Thread nD τ) (Gen.st0_7 t) fullShare ((dats m 0 c).before 7 t d)) ∗ (∃ d, owns (c : Thread nD τ) (Gen.st0_8 t) fullShare ((dats m 0 c).before 8 t d)) ∗ (∃ d, owns (c : Thread nD τ) (Gen.st0_9 t) fullShare ((dats m 0 c).before 9 t d)) ∗ (∃ d, owns (c : Thread nD τ) (Gen.st0_10 t) fullShare ((dats m 0 c).before 10 t d)) ∗ (∃ d, owns (c : Thread nD τ) (Gen.st0_11 t) fullShare ((dats m 0 c).before 11 t d)) ∗ (∃ d, owns (c : Thread nD τ) (Gen.st0_12 t) fullShare ((dats m 0 c).before 12 t d)) ∗ (∃ X, owns (c : Thread nD τ) (Gen.st0_13 t) fullShare X) ∗ (∃ X, owns (c : Thread nD τ) (Gen.st0_14 t) fullShare X) ∗ (∃ X, owns (c : Thread nD τ) (Gen.st0_15 t) fullShare X) ∗ (∃ X, owns (c : Thread nD τ) (Gen.st0_16 t) fullShare X))
/-- What the body leaves at a point. -/
def bodyPost (c : Dev nD) (t : Fin cfg0.N) : sProp 𝕄 :=
  iprop(Pipeline.ΦD osem0 spec0 H0 (Gen.V m) c ∗ (dats m 0 c).owesAt () t.succ
    ∗ owns (c : Thread nD τ) (Gen.st0_0 t) fullShare ((dats m 0 c).after 0 t) ∗ owns (c : Thread nD τ) (Gen.st0_1 t) fullShare ((dats m 0 c).after 1 t) ∗ owns (c : Thread nD τ) (Gen.st0_2 t) fullShare ((dats m 0 c).after 2 t) ∗ owns (c : Thread nD τ) (Gen.st0_3 t) fullShare ((dats m 0 c).after 3 t) ∗ owns (c : Thread nD τ) (Gen.st0_4 t) fullShare ((dats m 0 c).after 4 t) ∗ owns (c : Thread nD τ) (Gen.st0_5 t) fullShare ((dats m 0 c).after 5 t) ∗ owns (c : Thread nD τ) (Gen.st0_6 t) fullShare ((dats m 0 c).after 6 t) ∗ owns (c : Thread nD τ) (Gen.st0_7 t) fullShare ((dats m 0 c).after 7 t) ∗ owns (c : Thread nD τ) (Gen.st0_8 t) fullShare ((dats m 0 c).after 8 t) ∗ owns (c : Thread nD τ) (Gen.st0_9 t) fullShare ((dats m 0 c).after 9 t) ∗ owns (c : Thread nD τ) (Gen.st0_10 t) fullShare ((dats m 0 c).after 10 t) ∗ owns (c : Thread nD τ) (Gen.st0_11 t) fullShare ((dats m 0 c).after 11 t) ∗ owns (c : Thread nD τ) (Gen.st0_12 t) fullShare ((dats m 0 c).after 12 t) ∗ (∃ X, owns (c : Thread nD τ) (Gen.st0_13 t) fullShare X) ∗ (∃ X, owns (c : Thread nD τ) (Gen.st0_14 t) fullShare X) ∗ (∃ X, owns (c : Thread nD τ) (Gen.st0_15 t) fullShare X) ∗ (∃ X, owns (c : Thread nD τ) (Gen.st0_16 t) fullShare X))

/-- The body's triple at a point. -/
theorem sound_body (c : Dev nD) (t : Fin cfg0.N) :
    bodyPre m c t ⊢ wp frame (wpE (defs₀ (F := F)) Variants.none c none) Set.univ (Gen.bodyAt0 t) (fun _ => bodyPost m c t) := by
  unfold bodyPre bodyPost
  rw [hMemProgram c t, Pipeline.ΦD_eq, Gen.scopedRest0_eq, ownSems00_eq, hbmPts0_eq]
  unfold Dat.owesAt Pipeline.owesWithin
  rw [show (dats m 0 c).owed t.castSucc = 0 from rfl, show (dats m 0 c).owed t.succ = 0 from rfl]
  iintro ⟨⟨⟨⟨%fa, Ha⟩, ⟨%fb, Hb⟩, ⟨%fx, Hx⟩, ⟨%fsum, Hsum⟩, ⟨%fstg, Hstg⟩⟩, Hg, ⟨Hv0, Hv1⟩, ⟨Hm0, Hm1⟩⟩, ⟨%W, -, HW⟩, ⟨%dfa, Hfa⟩, ⟨%dfb0, Hfb0⟩, ⟨%dfb1, Hfb1⟩, ⟨%dz, Hz⟩, ⟨%dq1, Hq1⟩, ⟨%ds1, Hs1⟩, ⟨%deye, Heye⟩, ⟨%dw5, Hw5⟩, ⟨%ds5, Hs5⟩, ⟨%dwo, Hwo⟩, ⟨%dso, Hso⟩, ⟨%dga, Hga⟩, ⟨%dbe, Hbe⟩, ⟨%dzo, Hzo⟩, ⟨%dstd, Hstd⟩, ⟨%dq2, Hq2⟩, ⟨%ds2, Hs2⟩⟩
  iapply (wp_mono frame (wpE (defs₀ (F := F)) Variants.none (c : Thread nD τ) none) Set.univ (Q := fun _ => iprop(∃ σ', ⌜Kept (mkSt ((dats m 0 c).before 0 t dfa) ((dats m 0 c).before 1 t dfb0) ((dats m 0 c).before 2 t dfb1) ((dats m 0 c).before 3 t dz) ((dats m 0 c).before 4 t dq1) ((dats m 0 c).before 5 t ds1) ((dats m 0 c).before 6 t deye) ((dats m 0 c).before 7 t dw5) ((dats m 0 c).before 8 t ds5) ((dats m 0 c).before 9 t dwo) ((dats m 0 c).before 10 t dso) ((dats m 0 c).before 11 t dga) ((dats m 0 c).before 12 t dbe) dzo dstd dq2 ds2 fa fb fx fsum fstg) σ'⌝
    ∗ Own c (mems t) σ' ∗ Held c (Memref.whole main_arg0) (Memref.whole main_arg1) cc0_scratch5 (Gen.V m c main_arg0) (Gen.V m c main_arg1) ∗ ∃ r, prngReg c r)) ?_)
  · intro _
    simp only [Own_eq, Held]
    iintro ⟨%σ', %hσ, ⟨Hfa, Hfb0, Hfb1, Hz, Hq1, Hs1, Heye, Hw5, Hs5, Hwo, Hso, Hga, Hbe, Hzo, Hstd, Hq2, Hs2, Ha, Hb, Hx, Hsum, Hstg⟩, ⟨Hm0, Hm1, Hv0, Hv1, ⟨%W', HW'⟩⟩, Hg⟩
    isplitl [Ha Hb Hx Hsum Hstg Hg Hv0 Hv1 Hm0 Hm1]
    · isplitl [Ha Hb Hx Hsum Hstg]
      · simp only [mems, owns_whole]
        isplitl [Ha]; · iexists _; iexact Ha
        isplitl [Hb]; · iexists _; iexact Hb
        isplitl [Hx]; · iexists _; iexact Hx
        isplitl [Hsum]; · iexists _; iexact Hsum
        iexists _; iexact Hstg
      isplitl [Hg]; · iexact Hg
      isplitl [Hv0 Hv1]
      · isplitl [Hv0]; · iexact Hv0
        iexact Hv1
      isplitl [Hm0]; · iexact Hm0
      iexact Hm1
    isplitl [HW']
    · iexists W'; isplitr; · ipureintro; exact fun _ _ => Or.inl trivial
      iexact HW'
    isplitl [Hfa]; · rw [hσ .fa rfl]; simp only [mkSt]; rw [before_in m c 0 rfl]; iexact Hfa
    isplitl [Hfb0]; · rw [hσ .fb0 rfl]; simp only [mkSt]; rw [before_in m c 1 rfl]; iexact Hfb0
    isplitl [Hfb1]; · rw [hσ .fb1 rfl]; simp only [mkSt]; rw [before_in m c 2 rfl]; iexact Hfb1
    isplitl [Hz]; · rw [hσ .z rfl]; simp only [mkSt]; rw [before_in m c 3 rfl]; iexact Hz
    isplitl [Hq1]; · rw [hσ .q1 rfl]; simp only [mkSt]; rw [before_in m c 4 rfl]; iexact Hq1
    isplitl [Hs1]; · rw [hσ .s1 rfl]; simp only [mkSt]; rw [before_in m c 5 rfl]; iexact Hs1
    isplitl [Heye]; · rw [hσ .eye rfl]; simp only [mkSt]; rw [before_in m c 6 rfl]; iexact Heye
    isplitl [Hw5]; · rw [hσ .w5 rfl]; simp only [mkSt]; rw [before_in m c 7 rfl]; iexact Hw5
    isplitl [Hs5]; · rw [hσ .s5 rfl]; simp only [mkSt]; rw [before_in m c 8 rfl]; iexact Hs5
    isplitl [Hwo]; · rw [hσ .wo rfl]; simp only [mkSt]; rw [before_in m c 9 rfl]; iexact Hwo
    isplitl [Hso]; · rw [hσ .so rfl]; simp only [mkSt]; rw [before_in m c 10 rfl]; iexact Hso
    isplitl [Hga]; · rw [hσ .ga rfl]; simp only [mkSt]; rw [before_in m c 11 rfl]; iexact Hga
    isplitl [Hbe]; · rw [hσ .be rfl]; simp only [mkSt]; rw [before_in m c 12 rfl]; iexact Hbe
    isplitl [Hzo]; · iexists _; iexact Hzo
    isplitl [Hstd]; · iexists _; iexact Hstd
    isplitl [Hq2]; · iexists _; iexact Hq2
    iexists _; iexact Hs2
  iapply (body_keeps (grid0.coords t) (mems_whole t) (mkSt ((dats m 0 c).before 0 t dfa) ((dats m 0 c).before 1 t dfb0) ((dats m 0 c).before 2 t dfb1) ((dats m 0 c).before 3 t dz) ((dats m 0 c).before 4 t dq1) ((dats m 0 c).before 5 t ds1) ((dats m 0 c).before 6 t deye) ((dats m 0 c).before 7 t dw5) ((dats m 0 c).before 8 t ds5) ((dats m 0 c).before 9 t dwo) ((dats m 0 c).before 10 t dso) ((dats m 0 c).before 11 t dga) ((dats m 0 c).before 12 t dbe) dzo dstd dq2 ds2 fa fb fx fsum fstg) iprop(∃ r, prngReg c r))
  rw [Own_eq]
  unfold Held
  isplitr [Hm0 Hm1 Hv0 Hv1 HW Hg]
  · simp only [mems, mkSt, owns_whole]
    isplitl [Hfa]; · iexact Hfa
    isplitl [Hfb0]; · iexact Hfb0
    isplitl [Hfb1]; · iexact Hfb1
    isplitl [Hz]; · iexact Hz
    isplitl [Hq1]; · iexact Hq1
    isplitl [Hs1]; · iexact Hs1
    isplitl [Heye]; · iexact Heye
    isplitl [Hw5]; · iexact Hw5
    isplitl [Hs5]; · iexact Hs5
    isplitl [Hwo]; · iexact Hwo
    isplitl [Hso]; · iexact Hso
    isplitl [Hga]; · iexact Hga
    isplitl [Hbe]; · iexact Hbe
    isplitl [Hzo]; · iexact Hzo
    isplitl [Hstd]; · iexact Hstd
    isplitl [Hq2]; · iexact Hq2
    isplitl [Hs2]; · iexact Hs2
    isplitl [Ha]; · iexact Ha
    isplitl [Hb]; · iexact Hb
    isplitl [Hx]; · iexact Hx
    isplitl [Hsum]; · iexact Hsum
    iexact Hstg
  isplitl [Hm0 Hm1 Hv0 Hv1 HW]
  · isplitl [Hm0]; · iexact Hm0
    isplitl [Hm1]; · iexact Hm1
    isplitl [Hv0]; · iexact Hv0
    isplitl [Hv1]; · iexact Hv1
    iexists _; iexact HW
  iexact Hg

theorem defs₀_row (t : Fin cfg0.N) :
    defs₀ (F := F) .tc cfg0.body (cfg0.bodyArgs t (cfg0.slots t)) = Gen.bodyAt0 t := by
  unfold defs₀; rw [Defs.onTc_tc]

theorem body_obligation (c : Dev nD) : BodyObligationLoose (dats (F := F) m 0 c) (defs₀ (F := F)) Variants.none () Set.univ fgt := fun t => by
  rw [Gen.bigSep_W0, Gen.bigSep_W0, defs₀_row]
  exact triple_restated (sound_body m c t) rfl .rfl fun _ => .rfl

/-! ## The run and the frame -/

theorem hmain (𝒱₀ : Variants) : Pipeline.HMain (Ix := Unit) (Name := ℕ) (U := Pipeline.UD sig nD τ) (Lvl := ℕ) cfgs 0 defs₀ 𝒱₀ m (main (F := F)) (Gen.V m) :=
  Pipeline.hmain_prefix cfgs 0 defs₀ 𝒱₀ m main Gen.hostOps0 Gen.hostOps0_sub Gen.hostOps0_fresh Gen.main_chain

/-- The frame run: what is known of the arrays at the end, and every semaphore back at zero. -/
theorem run_main : θ_run defs (onTc (τ := τ) (main (F := F))) (s₀ m ρ)
    (fun r => Pipeline.RDat.FramePost cfg0 (fun c => (dats m 0 c).toRForget fgt) (Gen.V m) r ∧ r.2.sem = fun _ => 0) :=
  Pipeline.θ_run_frame_dma_forget_shared (Q' := _) cfgs (dats m) (0 : Fin 1) Gen.launch₀0 osem0 defs₀ Variants.none fgt ownSemFacts0 H0 H0_sub m ρ main
    (hbody := fun c => body_obligation m c) (hq := fun _ _ _ => rfl) (howed := fun _ _ => rfl) (V := Gen.V m) (hmain := hmain m Variants.none)
    (hA := fun _ _ => rfl) (hin := fun _ => .rfl) (hout := fun _ => .rfl)

/-- Every argument array ends as it began, and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => ⟨((h.1 c).2 main_arg0 (Pipeline.mem_restRefs_of main_arg0 (by decide) (by decide))).trans (Gen.V_main_arg0 m c),
      ((h.1 c).2 main_arg1 (Pipeline.mem_restRefs_of main_arg1 (by decide) (by decide))).trans (Gen.V_main_arg1 m c),
      ((congrFun (Pipeline.RDat.ArrAt_in ((dats m 0 c).toRForget fgt) 0 rfl _) _).mp ((h.1 c).1 0)).trans (Gen.V_main_arg2 m c),
      ((congrFun (Pipeline.RDat.ArrAt_in ((dats m 0 c).toRForget fgt) 2 rfl _) _).mp ((h.1 c).1 2)).trans (Gen.V_main_arg3 m c),
      ((congrFun (Pipeline.RDat.ArrAt_in ((dats m 0 c).toRForget fgt) 3 rfl _) _).mp ((h.1 c).1 3)).trans (Gen.V_main_arg4 m c),
      ((congrFun (Pipeline.RDat.ArrAt_in ((dats m 0 c).toRForget fgt) 4 rfl _) _).mp ((h.1 c).1 4)).trans (Gen.V_main_arg5 m c),
      ((congrFun (Pipeline.RDat.ArrAt_in ((dats m 0 c).toRForget fgt) 5 rfl _) _).mp ((h.1 c).1 5)).trans (Gen.V_main_arg6 m c),
      ((h.1 c).2 main_arg7 (Pipeline.mem_restRefs_of main_arg7 (by decide) (by decide))).trans (Gen.V_main_arg7 m c),
      ((h.1 c).2 main_arg8 (Pipeline.mem_restRefs_of main_arg8 (by decide) (by decide))).trans (Gen.V_main_arg8 m c),
      ((h.1 c).2 main_arg9 (Pipeline.mem_restRefs_of main_arg9 (by decide) (by decide))).trans (Gen.V_main_arg9 m c),
      ((h.1 c).2 main_arg10 (Pipeline.mem_restRefs_of main_arg10 (by decide) (by decide))).trans (Gen.V_main_arg10 m c),
      ((h.1 c).2 main_arg11 (Pipeline.mem_restRefs_of main_arg11 (by decide) (by decide))).trans (Gen.V_main_arg11 m c),
      ((h.1 c).2 main_arg12 (Pipeline.mem_restRefs_of main_arg12 (by decide) (by decide))).trans (Gen.V_main_arg12 m c)⟩, h.2⟩) (run_main m ρ)

end Cert.Kernel.Tri
-- ==== Proof.Ideal.Loop.lean ====
/- The body of the triangle kernel written with loops, and the equation of the printed body with it. -/
module

public import proofs.«01_k».proof.Proof.Gen.KernelIdeal.Skeleton
public import Idealize.ShloMosaic.Lib.Pipeline.Regions

@[expose] public section

set_option synthInstance.maxSize 4096
set_option maxRecDepth 65536

noncomputable section

namespace Cert.KernelIdeal.Tri

open Idealize.ShloMosaic Idealize.SL.Sem Cert.KernelIdeal
open Cert.KernelIdeal.Facts₀ Cert.KernelIdeal.Facts

universe v

/-- A loop of `m` trips from the counter `c` on, each trip passing its value on to the next; `k` is what follows. -/
def loopK {E : Type → Type v} {α σ : Type} {N : Nat} [NeZero N] (f : Fin N → σ → (σ → Prog E α) → Prog E α) :
    Nat → Nat → σ → (σ → Prog E α) → Prog E α
  | 0, _, s, k => k s
  | m + 1, c, s, k => f (Fin.ofNat N c) s fun s' => loopK f m (c + 1) s' k

/-- Row `c` of the two affine tables lies inside them. -/
theorem tabInb (c : Fin 96) : ∀ a, (![c.val, 0] : Fin 2 → Nat) a + S1x128.size a ≤ S96x128.size a := by
  intro a; have := c.isLt; fin_cases a <;> simp <;> omega
/-- The eight rows of channel `c` lie inside the staging buffer. -/
theorem stgInb (c : Fin 96) : ∀ a, (![8 * c.val, 0] : Fin 2 → Nat) a + S8x128.size a ≤ S768x128.size a := by
  intro a; have := c.isLt; fin_cases a <;> simp <;> omega
/-- Every eighth row from row `r` on lies inside the staging buffer. -/
theorem strInb (r : Fin 8) : ∀ a, S96x128.size a = 0 ∨
    (![r.val, 0] : Fin 2 → Nat) a + (![8, 1] : Fin 2 → Nat) a * (S96x128.size a - 1) < S768x128.size a := by
  intro a; have := r.isLt; fin_cases a <;> simp <;> omega
/-- Eight rows of a block of sixteen. -/
theorem rowsInb (g : Fin 2) : ∀ a, (![0, 8 * g.val, 0] : Fin 3 → Nat) a + S1x8x128.size a ≤ S1x16x128.size a := by
  intro a; have := g.isLt; fin_cases a <;> simp <;> omega
/-- One row of a block of sixteen. -/
theorem rowInb (r : Fin 16) : ∀ a, (![0, r.val, 0] : Fin 3 → Nat) a + S1x1x128.size a ≤ S1x16x128.size a := by
  intro a; have := r.isLt; fin_cases a <;> simp <;> omega
/-- One row of a block of sixteen rows of codes. -/
theorem codeInb (r : Fin 16) : ∀ a, (![0, r.val, 0, 0] : Fin 4 → Nat) a + S1x1x96x128.size a ≤ S1x16x96x128.size a := by
  intro a; have := r.isLt; fin_cases a <;> simp <;> omega
/-- One row of a block of sixteen rows of outputs. -/
theorem outInb (r : Fin 16) : ∀ a, (![0, r.val, 0, 0] : Fin 4 → Nat) a + S1x1x128x128.size a ≤ S1x16x128x128.size a := by
  intro a; have := r.isLt; fin_cases a <;> simp <;> omega
/-- Two rows of a block of sixteen rows of inputs. -/
theorem pairInb (p : Fin 8) : ∀ a, (![0, 2 * p.val, 0, 0] : Fin 4 → Nat) a + S1x2x128x128.size a ≤ S1x16x128x128.size a := by
  intro a; have := p.isLt; fin_cases a <;> simp <;> omega
/-- A row of codes is a whole number of packed rows. -/
theorem codePacked : ∀ r : Fin 16, (Rect.unit (s := S1x16x96x128) ![0, r.val, 0, 0] S1x1x96x128.size (codeInb r)).PackedRows
    (EltTy.packing .fp8e4m3) := by decide
/-- A row of outputs is a whole number of packed rows. -/
theorem outPacked : ∀ r : Fin 16, (Rect.unit (s := S1x16x128x128) ![0, r.val, 0, 0] S1x1x128x128.size (outInb r)).PackedRows
    (EltTy.packing .bf16) := by decide

/-- Half `h` of the two tiles of sums. -/
theorem sumInb (h : Fin 2) : ∀ a, (![128 * h.val, 0] : Fin 2 → Nat) a + S128x128.size a ≤ S256x128.size a := by
  revert h; decide

/-- The row of a block of sixteen that is number `r` of its group `g` of eight. -/
def row16 (g : Fin 2) (r : Fin 8) : Fin 16 := ⟨8 * g.val + r.val, by omega⟩
/-- The row of a block of sixteen that is number `h` of its pair `p`. -/
def pair16 (p : Fin 8) (h : Fin 2) : Fin 16 := ⟨2 * p.val + h.val, by omega⟩

/-- Eight rows of channel `c` in the buffer of the products. -/
def xRect (i : grid0.Coords) (g : Fin 2) (c : Fin 96) : Rect S24576x128 :=
  Rect.unit (s := S24576x128) (k0_off12 i (BitVec.ofNat 32 (128 * c.val)) (BitVec.ofNat 32 (8 * g.val))) S8x128.size (k0_off12_inb i c g)

section
variable {F : FTy → Type} [FloatOps F] [Named F]

/-- The mean of a column from its sum. -/
def pMean (v : Vec F S8x128 .f32) : FVec F S8x128 .f32 := mulf v (broadcast S8x128 (Named.named κ "inv_c" 0x3C2AAAAB#32))
/-- The standard deviation from the sum of the squares. -/
def pStd (v : FVec F S8x128 .f32) : FVec F S8x128 .f32 :=
  sqrt (addf (mulf v (broadcast S8x128 (Named.named κ "inv_c" 0x3C2AAAAB#32))) (broadcast S8x128 (Scalar.ofBits .f32 0x3727C5AC#32)))
/-- One over it. -/
def pRcp (v : FVec F S8x128 .f32) : FVec F S8x128 .f32 := divf (broadcast S8x128 (Scalar.ofBits .f32 0x3F800000#32)) v
/-- The zero with which both accumulations begin. -/
def pZero : FVec F S8x128 .f32 := broadcast S8x128 (Scalar.ofBits .f32 0x00000000#32)
/-- The normalised channel. -/
def pY (rstd : FVec F S8x128 .f32) (x : Vec F S8x128 .f32) (g b : Vec F S1x128 .f32) : FVec F S8x128 .f32 :=
  addf (mulf (mulf x rstd) (broadcastTo S8x128 (shapeCast S1x128 g shapeCasts_S1x128_S1x128) broadcasts_S1x128_S8x128))
    (broadcastTo S8x128 (shapeCast S1x128 b shapeCasts_S1x128_S1x128) broadcasts_S1x128_S8x128)
/-- The scale from the largest magnitude. -/
def pScale (amax : FVec F S8x128 .f32) : FVec F S8x128 .f32 :=
  select (cmpf .ogt amax (broadcast S8x128 (Scalar.ofBits .f32 0x00000000#32)))
    (divf amax (broadcast S8x128 (Scalar.ofBits .f32 0x43E00000#32))) (broadcast S8x128 (Scalar.ofBits .f32 0x3F800000#32))
/-- The clipped quotient. -/
def pClip (inv : FVec F S8x128 .f32) (x : Vec F S8x128 .f32) : FVec F S8x128 .f32 :=
  minimumf (broadcast S8x128 (Scalar.ofBits .f32 0x43E00000#32))
    (maximumf (broadcast S8x128 (Scalar.ofBits .f32 0xC3E00000#32)) (mulf x inv))
/-- The codes of a row. -/
def pCode (v : Vec F S96x128 .f32) : FVec F S1x1x96x128 .fp8e4m3 :=
  shapeCast S1x1x96x128 (truncf .fp8e4m3 v bitsLt_fp8e4m3_f32) shapeCasts_S96x128_S1x1x96x128
/-- The product of one channel's tile of `a` with two tiles of `b` side by side. -/
def pPair (b0 b1 : Vec F S1x1x640x128 .fp8e4m3) (a : Vec F S1x128x640 .fp8e4m3) : FVec F S128x256 .f32 :=
  matmul dot_S128x640_S640x256_S128x256_1_0_0_1_n_n none (shapeCast S128x640 a shapeCasts_S1x128x640_S128x640)
    (concatenate S640x256 1 [⟨S640x128, shapeCast S640x128 b0 shapeCasts_S1x1x640x128_S640x128⟩,
      ⟨S640x128, shapeCast S640x128 b1 shapeCasts_S1x1x640x128_S640x128⟩] concatenates_S640x128_S640x128_S640x256_d1)
    (constant S128x256 .f32 0x00000000#32)
/-- The product of one channel's tile of `a` with one tile of `b`. -/
def pOne (b : Vec F S1x1x640x128 .fp8e4m3) (a : Vec F S1x128x640 .fp8e4m3) : FVec F S128x128 .f32 :=
  matmul dot_S128x640_S640x128_S128x128_1_0_0_1_n_n none (shapeCast S128x640 a shapeCasts_S1x128x640_S128x640)
    (shapeCast S640x128 b shapeCasts_S1x1x640x128_S640x128) (constant S128x128 .f32 0x00000000#32)
/-- A product with its row factor and its column factor. -/
def pFac (o : FVec F S128x128 .f32) (fa fb : Vec F S1x1x128 .f32) : FVec F S128x128 .f32 :=
  mulf (mulf o (transpose S128x128 [1, 0]
      (broadcastTo S128x128 (shapeCast S1x128 (shapeCast S1x128 fa shapeCasts_S1x1x128_S1x128) shapeCasts_S1x128_S1x128)
        broadcasts_S1x128_S128x128) transposes_S128x128_p1_0_S128x128))
    (broadcastTo S128x128 (shapeCast S1x128 fb shapeCasts_S1x1x128_S1x128) broadcasts_S1x128_S128x128)
/-- The output projection of two rows. -/
def pO (q q' : Vec F S1x1x96x128 .fp8e4m3) (wo : Vec F S128x96 .fp8e4m3) : FVec F S128x256 .f32 :=
  matmul dot_S128x96_S96x256_S128x256_1_0_0_1_n_n none (shapeCast S128x96 wo shapeCasts_S128x96_S128x96)
    (concatenate S96x256 1 [⟨S96x128, shapeCast S96x128 q shapeCasts_S1x1x96x128_S96x128⟩,
      ⟨S96x128, shapeCast S96x128 q' shapeCasts_S1x1x96x128_S96x128⟩] concatenates_S96x128_S96x128_S96x256_d1)
    (constant S128x256 .f32 0x00000000#32)
/-- The gate projection of two rows. -/
def pP (w5 : Vec F S128x128 .fp8e4m3) (q1 : Vec F S1x2x128x128 .fp8e4m3) : FVec F S128x256 .f32 :=
  matmul dot_S128x128_S256x128_S128x256_1_1_0_0_n_n none (shapeCast S128x128 w5 shapeCasts_S128x128_S128x128)
    (shapeCast S256x128 (shapeCast S2x128x128 q1 shapeCasts_S1x2x128x128_S2x128x128) shapeCasts_S2x128x128_S256x128)
    (constant S128x256 .f32 0x00000000#32)
/-- Two rows of the input, transposed by a product with the identity. -/
def pZ (eye : Vec F S128x128 .bf16) (z : Vec F S1x2x128x128 .bf16) : FVec F S128x256 .f32 :=
  matmul dot_S128x128_S256x128_S128x256_1_1_0_0_n_n none (shapeCast S128x128 eye shapeCasts_S128x128_S128x128)
    (shapeCast S256x128 (shapeCast S2x128x128 z shapeCasts_S1x2x128x128_S2x128x128) shapeCasts_S2x128x128_S256x128)
    (constant S128x256 .f32 0x00000000#32)
/-- Half `h` of two rows side by side lies inside them. -/
theorem halfSlices (h : Fin 2) : S128x256.Slices ![0, 128 * h.val] S128x128 := by
  fin_cases h
  · exact slices_S128x256_o0_0_S128x128
  · exact slices_S128x256_o0_128_S128x128
/-- A product with a row of scales and a table of scales. -/
def pScaled (h : Fin 2) (p : FVec F S128x256 .f32) (s1 : Vec F S1x1x128 .f32) (s5 : Vec F S128x128 .f32) : FVec F S128x128 .f32 :=
  mulf (mulf (extractStridedSlice S128x128 ![0, 128 * h.val] p (halfSlices h))
    (broadcastTo S128x128 (shapeCast S1x128 s1 shapeCasts_S1x1x128_S1x128) broadcasts_S1x128_S128x128))
    (shapeCast S128x128 s5 shapeCasts_S128x128_S128x128)
/-- The output of one row. -/
def pOut (h : Fin 2) (o p zt : FVec F S128x256 .f32) (s1 : Vec F S1x1x128 .f32) (s5 : Vec F S128x128 .f32)
    (s2 : Vec F S1x1x128 .f32) (so : Vec F S128x128 .f32) : FVec F S1x1x128x128 .bf16 :=
  shapeCast S1x1x128x128 (transpose S128x128 [1, 0] (truncf .bf16
    (addf (extractStridedSlice S128x128 ![0, 128 * h.val] zt (halfSlices h))
      (mulf (addf (tanh (pScaled h p s1 s5)) (broadcast S128x128 (Scalar.ofBits .f32 0x3F800000#32))) (pScaled h o s2 so)))
    bitsLt_bf16_f32) transposes_S128x128_p1_0_S128x128) shapeCasts_S128x128_S1x1x128x128

variable (i : grid0.Coords) (arg6 : Memref sig .tc .vmem S1x96x128 .f32) (arg7 : Memref sig .tc .vmem S1x96x128 .f32)
  (arg8 : Memref sig .tc .vmem S1x96x128 .f32) (arg9 : Memref sig .tc .vmem S1x16x128x128 .bf16)
  (arg10 : Memref sig .tc .vmem S1x16x128x128 .fp8e4m3) (arg11 : Memref sig .tc .vmem S1x16x128 .f32)
  (arg12 : Memref sig .tc .vmem S128x128 .bf16) (arg13 : Memref sig .tc .vmem S128x128 .fp8e4m3)
  (arg14 : Memref sig .tc .vmem S128x128 .f32) (arg15 : Memref sig .tc .vmem S128x96 .fp8e4m3)
  (arg16 : Memref sig .tc .vmem S128x128 .f32) (arg17 : Memref sig .tc .vmem S96x128 .f32)
  (arg18 : Memref sig .tc .vmem S96x128 .f32)
  (arg19 : Memref sig .tc .vmem S1x16x128x128 .bf16) (harg19 : arg19.IsWhole)
  (arg20 : Memref sig .tc .vmem S1x16x128 .f32)
  (arg21 : Memref sig .tc .vmem S1x16x96x128 .fp8e4m3) (harg21 : arg21.IsWhole)
  (arg22 : Memref sig .tc .vmem S1x16x128 .f32)
  (arg25 : Memref sig .tc .vmem S24576x128 .f32) (arg26 : Memref sig .tc .vmem S256x128 .f32)
  (arg27 : Memref sig .tc .vmem S768x128 .f32)

/-- The effects of the kernel. -/
abbrev Eff (F : FTy → Type) : Type → Type _ := TpuEff nD τ sig (Elt F) Λ₀ .tc

/-- Channel `c`: the mean is taken off and the square added to the sum of squares. -/
def stepA (g : Fin 2) (mean : FVec F S8x128 .f32) (c : Fin 96) (var : FVec F S8x128 .f32)
    (k : FVec F S8x128 .f32 → Prog (Eff F) PUnit) : Prog (Eff F) PUnit :=
  .op (.load arg25 (xRect i g c).toLoadRect (View.loadsAt_vmem h_S8x128)) fun v : Vec F S8x128 .f32 =>
  .op (.load arg25 (xRect i g c).toLoadRect (View.loadsAt_vmem h_S8x128)) fun _ : Vec F S8x128 .f32 =>
  .op (.store arg25 (xRect i g c) (shapeCast S8x128 (subf v mean) shapeCasts_S8x128_S8x128) Finset.univ
    (View.stores_vmem_bits_univ h_S8x128 rfl) (.inl rfl)) fun _ =>
  k (addf var (mulf (subf v mean) (subf v mean)))

/-- Channel `c`: it is normalised and its magnitude taken into the largest. -/
def stepB (g : Fin 2) (rstd : FVec F S8x128 .f32) (c : Fin 96) (amax : FVec F S8x128 .f32)
    (k : FVec F S8x128 .f32 → Prog (Eff F) PUnit) : Prog (Eff F) PUnit :=
  .op (.load arg25 (xRect i g c).toLoadRect (View.loadsAt_vmem h_S8x128)) fun v : Vec F S8x128 .f32 =>
  .op (.load arg17 (Rect.unit (s := S96x128) ![c.val, 0] S1x128.size (tabInb c)).toLoadRect (View.loadsAt_vmem h_S1x128)) fun ga : Vec F S1x128 .f32 =>
  .op (.load arg18 (Rect.unit (s := S96x128) ![c.val, 0] S1x128.size (tabInb c)).toLoadRect (View.loadsAt_vmem h_S1x128)) fun be : Vec F S1x128 .f32 =>
  .op (.load arg25 (xRect i g c).toLoadRect (View.loadsAt_vmem h_S8x128)) fun _ : Vec F S8x128 .f32 =>
  .op (.store arg25 (xRect i g c) (shapeCast S8x128 (pY rstd v ga be) shapeCasts_S8x128_S8x128) Finset.univ
    (View.stores_vmem_bits_univ h_S8x128 rfl) (.inl rfl)) fun _ =>
  k (maximumf amax (absf (pY rstd v ga be)))

/-- Channel `c`: its clipped quotient by the scale goes into the staging buffer. -/
def stepC (g : Fin 2) (inv : FVec F S8x128 .f32) (c : Fin 96) (u : PUnit.{1})
    (k : PUnit.{1} → Prog (Eff F) PUnit) : Prog (Eff F) PUnit :=
  .op (.load arg25 (xRect i g c).toLoadRect (View.loadsAt_vmem h_S8x128)) fun v : Vec F S8x128 .f32 =>
  .op (.load arg27 (Rect.unit (s := S768x128) ![8 * c.val, 0] S8x128.size (stgInb c)).toLoadRect (View.loadsAt_vmem h_S8x128)) fun _ : Vec F S8x128 .f32 =>
  .op (.store arg27 (Rect.unit (s := S768x128) ![8 * c.val, 0] S8x128.size (stgInb c))
    (shapeCast S8x128 (pClip inv v) shapeCasts_S8x128_S8x128) Finset.univ
    (View.stores_vmem_bits_univ h_S8x128 rfl) (.inl rfl)) fun _ =>
  k ⟨⟩

/-- Row `r` of the group: its codes are gathered from the staging buffer. -/
def stepD (g : Fin 2) (r : Fin 8) (u : PUnit.{1}) (k : PUnit.{1} → Prog (Eff F) PUnit) : Prog (Eff F) PUnit :=
  .op (.load arg27 (⟨![r.val, 0], S96x128.size, ![8, 1], strInb r⟩ : LoadRect S768x128) (View.loadsAt_vmem h_S96x128)) fun v : Vec F S96x128 .f32 =>
  .op (.load arg21 (Rect.unit (s := S1x16x96x128) ![0, (row16 g r).val, 0, 0] S1x1x96x128.size (codeInb (row16 g r))).toLoadRect
    (View.loadsAt_vmem h_S1x1x96x128)) fun _ : Vec F S1x1x96x128 .fp8e4m3 =>
  .op (.store arg21 (Rect.unit (s := S1x16x96x128) ![0, (row16 g r).val, 0, 0] S1x1x96x128.size (codeInb (row16 g r)))
    (pCode v) Finset.univ
    (View.stores_vmem h_S1x1x96x128 (harg21.storeExact_slice rfl _ (codePacked (row16 g r))) (fun _ => rfl)) (.inl rfl)) fun _ =>
  k ⟨⟩

/-- Eight rows: layer normalisation over the channels, then the codes and their scale. -/
def group (g : Fin 2) (u : PUnit.{1}) (k : PUnit.{1} → Prog (Eff F) PUnit) : Prog (Eff F) PUnit :=
  .op (.load arg26 (Rect.unit (s := S256x128) (k0_off11 i (BitVec.ofNat 32 (8 * g.val))) S8x128.size (k0_off11_inb i g)).toLoadRect
    (View.loadsAt_vmem h_S8x128)) fun s : Vec F S8x128 .f32 =>
  loopK (stepA i arg25 g (pMean s)) 96 0 pZero fun var =>
  .op (.load arg20 (Rect.unit (s := S1x16x128) ![0, 8 * g.val, 0] S1x8x128.size (rowsInb g)).toLoadRect (View.loadsAt_vmem h_S1x8x128)) fun _ : Vec F S1x8x128 .f32 =>
  .op (.store arg20 (Rect.unit (s := S1x16x128) ![0, 8 * g.val, 0] S1x8x128.size (rowsInb g))
    (shapeCast S1x8x128 (pStd var) shapeCasts_S8x128_S1x8x128) Finset.univ
    (View.stores_vmem_bits_univ h_S1x8x128 rfl) (.inl rfl)) fun _ =>
  loopK (stepB i arg17 arg18 arg25 g (pRcp (pStd var))) 96 0 pZero fun amax =>
  .op (.load arg22 (Rect.unit (s := S1x16x128) ![0, 8 * g.val, 0] S1x8x128.size (rowsInb g)).toLoadRect (View.loadsAt_vmem h_S1x8x128)) fun _ : Vec F S1x8x128 .f32 =>
  .op (.store arg22 (Rect.unit (s := S1x16x128) ![0, 8 * g.val, 0] S1x8x128.size (rowsInb g))
    (shapeCast S1x8x128 (pScale amax) shapeCasts_S8x128_S1x8x128) Finset.univ
    (View.stores_vmem_bits_univ h_S1x8x128 rfl) (.inl rfl)) fun _ =>
  loopK (stepC i arg25 arg27 g (pRcp (pScale amax))) 96 0 ⟨⟩ fun _ =>
  loopK (stepD arg21 harg21 arg27 g) 8 0 ⟨⟩ k

/-- One row of the output. -/
def stepE (p : Fin 8) (o pg zt : FVec F S128x256 .f32) (h : Fin 2) (u : PUnit.{1}) (k : PUnit.{1} → Prog (Eff F) PUnit) :
    Prog (Eff F) PUnit :=
  .op (.load arg11 (Rect.unit (s := S1x16x128) ![0, (pair16 p h).val, 0] S1x1x128.size (rowInb (pair16 p h))).toLoadRect (View.loadsAt_vmem h_S1x1x128)) fun s1 : Vec F S1x1x128 .f32 =>
  .op (.load arg14 (Rect.unit (s := S128x128) ![0, 0] S128x128.size inb_S128x128_S128x128_0_0).toLoadRect (View.loadsAt_vmem h_S128x128)) fun s5 : Vec F S128x128 .f32 =>
  .op (.load arg22 (Rect.unit (s := S1x16x128) ![0, (pair16 p h).val, 0] S1x1x128.size (rowInb (pair16 p h))).toLoadRect (View.loadsAt_vmem h_S1x1x128)) fun s2 : Vec F S1x1x128 .f32 =>
  .op (.load arg16 (Rect.unit (s := S128x128) ![0, 0] S128x128.size inb_S128x128_S128x128_0_0).toLoadRect (View.loadsAt_vmem h_S128x128)) fun so : Vec F S128x128 .f32 =>
  .op (.load arg19 (Rect.unit (s := S1x16x128x128) ![0, (pair16 p h).val, 0, 0] S1x1x128x128.size (outInb (pair16 p h))).toLoadRect
    (View.loadsAt_vmem h_S1x1x128x128)) fun _ : Vec F S1x1x128x128 .bf16 =>
  .op (.store arg19 (Rect.unit (s := S1x16x128x128) ![0, (pair16 p h).val, 0, 0] S1x1x128x128.size (outInb (pair16 p h)))
    (pOut h o pg zt s1 s5 s2 so) Finset.univ
    (View.stores_vmem h_S1x1x128x128 (harg19.storeExact_slice rfl _ (outPacked (pair16 p h))) (fun _ => rfl)) (.inl rfl)) fun _ =>
  k ⟨⟩

/-- Two rows of the output: the three products, then each row. -/
def outPair (p : Fin 8) (u : PUnit.{1}) (k : PUnit.{1} → Prog (Eff F) PUnit) : Prog (Eff F) PUnit :=
  .op (.load arg21 (Rect.unit (s := S1x16x96x128) ![0, (pair16 p 0).val, 0, 0] S1x1x96x128.size (codeInb (pair16 p 0))).toLoadRect
    (View.loadsAt_vmem h_S1x1x96x128)) fun q : Vec F S1x1x96x128 .fp8e4m3 =>
  .op (.load arg21 (Rect.unit (s := S1x16x96x128) ![0, (pair16 p 1).val, 0, 0] S1x1x96x128.size (codeInb (pair16 p 1))).toLoadRect
    (View.loadsAt_vmem h_S1x1x96x128)) fun q' : Vec F S1x1x96x128 .fp8e4m3 =>
  .op (.load arg15 (Rect.unit (s := S128x96) ![0, 0] S128x96.size inb_S128x96_S128x96_0_0).toLoadRect (View.loadsAt_vmem h_S128x96)) fun wo : Vec F S128x96 .fp8e4m3 =>
  .op (.load arg13 (Rect.unit (s := S128x128) ![0, 0] S128x128.size inb_S128x128_S128x128_0_0).toLoadRect (View.loadsAt_vmem h_S128x128)) fun w5 : Vec F S128x128 .fp8e4m3 =>
  .op (.load arg10 (Rect.unit (s := S1x16x128x128) ![0, 2 * p.val, 0, 0] S1x2x128x128.size (pairInb p)).toLoadRect (View.loadsAt_vmem h_S1x2x128x128)) fun q1 : Vec F S1x2x128x128 .fp8e4m3 =>
  .op (.load arg12 (Rect.unit (s := S128x128) ![0, 0] S128x128.size inb_S128x128_S128x128_0_0).toLoadRect (View.loadsAt_vmem h_S128x128)) fun eye : Vec F S128x128 .bf16 =>
  .op (.load arg9 (Rect.unit (s := S1x16x128x128) ![0, 2 * p.val, 0, 0] S1x2x128x128.size (pairInb p)).toLoadRect (View.loadsAt_vmem h_S1x2x128x128)) fun z : Vec F S1x2x128x128 .bf16 =>
  loopK (stepE arg11 arg14 arg16 arg19 harg19 arg22 p (pO q q' wo) (pP w5 q1) (pZ eye z)) 2 0 ⟨⟩ k

/-- Half `h` of a pair's product for channel `u` of trip `t`: its factors, the product stored and added to the sum. -/
def stepP (arg25 : Memref sig .tc .vmem S24576x128 .f32) (arg26 : Memref sig .tc .vmem S256x128 .f32)
    (argb : Memref sig .tc .vmem S1x96x128 .f32) (t : Fin k0_t1_loop.trips) (k0_h3 : k0_cond3 i = 1#1)
    (fa : Vec F S1x1x128 .f32) (o : FVec F S128x256 .f32) (u : Fin 4) (h : Fin 2)
    (k : Prog (Eff F) PUnit) : Prog (Eff F) PUnit :=
  .op (.load argb (Rect.unit (s := S1x96x128) (k0_off5 t (BitVec.ofNat 32 u.val)) S1x1x128.size (k0_off5_inb i t k0_h3 u)).toLoadRect (View.loadsAt_vmem h_S1x1x128)) fun fb : Vec F S1x1x128 .f32 =>
  .op (.load arg25 (Rect.unit (s := S24576x128) (k0_off6 t (BitVec.ofNat 32 (12288 * h.val)) (BitVec.ofNat 32 u.val)) S128x128.size (k0_off6_inb i t k0_h3 h u)).toLoadRect (View.loadsAt_vmem h_S128x128)) fun _ : Vec F S128x128 .f32 =>
  .op (.store arg25 (Rect.unit (s := S24576x128) (k0_off6 t (BitVec.ofNat 32 (12288 * h.val)) (BitVec.ofNat 32 u.val)) S128x128.size (k0_off6_inb i t k0_h3 h u))
    (shapeCast S128x128 (pFac (extractStridedSlice S128x128 ![0, 128 * h.val] o (halfSlices h)) fa fb) shapeCasts_S128x128_S128x128) Finset.univ
    (View.stores_vmem_bits_univ h_S128x128 rfl) (.inl rfl)) fun _ =>
  .op (.load arg26 (Rect.unit (s := S256x128) ![128 * h.val, 0] S128x128.size (sumInb h)).toLoadRect (View.loadsAt_vmem h_S128x128)) fun s : Vec F S128x128 .f32 =>
  .op (.load arg26 (Rect.unit (s := S256x128) ![128 * h.val, 0] S128x128.size (sumInb h)).toLoadRect (View.loadsAt_vmem h_S128x128)) fun _ : Vec F S128x128 .f32 =>
  .op (.store arg26 (Rect.unit (s := S256x128) ![128 * h.val, 0] S128x128.size (sumInb h))
    (shapeCast S128x128 (addf s (pFac (extractStridedSlice S128x128 ![0, 128 * h.val] o (halfSlices h)) fa fb)) shapeCasts_S128x128_S128x128) Finset.univ
    (View.stores_vmem_bits_univ h_S128x128 rfl) (.inl rfl)) fun _ =>
  k

/-- Channel `u` of trip `t`, two tiles wide. -/
def step2 (arg6 arg7 arg8 : Memref sig .tc .vmem S1x96x128 .f32) (arg23 : Memref sig .tc .vmem S96x128x640 .fp8e4m3)
    (arg24 : Memref sig .tc .vmem S5x96x640x128 .fp8e4m3) (arg25 : Memref sig .tc .vmem S24576x128 .f32)
    (arg26 : Memref sig .tc .vmem S256x128 .f32) (t : Fin k0_t1_loop.trips) (k0_h3 : k0_cond3 i = 1#1) (u : Fin 4) (_ : PUnit.{1})
    (k : PUnit.{1} → Prog (Eff F) PUnit) : Prog (Eff F) PUnit :=
  .op (.load arg24 (Rect.unit (s := S5x96x640x128) (k0_off3 i t 0#32 (BitVec.ofNat 32 u.val)) S1x1x640x128.size (k0_off3_inb i t k0_h3 0 u)).toLoadRect (View.loadsAt_vmem h_S1x1x640x128)) fun b0 : Vec F S1x1x640x128 .fp8e4m3 =>
  .op (.load arg24 (Rect.unit (s := S5x96x640x128) (k0_off3 i t 1#32 (BitVec.ofNat 32 u.val)) S1x1x640x128.size (k0_off3_inb i t k0_h3 1 u)).toLoadRect (View.loadsAt_vmem h_S1x1x640x128)) fun b1 : Vec F S1x1x640x128 .fp8e4m3 =>
  .op (.load arg23 (Rect.unit (s := S96x128x640) (k0_off4 t (BitVec.ofNat 32 u.val)) S1x128x640.size (k0_off4_inb i t k0_h3 u)).toLoadRect (View.loadsAt_vmem h_S1x128x640)) fun a : Vec F S1x128x640 .fp8e4m3 =>
  .op (.load arg6 (Rect.unit (s := S1x96x128) (k0_off5 t (BitVec.ofNat 32 u.val)) S1x1x128.size (k0_off5_inb i t k0_h3 u)).toLoadRect (View.loadsAt_vmem h_S1x1x128)) fun fa : Vec F S1x1x128 .f32 =>
  stepP i arg25 arg26 arg7 t k0_h3 fa (pPair b0 b1 a) u 0 (stepP i arg25 arg26 arg8 t k0_h3 fa (pPair b0 b1 a) u 1 (k ⟨⟩))

/-- Channel `u` of trip `t`, one tile wide. -/
def step1 (arg6 arg7 : Memref sig .tc .vmem S1x96x128 .f32) (arg23 : Memref sig .tc .vmem S96x128x640 .fp8e4m3)
    (arg24 : Memref sig .tc .vmem S5x96x640x128 .fp8e4m3) (arg25 : Memref sig .tc .vmem S24576x128 .f32)
    (arg26 : Memref sig .tc .vmem S256x128 .f32) (t : Fin k0_t2_loop.trips) (k0_h4 : k0_cond4 i = 1#1) (u : Fin 4) (_ : PUnit.{1})
    (k : PUnit.{1} → Prog (Eff F) PUnit) : Prog (Eff F) PUnit :=
  .op (.load arg24 (Rect.unit (s := S5x96x640x128) (k0_off7 i t (BitVec.ofNat 32 u.val)) S1x1x640x128.size (k0_off7_inb i t k0_h4 u)).toLoadRect (View.loadsAt_vmem h_S1x1x640x128)) fun b : Vec F S1x1x640x128 .fp8e4m3 =>
  .op (.load arg23 (Rect.unit (s := S96x128x640) (k0_off8 t (BitVec.ofNat 32 u.val)) S1x128x640.size (k0_off8_inb i t k0_h4 u)).toLoadRect (View.loadsAt_vmem h_S1x128x640)) fun a : Vec F S1x128x640 .fp8e4m3 =>
  .op (.load arg6 (Rect.unit (s := S1x96x128) (k0_off9 t (BitVec.ofNat 32 u.val)) S1x1x128.size (k0_off9_inb i t k0_h4 u)).toLoadRect (View.loadsAt_vmem h_S1x1x128)) fun fa : Vec F S1x1x128 .f32 =>
  .op (.load arg7 (Rect.unit (s := S1x96x128) (k0_off9 t (BitVec.ofNat 32 u.val)) S1x1x128.size (k0_off9_inb i t k0_h4 u)).toLoadRect (View.loadsAt_vmem h_S1x1x128)) fun fb : Vec F S1x1x128 .f32 =>
  .op (.load arg25 (Rect.unit (s := S24576x128) (k0_off10 t (BitVec.ofNat 32 u.val)) S128x128.size (k0_off10_inb i t k0_h4 u)).toLoadRect (View.loadsAt_vmem h_S128x128)) fun _ : Vec F S128x128 .f32 =>
  .op (.store arg25 (Rect.unit (s := S24576x128) (k0_off10 t (BitVec.ofNat 32 u.val)) S128x128.size (k0_off10_inb i t k0_h4 u))
    (shapeCast S128x128 (pFac (pOne b a) fa fb) shapeCasts_S128x128_S128x128) Finset.univ
    (View.stores_vmem_bits_univ h_S128x128 rfl) (.inl rfl)) fun _ =>
  .op (.load arg26 (Rect.unit (s := S256x128) ![0, 0] S128x128.size inb_S256x128_S128x128_0_0).toLoadRect (View.loadsAt_vmem h_S128x128)) fun s : Vec F S128x128 .f32 =>
  .op (.load arg26 (Rect.unit (s := S256x128) ![0, 0] S128x128.size inb_S256x128_S128x128_0_0).toLoadRect (View.loadsAt_vmem h_S128x128)) fun _ : Vec F S128x128 .f32 =>
  .op (.store arg26 (Rect.unit (s := S256x128) ![0, 0] S128x128.size inb_S256x128_S128x128_0_0)
    (shapeCast S128x128 (addf s (pFac (pOne b a) fa fb)) shapeCasts_S128x128_S128x128) Finset.univ
    (View.stores_vmem_bits_univ h_S128x128 rfl) (.inl rfl)) fun _ =>
  k ⟨⟩

/-- What the body does after the products: the two groups of eight rows, then the eight pairs of output rows. -/
def rest : Prog (Eff F) PUnit :=
  loopK (group i arg17 arg18 arg20 arg21 harg21 arg22 arg25 arg26 arg27) 2 0 ⟨⟩ fun _ =>
  loopK (outPair arg9 arg10 arg11 arg12 arg13 arg14 arg15 arg16 arg19 harg19 arg21 arg22) 8 0 ⟨⟩ fun _ => .ret ⟨⟩

end

end Cert.KernelIdeal.Tri
-- ==== Proof.Ideal.Run.lean ====
/- The buffers the body loads and stores, owned together at named contents, and the rules by which a program of loads and
   stores takes the contents it begins with to those it ends with. -/
module

public import proofs.«01_k».proof.Proof.Ideal.Loop
public import Idealize.ShloMosaic.Lib.VecWindow
public import Idealize.ShloMosaic.Lib.Writes
public import Idealize.ShloMosaic.Lib.Tactic
public import Idealize.ShloMosaic.Lib.Pipeline.Frame

@[expose] public section

noncomputable section

namespace Cert.KernelIdeal.Tri

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal

/-- The buffers of the body: the staged blocks and the scratch. -/
inductive Bf
  | fa | fb0 | fb1 | z | q1 | s1 | eye | w5 | s5 | wo | so | ga | be | zo | std | q2 | s2 | a | b | x | sum | stg
  deriving DecidableEq

/-- The buffers listed. -/
def Bf.list : List Bf := [.fa, .fb0, .fb1, .z, .q1, .s1, .eye, .w5, .s5, .wo, .so, .ga, .be, .zo, .std, .q2, .s2, .a, .b, .x, .sum, .stg]

instance : Fintype Bf := ⟨⟨Bf.list, by decide⟩, fun n => by cases n <;> decide⟩

/-- The shape of a buffer. -/
@[reducible] def shp : Bf → Shape
  | .fa => S1x96x128 | .fb0 => S1x96x128 | .fb1 => S1x96x128 | .z => S1x16x128x128 | .q1 => S1x16x128x128
  | .s1 => S1x16x128 | .eye => S128x128 | .w5 => S128x128 | .s5 => S128x128 | .wo => S128x96 | .so => S128x128
  | .ga => S96x128 | .be => S96x128 | .zo => S1x16x128x128 | .std => S1x16x128 | .q2 => S1x16x96x128 | .s2 => S1x16x128
  | .a => S96x128x640 | .b => S5x96x640x128 | .x => S24576x128 | .sum => S256x128 | .stg => S768x128

/-- The element type of a buffer. -/
@[reducible] def elt : Bf → EltTy
  | .fa => .f32 | .fb0 => .f32 | .fb1 => .f32 | .z => .bf16 | .q1 => .fp8e4m3
  | .s1 => .f32 | .eye => .bf16 | .w5 => .fp8e4m3 | .s5 => .f32 | .wo => .fp8e4m3 | .so => .f32
  | .ga => .f32 | .be => .f32 | .zo => .bf16 | .std => .f32 | .q2 => .fp8e4m3 | .s2 => .f32
  | .a => .fp8e4m3 | .b => .fp8e4m3 | .x => .f32 | .sum => .f32 | .stg => .f32

variable {F : FTy → Type} [FloatOps F] [Named F]

/-- The contents of every buffer. -/
abbrev St (F : FTy → Type) : Type := (n : Bf) → (shp n).Idx → Elt F (elt n)

/-- The memrefs through which the body reaches the buffers. -/
abbrev Mems : Type := (n : Bf) → Memref sig .tc .vmem (shp n) (elt n)

/-- The state with buffer `n` at new contents. -/
def St.set (σ : St F) (n : Bf) (v : (shp n).Idx → Elt F (elt n)) : St F := Function.update σ n v

theorem St.set_same (σ : St F) (n : Bf) (v) : (σ.set n v) n = v := Function.update_self _ _ _
theorem St.set_ne (σ : St F) {n m : Bf} (h : m ≠ n) (v) : (σ.set n v) m = σ m := Function.update_of_ne h _ _
theorem St.set_set (σ : St F) (n : Bf) (v w) : (σ.set n v).set n w = σ.set n w := Function.update_idem _ _ _

local notation "𝕄" => MT nD τ sig Unit (Elt F) ℕ (Pipeline.UD sig nD τ) ℕ

section rules

variable (defs : Defs nD τ sig (Elt F) Λ₀) (𝒱 : Variants) (c : Dev nD) (bd : Option 𝒱.V)

/-- A load from a memref owned at `X` continues at what the load's coordinates read of `X`. -/
theorem owns_load {s : Shape} {e : EltTy} {m : Memref sig .tc .vmem s e} {r : LoadRect s} {hl : m.view.LoadsAt r}
    {X : s.Idx → Elt F e} {q : PosShare TreeShare} {k : (r.shape.Idx → Elt F e) → Prog (Eff F) PUnit} {Q : PUnit → sProp 𝕄} :
    (owns (c : Thread nD τ) m q X : sProp 𝕄)
      ⊢ iprop((owns (c : Thread nD τ) m q X -∗ wp frame (wpE defs 𝒱 (c : Thread nD τ) bd) Set.univ (k fun j => X (r.idx j)) Q)
        -∗ wp frame (wpE defs 𝒱 (c : Thread nD τ) bd) Set.univ (.op (.load m r hl) k) Q) := by
  unfold owns
  iintro ⟨%f, %hf, H⟩ Hk
  iapply (wp_load 𝒱 (c : Thread nD τ) bd Set.univ (m := m) (r := r) (hl := hl) (k := k) (Q := Q) (f := f)
    (S := m.view.set) (m.view.setOn_subset_set _)) $$ H
  iintro H
  have e : m.view.readAt (Elt F) r f = fun j => X (r.idx j) := by subst hf; rfl
  rw [e]
  iapply Hk
  iexists f
  isplitr
  · ipureintro; exact hf
  · iexact H

/-- A store into a memref owned at `X` leaves `X` with the payload put over the window. -/
theorem owns_store {s : Shape} {e : EltTy} {m : Memref sig .tc .vmem s e} {off size : Fin s.rank → ℕ}
    {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {X : s.Idx → Elt F e} {k : PUnit → Prog (Eff F) PUnit} {Q : PUnit → sProp 𝕄} :
    (owns (c : Thread nD τ) m fullShare X : sProp 𝕄)
      ⊢ iprop((owns (c : Thread nD τ) m fullShare (VecWindow.put X off size w) -∗ wp frame (wpE defs 𝒱 (c : Thread nD τ) bd) Set.univ (k ⟨⟩) Q)
        -∗ wp frame (wpE defs 𝒱 (c : Thread nD τ) bd) Set.univ (.op (.store m (Rect.unit off size inb) w Finset.univ hx hm) k) Q) := by
  unfold owns
  iintro ⟨%f, %hf, H⟩ Hk
  iapply (wp_store 𝒱 (c : Thread nD τ) bd Set.univ (m := m) (r := Rect.unit off size inb) (w := w) (Mk := Finset.univ) (hx := hx) (hm := hm)
    (k := k) (Q := Q) (f := f) (S := m.view.set) (m.setOn_access_subset _ _)) $$ H
  iintro H
  iapply Hk
  iexists ((m.access (Rect.unit off size inb)).write (Elt F) f w Finset.univ)
  isplitr
  · ipureintro
    have h := View.read_writes_cons_put m.view f inb w [] rfl
    rw [View.writes_nil, hf] at h
    exact h
  · iexact H

/-- All the buffers owned at the state `σ`. -/
def Own (M : Mems) (σ : St F) : sProp 𝕄 := bigSep Finset.univ fun n => owns (c : Thread nD τ) (M n) fullShare (σ n)

/-- One buffer taken out of the state, and put back at any contents. -/
theorem Own_take (M : Mems) (σ : St F) (n : Bf) :
    (Own c M σ : sProp 𝕄) ⊢ iprop(owns (c : Thread nD τ) (M n) fullShare (σ n)
      ∗ (∀ v, owns (c : Thread nD τ) (M n) fullShare v -∗ Own c M (σ.set n v))) := by
  have e (σ' : St F) : (Own c M σ' : sProp 𝕄) = iprop(owns (c : Thread nD τ) (M n) fullShare (σ' n)
      ∗ bigSep (Finset.univ.erase n) fun n => owns (c : Thread nD τ) (M n) fullShare (σ' n)) := by
    unfold Own; exact bigSep_erase (Finset.mem_univ n)
  rw [e σ]
  iintro ⟨H, Hr⟩
  isplitl [H]
  · iexact H
  iintro %v H
  rw [e (σ.set n v), St.set_same]
  isplitl [H]
  · iexact H
  have h : (bigSep (Finset.univ.erase n) fun k => owns (c : Thread nD τ) (M k) fullShare ((σ.set n v) k) : sProp 𝕄)
      = bigSep (Finset.univ.erase n) fun k => owns (c : Thread nD τ) (M k) fullShare (σ k) :=
    bigSep_congr fun k hk => by rw [St.set_ne σ (Finset.ne_of_mem_erase hk)]
  rw [h]
  iexact Hr

variable (M : Mems)

/-- The program `P`, given any rest, takes the buffers from `σ` to some state and result as `post` says, and goes on with the rest. -/
def Runs {R : Type} (P : (R → Prog (Eff F) PUnit) → Prog (Eff F) PUnit) (σ : St F) (post : St F → R → Prop) : Prop :=
  ∀ (k : R → Prog (Eff F) PUnit) (G : sProp 𝕄) (Q : PUnit → sProp 𝕄),
    (∀ σ' r, post σ' r → iprop(Own c M σ' ∗ G) ⊢ wp frame (wpE defs 𝒱 (c : Thread nD τ) bd) Set.univ (k r) Q)
      → iprop(Own c M σ ∗ G) ⊢ wp frame (wpE defs 𝒱 (c : Thread nD τ) bd) Set.univ (P k) Q

variable {defs 𝒱 c bd M}

/-- A load of buffer `n`. -/
theorem ld (n : Bf) {σ : St F} {r : LoadRect (shp n)} {hl : (M n).view.LoadsAt r}
    {k : (r.shape.Idx → Elt F (elt n)) → Prog (Eff F) PUnit} {G : sProp 𝕄} {Q : PUnit → sProp 𝕄}
    (h : iprop(Own c M σ ∗ G) ⊢ wp frame (wpE defs 𝒱 (c : Thread nD τ) bd) Set.univ (k fun j => σ n (r.idx j)) Q) :
    iprop(Own c M σ ∗ G) ⊢ wp frame (wpE defs 𝒱 (c : Thread nD τ) bd) Set.univ (.op (.load (M n) r hl) k) Q := by
  iintro ⟨H, HG⟩
  icases (Own_take c M σ n) $$ H with ⟨Hn, Hr⟩
  iapply (owns_load defs 𝒱 c bd) $$ Hn
  iintro Hn
  iapply h
  isplitr [HG]
  · ispecialize Hr $$ %(σ n) Hn
    have e : σ.set n (σ n) = σ := Function.update_eq_self _ _
    rw [e]
    iexact Hr
  · iexact HG

/-- A store into buffer `n`. -/
theorem st (n : Bf) {σ : St F} {off size : Fin (shp n).rank → ℕ}
    {inb : ∀ a, off a + size a ≤ (shp n).size a} {w : (Rect.unit off size inb).shape.Idx → Elt F (elt n)}
    {hx : ((M n).access (Rect.unit off size inb)).Stores Finset.univ} {hm : Finset.univ = Finset.univ ∨ ∀ a, (Rect.unit off size inb).stride a = 1}
    {k : PUnit → Prog (Eff F) PUnit} {G : sProp 𝕄} {Q : PUnit → sProp 𝕄}
    (h : iprop(Own c M (σ.set n (VecWindow.put (σ n) off size w)) ∗ G) ⊢ wp frame (wpE defs 𝒱 (c : Thread nD τ) bd) Set.univ (k ⟨⟩) Q) :
    iprop(Own c M σ ∗ G) ⊢ wp frame (wpE defs 𝒱 (c : Thread nD τ) bd) Set.univ
      (.op (.store (M n) (Rect.unit off size inb) w Finset.univ hx hm) k) Q := by
  iintro ⟨H, HG⟩
  icases (Own_take c M σ n) $$ H with ⟨Hn, Hr⟩
  iapply (owns_store defs 𝒱 c bd) $$ Hn
  iintro Hn
  iapply h
  isplitr [HG]
  · ispecialize Hr $$ %(VecWindow.put (σ n) off size w) Hn
    iexact Hr
  · iexact HG

/-- A counted loop by an invariant of the trips made, the state and the carried value. -/
theorem Runs.loop {N : ℕ} [NeZero N] {S : Type} {step : Fin N → S → (S → Prog (Eff F) PUnit) → Prog (Eff F) PUnit}
    (I : ℕ → St F → S → Prop)
    (h : ∀ (j : Fin N) σ s, I j.val σ s → Runs defs 𝒱 c bd M (step j s) σ (I (j.val + 1)))
    {σ : St F} {s : S} (h₀ : I 0 σ s) : Runs defs 𝒱 c bd M (loopK step N 0 s) σ (I N) := by
  suffices H : ∀ n c₀ σ s, c₀ + n = N → I c₀ σ s → Runs defs 𝒱 c bd M (loopK step n c₀ s) σ (I N) from H N 0 σ s (Nat.zero_add _) h₀
  intro n
  induction n with
  | zero =>
    intro c₀ σ s e hI k G Q hk
    exact hk σ s (by obtain rfl : c₀ = N := e; exact hI)
  | succ n ih =>
    intro c₀ σ s e hI k G Q hk
    have hc : (Fin.ofNat N c₀).val = c₀ := Nat.mod_eq_of_lt (by omega)
    refine h (Fin.ofNat N c₀) σ s (by rw [hc]; exact hI) _ G Q fun σ' r hr => ?_
    exact ih (c₀ + 1) σ' r (by omega) (by rw [hc] at hr; exact hr) k G Q hk

/-- A weaker postcondition. -/
theorem Runs.mono {R : Type} {P : (R → Prog (Eff F) PUnit) → Prog (Eff F) PUnit} {σ : St F} {p p' : St F → R → Prop}
    (h : Runs defs 𝒱 c bd M P σ p) (hp : ∀ σ' r, p σ' r → p' σ' r) : Runs defs 𝒱 c bd M P σ p' :=
  fun k G Q hk => h k G Q fun σ' r hr => hk σ' r (hp σ' r hr)

end rules

end Cert.KernelIdeal.Tri
-- ==== Proof.Ideal.Steps.lean ====
/- What every step of the body does to the buffers' contents. -/
module

public import proofs.«01_k».proof.Proof.Ideal.Run

@[expose] public section

noncomputable section

namespace Cert.KernelIdeal.Tri

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {F : FTy → Type} [FloatOps F] [Named F]

/-- What a load of buffer `n` reads. -/
@[reducible] def St.rd (σ : St F) (n : Bf) (r : LoadRect (shp n)) : r.shape.Idx → Elt F (elt n) := fun j => σ n (r.idx j)

/-- The state after a store into buffer `n`. -/
@[reducible] def St.wr (σ : St F) (n : Bf) (off size : Fin (shp n).rank → ℕ)
    (w : ((a : Fin (shp n).rank) → Fin (size a)) → Elt F (elt n)) : St F := σ.set n (VecWindow.put (σ n) off size w)

variable {defs : Defs nD τ sig (Elt F) Λ₀} {𝒱 : Variants} {c : Dev nD} {bd : Option 𝒱.V} {M : Mems}

section

variable (i : grid0.Coords)

/-- The eight rows of channel `j` that group `g` reads. -/
@[reducible] def St.x8 (σ : St F) (g : Fin 2) (j : Fin 96) : Vec F S8x128 .f32 := σ.rd .x (xRect i g j).toLoadRect

/-- The state with the eight rows of channel `j` of group `g` at new values. -/
@[reducible] def St.setx (σ : St F) (g : Fin 2) (j : Fin 96) (w : Vec F S8x128 .f32) : St F :=
  σ.wr .x (xRect i g j).off (xRect i g j).size w

/-- The sums of the eight rows of group `g`. -/
@[reducible] def St.sum8 (σ : St F) (g : Fin 2) : Vec F S8x128 .f32 :=
  σ.rd .sum (Rect.unit (s := S256x128) (k0_off11 i (BitVec.ofNat 32 (8 * g.val))) S8x128.size (k0_off11_inb i g)).toLoadRect

theorem stepA_runs (g : Fin 2) (mean : FVec F S8x128 .f32) (j : Fin 96) (var : FVec F S8x128 .f32) (σ : St F) :
    Runs defs 𝒱 c bd M (stepA i (M .x) g mean j var) σ fun σ' r =>
      σ' = σ.setx i g j (shapeCast S8x128 (subf (σ.x8 i g j) mean) shapeCasts_S8x128_S8x128)
      ∧ r = addf var (mulf (subf (σ.x8 i g j) mean) (subf (σ.x8 i g j) mean)) :=
  fun k G Q hk => ld .x (ld .x (st .x (hk _ _ ⟨rfl, rfl⟩)))

/-- Row `j` of a table of one row per channel. -/
@[reducible] def St.ga1 (σ : St F) (j : Fin 96) : Vec F S1x128 .f32 := σ.rd .ga (Rect.unit (s := S96x128) ![j.val, 0] S1x128.size (tabInb j)).toLoadRect
/-- Row `j` of a table of one row per channel. -/
@[reducible] def St.be1 (σ : St F) (j : Fin 96) : Vec F S1x128 .f32 := σ.rd .be (Rect.unit (s := S96x128) ![j.val, 0] S1x128.size (tabInb j)).toLoadRect

theorem stepB_runs (g : Fin 2) (rstd : FVec F S8x128 .f32) (j : Fin 96) (amax : FVec F S8x128 .f32) (σ : St F) :
    Runs defs 𝒱 c bd M (stepB i (M .ga) (M .be) (M .x) g rstd j amax) σ fun σ' r =>
      σ' = σ.setx i g j (shapeCast S8x128 (pY rstd (σ.x8 i g j) (σ.ga1 j) (σ.be1 j)) shapeCasts_S8x128_S8x128)
      ∧ r = maximumf amax (absf (pY rstd (σ.x8 i g j) (σ.ga1 j) (σ.be1 j))) :=
  fun k G Q hk => ld .x (ld .ga (ld .be (ld .x (st .x (hk _ _ ⟨rfl, rfl⟩)))))

theorem stepC_runs (g : Fin 2) (inv : FVec F S8x128 .f32) (j : Fin 96) (u : PUnit) (σ : St F) :
    Runs defs 𝒱 c bd M (stepC i (M .x) (M .stg) g inv j u) σ fun σ' _ =>
      σ' = σ.wr .stg ![8 * j.val, 0] S8x128.size (shapeCast S8x128 (pClip inv (σ.x8 i g j)) shapeCasts_S8x128_S8x128) :=
  fun k G Q hk => ld .x (ld .stg (st .stg (hk _ _ rfl)))

/-- The staged values of row `r` of a group: every eighth row. -/
@[reducible] def St.stg8 (σ : St F) (r : Fin 8) : Vec F S96x128 .f32 :=
  σ.rd .stg (⟨![r.val, 0], S96x128.size, ![8, 1], strInb r⟩ : LoadRect S768x128)

theorem stepD_runs (h21 : (M .q2).IsWhole) (g : Fin 2) (r : Fin 8) (u : PUnit) (σ : St F) :
    Runs defs 𝒱 c bd M (stepD (M .q2) h21 (M .stg) g r u) σ fun σ' _ =>
      σ' = σ.wr .q2 ![0, (row16 g r).val, 0, 0] S1x1x96x128.size (pCode (σ.stg8 r)) :=
  fun k G Q hk => ld .stg (ld .q2 (st .q2 (hk _ _ rfl)))

/-- Row `r` of the scales of the block's first quantisation. -/
@[reducible] def St.s1r (σ : St F) (r : Fin 16) : Vec F S1x1x128 .f32 :=
  σ.rd .s1 (Rect.unit (s := S1x16x128) ![0, r.val, 0] S1x1x128.size (rowInb r)).toLoadRect
/-- Row `r` of the scales of the block's second quantisation. -/
@[reducible] def St.s2r (σ : St F) (r : Fin 16) : Vec F S1x1x128 .f32 :=
  σ.rd .s2 (Rect.unit (s := S1x16x128) ![0, r.val, 0] S1x1x128.size (rowInb r)).toLoadRect
/-- A whole table of the output stage. -/
@[reducible] def St.s5w (σ : St F) : Vec F S128x128 .f32 := σ.rd .s5 (Rect.unit (s := S128x128) ![0, 0] S128x128.size inb_S128x128_S128x128_0_0).toLoadRect
/-- A whole table of the output stage. -/
@[reducible] def St.sow (σ : St F) : Vec F S128x128 .f32 := σ.rd .so (Rect.unit (s := S128x128) ![0, 0] S128x128.size inb_S128x128_S128x128_0_0).toLoadRect

theorem stepE_runs (h19 : (M .zo).IsWhole) (p : Fin 8) (o pg zt : FVec F S128x256 .f32) (h : Fin 2) (u : PUnit) (σ : St F) :
    Runs defs 𝒱 c bd M (stepE (M .s1) (M .s5) (M .so) (M .zo) h19 (M .s2) p o pg zt h u) σ fun σ' _ =>
      σ' = σ.wr .zo ![0, (pair16 p h).val, 0, 0] S1x1x128x128.size
        (pOut h o pg zt (σ.s1r (pair16 p h)) σ.s5w (σ.s2r (pair16 p h)) σ.sow) :=
  fun k G Q hk => ld .s1 (ld .s5 (ld .s2 (ld .so (ld .zo (st .zo (hk _ _ rfl))))))

/-- A whole table of the output stage. -/
@[reducible] def St.wow (σ : St F) : Vec F S128x96 .fp8e4m3 := σ.rd .wo (Rect.unit (s := S128x96) ![0, 0] S128x96.size inb_S128x96_S128x96_0_0).toLoadRect
/-- A whole table of the output stage. -/
@[reducible] def St.w5w (σ : St F) : Vec F S128x128 .fp8e4m3 := σ.rd .w5 (Rect.unit (s := S128x128) ![0, 0] S128x128.size inb_S128x128_S128x128_0_0).toLoadRect
/-- A whole table of the output stage. -/
@[reducible] def St.eyew (σ : St F) : Vec F S128x128 .bf16 := σ.rd .eye (Rect.unit (s := S128x128) ![0, 0] S128x128.size inb_S128x128_S128x128_0_0).toLoadRect
/-- The codes of row `r`. -/
@[reducible] def St.q2r (σ : St F) (r : Fin 16) : Vec F S1x1x96x128 .fp8e4m3 :=
  σ.rd .q2 (Rect.unit (s := S1x16x96x128) ![0, r.val, 0, 0] S1x1x96x128.size (codeInb r)).toLoadRect
/-- Two rows of the codes of the first quantisation. -/
@[reducible] def St.q1p (σ : St F) (p : Fin 8) : Vec F S1x2x128x128 .fp8e4m3 :=
  σ.rd .q1 (Rect.unit (s := S1x16x128x128) ![0, 2 * p.val, 0, 0] S1x2x128x128.size (pairInb p)).toLoadRect
/-- Two rows of `z`. -/
@[reducible] def St.zp (σ : St F) (p : Fin 8) : Vec F S1x2x128x128 .bf16 :=
  σ.rd .z (Rect.unit (s := S1x16x128x128) ![0, 2 * p.val, 0, 0] S1x2x128x128.size (pairInb p)).toLoadRect

/-- A pair of output rows: whatever the two row steps leave. -/
theorem outPair_runs (h19 : (M .zo).IsWhole) (p : Fin 8) (u : PUnit) (σ : St F) (post : St F → PUnit → Prop)
    (h : Runs defs 𝒱 c bd M (loopK (stepE (M .s1) (M .s5) (M .so) (M .zo) h19 (M .s2) p (pO (σ.q2r (pair16 p 0)) (σ.q2r (pair16 p 1)) σ.wow)
      (pP σ.w5w (σ.q1p p)) (pZ σ.eyew (σ.zp p))) 2 0 ⟨⟩) σ post) :
    Runs defs 𝒱 c bd M (outPair (M .z) (M .q1) (M .s1) (M .eye) (M .w5) (M .s5) (M .wo) (M .so) (M .zo) h19 (M .q2) (M .s2) p u) σ post :=
  fun k G Q hk => ld .q2 (ld .q2 (ld .wo (ld .w5 (ld .q1 (ld .eye (ld .z (h k G Q hk)))))))

attribute [local irreducible] loopK in
/-- A group of eight rows, by an invariant of each of its four loops: of the trips made, the state, and what is accumulated. -/
theorem group_runs (h21 : (M .q2).IsWhole) (g : Fin 2) (u : PUnit) (σ : St F)
    (IA : ℕ → St F → FVec F S8x128 .f32 → Prop) (IB : FVec F S8x128 .f32 → ℕ → St F → FVec F S8x128 .f32 → Prop)
    (IC : FVec F S8x128 .f32 → FVec F S8x128 .f32 → ℕ → St F → Prop) (ID : FVec F S8x128 .f32 → FVec F S8x128 .f32 → ℕ → St F → Prop)
    (hA0 : IA 0 σ pZero)
    (hA : ∀ (j : Fin 96) σ' var, IA j.val σ' var → IA (j.val + 1)
      (σ'.setx i g j (shapeCast S8x128 (subf (σ'.x8 i g j) (pMean (σ.sum8 i g))) shapeCasts_S8x128_S8x128))
      (addf var (mulf (subf (σ'.x8 i g j) (pMean (σ.sum8 i g))) (subf (σ'.x8 i g j) (pMean (σ.sum8 i g))))))
    (hB0 : ∀ σ' var, IA 96 σ' var → IB var 0 (σ'.wr .std ![0, 8 * g.val, 0] S1x8x128.size (shapeCast S1x8x128 (pStd var) shapeCasts_S8x128_S1x8x128)) pZero)
    (hB : ∀ var (j : Fin 96) σ' am, IB var j.val σ' am → IB var (j.val + 1)
      (σ'.setx i g j (shapeCast S8x128 (pY (pRcp (pStd var)) (σ'.x8 i g j) (σ'.ga1 j) (σ'.be1 j)) shapeCasts_S8x128_S8x128))
      (maximumf am (absf (pY (pRcp (pStd var)) (σ'.x8 i g j) (σ'.ga1 j) (σ'.be1 j)))))
    (hC0 : ∀ σ' var am, IB var 96 σ' am → IC var am 0 (σ'.wr .s2 ![0, 8 * g.val, 0] S1x8x128.size (shapeCast S1x8x128 (pScale am) shapeCasts_S8x128_S1x8x128)))
    (hC : ∀ var am (j : Fin 96) σ', IC var am j.val σ' → IC var am (j.val + 1)
      (σ'.wr .stg ![8 * j.val, 0] S8x128.size (shapeCast S8x128 (pClip (pRcp (pScale am)) (σ'.x8 i g j)) shapeCasts_S8x128_S8x128)))
    (hD0 : ∀ σ' var am, IC var am 96 σ' → ID var am 0 σ')
    (hD : ∀ var am (r : Fin 8) σ', ID var am r.val σ' → ID var am (r.val + 1)
      (σ'.wr .q2 ![0, (row16 g r).val, 0, 0] S1x1x96x128.size (pCode (σ'.stg8 r)))) :
    Runs defs 𝒱 c bd M (group i (M .ga) (M .be) (M .std) (M .q2) h21 (M .s2) (M .x) (M .sum) (M .stg) g u) σ
      fun σ' _ => ∃ var am, ID var am 8 σ' := by
  intro k G Q hk
  refine ld .sum ?_
  refine Runs.loop IA (fun j σ' v hI => (stepA_runs i g _ j v σ').mono ?_) hA0 _ G Q ?_
  · rintro _ _ ⟨rfl, rfl⟩; exact hA j σ' v hI
  intro σ₁ var h₁
  refine ld .std (st .std ?_)
  refine Runs.loop (IB var) (fun j σ' v hI => (stepB_runs i g _ j v σ').mono ?_) (hB0 σ₁ var h₁) _ G Q ?_
  · rintro _ _ ⟨rfl, rfl⟩; exact hB var j σ' v hI
  intro σ₂ am h₂
  refine ld .s2 (st .s2 ?_)
  refine Runs.loop (fun n σ' _ => IC var am n σ') (fun j σ' v hI => (stepC_runs i g _ j v σ').mono ?_) (hC0 σ₂ var am h₂) _ G Q ?_
  · rintro _ _ rfl; exact hC var am j σ' hI
  intro σ₃ _ h₃
  refine Runs.loop (fun n σ' _ => ID var am n σ') (fun r σ' v hI => (stepD_runs h21 g r v σ').mono ?_) (hD0 σ₃ var am h₃) _ G Q ?_
  · rintro _ _ rfl; exact hD var am r σ' hI
  intro σ₄ _ h₄
  exact hk σ₄ _ ⟨var, am, h₄⟩

/-- The rows of tile `h` of the pair, channel `u` of trip `t`, at new values, and the sum with them added. -/
@[reducible] def St.addx (σ : St F) (t : Fin k0_t1_loop.trips) (u : Fin 4) (h : Fin 2) (w : FVec F S128x128 .f32) : St F :=
  let σ' := σ.wr .x (k0_off6 t (BitVec.ofNat 32 (12288 * h.val)) (BitVec.ofNat 32 u.val)) S128x128.size (shapeCast S128x128 w shapeCasts_S128x128_S128x128)
  σ'.wr .sum ![128 * h.val, 0] S128x128.size (shapeCast S128x128
    (addf (σ'.rd .sum (Rect.unit (s := S256x128) ![128 * h.val, 0] S128x128.size (sumInb h)).toLoadRect) w) shapeCasts_S128x128_S128x128)

/-- The product of a trip's channel, two tiles wide. -/
@[reducible] def St.pair (σ : St F) (t : Fin k0_t1_loop.trips) (h3 : k0_cond3 i = 1#1) (u : Fin 4) : FVec F S128x256 .f32 :=
  pPair (σ.rd .b (Rect.unit (s := S5x96x640x128) (k0_off3 i t 0#32 (BitVec.ofNat 32 u.val)) S1x1x640x128.size (k0_off3_inb i t h3 0 u)).toLoadRect)
    (σ.rd .b (Rect.unit (s := S5x96x640x128) (k0_off3 i t 1#32 (BitVec.ofNat 32 u.val)) S1x1x640x128.size (k0_off3_inb i t h3 1 u)).toLoadRect)
    (σ.rd .a (Rect.unit (s := S96x128x640) (k0_off4 t (BitVec.ofNat 32 u.val)) S1x128x640.size (k0_off4_inb i t h3 u)).toLoadRect)

/-- A factor of a trip's channel. -/
@[reducible] def St.fac (σ : St F) (t : Fin k0_t1_loop.trips) (h3 : k0_cond3 i = 1#1) (u : Fin 4) : Vec F S1x1x128 .f32 :=
  σ.rd .fa (Rect.unit (s := S1x96x128) (k0_off5 t (BitVec.ofNat 32 u.val)) S1x1x128.size (k0_off5_inb i t h3 u)).toLoadRect
/-- A factor of a trip's channel. -/
@[reducible] def St.fbc0 (σ : St F) (t : Fin k0_t1_loop.trips) (h3 : k0_cond3 i = 1#1) (u : Fin 4) : Vec F S1x1x128 .f32 :=
  σ.rd .fb0 (Rect.unit (s := S1x96x128) (k0_off5 t (BitVec.ofNat 32 u.val)) S1x1x128.size (k0_off5_inb i t h3 u)).toLoadRect
/-- A factor of a trip's channel. -/
@[reducible] def St.fbc1 (σ : St F) (t : Fin k0_t1_loop.trips) (h3 : k0_cond3 i = 1#1) (u : Fin 4) : Vec F S1x1x128 .f32 :=
  σ.rd .fb1 (Rect.unit (s := S1x96x128) (k0_off5 t (BitVec.ofNat 32 u.val)) S1x1x128.size (k0_off5_inb i t h3 u)).toLoadRect

/-- Channel `u` of trip `t`, two tiles wide. -/
theorem step2_runs (t : Fin k0_t1_loop.trips) (h3 : k0_cond3 i = 1#1) (u : Fin 4) (v : PUnit) (σ : St F) :
    Runs defs 𝒱 c bd M (step2 i (M .fa) (M .fb0) (M .fb1) (M .a) (M .b) (M .x) (M .sum) t h3 u v) σ fun σ' _ =>
      σ' = (σ.addx t u 0 (pFac (extractStridedSlice S128x128 ![0, 128 * (0 : Fin 2).val] (σ.pair i t h3 u) (halfSlices 0)) (σ.fac i t h3 u) (σ.fbc0 i t h3 u))).addx
        t u 1 (pFac (extractStridedSlice S128x128 ![0, 128 * (1 : Fin 2).val] (σ.pair i t h3 u) (halfSlices 1)) (σ.fac i t h3 u) (σ.fbc1 i t h3 u)) :=
  fun k G Q hk => ld .b <| ld .b <| ld .a <| ld .fa <| ld .fb0 <| ld .x <| st .x <| ld .sum <| ld .sum <| st .sum <|
    ld .fb1 <| ld .x <| st .x <| ld .sum <| ld .sum <| st .sum <| hk _ _ rfl

/-- The rows of the one tile, channel `u` of trip `t`, at new values, and the sum with them added. -/
@[reducible] def St.addx1 (σ : St F) (t : Fin k0_t2_loop.trips) (u : Fin 4) (w : FVec F S128x128 .f32) : St F :=
  let σ' := σ.wr .x (k0_off10 t (BitVec.ofNat 32 u.val)) S128x128.size (shapeCast S128x128 w shapeCasts_S128x128_S128x128)
  σ'.wr .sum ![0, 0] S128x128.size (shapeCast S128x128
    (addf (σ'.rd .sum (Rect.unit (s := S256x128) ![0, 0] S128x128.size inb_S256x128_S128x128_0_0).toLoadRect) w) shapeCasts_S128x128_S128x128)

/-- Channel `u` of trip `t`, one tile wide. -/
theorem step1_runs (t : Fin k0_t2_loop.trips) (h4 : k0_cond4 i = 1#1) (u : Fin 4) (v : PUnit) (σ : St F) :
    Runs defs 𝒱 c bd M (step1 i (M .fa) (M .fb0) (M .a) (M .b) (M .x) (M .sum) t h4 u v) σ fun σ' _ =>
      σ' = σ.addx1 t u (pFac (pOne
        (σ.rd .b (Rect.unit (s := S5x96x640x128) (k0_off7 i t (BitVec.ofNat 32 u.val)) S1x1x640x128.size (k0_off7_inb i t h4 u)).toLoadRect)
        (σ.rd .a (Rect.unit (s := S96x128x640) (k0_off8 t (BitVec.ofNat 32 u.val)) S1x128x640.size (k0_off8_inb i t h4 u)).toLoadRect))
        (σ.rd .fa (Rect.unit (s := S1x96x128) (k0_off9 t (BitVec.ofNat 32 u.val)) S1x1x128.size (k0_off9_inb i t h4 u)).toLoadRect)
        (σ.rd .fb0 (Rect.unit (s := S1x96x128) (k0_off9 t (BitVec.ofNat 32 u.val)) S1x1x128.size (k0_off9_inb i t h4 u)).toLoadRect)) :=
  fun k G Q hk => ld .b <| ld .a <| ld .fa <| ld .fb0 <| ld .x <| st .x <| ld .sum <| ld .sum <| st .sum <| hk _ _ rfl

end

end Cert.KernelIdeal.Tri
-- ==== Proof.Ideal.LoopEq.lean ====
/- The printed body is the body with loops. -/
module

public import proofs.«01_k».proof.Proof.Ideal.Loop

@[expose] public section

set_option synthInstance.maxSize 4096
set_option maxRecDepth 65536

noncomputable section

namespace Cert.KernelIdeal.Tri

open Idealize.ShloMosaic Idealize.SL.Sem Cert.KernelIdeal

variable {F : FTy → Type} [FloatOps F] [Named F]

/-- The printed body is its first part, the copies and the products, then the loops of `rest`. -/
theorem tri_eq (i : grid0.Coords) (arg4 : Memref sig .tc .hbm S2x5x96x128x640 .fp8e4m3) (harg4 : arg4.IsWhole) (arg5 : Memref sig .tc .hbm S2x5x96x640x128 .fp8e4m3) (harg5 : arg5.IsWhole) (arg6 : Memref sig .tc .vmem S1x96x128 .f32) (harg6 : arg6.IsWhole) (arg7 : Memref sig .tc .vmem S1x96x128 .f32) (harg7 : arg7.IsWhole) (arg8 : Memref sig .tc .vmem S1x96x128 .f32) (harg8 : arg8.IsWhole) (arg9 : Memref sig .tc .vmem S1x16x128x128 .bf16) (harg9 : arg9.IsWhole) (arg10 : Memref sig .tc .vmem S1x16x128x128 .fp8e4m3) (harg10 : arg10.IsWhole) (arg11 : Memref sig .tc .vmem S1x16x128 .f32) (harg11 : arg11.IsWhole) (arg12 : Memref sig .tc .vmem S128x128 .bf16) (harg12 : arg12.IsWhole) (arg13 : Memref sig .tc .vmem S128x128 .fp8e4m3) (harg13 : arg13.IsWhole) (arg14 : Memref sig .tc .vmem S128x128 .f32) (harg14 : arg14.IsWhole) (arg15 : Memref sig .tc .vmem S128x96 .fp8e4m3) (harg15 : arg15.IsWhole) (arg16 : Memref sig .tc .vmem S128x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S1x16x128x128 .bf16) (harg19 : arg19.IsWhole) (arg20 : Memref sig .tc .vmem S1x16x128 .f32) (harg20 : arg20.IsWhole) (arg21 : Memref sig .tc .vmem S1x16x96x128 .fp8e4m3) (harg21 : arg21.IsWhole) (arg22 : Memref sig .tc .vmem S1x16x128 .f32) (harg22 : arg22.IsWhole) (arg23 : Memref sig .tc .vmem S96x128x640 .fp8e4m3) (harg23 : arg23.IsWhole) (arg24 : Memref sig .tc .vmem S5x96x640x128 .fp8e4m3) (harg24 : arg24.IsWhole) (arg25 : Memref sig .tc .vmem S24576x128 .f32) (harg25 : arg25.IsWhole) (arg26 : Memref sig .tc .vmem S256x128 .f32) (harg26 : arg26.IsWhole) (arg27 : Memref sig .tc .vmem S768x128 .f32) (harg27 : arg27.IsWhole) (arg28 : DmaSems sig S2) :
    Gen.cc0_tri_skel (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28
      = (k0_part10 i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28) >>= fun _ => rest i arg9 arg10 arg11 arg12 arg13 arg14 arg15 arg16 arg17 arg18 arg19 harg19 arg20 arg21 harg21 arg22 arg25 arg26 arg27 := by
  unfold Gen.cc0_tri_skel k0_part231
  rw [Prog.bind_assoc]
  refine congrArg _ (funext fun r => ?_)
  chain_rfl

/-- A trip of the two-tile product is its four channels one after the other. -/
theorem t1_eq (i : grid0.Coords) (arg4 : Memref sig .tc .hbm S2x5x96x128x640 .fp8e4m3) (harg4 : arg4.IsWhole) (arg5 : Memref sig .tc .hbm S2x5x96x640x128 .fp8e4m3) (harg5 : arg5.IsWhole) (arg6 : Memref sig .tc .vmem S1x96x128 .f32) (harg6 : arg6.IsWhole) (arg7 : Memref sig .tc .vmem S1x96x128 .f32) (harg7 : arg7.IsWhole) (arg8 : Memref sig .tc .vmem S1x96x128 .f32) (harg8 : arg8.IsWhole) (arg9 : Memref sig .tc .vmem S1x16x128x128 .bf16) (harg9 : arg9.IsWhole) (arg10 : Memref sig .tc .vmem S1x16x128x128 .fp8e4m3) (harg10 : arg10.IsWhole) (arg11 : Memref sig .tc .vmem S1x16x128 .f32) (harg11 : arg11.IsWhole) (arg12 : Memref sig .tc .vmem S128x128 .bf16) (harg12 : arg12.IsWhole) (arg13 : Memref sig .tc .vmem S128x128 .fp8e4m3) (harg13 : arg13.IsWhole) (arg14 : Memref sig .tc .vmem S128x128 .f32) (harg14 : arg14.IsWhole) (arg15 : Memref sig .tc .vmem S128x96 .fp8e4m3) (harg15 : arg15.IsWhole) (arg16 : Memref sig .tc .vmem S128x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S1x16x128x128 .bf16) (harg19 : arg19.IsWhole) (arg20 : Memref sig .tc .vmem S1x16x128 .f32) (harg20 : arg20.IsWhole) (arg21 : Memref sig .tc .vmem S1x16x96x128 .fp8e4m3) (harg21 : arg21.IsWhole) (arg22 : Memref sig .tc .vmem S1x16x128 .f32) (harg22 : arg22.IsWhole) (arg23 : Memref sig .tc .vmem S96x128x640 .fp8e4m3) (harg23 : arg23.IsWhole) (arg24 : Memref sig .tc .vmem S5x96x640x128 .fp8e4m3) (harg24 : arg24.IsWhole) (arg25 : Memref sig .tc .vmem S24576x128 .f32) (harg25 : arg25.IsWhole) (arg26 : Memref sig .tc .vmem S256x128 .f32) (harg26 : arg26.IsWhole) (arg27 : Memref sig .tc .vmem S768x128 .f32) (harg27 : arg27.IsWhole) (arg28 : DmaSems sig S2) (arg2 : BitVec 32) (k0_h3 : k0_cond3 i = 1#1) (t : Fin k0_t1_loop.trips) (u : PUnit) :
    Gen.k0_t1_body (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg2 k0_h3 t u
      = loopK (step2 i arg6 arg7 arg8 arg23 arg24 arg25 arg26 t k0_h3) 4 0 ⟨⟩ fun _ => .ret ⟨⟩ := by
  chain_rfl

/-- A trip of the one-tile product is its four channels one after the other. -/
theorem t2_eq (i : grid0.Coords) (arg4 : Memref sig .tc .hbm S2x5x96x128x640 .fp8e4m3) (harg4 : arg4.IsWhole) (arg5 : Memref sig .tc .hbm S2x5x96x640x128 .fp8e4m3) (harg5 : arg5.IsWhole) (arg6 : Memref sig .tc .vmem S1x96x128 .f32) (harg6 : arg6.IsWhole) (arg7 : Memref sig .tc .vmem S1x96x128 .f32) (harg7 : arg7.IsWhole) (arg8 : Memref sig .tc .vmem S1x96x128 .f32) (harg8 : arg8.IsWhole) (arg9 : Memref sig .tc .vmem S1x16x128x128 .bf16) (harg9 : arg9.IsWhole) (arg10 : Memref sig .tc .vmem S1x16x128x128 .fp8e4m3) (harg10 : arg10.IsWhole) (arg11 : Memref sig .tc .vmem S1x16x128 .f32) (harg11 : arg11.IsWhole) (arg12 : Memref sig .tc .vmem S128x128 .bf16) (harg12 : arg12.IsWhole) (arg13 : Memref sig .tc .vmem S128x128 .fp8e4m3) (harg13 : arg13.IsWhole) (arg14 : Memref sig .tc .vmem S128x128 .f32) (harg14 : arg14.IsWhole) (arg15 : Memref sig .tc .vmem S128x96 .fp8e4m3) (harg15 : arg15.IsWhole) (arg16 : Memref sig .tc .vmem S128x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S1x16x128x128 .bf16) (harg19 : arg19.IsWhole) (arg20 : Memref sig .tc .vmem S1x16x128 .f32) (harg20 : arg20.IsWhole) (arg21 : Memref sig .tc .vmem S1x16x96x128 .fp8e4m3) (harg21 : arg21.IsWhole) (arg22 : Memref sig .tc .vmem S1x16x128 .f32) (harg22 : arg22.IsWhole) (arg23 : Memref sig .tc .vmem S96x128x640 .fp8e4m3) (harg23 : arg23.IsWhole) (arg24 : Memref sig .tc .vmem S5x96x640x128 .fp8e4m3) (harg24 : arg24.IsWhole) (arg25 : Memref sig .tc .vmem S24576x128 .f32) (harg25 : arg25.IsWhole) (arg26 : Memref sig .tc .vmem S256x128 .f32) (harg26 : arg26.IsWhole) (arg27 : Memref sig .tc .vmem S768x128 .f32) (harg27 : arg27.IsWhole) (arg28 : DmaSems sig S2) (arg2 : BitVec 32) (k0_h4 : k0_cond4 i = 1#1) (t : Fin k0_t2_loop.trips) (u : PUnit) :
    Gen.k0_t2_body (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg2 k0_h4 t u
      = loopK (step1 i arg6 arg7 arg23 arg24 arg25 arg26 t k0_h4) 4 0 ⟨⟩ fun _ => .ret ⟨⟩ := by
  chain_rfl

end Cert.KernelIdeal.Tri
-- ==== Proof.Ideal.Part.lean ====
/- The first part of the body, the copies and the products, one statement after the other. -/
module

public import proofs.«01_k».proof.Proof.Ideal.LoopEq

@[expose] public section

set_option synthInstance.maxSize 4096
set_option maxRecDepth 65536

noncomputable section

namespace Cert.KernelIdeal.Tri

open Idealize.ShloMosaic Idealize.SL.Sem Cert.KernelIdeal Cert.KernelIdeal.Facts₀ Cert.KernelIdeal.Facts

variable {F : FTy → Type} [FloatOps F] [Named F]

section

variable (i : grid0.Coords)

/-- The tile of the second operand that is copied in. -/
@[reducible] def srcB (arg5 : Memref sig .tc .hbm S2x5x96x640x128 .fp8e4m3) (h : k0_cond1 i = 1#1) : Memref sig .tc .hbm S5x96x640x128 .fp8e4m3 :=
  (arg5.slice (Rect.unit (s := S2x5x96x640x128) (k0_off1 i) S1x5x96x640x128.size (k0_off1_inb i h)) (fun _ => rfl)).squeeze S5x96x640x128 squeezes_S1x5x96x640x128_S5x96x640x128

/-- The tile of the first operand that is copied in. -/
@[reducible] def srcA (arg4 : Memref sig .tc .hbm S2x5x96x128x640 .fp8e4m3) (h : k0_cond2 i = 1#1) : Memref sig .tc .hbm S96x128x640 .fp8e4m3 :=
  (arg4.slice (Rect.unit (s := S2x5x96x128x640) (k0_off2 i) S1x1x96x128x640.size (k0_off2_inb i h)) (fun _ => rfl)).squeeze S96x128x640 squeezes_S1x1x96x128x640_S96x128x640

/-- The semaphore of the first copy. -/
@[reducible] def sem0 (arg28 : DmaSems sig S2) : DmaSem sig := ((arg28.slice (Rect.unit (s := S2) ![0] S1.size inb_S2_S1_0)).squeeze S_ squeezes_S1_S_).sem
/-- The semaphore of the second copy. -/
@[reducible] def sem1 (arg28 : DmaSems sig S2) : DmaSem sig := ((arg28.slice (Rect.unit (s := S2) ![1] S1.size inb_S2_S1_1)).squeeze S_ squeezes_S1_S_).sem

/-- The copy of the second operand's tile, at the first step of a batch element. -/
def copyB (arg5 : Memref sig .tc .hbm S2x5x96x640x128 .fp8e4m3) (harg5 : arg5.IsWhole) (arg24 : Memref sig .tc .vmem S5x96x640x128 .fp8e4m3) (harg24 : arg24.IsWhole)
    (arg28 : DmaSems sig S2) {α : Type} (k : Prog (Eff F) α) : Prog (Eff F) α :=
  if h : k0_cond1 i = 1#1 then
    .op (.enqueueDma (srcB i arg5 h) (.here arg24) (.dma (sem0 arg28)) ((harg5.wordExact_slice rfl _ (k0_off1_wordsfp8e4m3 i h)).reshape _ _) harg24.wordExact ⟨Or.inl rfl, trivial⟩) fun _ =>
    .op (.waitDma2 (sem0 arg28) (srcB i arg5 h) arg24 ((harg5.wordExact_slice rfl _ (k0_off1_wordsfp8e4m3 i h)).reshape _ _) harg24.wordExact) fun _ => k
  else k

/-- The copy of the first operand's tile, at the first step of a row of tiles. -/
def copyA (arg4 : Memref sig .tc .hbm S2x5x96x128x640 .fp8e4m3) (harg4 : arg4.IsWhole) (arg23 : Memref sig .tc .vmem S96x128x640 .fp8e4m3) (harg23 : arg23.IsWhole)
    (arg28 : DmaSems sig S2) {α : Type} (k : Prog (Eff F) α) : Prog (Eff F) α :=
  if h : k0_cond2 i = 1#1 then
    .op (.enqueueDma (srcA i arg4 h) (.here arg23) (.dma (sem1 arg28)) ((harg4.wordExact_slice rfl _ (k0_off2_wordsfp8e4m3 i h)).reshape _ _) harg23.wordExact ⟨Or.inl rfl, trivial⟩) fun _ =>
    .op (.waitDma2 (sem1 arg28) (srcA i arg4 h) arg23 ((harg4.wordExact_slice rfl _ (k0_off2_wordsfp8e4m3 i h)).reshape _ _) harg23.wordExact) fun _ => k
  else k

/-- The products of two tiles. -/
def prod2 (arg6 arg7 arg8 : Memref sig .tc .vmem S1x96x128 .f32) (arg23 : Memref sig .tc .vmem S96x128x640 .fp8e4m3)
    (arg24 : Memref sig .tc .vmem S5x96x640x128 .fp8e4m3) (arg25 : Memref sig .tc .vmem S24576x128 .f32)
    (arg26 : Memref sig .tc .vmem S256x128 .f32) {α : Type} (k : Prog (Eff F) α) : Prog (Eff F) α :=
  if h : k0_cond3 i = 1#1 then
    .op (.load arg26 (Rect.unit (s := S256x128) ![0, 0] S256x128.size inb_S256x128_S256x128_0_0).toLoadRect (View.loadsAt_vmem h_S256x128)) fun _ : Vec F S256x128 .f32 =>
    .op (.store arg26 (Rect.unit (s := S256x128) ![0, 0] S256x128.size inb_S256x128_S256x128_0_0) (Gen.k0_pay45 (F := F)) Finset.univ
      (View.stores_vmem_bits_univ h_S256x128 rfl) (.inl rfl)) fun _ =>
    Scf.Loop.for k0_t1_loop (k0_t1_ok i h) PUnit.unit (fun t _ => loopK (step2 i arg6 arg7 arg8 arg23 arg24 arg25 arg26 t h) 4 0 ⟨⟩ fun _ => .ret ⟨⟩) >>= fun _ => k
  else k

/-- The products of the last tile alone. -/
def prod1 (arg6 arg7 : Memref sig .tc .vmem S1x96x128 .f32) (arg23 : Memref sig .tc .vmem S96x128x640 .fp8e4m3)
    (arg24 : Memref sig .tc .vmem S5x96x640x128 .fp8e4m3) (arg25 : Memref sig .tc .vmem S24576x128 .f32)
    (arg26 : Memref sig .tc .vmem S256x128 .f32) {α : Type} (k : Prog (Eff F) α) : Prog (Eff F) α :=
  if h : k0_cond4 i = 1#1 then
    .op (.load arg26 (Rect.unit (s := S256x128) ![0, 0] S256x128.size inb_S256x128_S256x128_0_0).toLoadRect (View.loadsAt_vmem h_S256x128)) fun _ : Vec F S256x128 .f32 =>
    .op (.store arg26 (Rect.unit (s := S256x128) ![0, 0] S256x128.size inb_S256x128_S256x128_0_0) (Gen.k0_pay48 (F := F)) Finset.univ
      (View.stores_vmem_bits_univ h_S256x128 rfl) (.inl rfl)) fun _ =>
    Scf.Loop.for k0_t2_loop (k0_t2_ok i h) PUnit.unit (fun t _ => loopK (step1 i arg6 arg7 arg23 arg24 arg25 arg26 t h) 4 0 ⟨⟩ fun _ => .ret ⟨⟩) >>= fun _ => k
  else k

end

/-- The first part is the two copies and the products, each under its condition. -/
theorem part10_eq (i : grid0.Coords) (arg4 : Memref sig .tc .hbm S2x5x96x128x640 .fp8e4m3) (harg4 : arg4.IsWhole) (arg5 : Memref sig .tc .hbm S2x5x96x640x128 .fp8e4m3) (harg5 : arg5.IsWhole) (arg6 : Memref sig .tc .vmem S1x96x128 .f32) (harg6 : arg6.IsWhole) (arg7 : Memref sig .tc .vmem S1x96x128 .f32) (harg7 : arg7.IsWhole) (arg8 : Memref sig .tc .vmem S1x96x128 .f32) (harg8 : arg8.IsWhole) (arg9 : Memref sig .tc .vmem S1x16x128x128 .bf16) (harg9 : arg9.IsWhole) (arg10 : Memref sig .tc .vmem S1x16x128x128 .fp8e4m3) (harg10 : arg10.IsWhole) (arg11 : Memref sig .tc .vmem S1x16x128 .f32) (harg11 : arg11.IsWhole) (arg12 : Memref sig .tc .vmem S128x128 .bf16) (harg12 : arg12.IsWhole) (arg13 : Memref sig .tc .vmem S128x128 .fp8e4m3) (harg13 : arg13.IsWhole) (arg14 : Memref sig .tc .vmem S128x128 .f32) (harg14 : arg14.IsWhole) (arg15 : Memref sig .tc .vmem S128x96 .fp8e4m3) (harg15 : arg15.IsWhole) (arg16 : Memref sig .tc .vmem S128x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S1x16x128x128 .bf16) (harg19 : arg19.IsWhole) (arg20 : Memref sig .tc .vmem S1x16x128 .f32) (harg20 : arg20.IsWhole) (arg21 : Memref sig .tc .vmem S1x16x96x128 .fp8e4m3) (harg21 : arg21.IsWhole) (arg22 : Memref sig .tc .vmem S1x16x128 .f32) (harg22 : arg22.IsWhole) (arg23 : Memref sig .tc .vmem S96x128x640 .fp8e4m3) (harg23 : arg23.IsWhole) (arg24 : Memref sig .tc .vmem S5x96x640x128 .fp8e4m3) (harg24 : arg24.IsWhole) (arg25 : Memref sig .tc .vmem S24576x128 .f32) (harg25 : arg25.IsWhole) (arg26 : Memref sig .tc .vmem S256x128 .f32) (harg26 : arg26.IsWhole) (arg27 : Memref sig .tc .vmem S768x128 .f32) (harg27 : arg27.IsWhole) (arg28 : DmaSems sig S2) :
    ∃ r, k0_part10 (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28
      = (copyB (F := F) i arg5 harg5 arg24 harg24 arg28 <| copyA i arg4 harg4 arg23 harg23 arg28 <|
        prod2 i arg6 arg7 arg8 arg23 arg24 arg25 arg26 <| prod1 i arg6 arg7 arg23 arg24 arg25 arg26 <| .ret r) := by
  refine ⟨⟨BitVec.ofNat 32 (i 3).val, Scalar.remsi (BitVec.ofNat 32 (i 2).val) 2#32, Scalar.addi (Scalar.muli (BitVec.ofNat 32 (i 3).val) 16#32) 0#32⟩, ?_⟩
  chain_rfl

end Cert.KernelIdeal.Tri
-- ==== Proof.Ideal.Body.lean ====
/- The body's run: the copies, the products, the normalisation and the output, by an invariant of each. -/
module

public import proofs.«01_k».proof.Proof.Ideal.Steps
public import proofs.«01_k».proof.Proof.Ideal.Part

@[expose] public section

noncomputable section

namespace Cert.KernelIdeal.Tri

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {F : FTy → Type} [FloatOps F] [Named F]

local notation "𝕄" => MT nD τ sig Unit (Elt F) ℕ (Pipeline.UD sig nD τ) ℕ

variable {defs : Defs nD τ sig (Elt F) Λ₀} {𝒱 : Variants} {c : Dev nD} {bd : Option 𝒱.V} {M : Mems}

/-- A copy issued and waited for at once: the destination holds what the source reads, the source, the semaphore and the
    record of waits are held as before. -/
theorem copy_wp {s : Shape} {e : EltTy} {src : Memref sig .tc .hbm s e} {dst : Memref sig .tc .vmem s e} {sm : DmaSem sig}
    {hs : src.view.WordExact} {hd : dst.view.WordExact} {ht : DmaTarget.Typed (nD := nD) (τ := τ) (p := .tc) .hbm (.dma sm) (.here dst)}
    (hN : 0 < dst.view.dmaCredit) {S : Finset (Idx (src.view.loc (c : Thread nD τ)))} (hS : src.view.set ⊆ S)
    {fs : Buf (Elt F) (src.view.loc (c : Thread nD τ))} {X : s.Idx → Elt F e}
    {k : PUnit → Prog (Eff F) PUnit} {Q : PUnit → sProp 𝕄} :
    iprop((src.view.loc (c : Thread nD τ) ↦[S]{fullShare} fs) ∗ owns (c : Thread nD τ) dst fullShare X
        ∗ semVal ((c : Thread nD τ), SemLoc.dma sm) 0 ∗ (∃ W, owes (c : Thread nD τ) 0 W))
      ⊢ (iprop((iprop((src.view.loc (c : Thread nD τ) ↦[S]{fullShare} fs) ∗ owns (c : Thread nD τ) dst fullShare (src.view.read (Elt F) fs)
          ∗ semVal ((c : Thread nD τ), SemLoc.dma sm) 0 ∗ (∃ W, owes (c : Thread nD τ) 0 W))
          -∗ wp frame (wpE defs 𝒱 (c : Thread nD τ) bd) Set.univ (k ⟨⟩) Q)
        -∗ wp frame (wpE defs 𝒱 (c : Thread nD τ) bd) Set.univ
          (.op (.enqueueDma src (.here dst) (.dma sm) hs hd ht) fun _ => .op (.waitDma2 sm src dst hs hd) k) Q) : sProp 𝕄) := by
  unfold owns
  iintro ⟨Hs, ⟨%f, %hf, Hd⟩, Hv, ⟨%W, HW⟩⟩ Hk
  icases (pointsTo_split_subset hS).1 $$ Hs with ⟨Hs, Hr⟩
  iapply (Transfers.wp_dmaLocal (Lvl := ℕ) (countersEmb (U := Pipeline.UD sig nD τ)) 𝒱 (c : Thread nD τ) bd (q := fullShare) (fs := fs) (dst := dst) (Sd := dst.view.set) (fd := f)
    () dst.view.dmaCredit rfl hN subset_rfl) $$ [Hs Hd Hv]
  · isplitl [Hs]; · iexact Hs
    isplitl [Hd]; · iexact Hd
    iexact Hv
  iintro HF
  iapply (Transfers.wp_waitLocal (Lvl := ℕ) (countersEmb (U := Pipeline.UD sig nD τ)) 𝒱 (c : Thread nD τ) bd () rfl) $$ [HF HW]
  · isplitl [HF]; · iexact HF
    iexact HW
  iintro ⟨⟨Hd, Hs⟩, Hv, HW⟩
  iapply Hk
  isplitl [Hs Hr]
  · iapply (pointsTo_split_subset hS).2
    isplitl [Hs]; · iexact Hs
    iexact Hr
  isplitl [Hd]
  · iexists _
    isplitr
    swap
    · iexact Hd
    · ipureintro
      rw [View.read_write_univ]
  isplitl [Hv]; · iexact Hv
  iexists _
  iexact HW

/-- What the body holds beside its buffers: the two arrays it copies from, its two semaphores at zero, its record of waits. -/
def Held (c : Dev nD) (arg4 : Memref sig .tc .hbm S2x5x96x128x640 .fp8e4m3) (arg5 : Memref sig .tc .hbm S2x5x96x640x128 .fp8e4m3) (arg28 : DmaSems sig S2)
    (f4 : Buf (Elt F) (arg4.view.loc (c : Thread nD τ))) (f5 : Buf (Elt F) (arg5.view.loc (c : Thread nD τ))) : sProp 𝕄 :=
  iprop((arg4.view.loc (c : Thread nD τ) ↦[Finset.univ]{fullShare} f4) ∗ (arg5.view.loc (c : Thread nD τ) ↦[Finset.univ]{fullShare} f5)
    ∗ semVal ((c : Thread nD τ), SemLoc.dma (sem0 arg28)) 0 ∗ semVal ((c : Thread nD τ), SemLoc.dma (sem1 arg28)) 0 ∗ (∃ W, owes (c : Thread nD τ) 0 W))

section

variable (i : grid0.Coords) {arg4 : Memref sig .tc .hbm S2x5x96x128x640 .fp8e4m3} {arg5 : Memref sig .tc .hbm S2x5x96x640x128 .fp8e4m3} {arg28 : DmaSems sig S2}
  {f4 : Buf (Elt F) (arg4.view.loc (c : Thread nD τ))} {f5 : Buf (Elt F) (arg5.view.loc (c : Thread nD τ))}

/-- What the copy of the second operand's tile puts in its buffer. -/
def tileB (i : grid0.Coords) (arg5 : Memref sig .tc .hbm S2x5x96x640x128 .fp8e4m3) (f5 : Buf (Elt F) (arg5.view.loc (c : Thread nD τ))) (h : k0_cond1 i = 1#1) :
    Vec F S5x96x640x128 .fp8e4m3 := (srcB i arg5 h).view.read (Elt F) f5

/-- What the copy of the first operand's tile puts in its buffer. -/
def tileA (i : grid0.Coords) (arg4 : Memref sig .tc .hbm S2x5x96x128x640 .fp8e4m3) (f4 : Buf (Elt F) (arg4.view.loc (c : Thread nD τ))) (h : k0_cond2 i = 1#1) :
    Vec F S96x128x640 .fp8e4m3 := (srcA i arg4 h).view.read (Elt F) f4

theorem copyB_ok {harg5 : arg5.IsWhole} {h24 : (M .b).IsWhole} {σ : St F} {k : Prog (Eff F) PUnit} {G : sProp 𝕄} {Q : PUnit → sProp 𝕄}
    (h : ∀ h1, iprop(Own c M (σ.set .b (tileB i arg5 f5 h1)) ∗ Held c arg4 arg5 arg28 f4 f5 ∗ G) ⊢ wp frame (wpE defs 𝒱 (c : Thread nD τ) bd) Set.univ k Q)
    (h' : k0_cond1 i ≠ 1#1 → iprop(Own c M σ ∗ Held c arg4 arg5 arg28 f4 f5 ∗ G) ⊢ wp frame (wpE defs 𝒱 (c : Thread nD τ) bd) Set.univ k Q) :
    iprop(Own c M σ ∗ Held c arg4 arg5 arg28 f4 f5 ∗ G)
      ⊢ wp frame (wpE defs 𝒱 (c : Thread nD τ) bd) Set.univ (copyB i arg5 harg5 (M .b) h24 arg28 k) Q := by
  unfold copyB
  by_cases h1 : k0_cond1 i = 1#1
  · rw [dif_pos h1]
    have hk := h h1
    unfold Held at hk ⊢
    iintro ⟨HO, ⟨H4, H5, Hv0, Hv1, HW⟩, HG⟩
    icases (Own_take c M σ .b) $$ HO with ⟨Hb, HO⟩
    iapply (copy_wp (src := srcB i arg5 h1) (dst := M .b) (S := Finset.univ) (fs := f5) (View.dmaCredit_pos _ (by decide)) (Finset.subset_univ _)) $$ [H5 Hb Hv0 HW]
    · isplitl [H5]; · iexact H5
      isplitl [Hb]; · iexact Hb
      isplitl [Hv0]; · iexact Hv0
      iexact HW
    iintro ⟨H5, Hb, Hv0, HW⟩
    ispecialize HO $$ %_ Hb
    iapply hk
    isplitl [HO]; · iexact HO
    isplitr [HG]
    · isplitl [H4]; · iexact H4
      isplitl [H5]; · iexact H5
      isplitl [Hv0]; · iexact Hv0
      isplitl [Hv1]; · iexact Hv1
      iexact HW
    · iexact HG
  · rw [dif_neg h1]; exact h' h1

theorem copyA_ok {harg4 : arg4.IsWhole} {h23 : (M .a).IsWhole} {σ : St F} {k : Prog (Eff F) PUnit} {G : sProp 𝕄} {Q : PUnit → sProp 𝕄}
    (h : ∀ h1, iprop(Own c M (σ.set .a (tileA i arg4 f4 h1)) ∗ Held c arg4 arg5 arg28 f4 f5 ∗ G) ⊢ wp frame (wpE defs 𝒱 (c : Thread nD τ) bd) Set.univ k Q)
    (h' : k0_cond2 i ≠ 1#1 → iprop(Own c M σ ∗ Held c arg4 arg5 arg28 f4 f5 ∗ G) ⊢ wp frame (wpE defs 𝒱 (c : Thread nD τ) bd) Set.univ k Q) :
    iprop(Own c M σ ∗ Held c arg4 arg5 arg28 f4 f5 ∗ G)
      ⊢ wp frame (wpE defs 𝒱 (c : Thread nD τ) bd) Set.univ (copyA i arg4 harg4 (M .a) h23 arg28 k) Q := by
  unfold copyA
  by_cases h1 : k0_cond2 i = 1#1
  · rw [dif_pos h1]
    have hk := h h1
    unfold Held at hk ⊢
    iintro ⟨HO, ⟨H4, H5, Hv0, Hv1, HW⟩, HG⟩
    icases (Own_take c M σ .a) $$ HO with ⟨Hb, HO⟩
    iapply (copy_wp (src := srcA i arg4 h1) (dst := M .a) (S := Finset.univ) (fs := f4) (View.dmaCredit_pos _ (by decide)) (Finset.subset_univ _)) $$ [H4 Hb Hv1 HW]
    · isplitl [H4]; · iexact H4
      isplitl [Hb]; · iexact Hb
      isplitl [Hv1]; · iexact Hv1
      iexact HW
    iintro ⟨H4, Hb, Hv1, HW⟩
    ispecialize HO $$ %_ Hb
    iapply hk
    isplitl [HO]; · iexact HO
    isplitr [HG]
    · isplitl [H4]; · iexact H4
      isplitl [H5]; · iexact H5
      isplitl [Hv0]; · iexact Hv0
      isplitl [Hv1]; · iexact Hv1
      iexact HW
    · iexact HG
  · rw [dif_neg h1]; exact h' h1

theorem prod2_ok {k : Prog (Eff F) PUnit} {G : sProp 𝕄} {Q : PUnit → sProp 𝕄} (I : ℕ → St F → Prop) (σ : St F)
    (h0 : k0_cond3 i = 1#1 → I 0 (σ.wr .sum ![0, 0] S256x128.size (Gen.k0_pay45 (F := F))))
    (hI : ∀ (h : k0_cond3 i = 1#1) (t : Fin k0_t1_loop.trips) σ', I t.val σ' →
      Runs defs 𝒱 c bd M (loopK (step2 i (M .fa) (M .fb0) (M .fb1) (M .a) (M .b) (M .x) (M .sum) t h) 4 0 ⟨⟩) σ' fun σ'' _ => I (t.val + 1) σ'')
    (h : k0_cond3 i = 1#1 → ∀ σ', I k0_t1_loop.trips σ' → iprop(Own c M σ' ∗ G) ⊢ wp frame (wpE defs 𝒱 (c : Thread nD τ) bd) Set.univ k Q)
    (h' : k0_cond3 i ≠ 1#1 → iprop(Own c M σ ∗ G) ⊢ wp frame (wpE defs 𝒱 (c : Thread nD τ) bd) Set.univ k Q) :
    iprop(Own c M σ ∗ G) ⊢ wp frame (wpE defs 𝒱 (c : Thread nD τ) bd) Set.univ
      (prod2 i (M .fa) (M .fb0) (M .fb1) (M .a) (M .b) (M .x) (M .sum) k) Q := by
  unfold prod2
  by_cases h3 : k0_cond3 i = 1#1
  · rw [dif_pos h3]
    refine ld .sum (st .sum ?_)
    iintro H
    iapply (Scf.wp_for_bind frame (wpE defs 𝒱 (c : Thread nD τ) bd) Set.univ _ _ _ (k0_t1_ok i h3) PUnit.unit _
      (fun n _ => iprop(∃ σ', ⌜I n σ'⌝ ∗ Own c M σ' ∗ G)) ?_) $$ [H]
    · intro t u
      iintro ⟨%σ', %hσ, H⟩
      iapply (hI h3 t σ' hσ (fun _ => .ret ⟨⟩) G _ ?_) $$ H
      intro σ'' _ hσ'
      rw [wp_ret]
      iintro H
      imodintro
      iexists σ''
      isplitr
      · ipureintro; exact hσ'
      · iexact H
    · iexists _
      isplitr
      · ipureintro; exact h0 h3
      · iexact H
    iintro %_ ⟨%σ', %hσ, H⟩
    iapply (h h3 σ' hσ)
    iexact H
  · rw [dif_neg h3]; exact h' h3

theorem prod1_ok {k : Prog (Eff F) PUnit} {G : sProp 𝕄} {Q : PUnit → sProp 𝕄} (I : ℕ → St F → Prop) (σ : St F)
    (h0 : k0_cond4 i = 1#1 → I 0 (σ.wr .sum ![0, 0] S256x128.size (Gen.k0_pay48 (F := F))))
    (hI : ∀ (h : k0_cond4 i = 1#1) (t : Fin k0_t2_loop.trips) σ', I t.val σ' →
      Runs defs 𝒱 c bd M (loopK (step1 i (M .fa) (M .fb0) (M .a) (M .b) (M .x) (M .sum) t h) 4 0 ⟨⟩) σ' fun σ'' _ => I (t.val + 1) σ'')
    (h : k0_cond4 i = 1#1 → ∀ σ', I k0_t2_loop.trips σ' → iprop(Own c M σ' ∗ G) ⊢ wp frame (wpE defs 𝒱 (c : Thread nD τ) bd) Set.univ k Q)
    (h' : k0_cond4 i ≠ 1#1 → iprop(Own c M σ ∗ G) ⊢ wp frame (wpE defs 𝒱 (c : Thread nD τ) bd) Set.univ k Q) :
    iprop(Own c M σ ∗ G) ⊢ wp frame (wpE defs 𝒱 (c : Thread nD τ) bd) Set.univ
      (prod1 i (M .fa) (M .fb0) (M .a) (M .b) (M .x) (M .sum) k) Q := by
  unfold prod1
  by_cases h4 : k0_cond4 i = 1#1
  · rw [dif_pos h4]
    refine ld .sum (st .sum ?_)
    iintro H
    iapply (Scf.wp_for_bind frame (wpE defs 𝒱 (c : Thread nD τ) bd) Set.univ _ _ _ (k0_t2_ok i h4) PUnit.unit _
      (fun n _ => iprop(∃ σ', ⌜I n σ'⌝ ∗ Own c M σ' ∗ G)) ?_) $$ [H]
    · intro t u
      iintro ⟨%σ', %hσ, H⟩
      iapply (hI h4 t σ' hσ (fun _ => .ret ⟨⟩) G _ ?_) $$ H
      intro σ'' _ hσ'
      rw [wp_ret]
      iintro H
      imodintro
      iexists σ''
      isplitr
      · ipureintro; exact hσ'
      · iexact H
    · iexists _
      isplitr
      · ipureintro; exact h0 h4
      · iexact H
    iintro %_ ⟨%σ', %hσ, H⟩
    iapply (h h4 σ' hσ)
    iexact H
  · rw [dif_neg h4]; exact h' h4

theorem copyB_bind {α β : Type} (harg5 : arg5.IsWhole) (arg24 : Memref sig .tc .vmem S5x96x640x128 .fp8e4m3) (h24 : arg24.IsWhole) (k : Prog (Eff F) α) (f : α → Prog (Eff F) β) :
    copyB i arg5 harg5 arg24 h24 arg28 k >>= f = copyB i arg5 harg5 arg24 h24 arg28 (k >>= f) := by
  unfold copyB; split <;> rfl
theorem copyA_bind {α β : Type} (harg4 : arg4.IsWhole) (arg23 : Memref sig .tc .vmem S96x128x640 .fp8e4m3) (h23 : arg23.IsWhole) (k : Prog (Eff F) α) (f : α → Prog (Eff F) β) :
    copyA i arg4 harg4 arg23 h23 arg28 k >>= f = copyA i arg4 harg4 arg23 h23 arg28 (k >>= f) := by
  unfold copyA; split <;> rfl
theorem prod2_bind {α β : Type} (a6 a7 a8) (a23) (a24) (a25) (a26) (k : Prog (Eff F) α) (f : α → Prog (Eff F) β) :
    prod2 i a6 a7 a8 a23 a24 a25 a26 k >>= f = prod2 i a6 a7 a8 a23 a24 a25 a26 (k >>= f) := by
  unfold prod2; split
  · exact congrArg (Prog.op _) (funext fun _ => congrArg (Prog.op _) (funext fun _ => Prog.bind_assoc ..))
  · rfl
theorem prod1_bind {α β : Type} (a6 a7) (a23) (a24) (a25) (a26) (k : Prog (Eff F) α) (f : α → Prog (Eff F) β) :
    prod1 i a6 a7 a23 a24 a25 a26 k >>= f = prod1 i a6 a7 a23 a24 a25 a26 (k >>= f) := by
  unfold prod1; split
  · exact congrArg (Prog.op _) (funext fun _ => congrArg (Prog.op _) (funext fun _ => Prog.bind_assoc ..))
  · rfl

attribute [local irreducible] loopK group outPair in
/-- The printed body: the copies, the products, the two groups of rows and the eight pairs of output rows, by an invariant of each. -/
theorem body_ok {harg4 : arg4.IsWhole} {harg5 : arg5.IsWhole} (hM : ∀ n, (M n).IsWhole) (σ : St F)
    (P1 P2 P3 P4 : St F → Prop) (I2 I1 IG IO : ℕ → St F → Prop)
    (hB : ∀ h, P1 (σ.set .b (tileB i arg5 f5 h))) (hB' : k0_cond1 i ≠ 1#1 → P1 σ)
    (hA : ∀ σ h, P1 σ → P2 (σ.set .a (tileA i arg4 f4 h))) (hA' : ∀ σ, k0_cond2 i ≠ 1#1 → P1 σ → P2 σ)
    (h20 : ∀ σ, k0_cond3 i = 1#1 → P2 σ → I2 0 (σ.wr .sum ![0, 0] S256x128.size (Gen.k0_pay45 (F := F))))
    (h2 : ∀ (h : k0_cond3 i = 1#1) (t : Fin k0_t1_loop.trips) σ, I2 t.val σ →
      Runs defs 𝒱 c bd M (loopK (step2 i (M .fa) (M .fb0) (M .fb1) (M .a) (M .b) (M .x) (M .sum) t h) 4 0 ⟨⟩) σ fun σ' _ => I2 (t.val + 1) σ')
    (h2e : ∀ σ, k0_cond3 i = 1#1 → I2 k0_t1_loop.trips σ → P3 σ) (h2' : ∀ σ, k0_cond3 i ≠ 1#1 → P2 σ → P3 σ)
    (h10 : ∀ σ, k0_cond4 i = 1#1 → P3 σ → I1 0 (σ.wr .sum ![0, 0] S256x128.size (Gen.k0_pay48 (F := F))))
    (h1 : ∀ (h : k0_cond4 i = 1#1) (t : Fin k0_t2_loop.trips) σ, I1 t.val σ →
      Runs defs 𝒱 c bd M (loopK (step1 i (M .fa) (M .fb0) (M .a) (M .b) (M .x) (M .sum) t h) 4 0 ⟨⟩) σ fun σ' _ => I1 (t.val + 1) σ')
    (h1e : ∀ σ, k0_cond4 i = 1#1 → I1 k0_t2_loop.trips σ → P4 σ) (h1' : ∀ σ, k0_cond4 i ≠ 1#1 → P3 σ → P4 σ)
    (hG0 : ∀ σ, P4 σ → IG 0 σ)
    (hG : ∀ (g : Fin 2) σ, IG g.val σ →
      Runs defs 𝒱 c bd M (group i (M .ga) (M .be) (M .std) (M .q2) (hM .q2) (M .s2) (M .x) (M .sum) (M .stg) g ⟨⟩) σ fun σ' _ => IG (g.val + 1) σ')
    (hO0 : ∀ σ, IG 2 σ → IO 0 σ)
    (hO : ∀ (p : Fin 8) σ, IO p.val σ →
      Runs defs 𝒱 c bd M (outPair (M .z) (M .q1) (M .s1) (M .eye) (M .w5) (M .s5) (M .wo) (M .so) (M .zo) (hM .zo) (M .q2) (M .s2) p ⟨⟩) σ fun σ' _ => IO (p.val + 1) σ')
    (G : sProp 𝕄) :
    iprop(Own c M σ ∗ Held c arg4 arg5 arg28 f4 f5 ∗ G) ⊢ wp frame (wpE defs 𝒱 (c : Thread nD τ) bd) Set.univ
      (Gen.cc0_tri_skel (F := F) i arg4 harg4 arg5 harg5 (M .fa) (hM .fa) (M .fb0) (hM .fb0) (M .fb1) (hM .fb1) (M .z) (hM .z) (M .q1) (hM .q1) (M .s1) (hM .s1) (M .eye) (hM .eye) (M .w5) (hM .w5) (M .s5) (hM .s5) (M .wo) (hM .wo) (M .so) (hM .so) (M .ga) (hM .ga) (M .be) (hM .be) (M .zo) (hM .zo) (M .std) (hM .std) (M .q2) (hM .q2) (M .s2) (hM .s2) (M .a) (hM .a) (M .b) (hM .b) (M .x) (hM .x) (M .sum) (hM .sum) (M .stg) (hM .stg) arg28)
      fun _ => iprop(∃ σ', ⌜IO 8 σ'⌝ ∗ Own c M σ' ∗ Held c arg4 arg5 arg28 f4 f5 ∗ G) := by
  rw [tri_eq]
  obtain ⟨r, hr⟩ := part10_eq (F := F) i arg4 harg4 arg5 harg5 (M .fa) (hM .fa) (M .fb0) (hM .fb0) (M .fb1) (hM .fb1) (M .z) (hM .z) (M .q1) (hM .q1) (M .s1) (hM .s1) (M .eye) (hM .eye) (M .w5) (hM .w5) (M .s5) (hM .s5) (M .wo) (hM .wo) (M .so) (hM .so) (M .ga) (hM .ga) (M .be) (hM .be) (M .zo) (hM .zo) (M .std) (hM .std) (M .q2) (hM .q2) (M .s2) (hM .s2) (M .a) (hM .a) (M .b) (hM .b) (M .x) (hM .x) (M .sum) (hM .sum) (M .stg) (hM .stg) arg28
  rw [hr]
  have e : ∀ k : Prog (Eff F) PUnit, (copyB (F := F) i arg5 harg5 (M .b) (hM .b) arg28 <| copyA i arg4 harg4 (M .a) (hM .a) arg28 <|
        prod2 i (M .fa) (M .fb0) (M .fb1) (M .a) (M .b) (M .x) (M .sum) <| prod1 i (M .fa) (M .fb0) (M .a) (M .b) (M .x) (M .sum) <| .ret r) >>= (fun _ => k)
      = (copyB (F := F) i arg5 harg5 (M .b) (hM .b) arg28 <| copyA i arg4 harg4 (M .a) (hM .a) arg28 <|
        prod2 i (M .fa) (M .fb0) (M .fb1) (M .a) (M .b) (M .x) (M .sum) <| prod1 i (M .fa) (M .fb0) (M .a) (M .b) (M .x) (M .sum) <| k) := fun k => by
    rw [copyB_bind, copyA_bind, prod2_bind, prod1_bind]; rfl
  rw [e (rest i (M .z) (M .q1) (M .s1) (M .eye) (M .w5) (M .s5) (M .wo) (M .so) (M .ga) (M .be) (M .zo) (hM .zo) (M .std) (M .q2) (hM .q2) (M .s2) (M .x) (M .sum) (M .stg))]
  have hrest : ∀ σ, P4 σ → iprop(Own c M σ ∗ Held c arg4 arg5 arg28 f4 f5 ∗ G) ⊢ wp frame (wpE defs 𝒱 (c : Thread nD τ) bd) Set.univ
      (rest i (M .z) (M .q1) (M .s1) (M .eye) (M .w5) (M .s5) (M .wo) (M .so) (M .ga) (M .be) (M .zo) (hM .zo) (M .std) (M .q2) (hM .q2) (M .s2) (M .x) (M .sum) (M .stg))
      fun _ => iprop(∃ σ', ⌜IO 8 σ'⌝ ∗ Own c M σ' ∗ Held c arg4 arg5 arg28 f4 f5 ∗ G) := fun σ hσ => by
    unfold rest
    refine Runs.loop (step := group i (M .ga) (M .be) (M .std) (M .q2) (hM .q2) (M .s2) (M .x) (M .sum) (M .stg)) (fun n σ' _ => IG n σ') ?_ (hG0 σ hσ) _ iprop(Held c arg4 arg5 arg28 f4 f5 ∗ G) _ ?_
    · intro g σ' _ hI; exact hG g σ' hI
    intro σ₁ _ h₁
    refine Runs.loop (step := outPair (M .z) (M .q1) (M .s1) (M .eye) (M .w5) (M .s5) (M .wo) (M .so) (M .zo) (hM .zo) (M .q2) (M .s2)) (fun n σ' _ => IO n σ') ?_ (hO0 σ₁ h₁) _ iprop(Held c arg4 arg5 arg28 f4 f5 ∗ G) _ ?_
    · intro p σ' _ hI; exact hO p σ' hI
    intro σ₂ _ h₂
    rw [wp_ret]
    iintro H
    imodintro
    iexists σ₂
    isplitr
    · ipureintro; exact h₂
    · iexact H
  have h4 : ∀ σ, P3 σ → iprop(Own c M σ ∗ Held c arg4 arg5 arg28 f4 f5 ∗ G) ⊢ wp frame (wpE defs 𝒱 (c : Thread nD τ) bd) Set.univ
      (prod1 i (M .fa) (M .fb0) (M .a) (M .b) (M .x) (M .sum) (rest i (M .z) (M .q1) (M .s1) (M .eye) (M .w5) (M .s5) (M .wo) (M .so) (M .ga) (M .be) (M .zo) (hM .zo) (M .std) (M .q2) (hM .q2) (M .s2) (M .x) (M .sum) (M .stg)))
      fun _ => iprop(∃ σ', ⌜IO 8 σ'⌝ ∗ Own c M σ' ∗ Held c arg4 arg5 arg28 f4 f5 ∗ G) := fun σ hσ =>
    prod1_ok i I1 σ (fun h => h10 σ h hσ) h1 (fun h σ' hI => hrest σ' (h1e σ' h hI)) (fun h => hrest σ (h1' σ h hσ))
  have h3 : ∀ σ, P2 σ → iprop(Own c M σ ∗ Held c arg4 arg5 arg28 f4 f5 ∗ G) ⊢ wp frame (wpE defs 𝒱 (c : Thread nD τ) bd) Set.univ
      (prod2 i (M .fa) (M .fb0) (M .fb1) (M .a) (M .b) (M .x) (M .sum) (prod1 i (M .fa) (M .fb0) (M .a) (M .b) (M .x) (M .sum) (rest i (M .z) (M .q1) (M .s1) (M .eye) (M .w5) (M .s5) (M .wo) (M .so) (M .ga) (M .be) (M .zo) (hM .zo) (M .std) (M .q2) (hM .q2) (M .s2) (M .x) (M .sum) (M .stg))))
      fun _ => iprop(∃ σ', ⌜IO 8 σ'⌝ ∗ Own c M σ' ∗ Held c arg4 arg5 arg28 f4 f5 ∗ G) := fun σ hσ =>
    prod2_ok i I2 σ (fun h => h20 σ h hσ) h2 (fun h σ' hI => h4 σ' (h2e σ' h hI)) (fun h => h4 σ (h2' σ h hσ))
  exact copyB_ok i (fun h => copyA_ok i (fun h' => h3 _ (hA _ h' (hB h))) (fun h' => h3 _ (hA' _ h' (hB h))))
    (fun h => copyA_ok i (fun h' => h3 _ (hA _ h' (hB' h))) (fun h' => h3 _ (hA' _ h' (hB' h))))

end

end Cert.KernelIdeal.Tri
-- ==== Proof.Ideal.Keep.lean ====
/- The body keeps the blocks it reads: whatever it begins with, it ends with the input blocks as they were. -/
module

public import proofs.«01_k».proof.Proof.Ideal.Body

@[expose] public section

noncomputable section

namespace Cert.KernelIdeal.Tri

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

/-- The buffers the body only reads. -/
def Bf.reads : Bf → Bool
  | .zo | .std | .q2 | .s2 | .a | .b | .x | .sum | .stg => false
  | _ => true

variable {F : FTy → Type} [FloatOps F] [Named F]

/-- The read blocks are as they were. -/
def Kept (σ₀ σ : St F) : Prop := ∀ n, n.reads = true → σ n = σ₀ n

theorem Kept.refl (σ : St F) : Kept σ σ := fun _ _ => rfl

theorem Kept.set {σ₀ σ : St F} (h : Kept σ₀ σ) {n : Bf} (hn : n.reads = false) (v) : Kept σ₀ (σ.set n v) := fun m hm => by
  rw [St.set_ne σ (fun e => by rw [e, hn] at hm; cases hm), h m hm]

section

variable {defs : Defs nD τ sig (Elt F) Λ₀} {𝒱 : Variants} {c : Dev nD} {bd : Option 𝒱.V}
variable {M : Mems} (i : grid0.Coords)
variable {arg4 : Memref sig .tc .hbm S2x5x96x128x640 .fp8e4m3} {arg5 : Memref sig .tc .hbm S2x5x96x640x128 .fp8e4m3} {arg28 : DmaSems sig S2}
variable {f4 : Buf (Elt F) (View.loc (c : Thread nD τ) arg4.view)} {f5 : Buf (Elt F) (View.loc (c : Thread nD τ) arg5.view)}

local notation "𝕄" => MT nD τ sig Unit (Elt F) ℕ (Pipeline.UD sig nD τ) ℕ

/-- The body ends with the read blocks as it found them. -/
theorem body_keeps {harg4 : arg4.IsWhole} {harg5 : arg5.IsWhole} (hM : ∀ n, (M n).IsWhole) (σ : St F) (G : sProp 𝕄) :
    iprop(Own c M σ ∗ Held c arg4 arg5 arg28 f4 f5 ∗ G) ⊢ wp frame (wpE defs 𝒱 (c : Thread nD τ) bd) Set.univ
      (Gen.cc0_tri_skel (F := F) i arg4 harg4 arg5 harg5 (M .fa) (hM .fa) (M .fb0) (hM .fb0) (M .fb1) (hM .fb1) (M .z) (hM .z) (M .q1) (hM .q1) (M .s1) (hM .s1) (M .eye) (hM .eye) (M .w5) (hM .w5) (M .s5) (hM .s5) (M .wo) (hM .wo) (M .so) (hM .so) (M .ga) (hM .ga) (M .be) (hM .be) (M .zo) (hM .zo) (M .std) (hM .std) (M .q2) (hM .q2) (M .s2) (hM .s2) (M .a) (hM .a) (M .b) (hM .b) (M .x) (hM .x) (M .sum) (hM .sum) (M .stg) (hM .stg) arg28)
      fun _ => iprop(∃ σ', ⌜Kept σ σ'⌝ ∗ Own c M σ' ∗ Held c arg4 arg5 arg28 f4 f5 ∗ G) := by
  refine body_ok i hM σ (Kept σ) (Kept σ) (Kept σ) (Kept σ) (fun _ => Kept σ) (fun _ => Kept σ) (fun _ => Kept σ) (fun _ => Kept σ)
    (fun _ => (Kept.refl σ).set rfl _) (fun _ => Kept.refl σ) (fun σ' _ h => h.set rfl _) (fun _ _ h => h)
    (fun σ' _ h => h.set rfl _) (fun h3 t σ' h => ?_) (fun _ _ h => h) (fun _ _ h => h)
    (fun σ' _ h => h.set rfl _) (fun h4 t σ' h => ?_) (fun _ _ h => h) (fun _ _ h => h) (fun _ h => h) (fun g σ' h => ?_) (fun _ h => h) (fun p σ' h => ?_) G
  · refine Runs.loop (fun _ σ₁ _ => Kept σ σ₁) (fun u σ₁ v h => (step2_runs i t h3 u v σ₁).mono ?_) h
    rintro _ _ rfl
    exact (((h.set rfl _).set rfl _).set rfl _).set rfl _
  · refine Runs.loop (fun _ σ₁ _ => Kept σ σ₁) (fun u σ₁ v h => (step1_runs i t h4 u v σ₁).mono ?_) h
    rintro _ _ rfl
    exact (h.set rfl _).set rfl _
  · refine (group_runs i (hM .q2) g ⟨⟩ σ' (fun _ σ₁ _ => Kept σ σ₁) (fun _ _ σ₁ _ => Kept σ σ₁) (fun _ _ _ σ₁ => Kept σ σ₁) (fun _ _ _ σ₁ => Kept σ σ₁)
      h ?_ ?_ ?_ ?_ ?_ ?_ ?_).mono ?_
    · exact fun _ _ _ h => h.set rfl _
    · exact fun _ _ h => h.set rfl _
    · exact fun _ _ _ _ h => h.set rfl _
    · exact fun _ _ _ h => h.set rfl _
    · exact fun _ _ _ _ h => h.set rfl _
    · exact fun _ _ _ h => h
    · exact fun _ _ _ _ h => h.set rfl _
    · rintro σ₁ _ ⟨_, _, h⟩; exact h
  · refine outPair_runs (hM .zo) p ⟨⟩ σ' _ (Runs.loop (fun _ σ₁ _ => Kept σ σ₁) (fun u σ₁ v h => (stepE_runs (hM .zo) p _ _ _ u v σ₁).mono ?_) h)
    rintro _ _ rfl
    exact h.set rfl _

end

end Cert.KernelIdeal.Tri
-- ==== Proof.Ideal.Point.lean ====
/- A point of the pipeline: the memrefs the body is called with, what it holds beside them, and its buffers owned one by one. -/

module

public import proofs.«01_k».proof.Proof.Ideal.Keep
public import proofs.«01_k».proof.Proof.Gen.KernelIdeal.Frame

@[expose] public section

set_option maxRecDepth 16384

noncomputable section

namespace Cert.KernelIdeal.Tri

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)
open Cert.KernelIdeal Cert.KernelIdeal.Facts₀ Cert.KernelIdeal.Facts

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What the body holds beside the staged windows -/

/-- The two semaphores of the copies. -/
abbrev osem0 : Fin 2 → SemLoc sig := fun j => (![SemLoc.dma (sem0 cc0_scratch5), SemLoc.dma (sem1 cc0_scratch5)] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (sem0 cc0_scratch5)) 0 ∗ semVal ((c : Thread nD τ), SemLoc.dma (sem1 cc0_scratch5)) 0) := by
  rw [Pipeline.ownSems0_eq_of_list c osem0 [0, 1] (by decide) (by decide)]; rfl
/-- The two arrays the copies read. -/
def H0 : Finset (Ref sig .tc) := {main_arg0, main_arg1}
theorem H0_sub : H0 ⊆ Pipeline.restRefs sig spec0 := by decide
theorem hbmPts0_eq (c : Dev nD) :
    (bigSep H0 (fun b => ((c : Thread nD τ).loc b) ↦{fullShare} Gen.V m c b) : sProp 𝕄)
      = iprop((((c : Thread nD τ).loc main_arg0) ↦{fullShare} Gen.V m c main_arg0) ∗ (((c : Thread nD τ).loc main_arg1) ↦{fullShare} Gen.V m c main_arg1)) := by
  rw [BI.bigSep_eq_bigSepL_of_eq [main_arg0, main_arg1] (by decide) (by decide)]; rfl

/-- The memrefs of a point: the windows' staging buffers and the scratch. -/
def mems (t : Fin cfg0.N) : Mems
  | .fa => Gen.st0_0 t
  | .fb0 => Gen.st0_1 t
  | .fb1 => Gen.st0_2 t
  | .z => Gen.st0_3 t
  | .q1 => Gen.st0_4 t
  | .s1 => Gen.st0_5 t
  | .eye => Gen.st0_6 t
  | .w5 => Gen.st0_7 t
  | .s5 => Gen.st0_8 t
  | .wo => Gen.st0_9 t
  | .so => Gen.st0_10 t
  | .ga => Gen.st0_11 t
  | .be => Gen.st0_12 t
  | .zo => Gen.st0_13 t
  | .std => Gen.st0_14 t
  | .q2 => Gen.st0_15 t
  | .s2 => Gen.st0_16 t
  | .a => Memref.whole cc0_scratch0
  | .b => Memref.whole cc0_scratch1
  | .x => Memref.whole cc0_scratch2
  | .sum => Memref.whole cc0_scratch3
  | .stg => Memref.whole cc0_scratch4

theorem mems_whole (t : Fin cfg0.N) (n : Bf) : (mems t n).IsWhole := by
  cases n
  case' a => exact Memref.isWhole_whole _
  case' b => exact Memref.isWhole_whole _
  case' x => exact Memref.isWhole_whole _
  case' sum => exact Memref.isWhole_whole _
  case' stg => exact Memref.isWhole_whole _
  case' fa => exact hstage0_0 ((cfg0.slots t 0).cast nbuf0_0)
  case' fb0 => exact hstage0_1 ((cfg0.slots t 1).cast nbuf0_1)
  case' fb1 => exact hstage0_2 ((cfg0.slots t 2).cast nbuf0_2)
  case' z => exact hstage0_3 ((cfg0.slots t 3).cast nbuf0_3)
  case' q1 => exact hstage0_4 ((cfg0.slots t 4).cast nbuf0_4)
  case' s1 => exact hstage0_5 ((cfg0.slots t 5).cast nbuf0_5)
  case' eye => exact hstage0_6 ((cfg0.slots t 6).cast nbuf0_6)
  case' w5 => exact hstage0_7 ((cfg0.slots t 7).cast nbuf0_7)
  case' s5 => exact hstage0_8 ((cfg0.slots t 8).cast nbuf0_8)
  case' wo => exact hstage0_9 ((cfg0.slots t 9).cast nbuf0_9)
  case' so => exact hstage0_10 ((cfg0.slots t 10).cast nbuf0_10)
  case' ga => exact hstage0_11 ((cfg0.slots t 11).cast nbuf0_11)
  case' be => exact hstage0_12 ((cfg0.slots t 12).cast nbuf0_12)
  case' zo => exact hstage0_13 ((cfg0.slots t 13).cast nbuf0_13)
  case' std => exact hstage0_14 ((cfg0.slots t 14).cast nbuf0_14)
  case' q2 => exact hstage0_15 ((cfg0.slots t 15).cast nbuf0_15)
  case' s2 => exact hstage0_16 ((cfg0.slots t 16).cast nbuf0_16)

/-- A state from the contents of its buffers. -/
def mkSt (ffa : (shp .fa).Idx → Elt F (elt .fa)) (ffb0 : (shp .fb0).Idx → Elt F (elt .fb0)) (ffb1 : (shp .fb1).Idx → Elt F (elt .fb1)) (fz : (shp .z).Idx → Elt F (elt .z)) (fq1 : (shp .q1).Idx → Elt F (elt .q1)) (fs1 : (shp .s1).Idx → Elt F (elt .s1)) (feye : (shp .eye).Idx → Elt F (elt .eye)) (fw5 : (shp .w5).Idx → Elt F (elt .w5)) (fs5 : (shp .s5).Idx → Elt F (elt .s5)) (fwo : (shp .wo).Idx → Elt F (elt .wo)) (fso : (shp .so).Idx → Elt F (elt .so)) (fga : (shp .ga).Idx → Elt F (elt .ga)) (fbe : (shp .be).Idx → Elt F (elt .be)) (fzo : (shp .zo).Idx → Elt F (elt .zo)) (fstd : (shp .std).Idx → Elt F (elt .std)) (fq2 : (shp .q2).Idx → Elt F (elt .q2)) (fs2 : (shp .s2).Idx → Elt F (elt .s2)) (fa : (shp .a).Idx → Elt F (elt .a)) (fb : (shp .b).Idx → Elt F (elt .b)) (fx : (shp .x).Idx → Elt F (elt .x)) (fsum : (shp .sum).Idx → Elt F (elt .sum)) (fstg : (shp .stg).Idx → Elt F (elt .stg)) : St F
  | .fa => ffa
  | .fb0 => ffb0
  | .fb1 => ffb1
  | .z => fz
  | .q1 => fq1
  | .s1 => fs1
  | .eye => feye
  | .w5 => fw5
  | .s5 => fs5
  | .wo => fwo
  | .so => fso
  | .ga => fga
  | .be => fbe
  | .zo => fzo
  | .std => fstd
  | .q2 => fq2
  | .s2 => fs2
  | .a => fa
  | .b => fb
  | .x => fx
  | .sum => fsum
  | .stg => fstg

/-- The buffers owned together, one by one. -/
theorem Own_eq (c : Dev nD) (M : Mems) (σ : St F) : (Own c M σ : sProp 𝕄) = iprop(owns (c : Thread nD τ) (M .fa) fullShare (σ .fa) ∗ owns (c : Thread nD τ) (M .fb0) fullShare (σ .fb0) ∗ owns (c : Thread nD τ) (M .fb1) fullShare (σ .fb1) ∗ owns (c : Thread nD τ) (M .z) fullShare (σ .z) ∗ owns (c : Thread nD τ) (M .q1) fullShare (σ .q1) ∗ owns (c : Thread nD τ) (M .s1) fullShare (σ .s1) ∗ owns (c : Thread nD τ) (M .eye) fullShare (σ .eye) ∗ owns (c : Thread nD τ) (M .w5) fullShare (σ .w5) ∗ owns (c : Thread nD τ) (M .s5) fullShare (σ .s5) ∗ owns (c : Thread nD τ) (M .wo) fullShare (σ .wo) ∗ owns (c : Thread nD τ) (M .so) fullShare (σ .so) ∗ owns (c : Thread nD τ) (M .ga) fullShare (σ .ga) ∗ owns (c : Thread nD τ) (M .be) fullShare (σ .be) ∗ owns (c : Thread nD τ) (M .zo) fullShare (σ .zo) ∗ owns (c : Thread nD τ) (M .std) fullShare (σ .std) ∗ owns (c : Thread nD τ) (M .q2) fullShare (σ .q2) ∗ owns (c : Thread nD τ) (M .s2) fullShare (σ .s2) ∗ owns (c : Thread nD τ) (M .a) fullShare (σ .a) ∗ owns (c : Thread nD τ) (M .b) fullShare (σ .b) ∗ owns (c : Thread nD τ) (M .x) fullShare (σ .x) ∗ owns (c : Thread nD τ) (M .sum) fullShare (σ .sum) ∗ owns (c : Thread nD τ) (M .stg) fullShare (σ .stg)) := by
  unfold Own
  rw [BI.bigSep_univ_eq_bigSepL Bf.list (by decide) (by decide)]
  rfl

/-- Staging owned at contents `σ` for the windows, the scratch at some contents. -/
theorem hMemProgram (c : Dev nD) (t : Fin cfg0.N) :
    Gen.bodyAt0 (F := F) t = Gen.cc0_tri_skel (F := F) (grid0.coords t) (Memref.whole main_arg0) (Memref.isWhole_whole _) (Memref.whole main_arg1) (Memref.isWhole_whole _) (mems t .fa) (mems_whole t .fa) (mems t .fb0) (mems_whole t .fb0) (mems t .fb1) (mems_whole t .fb1) (mems t .z) (mems_whole t .z) (mems t .q1) (mems_whole t .q1) (mems t .s1) (mems_whole t .s1) (mems t .eye) (mems_whole t .eye) (mems t .w5) (mems_whole t .w5) (mems t .s5) (mems_whole t .s5) (mems t .wo) (mems_whole t .wo) (mems t .so) (mems_whole t .so) (mems t .ga) (mems_whole t .ga) (mems t .be) (mems_whole t .be) (mems t .zo) (mems_whole t .zo) (mems t .std) (mems_whole t .std) (mems t .q2) (mems_whole t .q2) (mems t .s2) (mems_whole t .s2) (mems t .a) (mems_whole t .a) (mems t .b) (mems_whole t .b) (mems t .x) (mems_whole t .x) (mems t .sum) (mems_whole t .sum) (mems t .stg) (mems_whole t .stg) cc0_scratch5 := rfl

end Cert.KernelIdeal.Tri
-- ==== Proof.Ideal.FrameK.lean ====
/- The frame: every argument array ends as it began. The pipeline's proof data keep the staged inputs and forget the results;
   the body's triple at a point is `body_keeps`. -/
module

public import proofs.«01_k».proof.Proof.Ideal.Point

@[expose] public section

set_option maxRecDepth 16384

noncomputable section

namespace Cert.KernelIdeal.Tri

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)
open Cert.KernelIdeal Cert.KernelIdeal.Facts₀ Cert.KernelIdeal.Facts

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The proof data: the arrays as the region finds them, each staged input left in place. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => Gen.iblk m c 6 t
    | ⟨7, _⟩ => Gen.iblk m c 7 t
    | ⟨8, _⟩ => Gen.iblk m c 8 t
    | ⟨9, _⟩ => Gen.iblk m c 9 t
    | ⟨10, _⟩ => Gen.iblk m c 10 t
    | ⟨11, _⟩ => Gen.iblk m c 11 t
    | ⟨12, _⟩ => Gen.iblk m c 12 t
    | ⟨13, _⟩ => Gen.iblk m c 13 t
    | ⟨14, _⟩ => Gen.iblk m c 14 t
    | ⟨15, _⟩ => Gen.iblk m c 15 t
    | ⟨16, _⟩ => Gen.iblk m c 16 t
    | ⟨n + 17, h⟩ => absurd (show n + 17 < 17 from h) (by omega)
  Φ _ := Pipeline.ΦD osem0 spec0 H0 (Gen.V m) c
  q w := Pipeline.shareOf spec0 w
  owed _ := 0

/-- The windows whose contents are not tracked: the results. -/
def fgt : Fin 17 → Bool := ![false, false, false, false, false, false, false, false, false, false, false, false, false, true, true, true, true]

set_option maxHeartbeats 2000000 in
/-- A staged input holds its block at every point. -/
theorem before_in (c : Dev nD) (w : Fin 17) (hw : (spec0 w).isOut = false) (t : Fin cfg0.N) (d) :
    (dats m 0 c).before w t d = (dats m 0 c).after w t := by
  fin_cases w <;> first
    | exact absurd hw (by decide)
    | exact (Dat.before_in_eq_fetched _ _ rfl (fun _ => rfl) (fun _ _ _ => rfl) (fun t => rfl) t d).trans rfl

/-- What the body takes at a point. -/
def bodyPre (c : Dev nD) (t : Fin cfg0.N) : sProp 𝕄 :=
  iprop(Pipeline.ΦD osem0 spec0 H0 (Gen.V m) c ∗ (dats m 0 c).owesAt () t.castSucc
    ∗ (∃ d, owns (c : Thread nD τ) (Gen.st0_0 t) fullShare ((dats m 0 c).before 0 t d)) ∗ (∃ d, owns (c : Thread nD τ) (Gen.st0_1 t) fullShare ((dats m 0 c).before 1 t d)) ∗ (∃ d, owns (c : Thread nD τ) (Gen.st0_2 t) fullShare ((dats m 0 c).before 2 t d)) ∗ (∃ d, owns (c : Thread nD τ) (Gen.st0_3 t) fullShare ((dats m 0 c).before 3 t d)) ∗ (∃ d, owns (c : Thread nD τ) (Gen.st0_4 t) fullShare ((dats m 0 c).before 4 t d)) ∗ (∃ d, owns (c : Thread nD τ) (Gen.st0_5 t) fullShare ((dats m 0 c).before 5 t d)) ∗ (∃ d, owns (c : Thread nD τ) (Gen.st0_6 t) fullShare ((dats m 0 c).before 6 t d)) ∗ (∃ d, owns (c : Thread nD τ) (Gen.st0_7 t) fullShare ((dats m 0 c).before 7 t d)) ∗ (∃ d, owns (c : Thread nD τ) (Gen.st0_8 t) fullShare ((dats m 0 c).before 8 t d)) ∗ (∃ d, owns (c : Thread nD τ) (Gen.st0_9 t) fullShare ((dats m 0 c).before 9 t d)) ∗ (∃ d, owns (c : Thread nD τ) (Gen.st0_10 t) fullShare ((dats m 0 c).before 10 t d)) ∗ (∃ d, owns (c : Thread nD τ) (Gen.st0_11 t) fullShare ((dats m 0 c).before 11 t d)) ∗ (∃ d, owns (c : Thread nD τ) (Gen.st0_12 t) fullShare ((dats m 0 c).before 12 t d)) ∗ (∃ X, owns (c : Thread nD τ) (Gen.st0_13 t) fullShare X) ∗ (∃ X, owns (c : Thread nD τ) (Gen.st0_14 t) fullShare X) ∗ (∃ X, owns (c : Thread nD τ) (Gen.st0_15 t) fullShare X) ∗ (∃ X, owns (c : Thread nD τ) (Gen.st0_16 t) fullShare X))
/-- What the body leaves at a point. -/
def bodyPost (c : Dev nD) (t : Fin cfg0.N) : sProp 𝕄 :=
  iprop(Pipeline.ΦD osem0 spec0 H0 (Gen.V m) c ∗ (dats m 0 c).owesAt () t.succ
    ∗ owns (c : Thread nD τ) (Gen.st0_0 t) fullShare ((dats m 0 c).after 0 t) ∗ owns (c : Thread nD τ) (Gen.st0_1 t) fullShare ((dats m 0 c).after 1 t) ∗ owns (c : Thread nD τ) (Gen.st0_2 t) fullShare ((dats m 0 c).after 2 t) ∗ owns (c : Thread nD τ) (Gen.st0_3 t) fullShare ((dats m 0 c).after 3 t) ∗ owns (c : Thread nD τ) (Gen.st0_4 t) fullShare ((dats m 0 c).after 4 t) ∗ owns (c : Thread nD τ) (Gen.st0_5 t) fullShare ((dats m 0 c).after 5 t) ∗ owns (c : Thread nD τ) (Gen.st0_6 t) fullShare ((dats m 0 c).after 6 t) ∗ owns (c : Thread nD τ) (Gen.st0_7 t) fullShare ((dats m 0 c).after 7 t) ∗ owns (c : Thread nD τ) (Gen.st0_8 t) fullShare ((dats m 0 c).after 8 t) ∗ owns (c : Thread nD τ) (Gen.st0_9 t) fullShare ((dats m 0 c).after 9 t) ∗ owns (c : Thread nD τ) (Gen.st0_10 t) fullShare ((dats m 0 c).after 10 t) ∗ owns (c : Thread nD τ) (Gen.st0_11 t) fullShare ((dats m 0 c).after 11 t) ∗ owns (c : Thread nD τ) (Gen.st0_12 t) fullShare ((dats m 0 c).after 12 t) ∗ (∃ X, owns (c : Thread nD τ) (Gen.st0_13 t) fullShare X) ∗ (∃ X, owns (c : Thread nD τ) (Gen.st0_14 t) fullShare X) ∗ (∃ X, owns (c : Thread nD τ) (Gen.st0_15 t) fullShare X) ∗ (∃ X, owns (c : Thread nD τ) (Gen.st0_16 t) fullShare X))

/-- The body's triple at a point. -/
theorem sound_body (c : Dev nD) (t : Fin cfg0.N) :
    bodyPre m c t ⊢ wp frame (wpE (defs₀ (F := F)) Variants.none c none) Set.univ (Gen.bodyAt0 t) (fun _ => bodyPost m c t) := by
  unfold bodyPre bodyPost
  rw [hMemProgram c t, Pipeline.ΦD_eq, Gen.scopedRest0_eq, ownSems00_eq, hbmPts0_eq]
  unfold Dat.owesAt Pipeline.owesWithin
  rw [show (dats m 0 c).owed t.castSucc = 0 from rfl, show (dats m 0 c).owed t.succ = 0 from rfl]
  iintro ⟨⟨⟨⟨%fa, Ha⟩, ⟨%fb, Hb⟩, ⟨%fx, Hx⟩, ⟨%fsum, Hsum⟩, ⟨%fstg, Hstg⟩⟩, Hg, ⟨Hv0, Hv1⟩, ⟨Hm0, Hm1⟩⟩, ⟨%W, -, HW⟩, ⟨%dfa, Hfa⟩, ⟨%dfb0, Hfb0⟩, ⟨%dfb1, Hfb1⟩, ⟨%dz, Hz⟩, ⟨%dq1, Hq1⟩, ⟨%ds1, Hs1⟩, ⟨%deye, Heye⟩, ⟨%dw5, Hw5⟩, ⟨%ds5, Hs5⟩, ⟨%dwo, Hwo⟩, ⟨%dso, Hso⟩, ⟨%dga, Hga⟩, ⟨%dbe, Hbe⟩, ⟨%dzo, Hzo⟩, ⟨%dstd, Hstd⟩, ⟨%dq2, Hq2⟩, ⟨%ds2, Hs2⟩⟩
  iapply (wp_mono frame (wpE (defs₀ (F := F)) Variants.none (c : Thread nD τ) none) Set.univ (Q := fun _ => iprop(∃ σ', ⌜Kept (mkSt ((dats m 0 c).before 0 t dfa) ((dats m 0 c).before 1 t dfb0) ((dats m 0 c).before 2 t dfb1) ((dats m 0 c).before 3 t dz) ((dats m 0 c).before 4 t dq1) ((dats m 0 c).before 5 t ds1) ((dats m 0 c).before 6 t deye) ((dats m 0 c).before 7 t dw5) ((dats m 0 c).before 8 t ds5) ((dats m 0 c).before 9 t dwo) ((dats m 0 c).before 10 t dso) ((dats m 0 c).before 11 t dga) ((dats m 0 c).before 12 t dbe) dzo dstd dq2 ds2 fa fb fx fsum fstg) σ'⌝
    ∗ Own c (mems t) σ' ∗ Held c (Memref.whole main_arg0) (Memref.whole main_arg1) cc0_scratch5 (Gen.V m c main_arg0) (Gen.V m c main_arg1) ∗ ∃ r, prngReg c r)) ?_)
  · intro _
    simp only [Own_eq, Held]
    iintro ⟨%σ', %hσ, ⟨Hfa, Hfb0, Hfb1, Hz, Hq1, Hs1, Heye, Hw5, Hs5, Hwo, Hso, Hga, Hbe, Hzo, Hstd, Hq2, Hs2, Ha, Hb, Hx, Hsum, Hstg⟩, ⟨Hm0, Hm1, Hv0, Hv1, ⟨%W', HW'⟩⟩, Hg⟩
    isplitl [Ha Hb Hx Hsum Hstg Hg Hv0 Hv1 Hm0 Hm1]
    · isplitl [Ha Hb Hx Hsum Hstg]
      · simp only [mems, owns_whole]
        isplitl [Ha]; · iexists _; iexact Ha
        isplitl [Hb]; · iexists _; iexact Hb
        isplitl [Hx]; · iexists _; iexact Hx
        isplitl [Hsum]; · iexists _; iexact Hsum
        iexists _; iexact Hstg
      isplitl [Hg]; · iexact Hg
      isplitl [Hv0 Hv1]
      · isplitl [Hv0]; · iexact Hv0
        iexact Hv1
      isplitl [Hm0]; · iexact Hm0
      iexact Hm1
    isplitl [HW']
    · iexists W'; isplitr; · ipureintro; exact fun _ _ => Or.inl trivial
      iexact HW'
    isplitl [Hfa]; · rw [hσ .fa rfl]; simp only [mkSt]; rw [before_in m c 0 rfl]; iexact Hfa
    isplitl [Hfb0]; · rw [hσ .fb0 rfl]; simp only [mkSt]; rw [before_in m c 1 rfl]; iexact Hfb0
    isplitl [Hfb1]; · rw [hσ .fb1 rfl]; simp only [mkSt]; rw [before_in m c 2 rfl]; iexact Hfb1
    isplitl [Hz]; · rw [hσ .z rfl]; simp only [mkSt]; rw [before_in m c 3 rfl]; iexact Hz
    isplitl [Hq1]; · rw [hσ .q1 rfl]; simp only [mkSt]; rw [before_in m c 4 rfl]; iexact Hq1
    isplitl [Hs1]; · rw [hσ .s1 rfl]; simp only [mkSt]; rw [before_in m c 5 rfl]; iexact Hs1
    isplitl [Heye]; · rw [hσ .eye rfl]; simp only [mkSt]; rw [before_in m c 6 rfl]; iexact Heye
    isplitl [Hw5]; · rw [hσ .w5 rfl]; simp only [mkSt]; rw [before_in m c 7 rfl]; iexact Hw5
    isplitl [Hs5]; · rw [hσ .s5 rfl]; simp only [mkSt]; rw [before_in m c 8 rfl]; iexact Hs5
    isplitl [Hwo]; · rw [hσ .wo rfl]; simp only [mkSt]; rw [before_in m c 9 rfl]; iexact Hwo
    isplitl [Hso]; · rw [hσ .so rfl]; simp only [mkSt]; rw [before_in m c 10 rfl]; iexact Hso
    isplitl [Hga]; · rw [hσ .ga rfl]; simp only [mkSt]; rw [before_in m c 11 rfl]; iexact Hga
    isplitl [Hbe]; · rw [hσ .be rfl]; simp only [mkSt]; rw [before_in m c 12 rfl]; iexact Hbe
    isplitl [Hzo]; · iexists _; iexact Hzo
    isplitl [Hstd]; · iexists _; iexact Hstd
    isplitl [Hq2]; · iexists _; iexact Hq2
    iexists _; iexact Hs2
  iapply (body_keeps (grid0.coords t) (mems_whole t) (mkSt ((dats m 0 c).before 0 t dfa) ((dats m 0 c).before 1 t dfb0) ((dats m 0 c).before 2 t dfb1) ((dats m 0 c).before 3 t dz) ((dats m 0 c).before 4 t dq1) ((dats m 0 c).before 5 t ds1) ((dats m 0 c).before 6 t deye) ((dats m 0 c).before 7 t dw5) ((dats m 0 c).before 8 t ds5) ((dats m 0 c).before 9 t dwo) ((dats m 0 c).before 10 t dso) ((dats m 0 c).before 11 t dga) ((dats m 0 c).before 12 t dbe) dzo dstd dq2 ds2 fa fb fx fsum fstg) iprop(∃ r, prngReg c r))
  rw [Own_eq]
  unfold Held
  isplitr [Hm0 Hm1 Hv0 Hv1 HW Hg]
  · simp only [mems, mkSt, owns_whole]
    isplitl [Hfa]; · iexact Hfa
    isplitl [Hfb0]; · iexact Hfb0
    isplitl [Hfb1]; · iexact Hfb1
    isplitl [Hz]; · iexact Hz
    isplitl [Hq1]; · iexact Hq1
    isplitl [Hs1]; · iexact Hs1
    isplitl [Heye]; · iexact Heye
    isplitl [Hw5]; · iexact Hw5
    isplitl [Hs5]; · iexact Hs5
    isplitl [Hwo]; · iexact Hwo
    isplitl [Hso]; · iexact Hso
    isplitl [Hga]; · iexact Hga
    isplitl [Hbe]; · iexact Hbe
    isplitl [Hzo]; · iexact Hzo
    isplitl [Hstd]; · iexact Hstd
    isplitl [Hq2]; · iexact Hq2
    isplitl [Hs2]; · iexact Hs2
    isplitl [Ha]; · iexact Ha
    isplitl [Hb]; · iexact Hb
    isplitl [Hx]; · iexact Hx
    isplitl [Hsum]; · iexact Hsum
    iexact Hstg
  isplitl [Hm0 Hm1 Hv0 Hv1 HW]
  · isplitl [Hm0]; · iexact Hm0
    isplitl [Hm1]; · iexact Hm1
    isplitl [Hv0]; · iexact Hv0
    isplitl [Hv1]; · iexact Hv1
    iexists _; iexact HW
  iexact Hg

theorem defs₀_row (t : Fin cfg0.N) :
    defs₀ (F := F) .tc cfg0.body (cfg0.bodyArgs t (cfg0.slots t)) = Gen.bodyAt0 t := by
  unfold defs₀; rw [Defs.onTc_tc]

theorem body_obligation (c : Dev nD) : BodyObligationLoose (dats (F := F) m 0 c) (defs₀ (F := F)) Variants.none () Set.univ fgt := fun t => by
  rw [Gen.bigSep_W0, Gen.bigSep_W0, defs₀_row]
  exact triple_restated (sound_body m c t) rfl .rfl fun _ => .rfl

/-! ## The run and the frame -/

theorem hmain (𝒱₀ : Variants) : Pipeline.HMain (Ix := Unit) (Name := ℕ) (U := Pipeline.UD sig nD τ) (Lvl := ℕ) cfgs 0 defs₀ 𝒱₀ m (main (F := F)) (Gen.V m) :=
  Pipeline.hmain_prefix cfgs 0 defs₀ 𝒱₀ m main Gen.hostOps0 Gen.hostOps0_sub Gen.hostOps0_fresh Gen.main_chain

/-- The frame run: what is known of the arrays at the end, and every semaphore back at zero. -/
theorem run_main : θ_run defs (onTc (τ := τ) (main (F := F))) (s₀ m ρ)
    (fun r => Pipeline.RDat.FramePost cfg0 (fun c => (dats m 0 c).toRForget fgt) (Gen.V m) r ∧ r.2.sem = fun _ => 0) :=
  Pipeline.θ_run_frame_dma_forget_shared (Q' := _) cfgs (dats m) (0 : Fin 1) Gen.launch₀0 osem0 defs₀ Variants.none fgt ownSemFacts0 H0 H0_sub m ρ main
    (hbody := fun c => body_obligation m c) (hq := fun _ _ _ => rfl) (howed := fun _ _ => rfl) (V := Gen.V m) (hmain := hmain m Variants.none)
    (hA := fun _ _ => rfl) (hin := fun _ => .rfl) (hout := fun _ => .rfl)

/-- Every argument array ends as it began, and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => ⟨((h.1 c).2 main_arg0 (Pipeline.mem_restRefs_of main_arg0 (by decide) (by decide))).trans (Gen.V_main_arg0 m c),
      ((h.1 c).2 main_arg1 (Pipeline.mem_restRefs_of main_arg1 (by decide) (by decide))).trans (Gen.V_main_arg1 m c),
      ((congrFun (Pipeline.RDat.ArrAt_in ((dats m 0 c).toRForget fgt) 0 rfl _) _).mp ((h.1 c).1 0)).trans (Gen.V_main_arg2 m c),
      ((congrFun (Pipeline.RDat.ArrAt_in ((dats m 0 c).toRForget fgt) 2 rfl _) _).mp ((h.1 c).1 2)).trans (Gen.V_main_arg3 m c),
      ((congrFun (Pipeline.RDat.ArrAt_in ((dats m 0 c).toRForget fgt) 3 rfl _) _).mp ((h.1 c).1 3)).trans (Gen.V_main_arg4 m c),
      ((congrFun (Pipeline.RDat.ArrAt_in ((dats m 0 c).toRForget fgt) 4 rfl _) _).mp ((h.1 c).1 4)).trans (Gen.V_main_arg5 m c),
      ((congrFun (Pipeline.RDat.ArrAt_in ((dats m 0 c).toRForget fgt) 5 rfl _) _).mp ((h.1 c).1 5)).trans (Gen.V_main_arg6 m c),
      ((h.1 c).2 main_arg7 (Pipeline.mem_restRefs_of main_arg7 (by decide) (by decide))).trans (Gen.V_main_arg7 m c),
      ((h.1 c).2 main_arg8 (Pipeline.mem_restRefs_of main_arg8 (by decide) (by decide))).trans (Gen.V_main_arg8 m c),
      ((h.1 c).2 main_arg9 (Pipeline.mem_restRefs_of main_arg9 (by decide) (by decide))).trans (Gen.V_main_arg9 m c),
      ((h.1 c).2 main_arg10 (Pipeline.mem_restRefs_of main_arg10 (by decide) (by decide))).trans (Gen.V_main_arg10 m c),
      ((h.1 c).2 main_arg11 (Pipeline.mem_restRefs_of main_arg11 (by decide) (by decide))).trans (Gen.V_main_arg11 m c),
      ((h.1 c).2 main_arg12 (Pipeline.mem_restRefs_of main_arg12 (by decide) (by decide))).trans (Gen.V_main_arg12 m c)⟩, h.2⟩) (run_main m ρ)

end Cert.KernelIdeal.Tri
-- ==== Proof.Val.Math.lean ====
/- The layer normalisation and quantisation of one row, over the extended reals, and the identities between its two forms. -/
module

public import Idealize.ShloMosaic.Lib.Pointwise

@[expose] public section

noncomputable section

namespace Cert.TriMath

open Idealize.ShloMosaic

/-- One ninety-sixth. -/
def ninv : EReal := ((1/96 : ℝ) : EReal)
/-- The constant added to the variance. -/
def eps : EReal := Ideal.ofBits FTy.f32 0x3727C5AC#32
/-- The largest code. -/
def top : EReal := Ideal.ofBits FTy.f32 0x43E00000#32
/-- The least code. -/
def bot : EReal := Ideal.ofBits FTy.f32 0xC3E00000#32

section row
variable (x ga be : Fin 96 → EReal)

def rMean : EReal := (∑ c, x c) * ninv
def rXc (c : Fin 96) : EReal := x c - rMean x
def rStd : EReal := Ideal.sqrt ((∑ c, rXc x c * rXc x c) * ninv + eps)
def rY (c : Fin 96) : EReal := rXc x c * Ideal.div 1 (rStd x) * ga c + be c
/-- The largest magnitude of the first `n` channels, and zero. -/
def maxTo (f : Fin 96 → EReal) (n : ℕ) : EReal := (Finset.range n).fold max 0 fun k => if h : k < 96 then max (f ⟨k, h⟩) (-f ⟨k, h⟩) else 0
/-- The sum of the first `n` channels. -/
def sumTo (f : Fin 96 → EReal) (n : ℕ) : EReal := ∑ k ∈ Finset.range n, if h : k < 96 then f ⟨k, h⟩ else 0
def scaleOf (a : EReal) : EReal := if 0 < a then Ideal.div a top else 1
def rScale : EReal := scaleOf (maxTo (rY x ga be) 96)
def rCode (c : Fin 96) : EReal := min top (max bot (rY x ga be c * Ideal.div 1 (rScale x ga be)))

end row

theorem sumTo_zero (f : Fin 96 → EReal) : sumTo f 0 = 0 := rfl
theorem sumTo_succ (f : Fin 96 → EReal) (c : Fin 96) : sumTo f (c.val + 1) = sumTo f c.val + f c := by
  unfold sumTo; rw [Finset.sum_range_succ, dif_pos c.isLt]
theorem sumTo_all (f : Fin 96 → EReal) : sumTo f 96 = ∑ c, f c := by
  unfold sumTo; rw [Finset.sum_range]; exact Finset.sum_congr rfl fun c _ => dif_pos c.isLt
theorem maxTo_zero (f : Fin 96 → EReal) : maxTo f 0 = 0 := rfl
theorem maxTo_succ (f : Fin 96 → EReal) (c : Fin 96) : maxTo f (c.val + 1) = max (maxTo f c.val) (max (f c) (-f c)) := by
  unfold maxTo; rw [Finset.range_add_one, Finset.fold_insert (by simp), dif_pos c.isLt, max_comm]

end Cert.TriMath
-- ==== Proof.Val.Math2.lean ====
/- The two forms of each quantity are equal over the extended reals: a division against a multiplication by a reciprocal, a largest
   magnitude started at zero or at minus infinity, a logistic against a hyperbolic tangent of the half. -/
module

public import proofs.«01_k».proof.Proof.Val.Math

@[expose] public section

noncomputable section

namespace Cert.TriMath

open Idealize.ShloMosaic

theorem ofBits_96 : Ideal.ofBits FTy.f32 0x42C00000#32 = ((96 : ℝ) : EReal) := by
  simp [Ideal.ofBits, Ideal.ieee, -EReal.coe_mul]; norm_num
theorem ofBits_half : Ideal.ofBits FTy.f32 0x3F000000#32 = ((1/2 : ℝ) : EReal) := by
  simp [Ideal.ofBits, Ideal.ieee, -EReal.coe_mul]; norm_num
theorem top_eq : top = ((448 : ℝ) : EReal) := by
  unfold top; simp [Ideal.ofBits, Ideal.ieee, -EReal.coe_mul]; norm_num
theorem eps_pos : 0 < eps := by
  unfold eps
  simp [Ideal.ofBits, Ideal.ieee, -EReal.coe_mul]

theorem div_coe (x : EReal) {r : ℝ} (h : r ≠ 0) : Ideal.div x (r : EReal) = x * ((r⁻¹ : ℝ) : EReal) := by
  unfold Ideal.div
  rw [if_neg (by exact_mod_cast h), EReal.coe_inv]

theorem div_96 (x : EReal) : Ideal.div x (Ideal.ofBits FTy.f32 0x42C00000#32) = x * ninv := by
  rw [ofBits_96, div_coe x (by norm_num)]
  unfold ninv; norm_num

theorem div_one_mul {y : EReal} (x : EReal) (h : y ≠ 0) : x * Ideal.div 1 y = Ideal.div x y := by
  unfold Ideal.div
  rw [if_neg h, if_neg h, one_mul]

theorem sqrt_ne_zero {x : EReal} (h : 0 < x) : Ideal.sqrt x ≠ 0 := by
  induction x using EReal.rec with
  | bot => exact absurd h (by simp)
  | top => show (⊤ : EReal) ≠ 0; simp
  | coe r =>
    have hr : 0 < r := by exact_mod_cast h
    show (if r < 0 then (⊥ : EReal) else (Real.sqrt r : EReal)) ≠ 0
    rw [if_neg (not_lt.mpr hr.le)]
    exact_mod_cast (Real.sqrt_pos.mpr hr).ne'

theorem ninv_pos : 0 < ninv := by unfold ninv; exact_mod_cast (by norm_num : (0:ℝ) < 1/96)

theorem mul_self_nonneg' (x : EReal) : 0 ≤ x * x := by
  rcases le_total 0 x with h | h
  · exact EReal.mul_nonneg h h
  · rw [← neg_mul_neg]
    exact EReal.mul_nonneg (by simpa using EReal.neg_le_neg_iff.mpr h) (by simpa using EReal.neg_le_neg_iff.mpr h)

section row
variable (x ga be : Fin 96 → EReal)

theorem rStd_ne_zero : rStd x ≠ 0 := by
  unfold rStd
  refine sqrt_ne_zero ?_
  have h : 0 ≤ (∑ c, rXc x c * rXc x c) * ninv := EReal.mul_nonneg (Finset.sum_nonneg fun c _ => mul_self_nonneg' _) ninv_pos.le
  calc 0 < eps := eps_pos
    _ = 0 + eps := (zero_add _).symm
    _ ≤ _ := add_le_add_left h _

theorem rY_eq (c : Fin 96) : rY x ga be c = Ideal.div (rXc x c) (rStd x) * ga c + be c := by
  unfold rY; rw [div_one_mul _ (rStd_ne_zero x)]

theorem scaleOf_ne_zero (a : EReal) : scaleOf a ≠ 0 := by
  unfold scaleOf
  by_cases h : 0 < a
  · rw [if_pos h, top_eq, div_coe a (by norm_num)]
    exact (EReal.mul_pos h (by exact_mod_cast (by norm_num : (0:ℝ) < 448⁻¹))).ne'
  · rw [if_neg h]; exact one_ne_zero

theorem rCode_eq (c : Fin 96) : rCode x ga be c = min top (max bot (Ideal.div (rY x ga be c) (rScale x ga be))) := by
  unfold rCode rScale; rw [div_one_mul _ (scaleOf_ne_zero _)]

theorem abs_nonneg' (y : EReal) : 0 ≤ max y (-y) := by
  rcases le_total 0 y with h | h
  · exact le_max_of_le_left h
  · exact le_max_of_le_right (by simpa using EReal.neg_le_neg_iff.mpr h)

/-- The largest magnitude over all channels, started at minus infinity. -/
theorem fold_abs (f : Fin 96 → EReal) : (Finset.univ : Finset (Fin 96)).fold max ⊥ (fun c => max (f c) (-f c)) = maxTo f 96 := by
  unfold maxTo
  apply le_antisymm
  · rw [Finset.fold_max_le]
    refine ⟨bot_le, fun c _ => ?_⟩
    rw [Finset.le_fold_max]
    exact .inr ⟨c.val, Finset.mem_range.mpr c.isLt, by rw [dif_pos c.isLt]⟩
  · rw [Finset.fold_max_le]
    refine ⟨?_, fun k hk => ?_⟩
    · rw [Finset.le_fold_max]
      exact .inr ⟨0, Finset.mem_univ _, abs_nonneg' _⟩
    · have hk := Finset.mem_range.mp hk
      rw [dif_pos hk, Finset.le_fold_max]
      exact .inr ⟨⟨k, hk⟩, Finset.mem_univ _, le_refl _⟩

end row

/-! ## The gate -/

theorem tanh_half (t : EReal) : (Ideal.tanh (t * ((1/2 : ℝ) : EReal)) + 1) * ((1/2 : ℝ) : EReal) = Ideal.logistic t := by
  have h2 : (0 : ℝ) < 1/2 := by norm_num
  induction t using EReal.rec with
  | bot =>
    rw [EReal.bot_mul_coe_of_pos h2, Ideal.logistic_bot]
    show ((-1 : EReal) + 1) * _ = 0
    rw [show (-1 : EReal) + 1 = 0 from by rw [← EReal.coe_one, ← EReal.coe_neg, ← EReal.coe_add]; norm_num, zero_mul]
  | top =>
    rw [EReal.top_mul_coe_of_pos h2, Ideal.logistic_top]
    show ((1 : EReal) + 1) * _ = 1
    rw [← EReal.coe_one, ← EReal.coe_add, ← EReal.coe_mul]; norm_num
  | coe r =>
    rw [← EReal.coe_mul, Ideal.logistic_coe]
    show ((Real.tanh (r * (1/2)) : EReal) + 1) * _ = _
    rw [← EReal.coe_one, ← EReal.coe_add, ← EReal.coe_mul]
    congr 1
    rw [Real.tanh_eq_sinh_div_cosh, Real.sinh_eq, Real.cosh_eq]
    have ha : 0 < Real.exp (r * (1/2)) := Real.exp_pos _
    have hb : 0 < Real.exp (-(r * (1/2))) := Real.exp_pos _
    have hab : Real.exp (r * (1/2)) * Real.exp (-(r * (1/2))) = 1 := by rw [← Real.exp_add]; simp
    have hbb : Real.exp (-r) = Real.exp (-(r * (1/2))) * Real.exp (-(r * (1/2))) := by rw [← Real.exp_add]; ring_nf
    rw [hbb]
    generalize Real.exp (r * (1/2)) = a at *
    generalize Real.exp (-(r * (1/2))) = b at *
    have h1 : a + b ≠ 0 := by positivity
    have h3 : 1 + b * b ≠ 0 := by positivity
    field_simp
    nlinarith [hab]

/-- The gated output: half the factors, one plus the hyperbolic tangent, against the logistic. -/
theorem gate_eq (p s g o q w : EReal) :
    (Ideal.tanh (p * s * (g * ((1/2 : ℝ) : EReal))) + 1) * (o * q * (w * ((1/2 : ℝ) : EReal))) = Ideal.logistic (p * s * g) * (o * q * w) := by
  rw [← tanh_half (p * s * g), ← mul_assoc (p * s) g, ← mul_assoc (o * q) w, mul_comm (o * q * w), ← mul_assoc]

/-- A row of the identity picks its entry. -/
theorem sum_eye (z : Fin 128 → EReal) (e : Fin 128 → EReal) (d : Fin 128) (h : ∀ x, e x = if d = x then 1 else 0) : ∑ x, e x * z x = z d := by
  rw [Finset.sum_eq_single d]
  · rw [h, if_pos rfl, one_mul]
  · intro x _ hx; rw [h, if_neg (Ne.symm hx), zero_mul]
  · intro hd; exact absurd (Finset.mem_univ d) hd

end Cert.TriMath
-- ==== Proof.Val.At.lean ====
/- The buffers of the body read at an index, and where each access of the body lies. -/
module

public import proofs.«01_k».proof.Proof.Ideal.Body
public import Idealize.ShloMosaic.Lib.Pointwise

@[expose] public section

set_option maxRecDepth 16384

noncomputable section

namespace Cert.KernelIdeal.Tri

open Idealize.ShloMosaic
open Cert.KernelIdeal Cert.KernelIdeal.Facts₀ Cert.KernelIdeal.Facts

/-! ## Where the accesses lie -/

/-- A point of the grid of which only the last two coordinates matter. -/
def coordsOf (j : Fin 5) (s : Fin 8) : grid0.Coords := fun a => match a with
  | ⟨0, _⟩ => (0 : Fin 2) | ⟨1, _⟩ => (0 : Fin 5) | ⟨2, _⟩ => j | ⟨3, _⟩ => s

theorem off12_all : ∀ (j : Fin 5) (s : Fin 8) (c : Fin 96) (g : Fin 2),
    k0_off12 (coordsOf j s) (BitVec.ofNat 32 (128 * c.val)) (BitVec.ofNat 32 (8 * g.val))
      = ![12288 * (j.val % 2) + 128 * c.val + 16 * s.val + 8 * g.val, 0] := by decide +kernel
theorem off12_eq (i : grid0.Coords) (c : Fin 96) (g : Fin 2) :
    k0_off12 i (BitVec.ofNat 32 (128 * c.val)) (BitVec.ofNat 32 (8 * g.val))
      = ![12288 * ((i 2).val % 2) + 128 * c.val + 16 * (i 3).val + 8 * g.val, 0] := off12_all (i 2) (i 3) c g

theorem off11_all : ∀ (j : Fin 5) (s : Fin 8) (g : Fin 2),
    k0_off11 (coordsOf j s) (BitVec.ofNat 32 (8 * g.val)) = ![128 * (j.val % 2) + 16 * s.val + 8 * g.val, 0] := by decide +kernel
theorem off11_eq (i : grid0.Coords) (g : Fin 2) :
    k0_off11 i (BitVec.ofNat 32 (8 * g.val)) = ![128 * ((i 2).val % 2) + 16 * (i 3).val + 8 * g.val, 0] := off11_all (i 2) (i 3) g

/-- Channel `u` of trip `t`. -/
def chan (t : Fin 24) (u : Fin 4) : Fin 96 := ⟨4 * t.val + u.val, by omega⟩

theorem trips1 : k0_t1_loop.trips = 24 := by decide +kernel
theorem trips2 : k0_t2_loop.trips = 24 := by decide +kernel

theorem off3_all : ∀ (j : Fin 5) (t : Fin k0_t1_loop.trips) (h : Fin 2) (u : Fin 4),
    k0_off3 (coordsOf j 0) t (BitVec.ofNat 32 h.val) (BitVec.ofNat 32 u.val) = ![j.val + h.val, 4 * t.val + u.val, 0, 0] := by decide +kernel
theorem off3_eq (i : grid0.Coords) (t : Fin k0_t1_loop.trips) (h : Fin 2) (u : Fin 4) :
    k0_off3 i t (BitVec.ofNat 32 h.val) (BitVec.ofNat 32 u.val) = ![(i 2).val + h.val, 4 * t.val + u.val, 0, 0] := off3_all (i 2) t h u
theorem off4_eq : ∀ (t : Fin k0_t1_loop.trips) (u : Fin 4), k0_off4 t (BitVec.ofNat 32 u.val) = ![4 * t.val + u.val, 0, 0] := by decide +kernel
theorem off5_eq : ∀ (t : Fin k0_t1_loop.trips) (u : Fin 4), k0_off5 t (BitVec.ofNat 32 u.val) = ![0, 4 * t.val + u.val, 0] := by decide +kernel
theorem off6_eq : ∀ (t : Fin k0_t1_loop.trips) (h : Fin 2) (u : Fin 4),
    k0_off6 t (BitVec.ofNat 32 (12288 * h.val)) (BitVec.ofNat 32 u.val) = ![12288 * h.val + 128 * (4 * t.val + u.val), 0] := by decide +kernel
theorem off7_all : ∀ (j : Fin 5) (t : Fin k0_t2_loop.trips) (u : Fin 4),
    k0_off7 (coordsOf j 0) t (BitVec.ofNat 32 u.val) = ![j.val, 4 * t.val + u.val, 0, 0] := by decide +kernel
theorem off7_eq (i : grid0.Coords) (t : Fin k0_t2_loop.trips) (u : Fin 4) :
    k0_off7 i t (BitVec.ofNat 32 u.val) = ![(i 2).val, 4 * t.val + u.val, 0, 0] := off7_all (i 2) t u
theorem off8_eq : ∀ (t : Fin k0_t2_loop.trips) (u : Fin 4), k0_off8 t (BitVec.ofNat 32 u.val) = ![4 * t.val + u.val, 0, 0] := by decide +kernel
theorem off9_eq : ∀ (t : Fin k0_t2_loop.trips) (u : Fin 4), k0_off9 t (BitVec.ofNat 32 u.val) = ![0, 4 * t.val + u.val, 0] := by decide +kernel
theorem off10_eq : ∀ (t : Fin k0_t2_loop.trips) (u : Fin 4),
    k0_off10 t (BitVec.ofNat 32 u.val) = ![128 * (4 * t.val + u.val), 0] := by decide +kernel

/-! ## A put at an index of its window and at one outside it -/

section put
variable {s : Shape} {α : Type} (x : s.Idx → α) (off size : Fin s.rank → ℕ) (w : ((a : Fin s.rank) → Fin (size a)) → α)

theorem put_in {y : s.Idx} (z : (a : Fin s.rank) → Fin (size a)) (h : ∀ a, (y a).val = off a + (z a).val) :
    VecWindow.put x off size w y = w z := by
  have hb : ∀ a, off a ≤ (y a).val ∧ (y a).val < off a + size a := fun a => by
    have := h a; have := (z a).isLt; omega
  unfold VecWindow.put
  rw [dif_pos hb]
  congr 1
  funext a
  apply Fin.ext
  show (y a).val - off a = _
  have := h a; omega

theorem put_out {y : s.Idx} (a : Fin s.rank) (h : (y a).val < off a ∨ off a + size a ≤ (y a).val) :
    VecWindow.put x off size w y = x y := by
  unfold VecWindow.put
  rw [dif_neg]
  intro hb; have := hb a; omega

end put

/-! ## The products, their sums and the staged values -/

/-- The half of the two tiles at work. -/
def hf (i : grid0.Coords) : Fin 2 := ⟨(i 2).val % 2, Nat.mod_lt _ (by norm_num)⟩
/-- Row `r` of group `g`, among the rows of a tile. -/
def rw8 (i : grid0.Coords) (g : Fin 2) (r : Fin 8) : Fin 128 :=
  ⟨16 * (i 3).val + 8 * g.val + r.val, by have h : (i 3).val < 8 := (i 3).isLt; omega⟩

/-- The position of row `r` of channel `c` of half `h`. -/
def xpos (h : Fin 2) (c : Fin 96) (r : Fin 128) : Fin 24576 := ⟨12288 * h.val + 128 * c.val + r.val, by omega⟩
/-- The position of row `r` of half `h`. -/
def spos (h : Fin 2) (r : Fin 128) : Fin 256 := ⟨128 * h.val + r.val, by omega⟩

theorem xpos_inj {h h' : Fin 2} {c c' : Fin 96} {r r' : Fin 128} (e : xpos h c r = xpos h' c' r') : h = h' ∧ c = c' ∧ r = r' := by
  have e : 12288 * h.val + 128 * c.val + r.val = 12288 * h'.val + 128 * c'.val + r'.val := congrArg Fin.val e
  refine ⟨?_, ?_, ?_⟩ <;> apply Fin.ext <;> omega

variable {F : FTy → Type} [FloatOps F] [Named F]

/-- The product buffer by half, channel, row and lane. -/
def xat (σ : St F) (h : Fin 2) (c : Fin 96) (r l : Fin 128) : Elt F .f32 := σ .x (ix2 (xpos h c r) l)
/-- The buffer of sums by half, row and lane. -/
def sat (σ : St F) (h : Fin 2) (r l : Fin 128) : Elt F .f32 := σ .sum (ix2 (spos h r) l)

theorem xat_congr {σ σ' : St F} (e : σ' .x = σ .x) (h : Fin 2) (c : Fin 96) (r l : Fin 128) : xat σ' h c r l = xat σ h c r l := by
  unfold xat; rw [e]
theorem sat_congr {σ σ' : St F} (e : σ' .sum = σ .sum) (h : Fin 2) (r l : Fin 128) : sat σ' h r l = sat σ h r l := by
  unfold sat; rw [e]

section rows
variable (i : grid0.Coords) (σ : St F) (g : Fin 2)

theorem xRect_off (c : Fin 96) :
    (xRect i g c).off = ![12288 * (hf i).val + 128 * c.val + 16 * (i 3).val + 8 * g.val, 0] := off12_eq i c g

theorem x8_at (c : Fin 96) (r : Fin 8) (l : Fin 128) : σ.x8 i g c (ix2 r l) = xat σ (hf i) c (rw8 i g r) l := by
  unfold xat
  show σ .x ((xRect i g c).toLoadRect.idx (ix2 r l)) = _
  congr 1
  funext k
  apply Fin.ext
  show (xRect i g c).off k + 1 * (ix2 r l k).val = _
  rw [xRect_off]
  fin_cases k
  · show 12288 * (hf i).val + 128 * c.val + 16 * (i 3).val + 8 * g.val + 1 * r.val = 12288 * (hf i).val + 128 * c.val + (16 * (i 3).val + 8 * g.val + r.val)
    omega
  · show 0 + 1 * l.val = l.val
    omega

theorem setx_in (c : Fin 96) (w : Vec F S8x128 .f32) (r : Fin 8) (l : Fin 128) :
    xat (σ.setx i g c w) (hf i) c (rw8 i g r) l = w (ix2 r l) := by
  unfold xat
  show (σ.set .x _) .x _ = _
  rw [St.set_same]
  refine put_in (s := S24576x128) _ _ _ _ (ix2 r l : S8x128.Idx) fun k => ?_
  rw [xRect_off]
  fin_cases k
  · show 12288 * (hf i).val + 128 * c.val + (16 * (i 3).val + 8 * g.val + r.val) = 12288 * (hf i).val + 128 * c.val + 16 * (i 3).val + 8 * g.val + r.val
    omega
  · show l.val = 0 + l.val
    omega

theorem setx_out (c : Fin 96) (w : Vec F S8x128 .f32) (h' : Fin 2) (c' : Fin 96) (r' l : Fin 128)
    (ne : ∀ r : Fin 8, ¬(h' = hf i ∧ c' = c ∧ r' = rw8 i g r)) :
    xat (σ.setx i g c w) h' c' r' l = xat σ h' c' r' l := by
  unfold xat
  show (σ.set .x _) .x _ = _
  rw [St.set_same]
  refine put_out (s := S24576x128) _ _ _ _ 0 ?_
  rw [xRect_off]
  show (12288 * h'.val + 128 * c'.val + r'.val) < 12288 * (hf i).val + 128 * c.val + 16 * (i 3).val + 8 * g.val
    ∨ 12288 * (hf i).val + 128 * c.val + 16 * (i 3).val + 8 * g.val + 8 ≤ 12288 * h'.val + 128 * c'.val + r'.val
  by_contra hc
  rw [not_or, not_lt, not_le] at hc
  have h3 : (i 3).val < 8 := (i 3).isLt
  refine ne ⟨12288 * h'.val + 128 * c'.val + r'.val - (12288 * (hf i).val + 128 * c.val + 16 * (i 3).val + 8 * g.val), by omega⟩ ?_
  apply xpos_inj
  apply Fin.ext
  show 12288 * h'.val + 128 * c'.val + r'.val = 12288 * (hf i).val + 128 * c.val + (16 * (i 3).val + 8 * g.val + _)
  show _ = 12288 * (hf i).val + 128 * c.val + (16 * (i 3).val + 8 * g.val + (12288 * h'.val + 128 * c'.val + r'.val - (12288 * (hf i).val + 128 * c.val + 16 * (i 3).val + 8 * g.val)))
  omega

theorem setx_ne (c : Fin 96) (w : Vec F S8x128 .f32) {n : Bf} (h : n ≠ .x) : σ.setx i g c w n = σ n := St.set_ne _ h _

theorem sum8_at (r : Fin 8) (l : Fin 128) : σ.sum8 i g (ix2 r l) = sat σ (hf i) (rw8 i g r) l := by
  unfold sat
  show σ .sum _ = _
  congr 1
  funext k
  apply Fin.ext
  show k0_off11 i (BitVec.ofNat 32 (8 * g.val)) k + 1 * (ix2 r l k).val = _
  rw [off11_eq]
  fin_cases k
  · show 128 * (hf i).val + 16 * (i 3).val + 8 * g.val + 1 * r.val = 128 * (hf i).val + (16 * (i 3).val + 8 * g.val + r.val)
    omega
  · show 0 + 1 * l.val = l.val
    omega

theorem ga1_at (c : Fin 96) (l : Fin 128) : σ.ga1 c (ix2 0 l) = σ .ga (ix2 c l) := by
  show σ .ga _ = _
  congr 1
  funext k
  apply Fin.ext
  fin_cases k
  · show c.val + 1 * 0 = c.val
    omega
  · show 0 + 1 * l.val = l.val
    omega

theorem be1_at (c : Fin 96) (l : Fin 128) : σ.be1 c (ix2 0 l) = σ .be (ix2 c l) := by
  show σ .be _ = _
  congr 1
  funext k
  apply Fin.ext
  fin_cases k
  · show c.val + 1 * 0 = c.val
    omega
  · show 0 + 1 * l.val = l.val
    omega

/-- The staged value of channel `c` of row `r` of the group at work. -/
def gat (σ : St F) (c : Fin 96) (r : Fin 8) (l : Fin 128) : Elt F .f32 := σ .stg (ix2 ⟨8 * c.val + r.val, by omega⟩ l)

theorem stg_in (c : Fin 96) (w : Vec F S8x128 .f32) (r : Fin 8) (l : Fin 128) :
    gat (σ.wr .stg ![8 * c.val, 0] S8x128.size w) c r l = w (ix2 r l) := by
  unfold gat
  show (σ.set .stg _) .stg _ = _
  rw [St.set_same]
  refine put_in (s := S768x128) _ _ _ _ (ix2 r l : S8x128.Idx) fun k => ?_
  fin_cases k
  · rfl
  · show l.val = 0 + l.val
    omega

theorem stg_out (c c' : Fin 96) (w : Vec F S8x128 .f32) (r : Fin 8) (l : Fin 128) (ne : c' ≠ c) :
    gat (σ.wr .stg ![8 * c.val, 0] S8x128.size w) c' r l = gat σ c' r l := by
  unfold gat
  show (σ.set .stg _) .stg _ = _
  rw [St.set_same]
  refine put_out (s := S768x128) _ _ _ _ 0 ?_
  show 8 * c'.val + r.val < 8 * c.val ∨ 8 * c.val + 8 ≤ 8 * c'.val + r.val
  have : c'.val ≠ c.val := fun e => ne (Fin.ext e)
  omega

theorem stg8_at (r : Fin 8) (c : Fin 96) (l : Fin 128) : σ.stg8 r (ix2 c l) = gat σ c r l := by
  unfold gat
  show σ .stg _ = _
  congr 1
  funext k
  apply Fin.ext
  fin_cases k
  · show r.val + 8 * c.val = 8 * c.val + r.val
    omega
  · show 0 + 1 * l.val = l.val
    omega

/-- Eight rows written into a block of sixteen: at a row of the eight. -/
theorem rows_in (X : S1x16x128.Idx → Elt F .f32) (w : Vec F S1x8x128 .f32) (r : Fin 8) (l : Fin 128) :
    VecWindow.put X ![0, 8 * g.val, 0] S1x8x128.size w (ix3 0 (row16 g r) l) = w (ix3 0 r l) := by
  refine put_in (s := S1x16x128) _ _ _ _ (ix3 0 r l : S1x8x128.Idx) fun k => ?_
  fin_cases k
  · rfl
  · rfl
  · show l.val = 0 + l.val
    omega

/-- Eight rows written into a block of sixteen: at any other row. -/
theorem rows_out (X : S1x16x128.Idx → Elt F .f32) (w : Vec F S1x8x128 .f32) (r : Fin 16) (l : Fin 128) (ne : ∀ r8, r ≠ row16 g r8) :
    VecWindow.put X ![0, 8 * g.val, 0] S1x8x128.size w (ix3 0 r l) = X (ix3 0 r l) := by
  refine put_out (s := S1x16x128) _ _ _ _ 1 ?_
  show r.val < 8 * g.val ∨ 8 * g.val + 8 ≤ r.val
  by_contra hc
  rw [not_or, not_lt, not_le] at hc
  refine ne ⟨r.val - 8 * g.val, by omega⟩ (Fin.ext ?_)
  show r.val = 8 * g.val + (r.val - 8 * g.val)
  omega

/-- A row of codes written: at the row. -/
theorem code_in (X : S1x16x96x128.Idx → Elt F .fp8e4m3) (w : Vec F S1x1x96x128 .fp8e4m3) (r : Fin 16) (c : Fin 96) (l : Fin 128) :
    VecWindow.put X ![0, r.val, 0, 0] S1x1x96x128.size w (ix4 0 r c l) = w (ix4 0 0 c l) := by
  refine put_in (s := S1x16x96x128) _ _ _ _ (ix4 0 0 c l : S1x1x96x128.Idx) fun k => ?_
  fin_cases k
  · rfl
  · rfl
  · show c.val = 0 + c.val
    omega
  · show l.val = 0 + l.val
    omega

/-- A row of codes written: at any other row. -/
theorem code_out (X : S1x16x96x128.Idx → Elt F .fp8e4m3) (w : Vec F S1x1x96x128 .fp8e4m3) (r r' : Fin 16) (c : Fin 96) (l : Fin 128) (ne : r' ≠ r) :
    VecWindow.put X ![0, r.val, 0, 0] S1x1x96x128.size w (ix4 0 r' c l) = X (ix4 0 r' c l) := by
  refine put_out (s := S1x16x96x128) _ _ _ _ 1 ?_
  show r'.val < r.val ∨ r.val + 1 ≤ r'.val
  have : r'.val ≠ r.val := fun e => ne (Fin.ext e)
  omega

/-- A row of outputs written: at the row. -/
theorem out_in (X : S1x16x128x128.Idx → Elt F .bf16) (w : Vec F S1x1x128x128 .bf16) (r : Fin 16) (l d : Fin 128) :
    VecWindow.put X ![0, r.val, 0, 0] S1x1x128x128.size w (ix4 0 r l d) = w (ix4 0 0 l d) := by
  refine put_in (s := S1x16x128x128) _ _ _ _ (ix4 0 0 l d : S1x1x128x128.Idx) fun k => ?_
  fin_cases k
  · rfl
  · rfl
  · show l.val = 0 + l.val
    omega
  · show d.val = 0 + d.val
    omega

/-- A row of outputs written: at any other row. -/
theorem out_out (X : S1x16x128x128.Idx → Elt F .bf16) (w : Vec F S1x1x128x128 .bf16) (r r' : Fin 16) (l d : Fin 128) (ne : r' ≠ r) :
    VecWindow.put X ![0, r.val, 0, 0] S1x1x128x128.size w (ix4 0 r' l d) = X (ix4 0 r' l d) := by
  refine put_out (s := S1x16x128x128) _ _ _ _ 1 ?_
  show r'.val < r.val ∨ r.val + 1 ≤ r'.val
  have : r'.val ≠ r.val := fun e => ne (Fin.ext e)
  omega

end rows

end Cert.KernelIdeal.Tri
-- ==== Proof.Val.Group.lean ====
/- The values a group of eight rows leaves: each row's normalisation over the channels, its codes and their scale. -/
module

public import proofs.«01_k».proof.Proof.Val.At
public import proofs.«01_k».proof.Proof.Val.Math

@[expose] public section

set_option maxRecDepth 16384

noncomputable section

namespace Cert.KernelIdeal.Tri

open Idealize.ShloMosaic Cert.TriMath
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

/-! ## The payloads read at an index -/

theorem named_val : (Named.named κ "inv_c" 0x3C2AAAAB#32 : Ideal .f32) = ninv :=
  IdealRules.named_const.ideal_named_scalar _ _ _ _ rfl

theorem pMean_at (v : Vec Ideal S8x128 .f32) (r : Fin 8) (l : Fin 128) : pMean v (ix2 r l) = v (ix2 r l) * ninv := by
  rw [← named_val]; unfold pMean; pointwise
theorem pStd_at (v : FVec Ideal S8x128 .f32) (r : Fin 8) (l : Fin 128) : pStd v (ix2 r l) = Ideal.sqrt (v (ix2 r l) * ninv + eps) := by
  rw [← named_val]; unfold pStd eps; pointwise
theorem pRcp_at (v : FVec Ideal S8x128 .f32) (r : Fin 8) (l : Fin 128) : pRcp v (ix2 r l) = Ideal.div 1 (v (ix2 r l)) := by
  unfold pRcp; pointwise
theorem pZero_at (r : Fin 8) (l : Fin 128) : (pZero : FVec Ideal S8x128 .f32) (ix2 r l) = 0 := by
  unfold pZero; pointwise
theorem pY_at (v : FVec Ideal S8x128 .f32) (x : Vec Ideal S8x128 .f32) (a b : Vec Ideal S1x128 .f32) (r : Fin 8) (l : Fin 128) :
    pY v x a b (ix2 r l) = x (ix2 r l) * v (ix2 r l) * a (ix2 0 l) + b (ix2 0 l) := by
  unfold pY; pointwise
theorem pScale_at (v : FVec Ideal S8x128 .f32) (r : Fin 8) (l : Fin 128) : pScale v (ix2 r l) = scaleOf (v (ix2 r l)) := by
  unfold pScale scaleOf top; pointwise
theorem pClip_at (v : FVec Ideal S8x128 .f32) (x : Vec Ideal S8x128 .f32) (r : Fin 8) (l : Fin 128) :
    pClip v x (ix2 r l) = min top (max bot (x (ix2 r l) * v (ix2 r l))) := by
  unfold pClip top bot; pointwise
theorem pCode_at (v : Vec Ideal S96x128 .f32) (c : Fin 96) (l : Fin 128) : pCode v (ix4 0 0 c l) = v (ix2 c l) := by
  unfold pCode; pointwise
theorem sc8_at (v : FVec Ideal S8x128 .f32) (r : Fin 8) (l : Fin 128) : shapeCast S8x128 v shapeCasts_S8x128_S8x128 (ix2 r l) = v (ix2 r l) := by
  pointwise
theorem sc18_at (v : FVec Ideal S8x128 .f32) (r : Fin 8) (l : Fin 128) : shapeCast S1x8x128 v shapeCasts_S8x128_S1x8x128 (ix3 0 r l) = v (ix2 r l) := by
  pointwise
theorem sub8_at (v w : FVec Ideal S8x128 .f32) (r : Fin 8) (l : Fin 128) : subf v w (ix2 r l) = v (ix2 r l) - w (ix2 r l) := rfl
theorem add8_at (v w : FVec Ideal S8x128 .f32) (r : Fin 8) (l : Fin 128) : addf v w (ix2 r l) = v (ix2 r l) + w (ix2 r l) := rfl
theorem mul8_at (v w : FVec Ideal S8x128 .f32) (r : Fin 8) (l : Fin 128) : mulf v w (ix2 r l) = v (ix2 r l) * w (ix2 r l) := rfl
theorem max8_at (v w : FVec Ideal S8x128 .f32) (r : Fin 8) (l : Fin 128) :
    maximumf v (absf w) (ix2 r l) = max (v (ix2 r l)) (max (w (ix2 r l)) (-w (ix2 r l))) := rfl

/-! ## The rows of the group, replaced channel by channel -/

section

variable (i : grid0.Coords) (g : Fin 2) (σ : St Ideal)

/-- The products are those of `σ` but for the group's rows, which are `V`. -/
structure XInv (σ' : St Ideal) (V : Fin 96 → Fin 8 → Fin 128 → EReal) : Prop where
  far : ∀ h c r l, (∀ r8, ¬(h = hf i ∧ r = rw8 i g r8)) → xat σ' h c r l = xat σ h c r l
  near : ∀ c r l, xat σ' (hf i) c (rw8 i g r) l = V c r l

/-- `A` at the channels before `n`, `B` at the rest. -/
def upto (A B : Fin 96 → Fin 8 → Fin 128 → EReal) (n : ℕ) : Fin 96 → Fin 8 → Fin 128 → EReal :=
  fun c r l => if c.val < n then A c r l else B c r l

theorem upto_self (A B : Fin 96 → Fin 8 → Fin 128 → EReal) (c : Fin 96) (r : Fin 8) (l : Fin 128) : upto A B c.val c r l = B c r l :=
  if_neg (lt_irrefl _)
theorem upto_zero (A B : Fin 96 → Fin 8 → Fin 128 → EReal) : upto A B 0 = B := by
  funext c r l; exact if_neg (Nat.not_lt_zero _)
theorem upto_all (A B : Fin 96 → Fin 8 → Fin 128 → EReal) : upto A B 96 = A := by
  funext c r l; exact if_pos c.isLt

variable {i g σ}

theorem XInv.congr {σ' σ'' : St Ideal} {V} (H : XInv i g σ σ' V) (e : σ'' .x = σ' .x) : XInv i g σ σ'' V where
  far h c r l ne := (xat_congr e h c r l).trans (H.far h c r l ne)
  near c r l := (xat_congr e _ c _ l).trans (H.near c r l)

theorem XInv.step {σ' : St Ideal} {A B} {j : Fin 96} (H : XInv i g σ σ' (upto A B j.val)) (w : Vec Ideal S8x128 .f32)
    (hw : ∀ r l, w (ix2 r l) = A j r l) : XInv i g σ (σ'.setx i g j w) (upto A B (j.val + 1)) where
  far h c r l ne := (setx_out i σ' g j w h c r l fun r8 h' => ne r8 ⟨h'.1, h'.2.2⟩).trans (H.far h c r l ne)
  near c r l := by
    by_cases e : c = j
    · subst e
      rw [setx_in, hw]
      exact (if_pos (Nat.lt_succ_self _)).symm
    · rw [setx_out i σ' g j w _ c _ l fun r8 h' => e h'.2.1, H.near]
      have : c.val ≠ j.val := fun h => e (Fin.ext h)
      unfold upto
      exact if_congr (by omega) rfl rfl

variable (i g σ)

/-- Row `r`, lane `l` of the group over the channels. -/
def col (r : Fin 8) (l : Fin 128) : Fin 96 → EReal := fun c => xat σ (hf i) c (rw8 i g r) l
def gaC (l : Fin 128) : Fin 96 → EReal := fun c => σ .ga (ix2 c l)
def beC (l : Fin 128) : Fin 96 → EReal := fun c => σ .be (ix2 c l)

/-- The standard deviations, on the group's rows and off them. -/
def StdOk (σ' : St Ideal) : Prop :=
  (∀ r l, σ' .std (ix3 0 (row16 g r) l) = rStd (col i g σ r l)) ∧ ∀ r l, (∀ r8, r ≠ row16 g r8) → σ' .std (ix3 0 r l) = σ .std (ix3 0 r l)
/-- The scales, on the group's rows and off them. -/
def S2Ok (σ' : St Ideal) : Prop :=
  (∀ r l, σ' .s2 (ix3 0 (row16 g r) l) = rScale (col i g σ r l) (gaC σ l) (beC σ l)) ∧
    ∀ r l, (∀ r8, r ≠ row16 g r8) → σ' .s2 (ix3 0 r l) = σ .s2 (ix3 0 r l)

theorem StdOk.congr {i g σ} {σ' σ'' : St Ideal} (H : StdOk i g σ σ') (e : σ'' .std = σ' .std) : StdOk i g σ σ'' := by
  unfold StdOk; rw [e]; exact H
theorem S2Ok.congr {i g σ} {σ' σ'' : St Ideal} (H : S2Ok i g σ σ') (e : σ'' .s2 = σ' .s2) : S2Ok i g σ σ'' := by
  unfold S2Ok; rw [e]; exact H

/-- What the group leaves. -/
structure GroupPost (σ' : St Ideal) : Prop where
  keep : ∀ n, n ≠ .x → n ≠ .std → n ≠ .s2 → n ≠ .stg → n ≠ .q2 → σ' n = σ n
  far : ∀ h c r l, (∀ r8, ¬(h = hf i ∧ r = rw8 i g r8)) → xat σ' h c r l = xat σ h c r l
  std : StdOk i g σ σ'
  s2 : S2Ok i g σ σ'
  q2 : ∀ r c l, σ' .q2 (ix4 0 (row16 g r) c l) = rCode (col i g σ r l) (gaC σ l) (beC σ l) c
  q2' : ∀ r c l, (∀ r8, r ≠ row16 g r8) → σ' .q2 (ix4 0 r c l) = σ .q2 (ix4 0 r c l)

def vX : Fin 96 → Fin 8 → Fin 128 → EReal := fun c r l => col i g σ r l c
def vC : Fin 96 → Fin 8 → Fin 128 → EReal := fun c r l => rXc (col i g σ r l) c
def vY : Fin 96 → Fin 8 → Fin 128 → EReal := fun c r l => rY (col i g σ r l) (gaC σ l) (beC σ l) c
def vSq (r : Fin 8) (l : Fin 128) : Fin 96 → EReal := fun c => rXc (col i g σ r l) c * rXc (col i g σ r l) c

structure GA (n : ℕ) (σ' : St Ideal) (var : FVec Ideal S8x128 .f32) : Prop where
  keep : ∀ m, m ≠ .x → σ' m = σ m
  x : XInv i g σ σ' (upto (vC i g σ) (vX i g σ) n)
  acc : ∀ r l, var (ix2 r l) = sumTo (vSq i g σ r l) n

structure GB (var : FVec Ideal S8x128 .f32) (n : ℕ) (σ' : St Ideal) (am : FVec Ideal S8x128 .f32) : Prop where
  var : ∀ r l, pStd var (ix2 r l) = rStd (col i g σ r l)
  keep : ∀ m, m ≠ .x → m ≠ .std → σ' m = σ m
  x : XInv i g σ σ' (upto (vY i g σ) (vC i g σ) n)
  std : StdOk i g σ σ'
  acc : ∀ r l, am (ix2 r l) = maxTo (rY (col i g σ r l) (gaC σ l) (beC σ l)) n

structure GC (am : FVec Ideal S8x128 .f32) (n : ℕ) (σ' : St Ideal) : Prop where
  am : ∀ r l, pScale am (ix2 r l) = rScale (col i g σ r l) (gaC σ l) (beC σ l)
  keep : ∀ m, m ≠ .x → m ≠ .std → m ≠ .s2 → m ≠ .stg → σ' m = σ m
  x : XInv i g σ σ' (vY i g σ)
  std : StdOk i g σ σ'
  s2 : S2Ok i g σ σ'
  stg : ∀ (c : Fin 96) r l, c.val < n → gat σ' c r l = rCode (col i g σ r l) (gaC σ l) (beC σ l) c

structure GD (n : ℕ) (σ' : St Ideal) : Prop where
  keep : ∀ m, m ≠ .x → m ≠ .std → m ≠ .s2 → m ≠ .stg → m ≠ .q2 → σ' m = σ m
  far : ∀ h c r l, (∀ r8, ¬(h = hf i ∧ r = rw8 i g r8)) → xat σ' h c r l = xat σ h c r l
  std : StdOk i g σ σ'
  s2 : S2Ok i g σ σ'
  stg : ∀ (c : Fin 96) r l, gat σ' c r l = rCode (col i g σ r l) (gaC σ l) (beC σ l) c
  q2 : ∀ (r : Fin 8) c l, r.val < n → σ' .q2 (ix4 0 (row16 g r) c l) = rCode (col i g σ r l) (gaC σ l) (beC σ l) c
  q2' : ∀ r c l, (∀ r8, r ≠ row16 g r8) → σ' .q2 (ix4 0 r c l) = σ .q2 (ix4 0 r c l)

variable {defs : Defs nD τ sig (Elt Ideal) Λ₀} {𝒱 : Variants} {c : Dev nD} {bd : Option 𝒱.V} {M : Mems}

theorem row16_inj {g : Fin 2} {r r' : Fin 8} (h : row16 g r = row16 g r') : r = r' := by
  have h : 8 * g.val + r.val = 8 * g.val + r'.val := congrArg Fin.val h
  apply Fin.ext; omega

theorem group_val (h21 : (M .q2).IsWhole) (u : PUnit)
    (hsum : ∀ r l, sat σ (hf i) (rw8 i g r) l = ∑ c, xat σ (hf i) c (rw8 i g r) l) :
    Runs defs 𝒱 c bd M (group i (M .ga) (M .be) (M .std) (M .q2) h21 (M .s2) (M .x) (M .sum) (M .stg) g u) σ
      fun σ' _ => GroupPost i g σ σ' := by
  have hmean : ∀ r l, pMean (σ.sum8 i g) (ix2 r l) = rMean (col i g σ r l) := fun r l => by
    rw [pMean_at, sum8_at, hsum]; rfl
  refine (group_runs (c := c) i h21 g u σ (GA i g σ) (GB i g σ) (fun _ => GC i g σ) (fun _ _ => GD i g σ) ?_ ?_ ?_ ?_ ?_ ?_ ?_ ?_).mono ?_
  · refine ⟨fun _ _ => rfl, ?_, fun r l => ?_⟩
    · rw [upto_zero]; exact ⟨fun _ _ _ _ _ => rfl, fun _ _ _ => rfl⟩
    · rw [pZero_at]; rfl
  · intro j σ' var H
    have hx : ∀ r l, subf (σ'.x8 i g j) (pMean (σ.sum8 i g)) (ix2 r l) = vC i g σ j r l := fun r l => by
      rw [sub8_at, hmean, x8_at, H.x.near, upto_self]; rfl
    refine ⟨fun m hm => (setx_ne i σ' g j _ hm).trans (H.keep m hm), H.x.step _ fun r l => ?_, fun r l => ?_⟩
    · rw [sc8_at, hx]
    · rw [add8_at, mul8_at, hx, H.acc, sumTo_succ]; rfl
  · intro σ' var H
    have hv : ∀ r l, pStd var (ix2 r l) = rStd (col i g σ r l) := fun r l => by
      rw [pStd_at, H.acc, sumTo_all]; rfl
    refine ⟨hv, fun m hm hm' => (St.set_ne _ hm' _).trans (H.keep m hm), ?_, ⟨fun r l => ?_, fun r l ne => ?_⟩, fun r l => ?_⟩
    · rw [upto_zero]
      have := H.x
      rw [upto_all] at this
      exact this.congr (St.set_ne _ (by decide) _)
    · show (σ'.set .std _) .std _ = _
      rw [St.set_same, rows_in, sc18_at, hv]
    · show (σ'.set .std _) .std _ = _
      rw [St.set_same, rows_out g _ _ _ _ ne, H.keep .std (by decide)]
    · rw [pZero_at]; rfl
  · intro var j σ' am H
    have hy : ∀ r l, pY (pRcp (pStd var)) (σ'.x8 i g j) (σ'.ga1 j) (σ'.be1 j) (ix2 r l) = vY i g σ j r l := fun r l => by
      rw [pY_at, pRcp_at, H.var, x8_at, H.x.near, upto_self, ga1_at, be1_at, H.keep .ga (by decide) (by decide), H.keep .be (by decide) (by decide)]
      rfl
    refine ⟨H.var, fun m hm hm' => (setx_ne i σ' g j _ hm).trans (H.keep m hm hm'), H.x.step _ fun r l => ?_, H.std.congr (setx_ne i σ' g j _ (by decide)), fun r l => ?_⟩
    · rw [sc8_at, hy]
    · rw [max8_at, hy, H.acc, maxTo_succ]; rfl
  · intro σ' var am H
    have hs : ∀ r l, pScale am (ix2 r l) = rScale (col i g σ r l) (gaC σ l) (beC σ l) := fun r l => by
      rw [pScale_at, H.acc]; rfl
    refine ⟨hs, fun m hm hm' hm'' _ => (St.set_ne _ hm'' _).trans (H.keep m hm hm'), ?_, H.std.congr (St.set_ne _ (by decide) _), ⟨fun r l => ?_, fun r l ne => ?_⟩, fun c r l h => absurd h (Nat.not_lt_zero _)⟩
    · have := H.x
      rw [upto_all] at this
      exact this.congr (St.set_ne _ (by decide) _)
    · show (σ'.set .s2 _) .s2 _ = _
      rw [St.set_same, rows_in, sc18_at, hs]
    · show (σ'.set .s2 _) .s2 _ = _
      rw [St.set_same, rows_out g _ _ _ _ ne, H.keep .s2 (by decide) (by decide)]
  · intro var am j σ' H
    refine ⟨H.am, fun m hm hm' hm'' hs => (St.set_ne _ hs _).trans (H.keep m hm hm' hm'' hs), H.x.congr (St.set_ne _ (by decide) _), H.std.congr (St.set_ne _ (by decide) _), H.s2.congr (St.set_ne _ (by decide) _), fun c r l h => ?_⟩
    by_cases e : c = j
    · subst e
      rw [stg_in, sc8_at, pClip_at, pRcp_at, H.am, x8_at, H.x.near]; rfl
    · rw [stg_out _ _ _ _ _ _ e]
      exact H.stg c r l (by have : c.val ≠ j.val := fun h => e (Fin.ext h)
                            omega)
  · intro σ' var am H
    exact ⟨fun m h1 h2 h3 h4 _ => H.keep m h1 h2 h3 h4, H.x.far, H.std, H.s2, fun c r l => H.stg c r l c.isLt, fun r c l h => absurd h (Nat.not_lt_zero _),
      fun r c l _ => by rw [H.keep .q2 (by decide) (by decide) (by decide) (by decide)]⟩
  · intro var am r' σ' H
    refine ⟨fun m h1 h2 h3 h4 h5 => (St.set_ne _ h5 _).trans (H.keep m h1 h2 h3 h4 h5), fun h c r l ne => (xat_congr (St.set_ne _ (by decide) _) h c r l).trans (H.far h c r l ne),
      H.std.congr (St.set_ne _ (by decide) _), H.s2.congr (St.set_ne _ (by decide) _), fun c r l => ?_, fun r c l h => ?_, fun r c l ne => ?_⟩
    · show (σ'.set .q2 _) .stg _ = _
      rw [St.set_ne _ (by decide)]; exact H.stg c r l
    · show (σ'.set .q2 _) .q2 _ = _
      rw [St.set_same]
      by_cases e : r = r'
      · subst e
        rw [code_in, pCode_at, stg8_at, H.stg]
      · rw [code_out _ _ _ _ _ _ fun h => e (row16_inj h)]
        exact H.q2 r c l (by have : r.val ≠ r'.val := fun h => e (Fin.ext h)
                             omega)
    · show (σ'.set .q2 _) .q2 _ = _
      rw [St.set_same, code_out _ _ _ _ _ _ (ne r')]
      exact H.q2' r c l ne
  · rintro σ' _ ⟨_, _, H⟩
    exact ⟨H.keep, H.far, H.std, H.s2, fun r c l => H.q2 r c l r.isLt, H.q2'⟩

end

end Cert.KernelIdeal.Tri
-- ==== Proof.Val.OutV.lean ====
/- The values a pair of output rows leaves. -/
module

public import proofs.«01_k».proof.Proof.Val.Group

@[expose] public section

set_option maxRecDepth 16384

noncomputable section

namespace Cert.KernelIdeal.Tri

open Idealize.ShloMosaic Cert.TriMath
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

/-- The output of one row, from what its payload reads. -/
theorem pOut_at (h : Fin 2) (q : Fin 2 → Vec Ideal S1x1x96x128 .fp8e4m3) (wo w5 q1 e z s1 s5 s2 so) (l d : Fin 128) :
    pOut (F := Ideal) h (pO (q 0) (q 1) wo) (pP w5 q1) (pZ e z) s1 s5 s2 so (ix4 0 0 l d)
      = (∑ x, e (ix2 d x) * z (ix4 0 h l x)) +
        (Ideal.tanh ((∑ x, w5 (ix2 d x) * q1 (ix4 0 h l x)) * s1 (ix3 0 0 l) * s5 (ix2 d l)) + 1) *
          ((∑ x, wo (ix2 d x) * q h (ix4 0 0 x l)) * s2 (ix3 0 0 l) * so (ix2 d l)) := by
  have e0 : ∀ h, (⟨l.val / 128, h⟩ : Fin 2) = 0 := fun h => Fin.ext (by show l.val / 128 = 0; omega)
  have e0' : ∀ h, (⟨l.val % 128, h⟩ : Fin 128) = l := fun h => Fin.ext (by show l.val % 128 = l.val; omega)
  have e1 : ∀ h, (⟨(128 + l.val) / 128, h⟩ : Fin 2) = 1 := fun h => Fin.ext (by show (128 + l.val) / 128 = 1; omega)
  fin_cases h
  · show pOut (F := Ideal) 0 _ _ _ _ _ _ _ _ = _
    unfold pOut pScaled pO pP pZ; pointwise
    simp only [e0, e0']
  · show pOut (F := Ideal) 1 _ _ _ _ _ _ _ _ = _
    unfold pOut pScaled pO pP pZ; pointwise
    simp only [e1]

section

variable (σ : St Ideal)

theorem q2r_at (r : Fin 16) (c : Fin 96) (l : Fin 128) : σ.q2r r (ix4 0 0 c l) = σ .q2 (ix4 0 r c l) := by
  show σ .q2 _ = _
  congr 1; funext k; apply Fin.ext
  fin_cases k
  · rfl
  · rfl
  · show 0 + 1 * c.val = c.val
    omega
  · show 0 + 1 * l.val = l.val
    omega
theorem q1p_at (p : Fin 8) (h : Fin 2) (l d : Fin 128) : σ.q1p p (ix4 0 h l d) = σ .q1 (ix4 0 (pair16 p h) l d) := by
  show σ .q1 _ = _
  congr 1; funext k; apply Fin.ext
  fin_cases k
  · rfl
  · show 2 * p.val + 1 * h.val = 2 * p.val + h.val
    omega
  · show 0 + 1 * l.val = l.val
    omega
  · show 0 + 1 * d.val = d.val
    omega
theorem zp_at (p : Fin 8) (h : Fin 2) (l d : Fin 128) : σ.zp p (ix4 0 h l d) = σ .z (ix4 0 (pair16 p h) l d) := by
  show σ .z _ = _
  congr 1; funext k; apply Fin.ext
  fin_cases k
  · rfl
  · show 2 * p.val + 1 * h.val = 2 * p.val + h.val
    omega
  · show 0 + 1 * l.val = l.val
    omega
  · show 0 + 1 * d.val = d.val
    omega
theorem s1r_at (r : Fin 16) (l : Fin 128) : σ.s1r r (ix3 0 0 l) = σ .s1 (ix3 0 r l) := by
  show σ .s1 _ = _
  congr 1; funext k; apply Fin.ext
  fin_cases k
  · rfl
  · rfl
  · show 0 + 1 * l.val = l.val
    omega
theorem s2r_at (r : Fin 16) (l : Fin 128) : σ.s2r r (ix3 0 0 l) = σ .s2 (ix3 0 r l) := by
  show σ .s2 _ = _
  congr 1; funext k; apply Fin.ext
  fin_cases k
  · rfl
  · rfl
  · show 0 + 1 * l.val = l.val
    omega
/-- A whole table read at an index. -/
theorem whole_at {n l : ℕ} {inb} (y : (⟨2, ![n, l]⟩ : Shape).Idx) :
    (Rect.unit (s := (⟨2, ![n, l]⟩ : Shape)) ![0, 0] (⟨2, ![n, l]⟩ : Shape).size inb).toLoadRect.idx y = y := by
  funext k; apply Fin.ext
  fin_cases k
  · show 0 + 1 * (y 0).val = (y 0).val
    omega
  · show 0 + 1 * (y 1).val = (y 1).val
    omega

/-- The output at row `r`, position `l` and channel `d`, from the blocks. -/
def zOut (r : Fin 16) (l d : Fin 128) : EReal :=
  (∑ x : Fin 128, σ .eye (ix2 d x) * σ .z (ix4 0 r l x)) +
    (Ideal.tanh ((∑ x : Fin 128, σ .w5 (ix2 d x) * σ .q1 (ix4 0 r l x)) * σ .s1 (ix3 0 r l) * σ .s5 (ix2 d l)) + 1) *
      ((∑ x : Fin 96, σ .wo (ix2 d x) * σ .q2 (ix4 0 r x l)) * σ .s2 (ix3 0 r l) * σ .so (ix2 d l))

theorem zOut_congr {σ' : St Ideal} (h : ∀ n, n ≠ .zo → σ' n = σ n) (r : Fin 16) (l d : Fin 128) : zOut σ' r l d = zOut σ r l d := by
  unfold zOut
  rw [h .eye (by decide), h .z (by decide), h .w5 (by decide), h .q1 (by decide), h .s1 (by decide), h .s5 (by decide), h .wo (by decide),
    h .q2 (by decide), h .s2 (by decide), h .so (by decide)]

variable {defs : Defs nD τ sig (Elt Ideal) Λ₀} {𝒱 : Variants} {c : Dev nD} {bd : Option 𝒱.V} {M : Mems}

/-- The rows before `n` are at their outputs, all else as it began. -/
structure OutPost (n : ℕ) (σ' : St Ideal) : Prop where
  keep : ∀ m, m ≠ .zo → σ' m = σ m
  zo : ∀ (r : Fin 16) l d, r.val < n → σ' .zo (ix4 0 r l d) = zOut σ r l d

theorem outPair_val (h19 : (M .zo).IsWhole) (p : Fin 8) (u : PUnit) (σ₁ : St Ideal) (H : OutPost σ (2 * p.val) σ₁) :
    Runs defs 𝒱 c bd M (outPair (M .z) (M .q1) (M .s1) (M .eye) (M .w5) (M .s5) (M .wo) (M .so) (M .zo) h19 (M .q2) (M .s2) p u) σ₁
      fun σ' _ => OutPost σ (2 * (p.val + 1)) σ' := by
  refine outPair_runs h19 p u σ₁ _ fun k G Q hk => Runs.loop (fun n σ' _ => OutPost σ (2 * p.val + n) σ') (fun h σ' v hI => (stepE_runs h19 p _ _ _ h v σ').mono ?_) H k G Q fun σ' v hI => hk σ' v hI
  rintro _ _ rfl
  refine ⟨fun m hm => (St.set_ne _ hm _).trans (hI.keep m hm), fun r l d hr => ?_⟩
  show (σ'.set .zo _) .zo _ = _
  rw [St.set_same]
  by_cases e : r = pair16 p h
  · subst e
    rw [out_in, pOut_at h (fun h => σ₁.q2r (pair16 p h)), s1r_at, s2r_at]
    have ee : ∀ x, σ₁.eyew x = σ .eye x := fun x => (congrArg _ (whole_at (n := 128) (l := 128) x)).trans (congrFun (H.keep .eye (by decide)) x)
    have ew : ∀ x, σ₁.w5w x = σ .w5 x := fun x => (congrArg _ (whole_at (n := 128) (l := 128) x)).trans (congrFun (H.keep .w5 (by decide)) x)
    have es : ∀ x, σ'.s5w x = σ .s5 x := fun x => (congrArg _ (whole_at (n := 128) (l := 128) x)).trans (congrFun (hI.keep .s5 (by decide)) x)
    have eo : ∀ x, σ₁.wow x = σ .wo x := fun x => (congrArg _ (whole_at (n := 128) (l := 96) x)).trans (congrFun (H.keep .wo (by decide)) x)
    have et : ∀ x, σ'.sow x = σ .so x := fun x => (congrArg _ (whole_at (n := 128) (l := 128) x)).trans (congrFun (hI.keep .so (by decide)) x)
    have ez : ∀ x, σ₁.zp p (ix4 0 h l x) = σ .z (ix4 0 (pair16 p h) l x) := fun x => (zp_at σ₁ p h l x).trans (congrFun (H.keep .z (by decide)) _)
    have e1 : ∀ x, σ₁.q1p p (ix4 0 h l x) = σ .q1 (ix4 0 (pair16 p h) l x) := fun x => (q1p_at σ₁ p h l x).trans (congrFun (H.keep .q1 (by decide)) _)
    have e2 : ∀ x, σ₁.q2r (pair16 p h) (ix4 0 0 x l) = σ .q2 (ix4 0 (pair16 p h) x l) := fun x => (q2r_at σ₁ _ x l).trans (congrFun (H.keep .q2 (by decide)) _)
    rw [hI.keep .s1 (by decide), hI.keep .s2 (by decide)]
    simp only [ee, ew, es, eo, et, ez, e1, e2]
    rfl
  · rw [out_out _ _ _ _ _ _ e]
    refine hI.zo r l d ?_
    have : r.val ≠ 2 * p.val + h.val := fun h' => e (Fin.ext h')
    omega

end

end Cert.KernelIdeal.Tri
-- ==== Proof.Val.Prod.lean ====
/- The values the product stage leaves: the products of every channel, and their sums over the channels. -/
module

public import proofs.«01_k».proof.Proof.Val.OutV

@[expose] public section

set_option maxRecDepth 16384

noncomputable section

namespace Cert.KernelIdeal.Tri

open Idealize.ShloMosaic Cert.TriMath
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

/-! ## The payloads read at an index -/

theorem pairFac0_at (b0 b1 : Vec Ideal S1x1x640x128 .fp8e4m3) (a : Vec Ideal S1x128x640 .fp8e4m3) (fa fb : Vec Ideal S1x1x128 .f32) (r l : Fin 128) :
    pFac (extractStridedSlice S128x128 ![0, 128 * (0 : Fin 2).val] (pPair b0 b1 a) (halfSlices 0)) fa fb (ix2 r l)
      = (∑ k, a (ix3 0 r k) * b0 (ix4 0 0 k l)) * fa (ix3 0 0 r) * fb (ix3 0 0 l) := by
  unfold pFac pPair; pointwise
theorem pairFac1_at (b0 b1 : Vec Ideal S1x1x640x128 .fp8e4m3) (a : Vec Ideal S1x128x640 .fp8e4m3) (fa fb : Vec Ideal S1x1x128 .f32) (r l : Fin 128) :
    pFac (extractStridedSlice S128x128 ![0, 128 * (1 : Fin 2).val] (pPair b0 b1 a) (halfSlices 1)) fa fb (ix2 r l)
      = (∑ k, a (ix3 0 r k) * b1 (ix4 0 0 k l)) * fa (ix3 0 0 r) * fb (ix3 0 0 l) := by
  unfold pFac pPair; pointwise
theorem oneFac_at (b : Vec Ideal S1x1x640x128 .fp8e4m3) (a : Vec Ideal S1x128x640 .fp8e4m3) (fa fb : Vec Ideal S1x1x128 .f32) (r l : Fin 128) :
    pFac (pOne b a) fa fb (ix2 r l) = (∑ k, a (ix3 0 r k) * b (ix4 0 0 k l)) * fa (ix3 0 0 r) * fb (ix3 0 0 l) := by
  unfold pFac pOne; pointwise
theorem sc128_at (v : FVec Ideal S128x128 .f32) (r l : Fin 128) : shapeCast S128x128 v shapeCasts_S128x128_S128x128 (ix2 r l) = v (ix2 r l) := by
  pointwise
theorem add128_at (v w : FVec Ideal S128x128 .f32) (r l : Fin 128) : addf v w (ix2 r l) = v (ix2 r l) + w (ix2 r l) := rfl

/-! ## A tile's rows of one channel written, and their sum taken -/

section

variable (σ : St Ideal)

/-- The rows from `off` on at new values, and the sums of half `h` with them added. -/
@[reducible] def St.addAt (off : Fin 2 → ℕ) (h : Fin 2) (w : FVec Ideal S128x128 .f32) : St Ideal :=
  let σ' := σ.wr .x off S128x128.size (shapeCast S128x128 w shapeCasts_S128x128_S128x128)
  σ'.wr .sum ![128 * h.val, 0] S128x128.size (shapeCast S128x128
    (addf (σ'.rd .sum (Rect.unit (s := S256x128) ![128 * h.val, 0] S128x128.size (sumInb h)).toLoadRect) w) shapeCasts_S128x128_S128x128)

variable (off : Fin 2 → ℕ) (h : Fin 2) (w : FVec Ideal S128x128 .f32) (c : Fin 96)

theorem addAt_ne {m : Bf} (hx : m ≠ .x) (hs : m ≠ .sum) : σ.addAt off h w m = σ m :=
  (St.set_ne _ hs _).trans (St.set_ne _ hx _)

theorem addAt_x_in (ho : off = ![12288 * h.val + 128 * c.val, 0]) (r l : Fin 128) : xat (σ.addAt off h w) h c r l = w (ix2 r l) := by
  unfold xat
  show ((St.set _ .sum _) .x) _ = _
  rw [St.set_ne _ (by decide)]
  show (St.set _ .x _) .x _ = _
  rw [St.set_same]
  refine (put_in (s := S24576x128) _ _ _ _ (ix2 r l : S128x128.Idx) fun k => ?_).trans (sc128_at w r l)
  rw [ho]
  fin_cases k
  · rfl
  · show l.val = 0 + l.val
    omega

theorem addAt_x_out (ho : off = ![12288 * h.val + 128 * c.val, 0]) (h' : Fin 2) (c' : Fin 96) (r l : Fin 128) (ne : ¬(h' = h ∧ c' = c)) :
    xat (σ.addAt off h w) h' c' r l = xat σ h' c' r l := by
  unfold xat
  show ((St.set _ .sum _) .x) _ = _
  rw [St.set_ne _ (by decide)]
  show (St.set _ .x _) .x _ = _
  rw [St.set_same]
  refine put_out (s := S24576x128) _ _ _ _ 0 ?_
  rw [ho]
  show 12288 * h'.val + 128 * c'.val + r.val < 12288 * h.val + 128 * c.val ∨ 12288 * h.val + 128 * c.val + 128 ≤ 12288 * h'.val + 128 * c'.val + r.val
  by_contra hc
  rw [not_or, not_lt, not_le] at hc
  exact ne ⟨Fin.ext (by omega), Fin.ext (by omega)⟩

theorem addAt_sum_in (r l : Fin 128) : sat (σ.addAt off h w) h r l = sat σ h r l + w (ix2 r l) := by
  unfold sat
  show (St.set _ .sum _) .sum _ = _
  rw [St.set_same]
  refine (put_in (s := S256x128) _ _ _ _ (ix2 r l : S128x128.Idx) fun k => ?_).trans ?_
  · fin_cases k
    · rfl
    · show l.val = 0 + l.val
      omega
  · rw [sc128_at, add128_at]
    congr 1
    show (St.set _ .x _) .sum _ = _
    rw [St.set_ne _ (by decide)]
    congr 1; funext k; apply Fin.ext
    fin_cases k
    · show 128 * h.val + 1 * r.val = 128 * h.val + r.val
      omega
    · show 0 + 1 * l.val = l.val
      omega

theorem addAt_sum_out (h' : Fin 2) (r l : Fin 128) (ne : h' ≠ h) : sat (σ.addAt off h w) h' r l = sat σ h' r l := by
  unfold sat
  show (St.set _ .sum _) .sum _ = _
  rw [St.set_same]
  refine (put_out (s := S256x128) _ _ _ _ 0 ?_).trans ?_
  · show 128 * h'.val + r.val < 128 * h.val ∨ 128 * h.val + 128 ≤ 128 * h'.val + r.val
    have : h'.val ≠ h.val := fun e => ne (Fin.ext e)
    omega
  · show (St.set _ .x _) .sum _ = _
    rw [St.set_ne _ (by decide)]

/-- The sums cleared. -/
theorem clear2_at (h : Fin 2) (r l : Fin 128) : sat (σ.wr .sum ![0, 0] S256x128.size (Gen.k0_pay45 (F := Ideal))) h r l = 0 := by
  unfold sat
  show (St.set _ .sum _) .sum _ = _
  rw [St.set_same]
  refine (put_in (s := S256x128) _ _ _ _ (ix2 (spos h r) l : S256x128.Idx) fun k => ?_).trans ?_
  · fin_cases k
    · show _ = 0 + _
      exact (Nat.zero_add _).symm
    · show _ = 0 + _
      exact (Nat.zero_add _).symm
  · unfold Gen.k0_pay45; pointwise
theorem clear1_at (h : Fin 2) (r l : Fin 128) : sat (σ.wr .sum ![0, 0] S256x128.size (Gen.k0_pay48 (F := Ideal))) h r l = 0 := by
  unfold sat
  show (St.set _ .sum _) .sum _ = _
  rw [St.set_same]
  refine (put_in (s := S256x128) _ _ _ _ (ix2 (spos h r) l : S256x128.Idx) fun k => ?_).trans ?_
  · fin_cases k
    · show _ = 0 + _
      exact (Nat.zero_add _).symm
    · show _ = 0 + _
      exact (Nat.zero_add _).symm
  · unfold Gen.k0_pay48; pointwise

end

/-- Channel `u` of trip `t`, two tiles wide. -/
def chan2 (t : Fin k0_t1_loop.trips) (u : Fin 4) : Fin 96 := ⟨4 * t.val + u.val, by have : t.val < 24 := lt_of_lt_of_eq t.isLt trips1; omega⟩
/-- Channel `u` of trip `t`, one tile wide. -/
def chan1 (t : Fin k0_t2_loop.trips) (u : Fin 4) : Fin 96 := ⟨4 * t.val + u.val, by have : t.val < 24 := lt_of_lt_of_eq t.isLt trips2; omega⟩

section

variable (i : grid0.Coords) (σ : St Ideal)

/-- The product of channel `c` in half `h`, the second operand's tile being number `j`. -/
def prodAt (fb : S1x96x128.Idx → EReal) (j : Fin 5) (c : Fin 96) (r l : Fin 128) : EReal :=
  (∑ k : Fin 640, σ .a (ix3 c r k) * σ .b (ix4 j c k l)) * σ .fa (ix3 0 c r) * fb (ix3 0 c l)

/-- The products of the first `n` channels of the halves wanted are in place, and their sums. -/
structure PInv (want : Fin 2 → Prop) (T : Fin 2 → Fin 96 → Fin 128 → Fin 128 → EReal) (n : ℕ) (σ' : St Ideal) : Prop where
  keep : ∀ m, m ≠ .x → m ≠ .sum → σ' m = σ m
  x : ∀ h (c : Fin 96) r l, want h → c.val < n → xat σ' h c r l = T h c r l
  sum : ∀ h r l, want h → sat σ' h r l = sumTo (fun c => T h c r l) n

variable {σ}

/-- One more channel of one half: the others keep what they have. -/
theorem PInv.half {want} {T} {σ' : St Ideal} {c : Fin 96} {off : Fin 2 → ℕ} {h : Fin 2} {w : FVec Ideal S128x128 .f32}
    (H : PInv σ want T c.val σ') (ho : off = ![12288 * h.val + 128 * c.val, 0]) (hw : ∀ r l, w (ix2 r l) = T h c r l)
    (only : ∀ h', want h' → h' = h) : PInv σ want T (c.val + 1) (σ'.addAt off h w) where
  keep m hx hs := (addAt_ne σ' off h w hx hs).trans (H.keep m hx hs)
  x h' c' r l hh hc := by
    obtain rfl := only h' hh
    by_cases e : c' = c
    · subst e; rw [addAt_x_in σ' off _ w _ ho, hw]
    · rw [addAt_x_out σ' off _ w c ho _ _ _ _ fun q => e q.2]
      exact H.x _ c' r l hh (by have : c'.val ≠ c.val := fun q => e (Fin.ext q)
                                omega)
  sum h' r l hh := by
    obtain rfl := only h' hh
    rw [addAt_sum_in, H.sum _ r l hh, hw, sumTo_succ]

/-- One more channel of both halves. -/
theorem PInv.both {T} {σ' : St Ideal} {c : Fin 96} {off off' : Fin 2 → ℕ} {w w' : FVec Ideal S128x128 .f32}
    (H : PInv σ (fun _ => True) T c.val σ') (ho : off = ![12288 * (0 : Fin 2).val + 128 * c.val, 0]) (ho' : off' = ![12288 * (1 : Fin 2).val + 128 * c.val, 0])
    (hw : ∀ r l, w (ix2 r l) = T 0 c r l) (hw' : ∀ r l, w' (ix2 r l) = T 1 c r l) :
    PInv σ (fun _ => True) T (c.val + 1) ((σ'.addAt off 0 w).addAt off' 1 w') where
  keep m hx hs := (addAt_ne _ off' 1 w' hx hs).trans ((addAt_ne σ' off 0 w hx hs).trans (H.keep m hx hs))
  x h' c' r l _ hc := by
    by_cases e : c' = c
    · subst e
      fin_cases h'
      · exact (addAt_x_out _ off' 1 w' _ ho' 0 _ _ _ fun q => absurd q.1 (by decide)).trans ((addAt_x_in σ' off 0 w _ ho r l).trans (hw r l))
      · exact (addAt_x_in _ off' 1 w' _ ho' r l).trans (hw' r l)
    · rw [addAt_x_out _ off' 1 w' c ho' _ _ _ _ fun q => e q.2, addAt_x_out _ off 0 w c ho _ _ _ _ fun q => e q.2]
      exact H.x _ c' r l trivial (by have : c'.val ≠ c.val := fun q => e (Fin.ext q)
                                     omega)
  sum h' r l _ := by
    rw [sumTo_succ]
    fin_cases h'
    · refine (addAt_sum_out _ off' 1 w' 0 r l (by decide)).trans ((addAt_sum_in σ' off 0 w r l).trans ?_)
      rw [hw, H.sum 0 r l trivial]; rfl
    · refine (addAt_sum_in _ off' 1 w' r l).trans ?_
      rw [addAt_sum_out _ off 0 w 1 r l (by decide), hw', H.sum 1 r l trivial]; rfl

/-! ### The reads of a channel -/

theorem rdB2 (σ' : St Ideal) (t : Fin k0_t1_loop.trips) (h : Fin 2) (u : Fin 4) (j : Fin 5) (hj : j.val = (i 2).val + h.val) (inb) (k : Fin 640) (l : Fin 128) :
    σ'.rd .b (Rect.unit (s := S5x96x640x128) (k0_off3 i t (BitVec.ofNat 32 h.val) (BitVec.ofNat 32 u.val)) S1x1x640x128.size inb).toLoadRect (ix4 0 0 k l)
      = σ' .b (ix4 j (chan2 t u) k l) := by
  show σ' .b _ = _
  congr 1; funext a; apply Fin.ext
  show k0_off3 i t (BitVec.ofNat 32 h.val) (BitVec.ofNat 32 u.val) a + 1 * ((ix4 0 0 k l : S1x1x640x128.Idx) a).val = _
  rw [off3_eq]
  fin_cases a
  · show (i 2).val + h.val + 1 * 0 = j.val
    omega
  · rfl
  · show 0 + 1 * k.val = k.val
    omega
  · show 0 + 1 * l.val = l.val
    omega
theorem rdA2 (σ' : St Ideal) (t) (u : Fin 4) (inb) (r : Fin 128) (k : Fin 640) :
    σ'.rd .a (Rect.unit (s := S96x128x640) (k0_off4 t (BitVec.ofNat 32 u.val)) S1x128x640.size inb).toLoadRect (ix3 0 r k) = σ' .a (ix3 (chan2 t u) r k) := by
  show σ' .a _ = _
  congr 1; funext a; apply Fin.ext
  show k0_off4 t (BitVec.ofNat 32 u.val) a + 1 * ((ix3 0 r k : S1x128x640.Idx) a).val = _
  rw [off4_eq]
  fin_cases a
  · rfl
  · show 0 + 1 * r.val = r.val
    omega
  · show 0 + 1 * k.val = k.val
    omega
theorem rdB1 (σ' : St Ideal) (t) (u : Fin 4) (inb) (k : Fin 640) (l : Fin 128) :
    σ'.rd .b (Rect.unit (s := S5x96x640x128) (k0_off7 i t (BitVec.ofNat 32 u.val)) S1x1x640x128.size inb).toLoadRect (ix4 0 0 k l)
      = σ' .b (ix4 (i 2) (chan1 t u) k l) := by
  show σ' .b _ = _
  congr 1; funext a; apply Fin.ext
  show k0_off7 i t (BitVec.ofNat 32 u.val) a + 1 * ((ix4 0 0 k l : S1x1x640x128.Idx) a).val = _
  rw [off7_eq]
  fin_cases a
  · rfl
  · rfl
  · show 0 + 1 * k.val = k.val
    omega
  · show 0 + 1 * l.val = l.val
    omega
theorem rdA1 (σ' : St Ideal) (t) (u : Fin 4) (inb) (r : Fin 128) (k : Fin 640) :
    σ'.rd .a (Rect.unit (s := S96x128x640) (k0_off8 t (BitVec.ofNat 32 u.val)) S1x128x640.size inb).toLoadRect (ix3 0 r k) = σ' .a (ix3 (chan1 t u) r k) := by
  show σ' .a _ = _
  congr 1; funext a; apply Fin.ext
  show k0_off8 t (BitVec.ofNat 32 u.val) a + 1 * ((ix3 0 r k : S1x128x640.Idx) a).val = _
  rw [off8_eq]
  fin_cases a
  · rfl
  · show 0 + 1 * r.val = r.val
    omega
  · show 0 + 1 * k.val = k.val
    omega
/-- A row of a table of factors. -/
theorem rdF {α : Type} (f : S1x96x128.Idx → α) (off : Fin 3 → ℕ) (c : Fin 96) (ho : off = ![0, c.val, 0]) (inb) (l : Fin 128) :
    f ((Rect.unit (s := S1x96x128) off S1x1x128.size inb).toLoadRect.idx (ix3 0 0 l)) = f (ix3 0 c l) := by
  subst ho
  congr 1; funext a; apply Fin.ext
  fin_cases a
  · rfl
  · rfl
  · show 0 + 1 * l.val = l.val
    omega

variable {defs : Defs nD τ sig (Elt Ideal) Λ₀} {𝒱 : Variants} {c : Dev nD} {bd : Option 𝒱.V} {M : Mems}

theorem step2_val (T : Fin 2 → Fin 96 → Fin 128 → Fin 128 → EReal) (j1 : Fin 5) (hj : j1.val = (i 2).val + 1)
    (hT0 : ∀ c r l, T 0 c r l = prodAt σ (σ .fb0) (i 2) c r l) (hT1 : ∀ c r l, T 1 c r l = prodAt σ (σ .fb1) j1 c r l)
    (h3 : k0_cond3 i = 1#1) (t : Fin k0_t1_loop.trips) (σ₁ : St Ideal) (H : PInv σ (fun _ => True) T (4 * t.val) σ₁) :
    Runs defs 𝒱 c bd M (loopK (step2 i (M .fa) (M .fb0) (M .fb1) (M .a) (M .b) (M .x) (M .sum) t h3) 4 0 ⟨⟩) σ₁
      fun σ' _ => PInv σ (fun _ => True) T (4 * (t.val + 1)) σ' := by
  refine Runs.loop (fun n σ' _ => PInv σ (fun _ => True) T (4 * t.val + n) σ') (fun u σ' v hI => (step2_runs i t h3 u v σ').mono ?_) H
  rintro _ _ rfl
  refine PInv.both (c := chan2 t u) hI ?_ ?_ (fun r l => ?_) (fun r l => ?_)
  · exact off6_eq t 0 u
  · exact off6_eq t 1 u
  · rw [pairFac0_at, hT0]
    unfold prodAt
    refine congrArg₂ (· * ·) (congrArg₂ (· * ·) (Finset.sum_congr rfl fun k _ => congrArg₂ (· * ·) ?_ ?_) ?_) ?_
    · exact (rdA2 σ' t u _ r k).trans (congrFun (hI.keep .a (by decide) (by decide)) _)
    · exact (rdB2 i σ' t 0 u (i 2) rfl _ k l).trans (congrFun (hI.keep .b (by decide) (by decide)) _)
    · exact (rdF (σ' .fa) _ (chan2 t u) (off5_eq t u) _ r).trans (congrFun (hI.keep .fa (by decide) (by decide)) _)
    · exact (rdF (σ' .fb0) _ (chan2 t u) (off5_eq t u) _ l).trans (congrFun (hI.keep .fb0 (by decide) (by decide)) _)
  · rw [pairFac1_at, hT1]
    unfold prodAt
    refine congrArg₂ (· * ·) (congrArg₂ (· * ·) (Finset.sum_congr rfl fun k _ => congrArg₂ (· * ·) ?_ ?_) ?_) ?_
    · exact (rdA2 σ' t u _ r k).trans (congrFun (hI.keep .a (by decide) (by decide)) _)
    · exact (rdB2 i σ' t 1 u j1 hj _ k l).trans (congrFun (hI.keep .b (by decide) (by decide)) _)
    · exact (rdF (σ' .fa) _ (chan2 t u) (off5_eq t u) _ r).trans (congrFun (hI.keep .fa (by decide) (by decide)) _)
    · exact (rdF (σ' .fb1) _ (chan2 t u) (off5_eq t u) _ l).trans (congrFun (hI.keep .fb1 (by decide) (by decide)) _)

theorem step1_val (T : Fin 2 → Fin 96 → Fin 128 → Fin 128 → EReal)
    (hT0 : ∀ c r l, T 0 c r l = prodAt σ (σ .fb0) (i 2) c r l)
    (h4 : k0_cond4 i = 1#1) (t : Fin k0_t2_loop.trips) (σ₁ : St Ideal) (H : PInv σ (· = 0) T (4 * t.val) σ₁) :
    Runs defs 𝒱 c bd M (loopK (step1 i (M .fa) (M .fb0) (M .a) (M .b) (M .x) (M .sum) t h4) 4 0 ⟨⟩) σ₁
      fun σ' _ => PInv σ (· = 0) T (4 * (t.val + 1)) σ' := by
  refine Runs.loop (fun n σ' _ => PInv σ (· = 0) T (4 * t.val + n) σ') (fun u σ' v hI => (step1_runs i t h4 u v σ').mono ?_) H
  rintro _ _ rfl
  refine PInv.half (c := chan1 t u) (h := 0) hI ?_ (fun r l => ?_) (fun _ h => h)
  · exact (off10_eq t u).trans (by show ![128 * (4 * t.val + u.val), 0] = ![12288 * 0 + 128 * (4 * t.val + u.val), 0]; rw [Nat.mul_zero, Nat.zero_add])
  · rw [oneFac_at, hT0]
    unfold prodAt
    refine congrArg₂ (· * ·) (congrArg₂ (· * ·) (Finset.sum_congr rfl fun k _ => congrArg₂ (· * ·) ?_ ?_) ?_) ?_
    · exact (rdA1 σ' t u _ r k).trans (congrFun (hI.keep .a (by decide) (by decide)) _)
    · exact (rdB1 i σ' t u _ k l).trans (congrFun (hI.keep .b (by decide) (by decide)) _)
    · exact (rdF (σ' .fa) _ (chan1 t u) (off9_eq t u) _ r).trans (congrFun (hI.keep .fa (by decide) (by decide)) _)
    · exact (rdF (σ' .fb0) _ (chan1 t u) (off9_eq t u) _ l).trans (congrFun (hI.keep .fb0 (by decide) (by decide)) _)

end

end Cert.KernelIdeal.Tri
-- ==== Proof.Val.ValBody.lean ====
/- The values the whole body leaves at a point. -/
module

public import proofs.«01_k».proof.Proof.Val.Prod

@[expose] public section

set_option maxRecDepth 16384

noncomputable section

namespace Cert.KernelIdeal.Tri

open Idealize.ShloMosaic Idealize.ShloMosaic.TcCoe Cert.TriMath
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

/-! ## When the body does what -/

theorem cond3_all : ∀ (j : Fin 5) (s : Fin 8), k0_cond3 (coordsOf j s) = 1#1 ↔ s.val = 0 ∧ j.val % 2 = 0 ∧ j.val < 4 := by decide +kernel
theorem cond3_iff (i : grid0.Coords) : k0_cond3 i = 1#1 ↔ (i 3).val = 0 ∧ (i 2).val % 2 = 0 ∧ (i 2).val < 4 := cond3_all (i 2) (i 3)
theorem cond4_all : ∀ (j : Fin 5) (s : Fin 8), k0_cond4 (coordsOf j s) = 1#1 ↔ s.val = 0 ∧ j.val = 4 := by decide +kernel
theorem cond4_iff (i : grid0.Coords) : k0_cond4 i = 1#1 ↔ (i 3).val = 0 ∧ (i 2).val = 4 := cond4_all (i 2) (i 3)

/-- Row `r` of the block, among the rows of a tile. -/
def r16 (i : grid0.Coords) (r : Fin 16) : Fin 128 := ⟨16 * (i 3).val + r.val, by have h : (i 3).val < 8 := (i 3).isLt; omega⟩

theorem r16_row16 (i : grid0.Coords) (g : Fin 2) (r : Fin 8) : r16 i (row16 g r) = rw8 i g r :=
  Fin.ext (Nat.add_assoc _ _ _).symm

section

variable (i : grid0.Coords) (A : S96x128x640.Idx → EReal) (B : S5x96x640x128.Idx → EReal)
  (X : Fin 5 → Fin 96 → Fin 128 → Fin 128 → EReal) (σ : St Ideal)

/-- The rows of the tile at work from `n` on hold its products, and the sums theirs. -/
structure Cur (n : ℕ) (σ' : St Ideal) : Prop where
  x : ∀ c (r : Fin 128) l, n ≤ r.val → xat σ' (hf i) c r l = X (i 2) c r l
  sum : ∀ (r : Fin 128) l, n ≤ r.val → sat σ' (hf i) r l = ∑ c, X (i 2) c r l

/-- The second tile of the pair whose first is at work holds its products, and the sums theirs. -/
structure Nxt (σ' : St Ideal) : Prop where
  x : ∀ j : Fin 5, j.val = (i 2).val + 1 → (i 2).val % 2 = 0 → ∀ c r l, xat σ' 1 c r l = X j c r l
  sum : ∀ j : Fin 5, j.val = (i 2).val + 1 → (i 2).val % 2 = 0 → ∀ r l, sat σ' 1 r l = ∑ c, X j c r l

/-- What the body finds at a point. -/
structure Pre : Prop where
  b : k0_cond1 i ≠ 1#1 → σ .b = B
  a : k0_cond2 i ≠ 1#1 → σ .a = A
  cur : k0_cond3 i ≠ 1#1 → k0_cond4 i ≠ 1#1 → Cur i X (16 * (i 3).val) σ
  nxt : k0_cond3 i ≠ 1#1 → Nxt i X σ
  X0 : ∀ c r l, (k0_cond3 i = 1#1 ∨ k0_cond4 i = 1#1) →
    X (i 2) c r l = (∑ k, A (ix3 c r k) * B (ix4 (i 2) c k l)) * σ .fa (ix3 0 c r) * σ .fb0 (ix3 0 c l)
  X1 : ∀ (j : Fin 5) c r l, k0_cond3 i = 1#1 → j.val = (i 2).val + 1 →
    X j c r l = (∑ k, A (ix3 c r k) * B (ix4 j c k l)) * σ .fa (ix3 0 c r) * σ .fb1 (ix3 0 c l)

/-- Row `r`, lane `l` of the block over the channels. -/
def rowX (r : Fin 16) (l : Fin 128) : Fin 96 → EReal := fun c => X (i 2) c (r16 i r) l

structure P1 (σ' : St Ideal) : Prop where
  keep : ∀ m, m ≠ .b → σ' m = σ m
  b : σ' .b = B
structure P2 (σ' : St Ideal) : Prop where
  keep : ∀ m, m ≠ .b → m ≠ .a → σ' m = σ m
  b : σ' .b = B
  a : σ' .a = A
structure P4 (σ' : St Ideal) : Prop where
  keep : ∀ m, m ≠ .b → m ≠ .a → m ≠ .x → m ≠ .sum → σ' m = σ m
  b : σ' .b = B
  a : σ' .a = A
  cur : Cur i X (16 * (i 3).val) σ'
  nxt : Nxt i X σ'

/-- After `n` groups. -/
structure IG (n : ℕ) (σ' : St Ideal) : Prop where
  keep : ∀ m, m ≠ .b → m ≠ .a → m ≠ .x → m ≠ .sum → m ≠ .std → m ≠ .s2 → m ≠ .stg → m ≠ .q2 → σ' m = σ m
  b : σ' .b = B
  a : σ' .a = A
  cur : Cur i X (16 * (i 3).val + 8 * n) σ'
  nxt : Nxt i X σ'
  std : ∀ (r : Fin 16) l, r.val < 8 * n → σ' .std (ix3 0 r l) = rStd (rowX i X r l)
  s2 : ∀ (r : Fin 16) l, r.val < 8 * n → σ' .s2 (ix3 0 r l) = rScale (rowX i X r l) (gaC σ l) (beC σ l)
  q2 : ∀ (r : Fin 16) c l, r.val < 8 * n → σ' .q2 (ix4 0 r c l) = rCode (rowX i X r l) (gaC σ l) (beC σ l) c

/-- The output at row `r`, position `l` and channel `d`. -/
def zVal (r : Fin 16) (l d : Fin 128) : EReal :=
  (∑ x : Fin 128, σ .eye (ix2 d x) * σ .z (ix4 0 r l x)) +
    (Ideal.tanh ((∑ x : Fin 128, σ .w5 (ix2 d x) * σ .q1 (ix4 0 r l x)) * σ .s1 (ix3 0 r l) * σ .s5 (ix2 d l)) + 1) *
      ((∑ x : Fin 96, σ .wo (ix2 d x) * rCode (rowX i X r l) (gaC σ l) (beC σ l) x) * rScale (rowX i X r l) (gaC σ l) (beC σ l) * σ .so (ix2 d l))

/-- What the body leaves at a point. -/
structure Post (σ' : St Ideal) : Prop where
  keep : ∀ m, m ≠ .b → m ≠ .a → m ≠ .x → m ≠ .sum → m ≠ .std → m ≠ .s2 → m ≠ .stg → m ≠ .q2 → m ≠ .zo → σ' m = σ m
  b : σ' .b = B
  a : σ' .a = A
  cur : Cur i X (16 * ((i 3).val + 1)) σ'
  nxt : Nxt i X σ'
  std : ∀ r l, σ' .std (ix3 0 r l) = rStd (rowX i X r l)
  s2 : ∀ r l, σ' .s2 (ix3 0 r l) = rScale (rowX i X r l) (gaC σ l) (beC σ l)
  q2 : ∀ r c l, σ' .q2 (ix4 0 r c l) = rCode (rowX i X r l) (gaC σ l) (beC σ l) c
  zo : ∀ r l d, σ' .zo (ix4 0 r l d) = zVal i X σ r l d

variable {i A B X σ}

theorem Cur.congr {n : ℕ} {σ' σ'' : St Ideal} (H : Cur i X n σ') (ex : σ'' .x = σ' .x) (es : σ'' .sum = σ' .sum) : Cur i X n σ'' where
  x c r l h := (xat_congr ex _ c r l).trans (H.x c r l h)
  sum r l h := (sat_congr es _ r l).trans (H.sum r l h)
theorem Nxt.congr {σ' σ'' : St Ideal} (H : Nxt i X σ') (ex : σ'' .x = σ' .x) (es : σ'' .sum = σ' .sum) : Nxt i X σ'' where
  x j h h' c r l := (xat_congr ex _ c r l).trans (H.x j h h' c r l)
  sum j h h' r l := (sat_congr es _ r l).trans (H.sum j h h' r l)

/-- The products of the pair of tiles at work. -/
def pairT (i : grid0.Coords) (X : Fin 5 → Fin 96 → Fin 128 → Fin 128 → EReal) : Fin 2 → Fin 96 → Fin 128 → Fin 128 → EReal :=
  fun h => X ⟨((i 2).val + h.val) % 5, Nat.mod_lt _ (by norm_num)⟩

theorem pairT_zero : pairT i X 0 = X (i 2) :=
  congrArg X (Fin.ext (Nat.mod_eq_of_lt (i 2).isLt))
theorem pairT_one {j : Fin 5} (hj : j.val = (i 2).val + 1) : pairT i X 1 = X j :=
  congrArg X (Fin.ext ((Nat.mod_eq_of_lt (by have := j.isLt; show (i 2).val + 1 < 5; omega)).trans hj.symm))

theorem hf_even (h : (i 2).val % 2 = 0) : hf i = 0 := Fin.ext h

/-- After both tiles' products. -/
theorem P4.of_two {σ₂ σ' : St Ideal} (h3 : k0_cond3 i = 1#1) (H2 : P2 A B σ σ₂) (H : PInv σ₂ (fun _ => True) (pairT i X) 96 σ') : P4 i A B X σ σ' := by
  have hc := (cond3_iff i).mp h3
  have hs : ∀ h r l, sat σ' h r l = ∑ c, pairT i X h c r l := fun h r l => (H.sum h r l trivial).trans (sumTo_all _)
  refine ⟨fun m h1 h2 h3 h4 => (H.keep m h3 h4).trans (H2.keep m h1 h2), (H.keep .b (by decide) (by decide)).trans H2.b, (H.keep .a (by decide) (by decide)).trans H2.a,
    ⟨fun c r l _ => ?_, fun r l _ => ?_⟩, ⟨fun j hj he c r l => ?_, fun j hj he r l => ?_⟩⟩
  · rw [hf_even hc.2.1, H.x 0 c r l trivial c.isLt, pairT_zero]
  · rw [hf_even hc.2.1, hs, pairT_zero]
  · rw [H.x 1 c r l trivial c.isLt, pairT_one hj]
  · rw [hs, pairT_one hj]

/-- After the one tile's products. -/
theorem P4.of_one {σ₂ σ' : St Ideal} (h4 : k0_cond4 i = 1#1) (H2 : P2 A B σ σ₂) (H : PInv σ₂ (· = 0) (pairT i X) 96 σ') : P4 i A B X σ σ' := by
  have hc := (cond4_iff i).mp h4
  have he : (i 2).val % 2 = 0 := by rw [hc.2]
  have hs : ∀ r l, sat σ' 0 r l = ∑ c, pairT i X 0 c r l := fun r l => (H.sum 0 r l rfl).trans (sumTo_all _)
  refine ⟨fun m h1 h2 h3 h4 => (H.keep m h3 h4).trans (H2.keep m h1 h2), (H.keep .b (by decide) (by decide)).trans H2.b, (H.keep .a (by decide) (by decide)).trans H2.a,
    ⟨fun c r l _ => ?_, fun r l _ => ?_⟩, ⟨fun j hj he c r l => ?_, fun j hj he r l => ?_⟩⟩
  · rw [hf_even he, H.x 0 c r l rfl c.isLt, pairT_zero]
  · rw [hf_even he, hs, pairT_zero]
  · have := j.isLt; omega
  · have := j.isLt; omega

theorem IG.zero {σ' : St Ideal} (H : P4 i A B X σ σ') : IG i A B X σ 0 σ' :=
  ⟨fun m h1 h2 h3 h4 _ _ _ _ => H.keep m h1 h2 h3 h4, H.b, H.a, H.cur, H.nxt, fun _ _ h => absurd h (Nat.not_lt_zero _),
    fun _ _ h => absurd h (Nat.not_lt_zero _), fun _ _ _ h => absurd h (Nat.not_lt_zero _)⟩

theorem gaC_congr {σ' : St Ideal} (h : σ' .ga = σ .ga) (l : Fin 128) : gaC σ' l = gaC σ l := by unfold gaC; rw [h]
theorem beC_congr {σ' : St Ideal} (h : σ' .be = σ .be) (l : Fin 128) : beC σ' l = beC σ l := by unfold beC; rw [h]

theorem IG.sum {g : Fin 2} {σ' : St Ideal} (H : IG i A B X σ g.val σ') (r : Fin 8) (l : Fin 128) :
    sat σ' (hf i) (rw8 i g r) l = ∑ c, xat σ' (hf i) c (rw8 i g r) l := by
  have hle : 16 * (i 3).val + 8 * g.val ≤ (rw8 i g r).val := Nat.le_add_right _ _
  rw [H.cur.sum _ _ hle]
  exact Finset.sum_congr rfl fun c _ => (H.cur.x c _ l hle).symm

theorem IG.step {g : Fin 2} {σ' σ'' : St Ideal} (H : IG i A B X σ g.val σ') (G : GroupPost i g σ' σ'') : IG i A B X σ (g.val + 1) σ'' := by
  have hcol : ∀ r l, col i g σ' r l = rowX i X (row16 g r) l := fun r l => by
    funext c
    show xat σ' (hf i) c (rw8 i g r) l = X (i 2) c (r16 i (row16 g r)) l
    rw [H.cur.x c _ l (Nat.le_add_right _ _), r16_row16]
  have hga : ∀ l, gaC σ' l = gaC σ l := gaC_congr (H.keep .ga (by decide) (by decide) (by decide) (by decide) (by decide) (by decide) (by decide) (by decide))
  have hbe : ∀ l, beC σ' l = beC σ l := beC_congr (H.keep .be (by decide) (by decide) (by decide) (by decide) (by decide) (by decide) (by decide) (by decide))
  have hsum : σ'' .sum = σ' .sum := G.keep .sum (by decide) (by decide) (by decide) (by decide) (by decide)
  have hrow : ∀ r : Fin 16, r.val < 8 * (g.val + 1) → (∃ r8, r = row16 g r8) ∨ (r.val < 8 * g.val ∧ ∀ r8, r ≠ row16 g r8) := fun r hr => by
    by_cases h : r.val < 8 * g.val
    · refine .inr ⟨h, fun r8 e => ?_⟩
      have : r.val = 8 * g.val + r8.val := congrArg Fin.val e
      omega
    · exact .inl ⟨⟨r.val - 8 * g.val, by omega⟩, Fin.ext (by show r.val = 8 * g.val + (r.val - 8 * g.val); omega)⟩
  refine ⟨fun m h1 h2 h3 h4 h5 h6 h7 h8 => (G.keep m h3 h5 h6 h7 h8).trans (H.keep m h1 h2 h3 h4 h5 h6 h7 h8),
    (G.keep .b (by decide) (by decide) (by decide) (by decide) (by decide)).trans H.b,
    (G.keep .a (by decide) (by decide) (by decide) (by decide) (by decide)).trans H.a,
    ⟨fun c r l hr => ?_, fun r l hr => ?_⟩, ⟨fun j hj he c r l => ?_, fun j hj he r l => ?_⟩, fun r l hr => ?_, fun r l hr => ?_, fun r c l hr => ?_⟩
  · rw [G.far _ c r l fun r8 e => ?_]
    · exact H.cur.x c r l (by omega)
    · have : r.val = 16 * (i 3).val + 8 * g.val + r8.val := congrArg Fin.val e.2
      omega
  · rw [sat_congr hsum]; exact H.cur.sum r l (by omega)
  · rw [G.far 1 c r l fun r8 e => absurd (e.1.trans (hf_even he)) (by decide)]
    exact H.nxt.x j hj he c r l
  · rw [sat_congr hsum]; exact H.nxt.sum j hj he r l
  · rcases hrow r hr with ⟨r8, rfl⟩ | ⟨h, ne⟩
    · rw [G.std.1, hcol]
    · rw [G.std.2 r l ne]; exact H.std r l h
  · rcases hrow r hr with ⟨r8, rfl⟩ | ⟨h, ne⟩
    · rw [G.s2.1, hcol, hga, hbe]
    · rw [G.s2.2 r l ne]; exact H.s2 r l h
  · rcases hrow r hr with ⟨r8, rfl⟩ | ⟨h, ne⟩
    · rw [G.q2, hcol, hga, hbe]
    · rw [G.q2' r c l ne]; exact H.q2 r c l h

theorem Post.of {σ₅ σ' : St Ideal} (H : IG i A B X σ 2 σ₅) (O : OutPost σ₅ (2 * 8) σ') : Post i A B X σ σ' := by
  have k : ∀ m, m ≠ .b → m ≠ .a → m ≠ .x → m ≠ .sum → m ≠ .std → m ≠ .s2 → m ≠ .stg → m ≠ .q2 → σ₅ m = σ m := H.keep
  refine ⟨fun m h1 h2 h3 h4 h5 h6 h7 h8 h9 => (O.keep m h9).trans (H.keep m h1 h2 h3 h4 h5 h6 h7 h8), (O.keep .b (by decide)).trans H.b, (O.keep .a (by decide)).trans H.a,
    ?_, H.nxt.congr (O.keep .x (by decide)) (O.keep .sum (by decide)), fun r l => ?_, fun r l => ?_, fun r c l => ?_, fun r l d => ?_⟩
  · have := H.cur.congr (O.keep .x (by decide)) (O.keep .sum (by decide))
    rwa [show 16 * (i 3).val + 8 * 2 = 16 * ((i 3).val + 1) by omega] at this
  · rw [O.keep .std (by decide)]; exact H.std r l (by omega)
  · rw [O.keep .s2 (by decide)]; exact H.s2 r l (by omega)
  · rw [O.keep .q2 (by decide)]; exact H.q2 r c l (by omega)
  · rw [O.zo r l d (by omega)]
    unfold zOut zVal
    have e2 : ∀ x : Fin 96, σ₅ .q2 (ix4 0 r x l) = rCode (rowX i X r l) (gaC σ l) (beC σ l) x := fun x => H.q2 r x l (by omega)
    simp only [e2]
    rw [H.s2 r l (by omega)]
    rw [k .eye (by decide) (by decide) (by decide) (by decide) (by decide) (by decide) (by decide) (by decide),
      k .z (by decide) (by decide) (by decide) (by decide) (by decide) (by decide) (by decide) (by decide),
      k .w5 (by decide) (by decide) (by decide) (by decide) (by decide) (by decide) (by decide) (by decide),
      k .q1 (by decide) (by decide) (by decide) (by decide) (by decide) (by decide) (by decide) (by decide),
      k .s1 (by decide) (by decide) (by decide) (by decide) (by decide) (by decide) (by decide) (by decide),
      k .s5 (by decide) (by decide) (by decide) (by decide) (by decide) (by decide) (by decide) (by decide),
      k .wo (by decide) (by decide) (by decide) (by decide) (by decide) (by decide) (by decide) (by decide),
      k .so (by decide) (by decide) (by decide) (by decide) (by decide) (by decide) (by decide) (by decide)]

end

local notation "𝕄" => MT nD τ sig Unit (Elt Ideal) ℕ (Pipeline.UD sig nD τ) ℕ

variable {defs : Defs nD τ sig (Elt Ideal) Λ₀} {𝒱 : Variants} {c : Dev nD} {bd : Option 𝒱.V} {M : Mems}
  (i : grid0.Coords) {arg4 : Memref sig .tc .hbm S2x5x96x128x640 .fp8e4m3} {arg5 : Memref sig .tc .hbm S2x5x96x640x128 .fp8e4m3} {arg28 : DmaSems sig S2}
  {f4 : Buf (Elt Ideal) (arg4.view.loc (c : Thread nD τ))} {f5 : Buf (Elt Ideal) (arg5.view.loc (c : Thread nD τ))}

attribute [local irreducible] loopK group outPair in
/-- The body takes what it finds to what it leaves. -/
theorem body_val {harg4 : arg4.IsWhole} {harg5 : arg5.IsWhole} (hM : ∀ n, (M n).IsWhole) (σ : St Ideal) (A : S96x128x640.Idx → EReal) (B : S5x96x640x128.Idx → EReal)
    (X : Fin 5 → Fin 96 → Fin 128 → Fin 128 → EReal) (H : Pre i A B X σ) (hB : ∀ h, tileB i arg5 f5 h = B) (hA : ∀ h, tileA i arg4 f4 h = A) (G : sProp 𝕄) :
    iprop(Own c M σ ∗ Held c arg4 arg5 arg28 f4 f5 ∗ G) ⊢ wp frame (wpE defs 𝒱 (c : Thread nD τ) bd) Set.univ
      (Gen.cc0_tri_skel (F := Ideal) i arg4 harg4 arg5 harg5 (M .fa) (hM .fa) (M .fb0) (hM .fb0) (M .fb1) (hM .fb1) (M .z) (hM .z) (M .q1) (hM .q1) (M .s1) (hM .s1) (M .eye) (hM .eye) (M .w5) (hM .w5) (M .s5) (hM .s5) (M .wo) (hM .wo) (M .so) (hM .so) (M .ga) (hM .ga) (M .be) (hM .be) (M .zo) (hM .zo) (M .std) (hM .std) (M .q2) (hM .q2) (M .s2) (hM .s2) (M .a) (hM .a) (M .b) (hM .b) (M .x) (hM .x) (M .sum) (hM .sum) (M .stg) (hM .stg) arg28)
      fun _ => iprop(∃ σ', ⌜Post i A B X σ σ'⌝ ∗ Own c M σ' ∗ Held c arg4 arg5 arg28 f4 f5 ∗ G) := by
  have excl : k0_cond4 i = 1#1 → k0_cond3 i ≠ 1#1 := fun h4 h3 => by
    have := (cond3_iff i).mp h3; have := (cond4_iff i).mp h4; omega
  have e1 : ∀ σ₂, P2 A B σ σ₂ → (k0_cond3 i = 1#1 ∨ k0_cond4 i = 1#1) → ∀ c r l, pairT i X 0 c r l = prodAt σ₂ (σ₂ .fb0) (i 2) c r l := fun σ₂ H2 hc c r l => by
    rw [pairT_zero, H.X0 c r l hc]
    unfold prodAt
    rw [H2.a, H2.b, H2.keep .fa (by decide) (by decide), H2.keep .fb0 (by decide) (by decide)]
  refine (body_ok (M := M) i hM σ (P1 B σ) (P2 A B σ) (fun σ' => (k0_cond3 i = 1#1 → P4 i A B X σ σ') ∧ (k0_cond3 i ≠ 1#1 → P2 A B σ σ')) (P4 i A B X σ)
    (fun n σ' => ∃ σ₂, P2 A B σ σ₂ ∧ PInv σ₂ (fun _ => True) (pairT i X) (4 * n) σ') (fun n σ' => ∃ σ₂, P2 A B σ σ₂ ∧ PInv σ₂ (· = 0) (pairT i X) (4 * n) σ')
    (IG i A B X σ) (fun n σ' => ∃ σ₅, IG i A B X σ 2 σ₅ ∧ OutPost σ₅ (2 * n) σ') ?_ ?_ ?_ ?_ ?_ ?_ ?_ ?_ ?_ ?_ ?_ ?_ ?_ ?_ ?_ ?_ G).trans
    (wp_mono frame (wpE defs 𝒱 (c : Thread nD τ) bd) Set.univ ?_)
  · intro h; exact ⟨fun m hm => St.set_ne _ hm _, (St.set_same _ _ _).trans (hB h)⟩
  · intro h; exact ⟨fun _ _ => rfl, H.b h⟩
  · intro σ' h H1; exact ⟨fun m h1 h2 => (St.set_ne _ h2 _).trans (H1.keep m h1), (St.set_ne _ (by decide) _).trans H1.b, (St.set_same _ _ _).trans (hA h)⟩
  · intro σ' h H1; exact ⟨fun m h1 _ => H1.keep m h1, H1.b, (H1.keep .a (by decide)).trans (H.a h)⟩
  · intro σ' h H2
    exact ⟨σ', H2, fun m _ hs => St.set_ne _ hs _, fun _ _ _ _ _ h => absurd h (Nat.not_lt_zero _), fun h r l _ => clear2_at σ' h r l⟩
  · rintro h t σ' ⟨σ₂, H2, HI⟩
    have hc := (cond3_iff i).mp h
    have hlt : (i 2).val + 1 < 5 := by omega
    refine (step2_val i (pairT i X) ⟨(i 2).val + 1, hlt⟩ rfl (e1 σ₂ H2 (.inl h)) (fun c r l => ?_) h t σ' HI).mono fun σ'' _ h => ⟨σ₂, H2, h⟩
    rw [pairT_one (j := ⟨(i 2).val + 1, hlt⟩) rfl, H.X1 _ c r l h rfl]
    unfold prodAt
    rw [H2.a, H2.b, H2.keep .fa (by decide) (by decide), H2.keep .fb1 (by decide) (by decide)]
  · rintro σ' h ⟨σ₂, H2, HI⟩
    refine ⟨fun _ => P4.of_two h H2 ?_, fun h' => absurd h h'⟩
    have e : 4 * k0_t1_loop.trips = 96 := by rw [trips1]
    rwa [e] at HI
  · intro σ' h H2; exact ⟨fun h' => absurd h' h, fun _ => H2⟩
  · intro σ' h H3
    exact ⟨σ', H3.2 (excl h), fun m _ hs => St.set_ne _ hs _, fun _ _ _ _ _ h => absurd h (Nat.not_lt_zero _), fun h r l _ => clear1_at σ' h r l⟩
  · rintro h t σ' ⟨σ₂, H2, HI⟩
    exact (step1_val i (pairT i X) (e1 σ₂ H2 (.inr h)) h t σ' HI).mono fun σ'' _ h => ⟨σ₂, H2, h⟩
  · rintro σ' h ⟨σ₂, H2, HI⟩
    have e : 4 * k0_t2_loop.trips = 96 := by rw [trips2]
    rw [e] at HI
    exact P4.of_one h H2 HI
  · intro σ' h4 H3
    by_cases h3 : k0_cond3 i = 1#1
    · exact H3.1 h3
    · have H2 := H3.2 h3
      exact ⟨fun m h1 h2 _ _ => H2.keep m h1 h2, H2.b, H2.a, (H.cur h3 h4).congr (H2.keep .x (by decide) (by decide)) (H2.keep .sum (by decide) (by decide)),
        (H.nxt h3).congr (H2.keep .x (by decide) (by decide)) (H2.keep .sum (by decide) (by decide))⟩
  · intro σ' H4; exact IG.zero H4
  · intro g σ' HG
    exact (group_val i g σ' (hM .q2) ⟨⟩ HG.sum).mono fun σ'' _ h => HG.step h
  · intro σ' HG; exact ⟨σ', HG, fun _ _ => rfl, fun _ _ _ h => absurd h (Nat.not_lt_zero _)⟩
  · rintro p σ' ⟨σ₅, H5, HO⟩
    exact (outPair_val σ₅ (hM .zo) p ⟨⟩ σ' HO).mono fun σ'' _ h => ⟨σ₅, H5, h⟩
  · intro _
    iintro ⟨%σ', %hσ, HH⟩
    iexists σ'
    isplitr
    · ipureintro; obtain ⟨σ₅, H5, HO⟩ := hσ; exact Post.of H5 HO
    · iexact HH

end Cert.KernelIdeal.Tri
-- ==== Proof.Val.Inv.lean ====
/- What the scratch buffers hold from one point to the next, and the blocks the body reads, by the coordinates of the point. -/
module

public import proofs.«01_k».proof.Proof.Val.ValBody
public import proofs.«01_k».proof.Proof.Ideal.FrameK
public import Idealize.ShloMosaic.Lib.Pipeline.ValueKit

@[expose] public section

set_option maxRecDepth 16384

noncomputable section

namespace Cert.KernelIdeal.Tri

open Idealize.ShloMosaic Idealize.ShloMosaic.TcCoe Cert.TriMath
open Cert.KernelIdeal Cert.KernelIdeal.Facts₀ Cert.KernelIdeal.Facts

/-! ## The products, from the arguments -/

/-- One row of one channel of a product of two tiles, scaled by the factors of its two rows. -/
def prodX (am : S2x5x96x128x640.Idx → EReal) (bm : S2x5x96x640x128.Idx → EReal) (fa fb : S2x96x640.Idx → EReal)
    (b : Fin 2) (ib jb : Fin 5) (c : Fin 96) (r l : Fin 128) : EReal :=
  (∑ k : Fin 640, am (ix5 b ib c r k) * bm (ix5 b jb c k l)) * fa (ix3 b c ⟨128 * ib.val + r.val, by omega⟩) * fb (ix3 b c ⟨128 * jb.val + l.val, by omega⟩)

variable (m : (ℓ : Loc nD τ sig) → Buf (Elt Ideal) ℓ) (c : Dev nD)

abbrev gA (i : grid0.Coords) : S96x128x640.Idx → EReal := fun x => (Gen.V m c main_arg0 : S2x5x96x128x640.Idx → EReal) (ix5 (i 0) (i 1) (x 0) (x 1) (x 2))
abbrev gB (i : grid0.Coords) : S5x96x640x128.Idx → EReal := fun x => (Gen.V m c main_arg1 : S2x5x96x640x128.Idx → EReal) (ix5 (i 0) (x 0) (x 1) (x 2) (x 3))
abbrev gX (i : grid0.Coords) : Fin 5 → Fin 96 → Fin 128 → Fin 128 → EReal :=
  prodX (Gen.V m c main_arg0) (Gen.V m c main_arg1) (Gen.V m c main_arg2) (Gen.V m c main_arg3) (i 0) (i 1)

/-! ## The tiles copied in -/

theorem cond1_all : ∀ t : Fin grid0.N, k0_cond1 (grid0.coords t) = 1#1 ↔ (grid0.coords t 1).val = 0 ∧ (grid0.coords t 2).val = 0 ∧ (grid0.coords t 3).val = 0 := by decide +kernel
theorem cond2_all : ∀ t : Fin grid0.N, k0_cond2 (grid0.coords t) = 1#1 ↔ (grid0.coords t 2).val = 0 ∧ (grid0.coords t 3).val = 0 := by decide +kernel
theorem off1_all : ∀ t : Fin grid0.N, k0_off1 (grid0.coords t) = ![(grid0.coords t 0).val, 0, 0, 0, 0] := by decide +kernel
theorem off2_all : ∀ t : Fin grid0.N, k0_off2 (grid0.coords t) = ![(grid0.coords t 0).val, (grid0.coords t 1).val, 0, 0, 0] := by decide +kernel
theorem coords_val : ∀ t : Fin grid0.N, (grid0.coords t 0).val = t.val / 200 ∧ (grid0.coords t 1).val = t.val / 40 % 5
    ∧ (grid0.coords t 2).val = t.val / 8 % 5 ∧ (grid0.coords t 3).val = t.val % 8 := by decide +kernel

/-- A tile of the first operand read at an index. -/
theorem read_tileA (M : Memref sig .tc .hbm S2x5x96x128x640 .fp8e4m3) (b : Fin 2) (ib : Fin 5) (off : Fin 5 → ℕ) (h : off = ![b.val, ib.val, 0, 0, 0])
    (inb : ∀ a, off a + S1x1x96x128x640.size a ≤ S2x5x96x128x640.size a) (hr) (hq : S1x1x96x128x640.Squeezes S96x128x640) (f : M.view.ty.Contents (Elt Ideal))
    (ch : Fin 96) (r : Fin 128) (k : Fin 640) :
    ((M.slice (Rect.unit (s := S2x5x96x128x640) off S1x1x96x128x640.size inb) hr).squeeze S96x128x640 hq).view.read (Elt Ideal) f (ix3 ch r k)
      = M.view.read (Elt Ideal) f (ix5 b ib ch r k) := by
  subst h
  have h1 : ((M.slice (Rect.unit (s := S2x5x96x128x640) ![b.val, ib.val, 0, 0, 0] S1x1x96x128x640.size inb) hr).squeeze S96x128x640 hq).view.read (Elt Ideal) f (ix3 ch r k)
      = M.view.read (Elt Ideal) f ((Rect.unit (s := S2x5x96x128x640) ![b.val, ib.val, 0, 0, 0] S1x1x96x128x640.size inb).emb (Shape.reshapeEquiv hq.numel_eq (ix3 ch r k))) := rfl
  have h2 : Shape.reshapeEquiv hq.numel_eq (ix3 ch r k) = (ix5 0 0 ch r k : S1x1x96x128x640.Idx) := by
    have e : ∀ x : S1x1x96x128x640.Idx → S1x1x96x128x640.Idx, shapeCast S96x128x640 x (by decide) (ix3 ch r k) = x (ix5 0 0 ch r k) := fun x => by
      pointwise
    exact e id
  rw [h1, h2]
  congr 1
  funext a
  apply Fin.ext
  rw [Rect.emb_apply]
  match a with
  | ⟨0, _⟩ => show b.val + 1 * 0 = b.val; omega
  | ⟨1, _⟩ => show ib.val + 1 * 0 = ib.val; omega
  | ⟨2, _⟩ => show 0 + 1 * ch.val = ch.val; omega
  | ⟨3, _⟩ => show 0 + 1 * r.val = r.val; omega
  | ⟨4, _⟩ => show 0 + 1 * k.val = k.val; omega

/-- The tiles of the second operand read at an index. -/
theorem read_tileB (M : Memref sig .tc .hbm S2x5x96x640x128 .fp8e4m3) (b : Fin 2) (off : Fin 5 → ℕ) (h : off = ![b.val, 0, 0, 0, 0])
    (inb : ∀ a, off a + S1x5x96x640x128.size a ≤ S2x5x96x640x128.size a) (hr) (hq : S1x5x96x640x128.Squeezes S5x96x640x128) (f : M.view.ty.Contents (Elt Ideal))
    (y : S5x96x640x128.Idx) :
    ((M.slice (Rect.unit (s := S2x5x96x640x128) off S1x5x96x640x128.size inb) hr).squeeze S5x96x640x128 hq).view.read (Elt Ideal) f y
      = M.view.read (Elt Ideal) f (ix5 b (y 0) (y 1) (y 2) (y 3)) := by
  subst h
  have h1 : ((M.slice (Rect.unit (s := S2x5x96x640x128) ![b.val, 0, 0, 0, 0] S1x5x96x640x128.size inb) hr).squeeze S5x96x640x128 hq).view.read (Elt Ideal) f y
      = M.view.read (Elt Ideal) f ((Rect.unit (s := S2x5x96x640x128) ![b.val, 0, 0, 0, 0] S1x5x96x640x128.size inb).emb (Shape.reshapeEquiv hq.numel_eq y)) := rfl
  rw [h1, Shape.reshapeEquiv_cons_one]
  congr 1
  funext a
  apply Fin.ext
  rw [Rect.emb_apply]
  match a with
  | ⟨0, _⟩ => show b.val + 1 * 0 = b.val; omega
  | ⟨1, _⟩ => show 0 + 1 * (y 0).val = (y 0).val; omega
  | ⟨2, _⟩ => show 0 + 1 * (y 1).val = (y 1).val; omega
  | ⟨3, _⟩ => show 0 + 1 * (y 2).val = (y 2).val; omega
  | ⟨4, _⟩ => show 0 + 1 * (y 3).val = (y 3).val; omega

theorem tileB_eq (t : Fin grid0.N) (h) :
    tileB (c := c) (grid0.coords t) (Memref.whole main_arg1) (Gen.V m c main_arg1) h = gB m c (grid0.coords t) :=
  funext fun x => read_tileB (Memref.whole main_arg1) (grid0.coords t 0) _ (off1_all t) _ _ _ _ x

theorem tileA_eq (t : Fin grid0.N) (h) :
    tileA (c := c) (grid0.coords t) (Memref.whole main_arg0) (Gen.V m c main_arg0) h = gA m c (grid0.coords t) := by
  funext x
  have e : x = ix3 (x 0) (x 1) (x 2) := by funext a; match a with | ⟨0, _⟩ => rfl | ⟨1, _⟩ => rfl | ⟨2, _⟩ => rfl
  rw [e]
  exact read_tileA (Memref.whole main_arg0) (grid0.coords t 0) (grid0.coords t 1) _ (off2_all t) _ _ _ _ _ _ _

/-! ## The blocks read -/

theorem idx_in : ∀ t : Fin cfg0.N, win0_0.index t = ![(grid0.coords t 0).val, 0, (grid0.coords t 1).val] ∧ win0_1.index t = ![(grid0.coords t 0).val, 0, (grid0.coords t 2).val]
    ∧ win0_2.index t = ![(grid0.coords t 0).val, 0, min ((grid0.coords t 2).val + 1) 4] := (by decide +kernel : ∀ t : Fin grid0.N, _)

theorem fa_at (t : Fin cfg0.N) (ch : Fin 96) (r : Fin 128) (R : Fin 640) (hR : R.val = 128 * (grid0.coords t 1).val + r.val) :
    (Gen.iblk m c 0 t : S1x96x128.Idx → EReal) (ix3 0 ch r) = (Gen.V m c main_arg2 : S2x96x640.Idx → EReal) (ix3 (grid0.coords t 0) ch R) := by
  blk_ext [Gen.iblk, idx_in t]
theorem fb0_at (t : Fin cfg0.N) (ch : Fin 96) (r : Fin 128) (R : Fin 640) (hR : R.val = 128 * (grid0.coords t 2).val + r.val) :
    (Gen.iblk m c 1 t : S1x96x128.Idx → EReal) (ix3 0 ch r) = (Gen.V m c main_arg3 : S2x96x640.Idx → EReal) (ix3 (grid0.coords t 0) ch R) := by
  blk_ext [Gen.iblk, idx_in t]
theorem fb1_at (t : Fin cfg0.N) (ch : Fin 96) (r : Fin 128) (R : Fin 640) (h4 : (grid0.coords t 2).val < 4) (hR : R.val = 128 * ((grid0.coords t 2).val + 1) + r.val) :
    (Gen.iblk m c 2 t : S1x96x128.Idx → EReal) (ix3 0 ch r) = (Gen.V m c main_arg3 : S2x96x640.Idx → EReal) (ix3 (grid0.coords t 0) ch R) := by
  blk_ext [Gen.iblk, idx_in t]

/-! ## From one point to the next -/

/-- What the scratch holds when a point begins. -/
structure Inv (i : grid0.Coords) (σ : St Ideal) : Prop where
  b : k0_cond1 i ≠ 1#1 → σ .b = gB m c i
  a : k0_cond2 i ≠ 1#1 → σ .a = gA m c i
  cur : k0_cond3 i ≠ 1#1 → k0_cond4 i ≠ 1#1 → Cur i (gX m c i) (16 * (i 3).val) σ
  nxt : k0_cond3 i ≠ 1#1 → Nxt i (gX m c i) σ

theorem Inv.first (t : Fin grid0.N) (h : t.val = 0) (σ : St Ideal) : Inv m c (grid0.coords t) σ := by
  obtain ⟨h0, h1, h2, h3⟩ := coords_val t
  have c1 : k0_cond1 (grid0.coords t) = 1#1 := (cond1_all t).mpr (by omega)
  have c2 : k0_cond2 (grid0.coords t) = 1#1 := (cond2_all t).mpr (by omega)
  have c3 : k0_cond3 (grid0.coords t) = 1#1 := (cond3_iff _).mpr (by omega)
  exact ⟨fun h => absurd c1 h, fun h => absurd c2 h, fun h => absurd c3 h, fun h => absurd c3 h⟩

theorem Inv.next (t t' : Fin grid0.N) (h : t'.val = t.val + 1) (σ σ' : St Ideal)
    (H : Post (grid0.coords t) (gA m c (grid0.coords t)) (gB m c (grid0.coords t)) (gX m c (grid0.coords t)) σ σ') : Inv m c (grid0.coords t') σ' := by
  obtain ⟨h0, h1, h2, h3⟩ := coords_val t
  obtain ⟨k0, k1, k2, k3⟩ := coords_val t'
  have hN : t.val < 400 := lt_of_lt_of_eq t.isLt Gen.N_0
  have hN' : t'.val < 400 := lt_of_lt_of_eq t'.isLt Gen.N_0
  refine ⟨fun hc => ?_, fun hc => ?_, fun hc3 hc4 => ?_, fun hc3 => ?_⟩
  · rw [Ne, cond1_all] at hc
    have e0 : grid0.coords t' 0 = grid0.coords t 0 := Fin.ext (by omega)
    rw [H.b]; unfold gB; rw [e0]
  · rw [Ne, cond2_all] at hc
    have e0 : grid0.coords t' 0 = grid0.coords t 0 := Fin.ext (by omega)
    have e1 : grid0.coords t' 1 = grid0.coords t 1 := Fin.ext (by omega)
    rw [H.a]; unfold gA; rw [e0, e1]
  · rw [Ne, cond3_iff] at hc3
    rw [Ne, cond4_iff] at hc4
    have hne : ¬((grid0.coords t' 2).val = 0 ∧ (grid0.coords t' 3).val = 0) := fun hh => hc3 (by omega)
    have e0 : grid0.coords t' 0 = grid0.coords t 0 := Fin.ext (by clear hc3 hc4; omega)
    have e1 : grid0.coords t' 1 = grid0.coords t 1 := Fin.ext (by clear hc3 hc4; omega)
    have eX : gX m c (grid0.coords t') = gX m c (grid0.coords t) := by unfold gX; rw [e0, e1]
    rw [eX]
    by_cases hs : (grid0.coords t' 3).val = 0
    · have hf1 : hf (grid0.coords t') = 1 := Fin.ext (by show (grid0.coords t' 2).val % 2 = 1; omega)
      have hj : (grid0.coords t' 2).val = (grid0.coords t 2).val + 1 := by omega
      have he : (grid0.coords t 2).val % 2 = 0 := by omega
      exact ⟨fun ch r l _ => by rw [hf1]; exact H.nxt.x _ hj he ch r l, fun r l _ => by rw [hf1]; exact H.nxt.sum _ hj he r l⟩
    · have e2 : grid0.coords t' 2 = grid0.coords t 2 := Fin.ext (by omega)
      have hf1 : hf (grid0.coords t') = hf (grid0.coords t) := Fin.ext (by show (grid0.coords t' 2).val % 2 = (grid0.coords t 2).val % 2; rw [e2])
      have e3 : (grid0.coords t' 3).val = (grid0.coords t 3).val + 1 := by omega
      rw [e3]
      exact ⟨fun ch r l hr => by rw [hf1, e2]; exact H.cur.x ch r l hr, fun r l hr => by rw [hf1, e2]; exact H.cur.sum r l hr⟩
  · rw [Ne, cond3_iff] at hc3
    by_cases hs : (grid0.coords t' 3).val = 0
    · exact ⟨fun j hj he => absurd j.isLt (by omega), fun j hj he => absurd j.isLt (by omega)⟩
    · have e0 : grid0.coords t' 0 = grid0.coords t 0 := Fin.ext (by omega)
      have e1 : grid0.coords t' 1 = grid0.coords t 1 := Fin.ext (by omega)
      have e2 : grid0.coords t' 2 = grid0.coords t 2 := Fin.ext (by omega)
      have eX : gX m c (grid0.coords t') = gX m c (grid0.coords t) := by unfold gX; rw [e0, e1]
      rw [eX]
      exact ⟨fun j hj he => H.nxt.x j (by rw [hj, e2]) (by rw [← e2]; exact he), fun j hj he => H.nxt.sum j (by rw [hj, e2]) (by rw [← e2]; exact he)⟩

/-- What the body finds, from the invariant and the blocks staged. -/
theorem Inv.pre {t : Fin grid0.N} {σ : St Ideal} (H : Inv m c (grid0.coords t) σ) (hfa : σ .fa = Gen.iblk m c 0 t) (hfb0 : σ .fb0 = Gen.iblk m c 1 t)
    (hfb1 : σ .fb1 = Gen.iblk m c 2 t) :
    Pre (grid0.coords t) (gA m c (grid0.coords t)) (gB m c (grid0.coords t)) (gX m c (grid0.coords t)) σ where
  b := H.b
  a := H.a
  cur := H.cur
  nxt := H.nxt
  X0 ch r l _ := by
    rw [hfa, hfb0]
    refine congrArg₂ (· * ·) (congrArg₂ (· * ·) rfl (fa_at m c t ch r _ rfl).symm) (fb0_at m c t ch l _ rfl).symm
  X1 j ch r l h3 hj := by
    have h4 := ((cond3_iff _).mp h3).2.2
    rw [hfa, hfb1]
    refine congrArg₂ (· * ·) (congrArg₂ (· * ·) rfl (fa_at m c t ch r _ rfl).symm) (fb1_at m c t ch l _ h4 (by rw [← hj])).symm

end Cert.KernelIdeal.Tri
-- ==== Proof.Val.Spec.lean ====
/- The four results as functions of the arguments. -/
module

public import proofs.«01_k».proof.Proof.Val.Math2
public import proofs.«01_k».proof.Proof.Val.Inv

@[expose] public section

noncomputable section

namespace Cert.TriMath

open Idealize.ShloMosaic
open Cert.KernelIdeal

/-- The products of one position, over the channels, from the operands' tiles. -/
def rowS (am : S2x5x96x128x640.Idx → EReal) (bm : S2x5x96x640x128.Idx → EReal) (fa fb : S2x96x640.Idx → EReal) (b : Fin 2) (R J : Fin 640) : Fin 96 → EReal := fun c =>
  (∑ k : Fin 640, am (ix5 b ⟨R.val / 128, by omega⟩ c ⟨R.val % 128, by omega⟩ k) * bm (ix5 b ⟨J.val / 128, by omega⟩ c k ⟨J.val % 128, by omega⟩)) * fa (ix3 b c R) * fb (ix3 b c J)

theorem rowS_prodX (am : S2x5x96x128x640.Idx → EReal) (bm : S2x5x96x640x128.Idx → EReal) (fa fb : S2x96x640.Idx → EReal) (b : Fin 2) (ib jb : Fin 5) (r l : Fin 128)
    (R J : Fin 640) (hR : R.val = 128 * ib.val + r.val) (hJ : J.val = 128 * jb.val + l.val) :
    (fun c => Tri.prodX am bm fa fb b ib jb c r l) = rowS am bm fa fb b R J := by
  funext c
  have e1 : (⟨R.val / 128, by omega⟩ : Fin 5) = ib := Fin.ext (by show R.val / 128 = ib.val; omega)
  have e2 : (⟨R.val % 128, by omega⟩ : Fin 128) = r := Fin.ext (by show R.val % 128 = r.val; omega)
  have e3 : (⟨J.val / 128, by omega⟩ : Fin 5) = jb := Fin.ext (by show J.val / 128 = jb.val; omega)
  have e4 : (⟨J.val % 128, by omega⟩ : Fin 128) = l := Fin.ext (by show J.val % 128 = l.val; omega)
  have e5 : (⟨128 * ib.val + r.val, by omega⟩ : Fin 640) = R := Fin.ext hR.symm
  have e6 : (⟨128 * jb.val + l.val, by omega⟩ : Fin 640) = J := Fin.ext hJ.symm
  unfold rowS Tri.prodX
  rw [e1, e2, e3, e4, e5, e6]

section
variable (am : S2x5x96x128x640.Idx → EReal) (bm : S2x5x96x640x128.Idx → EReal) (fa fb : S2x96x640.Idx → EReal)

/-- The standard deviations. -/
def specStd : S2x640x640.Idx → EReal := fun y => rStd (rowS am bm fa fb (y 0) (y 1) (y 2))

variable (gamma beta : S96.Idx → EReal)

abbrev gaS (gamma : S96.Idx → EReal) : Fin 96 → EReal := fun c => gamma (ix1 c)

/-- The factors of the second quantization. -/
def specS2 : S2x640x640.Idx → EReal := fun y => rScale (rowS am bm fa fb (y 0) (y 1) (y 2)) (gaS gamma) (gaS beta)
/-- The codes of the second quantization, channels before columns. -/
def specQ2 : S2x640x96x640.Idx → EReal := fun y => rCode (rowS am bm fa fb (y 0) (y 1) (y 3)) (gaS gamma) (gaS beta) (y 2)

/-- The result: the input plus the gate times the output projection. -/
def specZ (z q1 : S2x640x640x128.Idx → EReal) (s1 : S2x640x640.Idx → EReal) (w_in : S128x512.Idx → EReal) (s_in : S512.Idx → EReal) (w_out : S96x128.Idx → EReal)
    (s_out : S128.Idx → EReal) : S2x640x640x128.Idx → EReal := fun y =>
  z (ix4 (y 0) (y 1) (y 2) (y 3)) + Ideal.logistic ((∑ x : Fin 128, q1 (ix4 (y 0) (y 1) (y 2) x) * w_in (ix2 x (⟨384 + (y 3).val, by have : (y 3).val < 128 := (y 3).isLt; omega⟩ : Fin 512))) * s1 (ix3 (y 0) (y 1) (y 2))
      * s_in (ix1 (⟨384 + (y 3).val, by have : (y 3).val < 128 := (y 3).isLt; omega⟩ : Fin 512)))
    * ((∑ x : Fin 96, rCode (rowS am bm fa fb (y 0) (y 1) (y 2)) (gaS gamma) (gaS beta) x * w_out (ix2 x (y 3)))
        * rScale (rowS am bm fa fb (y 0) (y 1) (y 2)) (gaS gamma) (gaS beta) * s_out (ix1 (y 3)))

end

end Cert.TriMath
-- ==== Proof.Val.ValK.lean ====
/- The run with values: the proof data say what every result block holds, and the scratch carries the tiles, the products and
   their sums from point to point. -/
module

public import proofs.«01_k».proof.Proof.Val.Inv

@[expose] public section

set_option maxRecDepth 16384

noncomputable section

namespace Cert.KernelIdeal.Tri

open Idealize.ShloMosaic Idealize.ShloMosaic.TcCoe Cert.TriMath
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)
open Cert.KernelIdeal Cert.KernelIdeal.Facts₀ Cert.KernelIdeal.Facts

local notation "𝕄" => MT nD τ sig Unit (Elt Ideal) ℕ (Pipeline.UD sig nD τ) ℕ

variable (m : (ℓ : Loc nD τ sig) → Buf (Elt Ideal) ℓ) (ρ : Dev nD → PrngReg)

/-- The buffers at a point with the inputs staged. -/
def vin (c : Dev nD) (t : Fin cfg0.N) (fzo : (shp .zo).Idx → Elt Ideal (elt .zo)) (fstd : (shp .std).Idx → Elt Ideal (elt .std)) (fq2 : (shp .q2).Idx → Elt Ideal (elt .q2))
    (fs2 : (shp .s2).Idx → Elt Ideal (elt .s2)) (σ : St Ideal) : St Ideal :=
  mkSt (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) (Gen.iblk m c 10 t) (Gen.iblk m c 11 t) (Gen.iblk m c 12 t) fzo fstd fq2 fs2 (σ .a) (σ .b) (σ .x) (σ .sum) (σ .stg)

/-- The inputs staged at a point, the rest at zero. -/
def vin0 (c : Dev nD) (t : Fin cfg0.N) : St Ideal :=
  mkSt (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) (Gen.iblk m c 10 t) (Gen.iblk m c 11 t) (Gen.iblk m c 12 t) (fun _ => (0 : EReal)) (fun _ => (0 : EReal)) (fun _ => (0 : EReal)) (fun _ => (0 : EReal)) (fun _ => (0 : EReal)) (fun _ => (0 : EReal)) (fun _ => (0 : EReal)) (fun _ => (0 : EReal)) (fun _ => (0 : EReal))

/-- The blocks of the four results at a point. -/
def outZ (c : Dev nD) (t : Fin cfg0.N) : S1x16x128x128.Idx → EReal := fun y => zVal (grid0.coords t) (gX m c (grid0.coords t)) (vin0 m c t) (y 1) (y 2) (y 3)
def outStd (c : Dev nD) (t : Fin cfg0.N) : S1x16x128.Idx → EReal := fun y => rStd (rowX (grid0.coords t) (gX m c (grid0.coords t)) (y 1) (y 2))
def outQ2 (c : Dev nD) (t : Fin cfg0.N) : S1x16x96x128.Idx → EReal := fun y =>
  rCode (rowX (grid0.coords t) (gX m c (grid0.coords t)) (y 1) (y 3)) (gaC (vin0 m c t) (y 3)) (beC (vin0 m c t) (y 3)) (y 2)
def outS2 (c : Dev nD) (t : Fin cfg0.N) : S1x16x128.Idx → EReal := fun y =>
  rScale (rowX (grid0.coords t) (gX m c (grid0.coords t)) (y 1) (y 2)) (gaC (vin0 m c t) (y 2)) (beC (vin0 m c t) (y 2))

/-- The scratch between points: its contents satisfy what the next point needs. -/
def scr (c : Dev nD) (n : ℕ) : sProp 𝕄 :=
  iprop(∃ σ : St Ideal, ⌜∀ h : n < grid0.N, Inv m c (grid0.coords ⟨n, h⟩) σ⌝ ∗ (((c : Thread nD τ).loc cc0_scratch0) ↦{fullShare} (σ .a)) ∗ (((c : Thread nD τ).loc cc0_scratch1) ↦{fullShare} (σ .b)) ∗ (((c : Thread nD τ).loc cc0_scratch2) ↦{fullShare} (σ .x)) ∗ (((c : Thread nD τ).loc cc0_scratch3) ↦{fullShare} (σ .sum)) ∗ (((c : Thread nD τ).loc cc0_scratch4) ↦{fullShare} (σ .stg)))

/-- The proof data: each staged input left in place, each result block at its values. -/
def vdats (_ : Fin 1) (c : Dev nD) : Dat τ (Elt Ideal) Unit ℕ (Pipeline.UD sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => Gen.iblk m c 6 t
    | ⟨7, _⟩ => Gen.iblk m c 7 t
    | ⟨8, _⟩ => Gen.iblk m c 8 t
    | ⟨9, _⟩ => Gen.iblk m c 9 t
    | ⟨10, _⟩ => Gen.iblk m c 10 t
    | ⟨11, _⟩ => Gen.iblk m c 11 t
    | ⟨12, _⟩ => Gen.iblk m c 12 t
    | ⟨13, _⟩ => outZ m c t
    | ⟨14, _⟩ => outStd m c t
    | ⟨15, _⟩ => outQ2 m c t
    | ⟨16, _⟩ => outS2 m c t
    | ⟨n + 17, h⟩ => absurd (show n + 17 < 17 from h) (by omega)
  Φ n := iprop(scr m c n.val ∗ (∃ r, prngReg c r) ∗ (semVal ((c : Thread nD τ), SemLoc.dma (sem0 cc0_scratch5)) 0 ∗ semVal ((c : Thread nD τ), SemLoc.dma (sem1 cc0_scratch5)) 0)
    ∗ ((((c : Thread nD τ).loc main_arg0) ↦{fullShare} Gen.V m c main_arg0) ∗ (((c : Thread nD τ).loc main_arg1) ↦{fullShare} Gen.V m c main_arg1)))
  q w := Pipeline.shareOf spec0 w
  owed _ := 0

set_option maxHeartbeats 2000000 in
/-- A staged input holds its block at every point. -/
theorem vbefore_in (c : Dev nD) (w : Fin 17) (hw : (spec0 w).isOut = false) (t : Fin cfg0.N) (d) :
    (vdats m 0 c).before w t d = (vdats m 0 c).after w t := by
  fin_cases w <;> first
    | exact absurd hw (by decide)
    | exact (Dat.before_in_eq_fetched _ _ rfl (fun _ => rfl) (fun _ _ _ => rfl) (fun t => rfl) t d).trans rfl

/-- What the body takes at a point. -/
def vbodyPre (c : Dev nD) (t : Fin cfg0.N) : sProp 𝕄 :=
  iprop((vdats m 0 c).Φ t.castSucc ∗ (vdats m 0 c).owesAt () t.castSucc
    ∗ (∃ d, owns (c : Thread nD τ) (Gen.st0_0 t) fullShare ((vdats m 0 c).before 0 t d))
    ∗ (∃ d, owns (c : Thread nD τ) (Gen.st0_1 t) fullShare ((vdats m 0 c).before 1 t d))
    ∗ (∃ d, owns (c : Thread nD τ) (Gen.st0_2 t) fullShare ((vdats m 0 c).before 2 t d))
    ∗ (∃ d, owns (c : Thread nD τ) (Gen.st0_3 t) fullShare ((vdats m 0 c).before 3 t d))
    ∗ (∃ d, owns (c : Thread nD τ) (Gen.st0_4 t) fullShare ((vdats m 0 c).before 4 t d))
    ∗ (∃ d, owns (c : Thread nD τ) (Gen.st0_5 t) fullShare ((vdats m 0 c).before 5 t d))
    ∗ (∃ d, owns (c : Thread nD τ) (Gen.st0_6 t) fullShare ((vdats m 0 c).before 6 t d))
    ∗ (∃ d, owns (c : Thread nD τ) (Gen.st0_7 t) fullShare ((vdats m 0 c).before 7 t d))
    ∗ (∃ d, owns (c : Thread nD τ) (Gen.st0_8 t) fullShare ((vdats m 0 c).before 8 t d))
    ∗ (∃ d, owns (c : Thread nD τ) (Gen.st0_9 t) fullShare ((vdats m 0 c).before 9 t d))
    ∗ (∃ d, owns (c : Thread nD τ) (Gen.st0_10 t) fullShare ((vdats m 0 c).before 10 t d))
    ∗ (∃ d, owns (c : Thread nD τ) (Gen.st0_11 t) fullShare ((vdats m 0 c).before 11 t d))
    ∗ (∃ d, owns (c : Thread nD τ) (Gen.st0_12 t) fullShare ((vdats m 0 c).before 12 t d))
    ∗ (∃ d, owns (c : Thread nD τ) (Gen.st0_13 t) fullShare ((vdats m 0 c).before 13 t d))
    ∗ (∃ d, owns (c : Thread nD τ) (Gen.st0_14 t) fullShare ((vdats m 0 c).before 14 t d))
    ∗ (∃ d, owns (c : Thread nD τ) (Gen.st0_15 t) fullShare ((vdats m 0 c).before 15 t d))
    ∗ (∃ d, owns (c : Thread nD τ) (Gen.st0_16 t) fullShare ((vdats m 0 c).before 16 t d)))
/-- What the body leaves at a point. -/
def vbodyPost (c : Dev nD) (t : Fin cfg0.N) : sProp 𝕄 :=
  iprop((vdats m 0 c).Φ t.succ ∗ (vdats m 0 c).owesAt () t.succ
    ∗ owns (c : Thread nD τ) (Gen.st0_0 t) fullShare ((vdats m 0 c).after 0 t)
    ∗ owns (c : Thread nD τ) (Gen.st0_1 t) fullShare ((vdats m 0 c).after 1 t)
    ∗ owns (c : Thread nD τ) (Gen.st0_2 t) fullShare ((vdats m 0 c).after 2 t)
    ∗ owns (c : Thread nD τ) (Gen.st0_3 t) fullShare ((vdats m 0 c).after 3 t)
    ∗ owns (c : Thread nD τ) (Gen.st0_4 t) fullShare ((vdats m 0 c).after 4 t)
    ∗ owns (c : Thread nD τ) (Gen.st0_5 t) fullShare ((vdats m 0 c).after 5 t)
    ∗ owns (c : Thread nD τ) (Gen.st0_6 t) fullShare ((vdats m 0 c).after 6 t)
    ∗ owns (c : Thread nD τ) (Gen.st0_7 t) fullShare ((vdats m 0 c).after 7 t)
    ∗ owns (c : Thread nD τ) (Gen.st0_8 t) fullShare ((vdats m 0 c).after 8 t)
    ∗ owns (c : Thread nD τ) (Gen.st0_9 t) fullShare ((vdats m 0 c).after 9 t)
    ∗ owns (c : Thread nD τ) (Gen.st0_10 t) fullShare ((vdats m 0 c).after 10 t)
    ∗ owns (c : Thread nD τ) (Gen.st0_11 t) fullShare ((vdats m 0 c).after 11 t)
    ∗ owns (c : Thread nD τ) (Gen.st0_12 t) fullShare ((vdats m 0 c).after 12 t)
    ∗ owns (c : Thread nD τ) (Gen.st0_13 t) fullShare ((vdats m 0 c).after 13 t)
    ∗ owns (c : Thread nD τ) (Gen.st0_14 t) fullShare ((vdats m 0 c).after 14 t)
    ∗ owns (c : Thread nD τ) (Gen.st0_15 t) fullShare ((vdats m 0 c).after 15 t)
    ∗ owns (c : Thread nD τ) (Gen.st0_16 t) fullShare ((vdats m 0 c).after 16 t))

/-- The invariant at the next point, and the result blocks, from what the body leaves. -/
structure Left (c : Dev nD) (t : Fin cfg0.N) (σ' : St Ideal) : Prop where
  fa : σ' .fa = Gen.iblk m c 0 t
  fb0 : σ' .fb0 = Gen.iblk m c 1 t
  fb1 : σ' .fb1 = Gen.iblk m c 2 t
  z : σ' .z = Gen.iblk m c 3 t
  q1 : σ' .q1 = Gen.iblk m c 4 t
  s1 : σ' .s1 = Gen.iblk m c 5 t
  eye : σ' .eye = Gen.iblk m c 6 t
  w5 : σ' .w5 = Gen.iblk m c 7 t
  s5 : σ' .s5 = Gen.iblk m c 8 t
  wo : σ' .wo = Gen.iblk m c 9 t
  so : σ' .so = Gen.iblk m c 10 t
  ga : σ' .ga = Gen.iblk m c 11 t
  be : σ' .be = Gen.iblk m c 12 t
  zo : σ' .zo = outZ m c t
  std : σ' .std = outStd m c t
  q2 : σ' .q2 = outQ2 m c t
  s2 : σ' .s2 = outS2 m c t
  inv : ∀ h : t.val + 1 < grid0.N, Inv m c (grid0.coords ⟨t.val + 1, h⟩) σ'

theorem Left.of {c : Dev nD} {t : Fin cfg0.N} {fzo fstd fq2 fs2} {σ₀ σ' : St Ideal}
    (H : Post (grid0.coords t) (gA m c (grid0.coords t)) (gB m c (grid0.coords t)) (gX m c (grid0.coords t)) (vin m c t fzo fstd fq2 fs2 σ₀) σ') : Left m c t σ' where
  fa := H.keep .fa (by decide) (by decide) (by decide) (by decide) (by decide) (by decide) (by decide) (by decide) (by decide)
  fb0 := H.keep .fb0 (by decide) (by decide) (by decide) (by decide) (by decide) (by decide) (by decide) (by decide) (by decide)
  fb1 := H.keep .fb1 (by decide) (by decide) (by decide) (by decide) (by decide) (by decide) (by decide) (by decide) (by decide)
  z := H.keep .z (by decide) (by decide) (by decide) (by decide) (by decide) (by decide) (by decide) (by decide) (by decide)
  q1 := H.keep .q1 (by decide) (by decide) (by decide) (by decide) (by decide) (by decide) (by decide) (by decide) (by decide)
  s1 := H.keep .s1 (by decide) (by decide) (by decide) (by decide) (by decide) (by decide) (by decide) (by decide) (by decide)
  eye := H.keep .eye (by decide) (by decide) (by decide) (by decide) (by decide) (by decide) (by decide) (by decide) (by decide)
  w5 := H.keep .w5 (by decide) (by decide) (by decide) (by decide) (by decide) (by decide) (by decide) (by decide) (by decide)
  s5 := H.keep .s5 (by decide) (by decide) (by decide) (by decide) (by decide) (by decide) (by decide) (by decide) (by decide)
  wo := H.keep .wo (by decide) (by decide) (by decide) (by decide) (by decide) (by decide) (by decide) (by decide) (by decide)
  so := H.keep .so (by decide) (by decide) (by decide) (by decide) (by decide) (by decide) (by decide) (by decide) (by decide)
  ga := H.keep .ga (by decide) (by decide) (by decide) (by decide) (by decide) (by decide) (by decide) (by decide) (by decide)
  be := H.keep .be (by decide) (by decide) (by decide) (by decide) (by decide) (by decide) (by decide) (by decide) (by decide)
  zo := by
    funext y
    have e : y = ix4 0 (y 1) (y 2) (y 3) := by funext a; match a with | ⟨0, _⟩ => exact Subsingleton.elim (α := Fin 1) _ _ | ⟨1, _⟩ => rfl | ⟨2, _⟩ => rfl | ⟨3, _⟩ => rfl
    rw [e]; exact H.zo _ _ _
  std := by
    funext y
    have e : y = ix3 0 (y 1) (y 2) := by funext a; match a with | ⟨0, _⟩ => exact Subsingleton.elim (α := Fin 1) _ _ | ⟨1, _⟩ => rfl | ⟨2, _⟩ => rfl
    rw [e]; exact H.std _ _
  q2 := by
    funext y
    have e : y = ix4 0 (y 1) (y 2) (y 3) := by funext a; match a with | ⟨0, _⟩ => exact Subsingleton.elim (α := Fin 1) _ _ | ⟨1, _⟩ => rfl | ⟨2, _⟩ => rfl | ⟨3, _⟩ => rfl
    rw [e]; exact H.q2 _ _ _
  s2 := by
    funext y
    have e : y = ix3 0 (y 1) (y 2) := by funext a; match a with | ⟨0, _⟩ => exact Subsingleton.elim (α := Fin 1) _ _ | ⟨1, _⟩ => rfl | ⟨2, _⟩ => rfl
    rw [e]; exact H.s2 _ _
  inv h := Inv.next m c t ⟨t.val + 1, h⟩ rfl _ _ H

set_option maxHeartbeats 2000000 in
/-- The body's triple at a point. -/
theorem vsound_body (c : Dev nD) (t : Fin cfg0.N) :
    vbodyPre m c t ⊢ wp frame (wpE (defs₀ (F := Ideal)) Variants.none c none) Set.univ (Gen.bodyAt0 t) (fun _ => vbodyPost m c t) := by
  unfold vbodyPre vbodyPost
  rw [hMemProgram c t]
  rw [show (vdats m 0 c).Φ t.castSucc = iprop(scr m c t.val ∗ (∃ r, prngReg c r) ∗ (semVal ((c : Thread nD τ), SemLoc.dma (sem0 cc0_scratch5)) 0 ∗ semVal ((c : Thread nD τ), SemLoc.dma (sem1 cc0_scratch5)) 0)
    ∗ ((((c : Thread nD τ).loc main_arg0) ↦{fullShare} Gen.V m c main_arg0) ∗ (((c : Thread nD τ).loc main_arg1) ↦{fullShare} Gen.V m c main_arg1))) from rfl,
    show (vdats m 0 c).Φ t.succ = iprop(scr m c (t.val + 1) ∗ (∃ r, prngReg c r) ∗ (semVal ((c : Thread nD τ), SemLoc.dma (sem0 cc0_scratch5)) 0 ∗ semVal ((c : Thread nD τ), SemLoc.dma (sem1 cc0_scratch5)) 0)
    ∗ ((((c : Thread nD τ).loc main_arg0) ↦{fullShare} Gen.V m c main_arg0) ∗ (((c : Thread nD τ).loc main_arg1) ↦{fullShare} Gen.V m c main_arg1))) from rfl]
  unfold scr
  unfold Dat.owesAt Pipeline.owesWithin
  rw [show (vdats m 0 c).owed t.castSucc = 0 from rfl, show (vdats m 0 c).owed t.succ = 0 from rfl]
  iintro ⟨⟨⟨%σ₀, %hI, Ha, Hb, Hx, Hsum, Hstg⟩, Hg, ⟨Hv0, Hv1⟩, ⟨Hm0, Hm1⟩⟩, ⟨%W, -, HW⟩, ⟨%dfa, Hfa⟩, ⟨%dfb0, Hfb0⟩, ⟨%dfb1, Hfb1⟩, ⟨%dz, Hz⟩, ⟨%dq1, Hq1⟩, ⟨%ds1, Hs1⟩, ⟨%deye, Heye⟩, ⟨%dw5, Hw5⟩, ⟨%ds5, Hs5⟩, ⟨%dwo, Hwo⟩, ⟨%dso, Hso⟩, ⟨%dga, Hga⟩, ⟨%dbe, Hbe⟩, ⟨%dzo, Hzo⟩, ⟨%dstd, Hstd⟩, ⟨%dq2, Hq2⟩, ⟨%ds2, Hs2⟩⟩
  rw [vbefore_in m c 0 rfl t dfa, vbefore_in m c 1 rfl t dfb0, vbefore_in m c 2 rfl t dfb1, vbefore_in m c 3 rfl t dz, vbefore_in m c 4 rfl t dq1, vbefore_in m c 5 rfl t ds1, vbefore_in m c 6 rfl t deye, vbefore_in m c 7 rfl t dw5, vbefore_in m c 8 rfl t ds5, vbefore_in m c 9 rfl t dwo, vbefore_in m c 10 rfl t dso, vbefore_in m c 11 rfl t dga, vbefore_in m c 12 rfl t dbe]
  generalize (vdats m 0 c).before 13 t dzo = fzo, (vdats m 0 c).before 14 t dstd = fstd, (vdats m 0 c).before 15 t dq2 = fq2, (vdats m 0 c).before 16 t ds2 = fs2
  iapply (wp_mono frame (wpE (defs₀ (F := Ideal)) Variants.none (c : Thread nD τ) none) Set.univ (Q := fun _ => iprop(∃ σ', ⌜Post (grid0.coords t) (gA m c (grid0.coords t)) (gB m c (grid0.coords t)) (gX m c (grid0.coords t)) (vin m c t fzo fstd fq2 fs2 σ₀) σ'⌝
    ∗ Own c (mems t) σ' ∗ Held c (Memref.whole main_arg0) (Memref.whole main_arg1) cc0_scratch5 (Gen.V m c main_arg0) (Gen.V m c main_arg1) ∗ ∃ r, prngReg c r)) ?_)
  · intro _
    simp only [Own_eq, Held]
    iintro ⟨%σ', %hσ, ⟨Hfa, Hfb0, Hfb1, Hz, Hq1, Hs1, Heye, Hw5, Hs5, Hwo, Hso, Hga, Hbe, Hzo, Hstd, Hq2, Hs2, Ha, Hb, Hx, Hsum, Hstg⟩, ⟨Hm0, Hm1, Hv0, Hv1, ⟨%W', HW'⟩⟩, Hg⟩
    have L : Left m c t σ' := Left.of m hσ
    isplitl [Ha Hb Hx Hsum Hstg Hg Hv0 Hv1 Hm0 Hm1]
    · isplitl [Ha Hb Hx Hsum Hstg]
      · simp only [mems, owns_whole]
        iexists σ'
        isplitr; · ipureintro; exact L.inv
        isplitl [Ha]; · iexact Ha
        isplitl [Hb]; · iexact Hb
        isplitl [Hx]; · iexact Hx
        isplitl [Hsum]; · iexact Hsum
        iexact Hstg
      isplitl [Hg]; · iexact Hg
      isplitl [Hv0 Hv1]
      · isplitl [Hv0]; · iexact Hv0
        iexact Hv1
      isplitl [Hm0]; · iexact Hm0
      iexact Hm1
    isplitl [HW']
    · iexists W'; isplitr; · ipureintro; exact fun _ _ => Or.inl trivial
      iexact HW'
    isplitl [Hfa]; · rw [L.fa]; iexact Hfa
    isplitl [Hfb0]; · rw [L.fb0]; iexact Hfb0
    isplitl [Hfb1]; · rw [L.fb1]; iexact Hfb1
    isplitl [Hz]; · rw [L.z]; iexact Hz
    isplitl [Hq1]; · rw [L.q1]; iexact Hq1
    isplitl [Hs1]; · rw [L.s1]; iexact Hs1
    isplitl [Heye]; · rw [L.eye]; iexact Heye
    isplitl [Hw5]; · rw [L.w5]; iexact Hw5
    isplitl [Hs5]; · rw [L.s5]; iexact Hs5
    isplitl [Hwo]; · rw [L.wo]; iexact Hwo
    isplitl [Hso]; · rw [L.so]; iexact Hso
    isplitl [Hga]; · rw [L.ga]; iexact Hga
    isplitl [Hbe]; · rw [L.be]; iexact Hbe
    isplitl [Hzo]; · rw [L.zo]; iexact Hzo
    isplitl [Hstd]; · rw [L.std]; iexact Hstd
    isplitl [Hq2]; · rw [L.q2]; iexact Hq2
    rw [L.s2]; iexact Hs2
  have hI' : Inv m c (grid0.coords t) (vin m c t fzo fstd fq2 fs2 σ₀) := by
    have h := hI t.isLt
    exact ⟨h.b, h.a, fun h3 h4 => ⟨(h.cur h3 h4).x, (h.cur h3 h4).sum⟩, fun h3 => ⟨(h.nxt h3).x, (h.nxt h3).sum⟩⟩
  iapply (body_val (grid0.coords t) (mems_whole t) (vin m c t fzo fstd fq2 fs2 σ₀) (gA m c (grid0.coords t)) (gB m c (grid0.coords t)) (gX m c (grid0.coords t))
    (Inv.pre m c hI' rfl rfl rfl) (tileB_eq m c t) (tileA_eq m c t) iprop(∃ r, prngReg c r))
  rw [Own_eq]
  unfold Held
  isplitr [Hm0 Hm1 Hv0 Hv1 HW Hg]
  · simp only [mems, vin, mkSt, owns_whole]
    isplitl [Hfa]; · iexact Hfa
    isplitl [Hfb0]; · iexact Hfb0
    isplitl [Hfb1]; · iexact Hfb1
    isplitl [Hz]; · iexact Hz
    isplitl [Hq1]; · iexact Hq1
    isplitl [Hs1]; · iexact Hs1
    isplitl [Heye]; · iexact Heye
    isplitl [Hw5]; · iexact Hw5
    isplitl [Hs5]; · iexact Hs5
    isplitl [Hwo]; · iexact Hwo
    isplitl [Hso]; · iexact Hso
    isplitl [Hga]; · iexact Hga
    isplitl [Hbe]; · iexact Hbe
    isplitl [Hzo]; · iexact Hzo
    isplitl [Hstd]; · iexact Hstd
    isplitl [Hq2]; · iexact Hq2
    isplitl [Hs2]; · iexact Hs2
    isplitl [Ha]; · iexact Ha
    isplitl [Hb]; · iexact Hb
    isplitl [Hx]; · iexact Hx
    isplitl [Hsum]; · iexact Hsum
    iexact Hstg
  isplitl [Hm0 Hm1 Hv0 Hv1 HW]
  · isplitl [Hm0]; · iexact Hm0
    isplitl [Hm1]; · iexact Hm1
    isplitl [Hv0]; · iexact Hv0
    isplitl [Hv1]; · iexact Hv1
    iexists _; iexact HW
  iexact Hg

theorem vbody_obligation (c : Dev nD) : BodyObligationLoose (vdats m 0 c) (defs₀ (F := Ideal)) Variants.none () Set.univ := fun t => by
  rw [Gen.bigSep_W0, Gen.bigSep_W0, defs₀_row]
  exact triple_restated (vsound_body m c t) rfl .rfl fun _ => .rfl

/-! ## The run -/

theorem vhin (c : Dev nD) : Pipeline.ΦD osem0 spec0 H0 (Gen.V m) c ⊢ (vdats m 0 c).Φ 0 := by
  rw [Pipeline.ΦD_eq, Gen.scopedRest0_eq, ownSems00_eq, hbmPts0_eq]
  show _ ⊢ iprop(scr m c 0 ∗ _)
  unfold scr
  iintro ⟨⟨⟨%fa, Ha⟩, ⟨%fb, Hb⟩, ⟨%fx, Hx⟩, ⟨%fsum, Hsum⟩, ⟨%fstg, Hstg⟩⟩, H⟩
  isplitr [H]
  · iexists (mkSt (fun _ => (0 : EReal)) (fun _ => (0 : EReal)) (fun _ => (0 : EReal)) (fun _ => (0 : EReal)) (fun _ => (0 : EReal)) (fun _ => (0 : EReal)) (fun _ => (0 : EReal)) (fun _ => (0 : EReal)) (fun _ => (0 : EReal)) (fun _ => (0 : EReal)) (fun _ => (0 : EReal)) (fun _ => (0 : EReal)) (fun _ => (0 : EReal))
      (fun _ => (0 : EReal)) (fun _ => (0 : EReal)) (fun _ => (0 : EReal)) (fun _ => (0 : EReal)) fa fb fx fsum fstg)
    isplitr; · ipureintro; exact fun h => Inv.first m c ⟨0, h⟩ rfl _
    isplitl [Ha]; · iexact Ha
    isplitl [Hb]; · iexact Hb
    isplitl [Hx]; · iexact Hx
    isplitl [Hsum]; · iexact Hsum
    iexact Hstg
  iexact H

theorem vhout (c : Dev nD) : (vdats m 0 c).Φ (Fin.last cfg0.N) ⊢ Pipeline.ΦD osem0 spec0 H0 (Gen.V m) c := by
  rw [Pipeline.ΦD_eq, Gen.scopedRest0_eq, ownSems00_eq, hbmPts0_eq]
  show iprop(scr m c grid0.N ∗ _) ⊢ _
  unfold scr
  iintro ⟨⟨%σ, -, Ha, Hb, Hx, Hsum, Hstg⟩, H⟩
  isplitr [H]
  · isplitl [Ha]; · iexists _; iexact Ha
    isplitl [Hb]; · iexists _; iexact Hb
    isplitl [Hx]; · iexists _; iexact Hx
    isplitl [Hsum]; · iexists _; iexact Hsum
    iexists _; iexact Hstg
  iexact H

/-- The run: what every array holds at the end. -/
theorem run_val : θ_run defs (onTc (τ := τ) (main (F := Ideal))) (s₀ m ρ)
    (fun r => Pipeline.FramePost cfgs (vdats m) (0 : Fin 1) (Gen.V m) r ∧ r.2.sem = fun _ => 0) :=
  Pipeline.θ_run_frame_dma_shared (Q' := _) cfgs (vdats m) (0 : Fin 1) Gen.launch₀0 osem0 defs₀ Variants.none ownSemFacts0 H0 H0_sub m ρ main
    (hbody := fun c => vbody_obligation m c) (hq := fun _ _ _ => rfl) (howed := fun _ _ => rfl) (V := Gen.V m) (hmain := hmain m Variants.none)
    (hA := fun _ _ => rfl) (hin := vhin m) (hout := vhout m)

end Cert.KernelIdeal.Tri
-- ==== Proof.Val.FinK.lean ====
/- The kernel's four result arrays as functions of the arguments: the blocks written back cover each array, and every block read is its
   argument at the block's place. -/
module

public import proofs.«01_k».proof.Proof.Val.Spec
public import proofs.«01_k».proof.Proof.Val.ValK

@[expose] public section

set_option maxRecDepth 16384

noncomputable section

namespace Cert.KernelIdeal.Tri

open Idealize.ShloMosaic Idealize.ShloMosaic.TcCoe Cert.TriMath
open Cert.KernelIdeal Cert.KernelIdeal.Facts₀ Cert.KernelIdeal.Facts

variable (m : (ℓ : Loc nD τ sig) → Buf (Elt Ideal) ℓ) (c : Dev nD)

/-! ## Where the blocks lie -/

theorem idx_pos : ∀ t : Fin cfg0.N, win0_3.index t = ![(grid0.coords t 0).val, 8 * (grid0.coords t 1).val + (grid0.coords t 3).val, (grid0.coords t 2).val, 0]
    ∧ win0_4.index t = ![(grid0.coords t 0).val, 8 * (grid0.coords t 1).val + (grid0.coords t 3).val, (grid0.coords t 2).val, 0]
    ∧ win0_5.index t = ![(grid0.coords t 0).val, 8 * (grid0.coords t 1).val + (grid0.coords t 3).val, (grid0.coords t 2).val]
    ∧ win0_6.index t = ![0, 0] ∧ win0_7.index t = ![3, 0] ∧ win0_8.index t = ![0, 0] ∧ win0_9.index t = ![0, 0] ∧ win0_10.index t = ![0, 0]
    ∧ win0_11.index t = ![0, 0] ∧ win0_12.index t = ![0, 0] := (by decide +kernel : ∀ t : Fin grid0.N, _)

theorem idx_out : ∀ t : Fin cfg0.N, win0_13.index t = ![(grid0.coords t 0).val, 8 * (grid0.coords t 1).val + (grid0.coords t 3).val, (grid0.coords t 2).val, 0]
    ∧ win0_14.index t = ![(grid0.coords t 0).val, 8 * (grid0.coords t 1).val + (grid0.coords t 3).val, (grid0.coords t 2).val]
    ∧ win0_15.index t = ![(grid0.coords t 0).val, 8 * (grid0.coords t 1).val + (grid0.coords t 3).val, 0, (grid0.coords t 2).val]
    ∧ win0_16.index t = ![(grid0.coords t 0).val, 8 * (grid0.coords t 1).val + (grid0.coords t 3).val, (grid0.coords t 2).val] := (by decide +kernel : ∀ t : Fin grid0.N, _)

/-! ## The blocks of the parameters -/

abbrev vSin : S512.Idx → EReal := Gen.V m c main_arg8
abbrev vSout : S128.Idx → EReal := Gen.V m c main_arg12
abbrev bEye (t : Fin cfg0.N) : S128x128.Idx → EReal := Gen.iblk m c 6 t

theorem eye_at (t : Fin cfg0.N) (d x : Fin 128) : bEye m c t (ix2 d x) = if d = x then 1 else 0 := by
  have e : bEye m c t (ix2 d x) = (Gen.V m c main_v5 : S128x128.Idx → EReal) (ix2 d x) := by
    blk_ext [Gen.iblk, idx_pos t]
  rw [e]
  entry_read
  pointwise
  have hd : BitVec.ofNat 32 d.val + 0#32 = BitVec.ofNat 32 x.val ↔ d = x := by
    rw [BitVec.add_zero, ← BitVec.toNat_inj, BitVec.toNat_ofNat, BitVec.toNat_ofNat, Fin.ext_iff]; omega
  show (((BitVec.ofBool (BitVec.ofNat 32 d.val + 0#32 == BitVec.ofNat 32 x.val)).toNat : ℝ) : EReal) = _
  by_cases h : d = x
  · rw [if_pos h, beq_iff_eq.mpr (hd.mpr h)]; norm_num; rfl
  · rw [if_neg h, beq_eq_false_iff_ne.mpr (fun e => h (hd.mp e))]; norm_num
theorem w5_at (t : Fin cfg0.N) (d x : Fin 128) : (Gen.iblk m c 7 t : S128x128.Idx → EReal) (ix2 d x)
    = (Gen.V m c main_arg7 : S128x512.Idx → EReal) (ix2 x (⟨384 + d.val, by omega⟩ : Fin 512)) := by
  have e : (Gen.iblk m c 7 t : S128x128.Idx → EReal) (ix2 d x) = (Gen.V m c main_v6 : S512x128.Idx → EReal) (ix2 (⟨384 + d.val, by omega⟩ : Fin 512) x) := by
    blk_ext [Gen.iblk, idx_pos t]
  rw [e, Gen.V_main_arg7]
  entry_read
  pointwise
theorem s5_at (t : Fin cfg0.N) (d l : Fin 128) : (Gen.iblk m c 8 t : S128x128.Idx → EReal) (ix2 d l)
    = vSin m c (ix1 (⟨384 + d.val, by omega⟩ : Fin 512)) * ((1/2 : ℝ) : EReal) := by
  have e : (Gen.iblk m c 8 t : S128x128.Idx → EReal) (ix2 d l) = (Gen.V m c main_v11 : S128x128.Idx → EReal) (ix2 d l) := by
    blk_ext [Gen.iblk, idx_pos t]
  rw [e, ← ofBits_half]; unfold vSin; rw [Gen.V_main_arg8]
  entry_read
  pointwise
theorem wo_at (t : Fin cfg0.N) (d : Fin 128) (x : Fin 96) : (Gen.iblk m c 9 t : S128x96.Idx → EReal) (ix2 d x)
    = (Gen.V m c main_arg11 : S96x128.Idx → EReal) (ix2 x d) := by
  have e : (Gen.iblk m c 9 t : S128x96.Idx → EReal) (ix2 d x) = (Gen.V m c main_v12 : S128x96.Idx → EReal) (ix2 d x) := by
    blk_ext [Gen.iblk, idx_pos t]
  rw [e, Gen.V_main_arg11]
  entry_read
  pointwise
theorem so_at (t : Fin cfg0.N) (d l : Fin 128) : (Gen.iblk m c 10 t : S128x128.Idx → EReal) (ix2 d l)
    = vSout m c (ix1 d) * ((1/2 : ℝ) : EReal) := by
  have e : (Gen.iblk m c 10 t : S128x128.Idx → EReal) (ix2 d l) = (Gen.V m c main_v16 : S128x128.Idx → EReal) (ix2 d l) := by
    blk_ext [Gen.iblk, idx_pos t]
  rw [e, ← ofBits_half]; unfold vSout; rw [Gen.V_main_arg12]
  entry_read
  pointwise
theorem ga_at (t : Fin cfg0.N) (x : Fin 96) (l : Fin 128) : (Gen.iblk m c 11 t : S96x128.Idx → EReal) (ix2 x l)
    = (Gen.V m c main_arg9 : S96.Idx → EReal) (ix1 x) := by
  have e : (Gen.iblk m c 11 t : S96x128.Idx → EReal) (ix2 x l) = (Gen.V m c main_v18 : S96x128.Idx → EReal) (ix2 x l) := by
    blk_ext [Gen.iblk, idx_pos t]
  rw [e, Gen.V_main_arg9]
  entry_read
  pointwise
theorem be_at (t : Fin cfg0.N) (x : Fin 96) (l : Fin 128) : (Gen.iblk m c 12 t : S96x128.Idx → EReal) (ix2 x l)
    = (Gen.V m c main_arg10 : S96.Idx → EReal) (ix1 x) := by
  have e : (Gen.iblk m c 12 t : S96x128.Idx → EReal) (ix2 x l) = (Gen.V m c main_v20 : S96x128.Idx → EReal) (ix2 x l) := by
    blk_ext [Gen.iblk, idx_pos t]
  rw [e, Gen.V_main_arg10]
  entry_read
  pointwise

/-! ## The blocks of the positions -/

theorem z_at (t : Fin cfg0.N) (r : Fin 16) (l d : Fin 128) (R J : Fin 640) (hR : R.val = (8 * (grid0.coords t 1).val + (grid0.coords t 3).val) * 16 + r.val)
    (hJ : J.val = (grid0.coords t 2).val * 128 + l.val) :
    (Gen.iblk m c 3 t : S1x16x128x128.Idx → EReal) (ix4 0 r l d) = (Gen.V m c main_arg4 : S2x640x640x128.Idx → EReal) (ix4 (grid0.coords t 0) R J d) := by
  blk_ext [Gen.iblk, idx_pos t]
theorem q1_at (t : Fin cfg0.N) (r : Fin 16) (l d : Fin 128) (R J : Fin 640) (hR : R.val = (8 * (grid0.coords t 1).val + (grid0.coords t 3).val) * 16 + r.val)
    (hJ : J.val = (grid0.coords t 2).val * 128 + l.val) :
    (Gen.iblk m c 4 t : S1x16x128x128.Idx → EReal) (ix4 0 r l d) = (Gen.V m c main_arg5 : S2x640x640x128.Idx → EReal) (ix4 (grid0.coords t 0) R J d) := by
  blk_ext [Gen.iblk, idx_pos t]
theorem s1_at (t : Fin cfg0.N) (r : Fin 16) (l : Fin 128) (R J : Fin 640) (hR : R.val = (8 * (grid0.coords t 1).val + (grid0.coords t 3).val) * 16 + r.val)
    (hJ : J.val = (grid0.coords t 2).val * 128 + l.val) :
    (Gen.iblk m c 5 t : S1x16x128.Idx → EReal) (ix3 0 r l) = (Gen.V m c main_arg6 : S2x640x640.Idx → EReal) (ix3 (grid0.coords t 0) R J) := by
  blk_ext [Gen.iblk, idx_pos t]

/-! ## What every point leaves -/

theorem rowX_at (t : Fin cfg0.N) (r : Fin 16) (l : Fin 128) (R J : Fin 640) (hR : R.val = (8 * (grid0.coords t 1).val + (grid0.coords t 3).val) * 16 + r.val)
    (hJ : J.val = (grid0.coords t 2).val * 128 + l.val) :
    rowX (grid0.coords t) (gX m c (grid0.coords t)) r l
      = rowS (Gen.V m c main_arg0) (Gen.V m c main_arg1) (Gen.V m c main_arg2) (Gen.V m c main_arg3) (grid0.coords t 0) R J :=
  rowS_prodX _ _ _ _ _ _ _ (r16 (grid0.coords t) r) l R J (by show R.val = 128 * (grid0.coords t 1).val + (16 * (grid0.coords t 3).val + r.val); omega) (by omega)

theorem gaC_at (t : Fin cfg0.N) (l : Fin 128) : gaC (vin0 m c t) l = gaS (Gen.V m c main_arg9) := funext fun x => ga_at m c t x l
theorem beC_at (t : Fin cfg0.N) (l : Fin 128) : beC (vin0 m c t) l = gaS (Gen.V m c main_arg10) := funext fun x => be_at m c t x l

/-! ## The arrays -/

theorem covers14 : (cfg0.win 14).Covers := by decide +kernel
theorem covers13 : (cfg0.win 13).Covers := by decide +kernel
theorem covers15 : (cfg0.win 15).Covers := by decide +kernel
theorem covers16 : (cfg0.win 16).Covers := by decide +kernel

theorem fin14 : (vdats m 0 c).arrAt 14 cfg0.N = specStd (Gen.V m c main_arg0) (Gen.V m c main_arg1) (Gen.V m c main_arg2) (Gen.V m c main_arg3) := by
  refine (vdats m 0 c).arrAt_eq_of_covers 14 _ (covers14) (fun t hf y => ?_)
  blk_simp
  have h0 : ((win0_14.blk t).view.emb y) 0 = grid0.coords t 0 := by apply Fin.ext; blk_simp [idx_out t]
  have h1 : (((win0_14.blk t).view.emb y) 1).val = (8 * (grid0.coords t 1).val + (grid0.coords t 3).val) * 16 + (y 1).val := by blk_simp [idx_out t]
  have h2 : (((win0_14.blk t).view.emb y) 2).val = (grid0.coords t 2).val * 128 + (y 2).val := by blk_simp [idx_out t]
  refine Eq.trans (b := rStd (rowS (Gen.V m c main_arg0) (Gen.V m c main_arg1) (Gen.V m c main_arg2) (Gen.V m c main_arg3) (grid0.coords t 0) ((win0_14.blk t).view.emb y 1) ((win0_14.blk t).view.emb y 2))) ?_ ?_
  · exact congrArg rStd (rowX_at m c t (y 1) (y 2) _ _ h1 h2)
  · rw [← h0]; rfl

theorem fin16 : (vdats m 0 c).arrAt 16 cfg0.N = specS2 (Gen.V m c main_arg0) (Gen.V m c main_arg1) (Gen.V m c main_arg2) (Gen.V m c main_arg3) (Gen.V m c main_arg9) (Gen.V m c main_arg10) := by
  refine (vdats m 0 c).arrAt_eq_of_covers 16 _ (covers16) (fun t hf y => ?_)
  blk_simp
  have h0 : ((win0_16.blk t).view.emb y) 0 = grid0.coords t 0 := by apply Fin.ext; blk_simp [idx_out t]
  have h1 : (((win0_16.blk t).view.emb y) 1).val = (8 * (grid0.coords t 1).val + (grid0.coords t 3).val) * 16 + (y 1).val := by blk_simp [idx_out t]
  have h2 : (((win0_16.blk t).view.emb y) 2).val = (grid0.coords t 2).val * 128 + (y 2).val := by blk_simp [idx_out t]
  refine Eq.trans (b := rScale (rowS (Gen.V m c main_arg0) (Gen.V m c main_arg1) (Gen.V m c main_arg2) (Gen.V m c main_arg3) (grid0.coords t 0) ((win0_16.blk t).view.emb y 1) ((win0_16.blk t).view.emb y 2)) (gaS (Gen.V m c main_arg9)) (gaS (Gen.V m c main_arg10))) ?_ ?_
  · rw [← rowX_at m c t (y 1) (y 2) _ _ h1 h2, ← gaC_at m c t (y 2), ← beC_at m c t (y 2)]; rfl
  · rw [← h0]; rfl

theorem fin15 : (vdats m 0 c).arrAt 15 cfg0.N = specQ2 (Gen.V m c main_arg0) (Gen.V m c main_arg1) (Gen.V m c main_arg2) (Gen.V m c main_arg3) (Gen.V m c main_arg9) (Gen.V m c main_arg10) := by
  refine (vdats m 0 c).arrAt_eq_of_covers 15 _ (covers15) (fun t hf y => ?_)
  blk_simp
  have h0 : ((win0_15.blk t).view.emb y) 0 = grid0.coords t 0 := by apply Fin.ext; blk_simp [idx_out t]
  have h1 : (((win0_15.blk t).view.emb y) 1).val = (8 * (grid0.coords t 1).val + (grid0.coords t 3).val) * 16 + (y 1).val := by blk_simp [idx_out t]
  have h2 : (((win0_15.blk t).view.emb y) 3).val = (grid0.coords t 2).val * 128 + (y 3).val := by blk_simp [idx_out t]
  have h3 : ((win0_15.blk t).view.emb y) 2 = y 2 := by apply Fin.ext; blk_simp [idx_out t]
  refine Eq.trans (b := rCode (rowS (Gen.V m c main_arg0) (Gen.V m c main_arg1) (Gen.V m c main_arg2) (Gen.V m c main_arg3) (grid0.coords t 0) ((win0_15.blk t).view.emb y 1) ((win0_15.blk t).view.emb y 3)) (gaS (Gen.V m c main_arg9)) (gaS (Gen.V m c main_arg10)) ((win0_15.blk t).view.emb y 2)) ?_ ?_
  · rw [← rowX_at m c t (y 1) (y 3) _ _ h1 h2, ← gaC_at m c t (y 3), ← beC_at m c t (y 3), h3]; rfl
  · rw [← h0]; rfl

/-- The result block from its parts. -/
theorem zVal_at (t : Fin cfg0.N) (r : Fin 16) (l d : Fin 128) (R J : Fin 640) (hR : R.val = (8 * (grid0.coords t 1).val + (grid0.coords t 3).val) * 16 + r.val)
    (hJ : J.val = (grid0.coords t 2).val * 128 + l.val) :
    zVal (grid0.coords t) (gX m c (grid0.coords t)) (vin0 m c t) r l d
      = specZ (Gen.V m c main_arg0) (Gen.V m c main_arg1) (Gen.V m c main_arg2) (Gen.V m c main_arg3) (Gen.V m c main_arg9) (Gen.V m c main_arg10) (Gen.V m c main_arg4) (Gen.V m c main_arg5) (Gen.V m c main_arg6) (Gen.V m c main_arg7) (Gen.V m c main_arg8) (Gen.V m c main_arg11) (Gen.V m c main_arg12) (ix4 (grid0.coords t 0) R J d) := by
  unfold zVal specZ
  rw [gaC_at m c t l, beC_at m c t l, rowX_at m c t r l R J hR hJ]
  have eS : (vin0 m c t .s5 : S128x128.Idx → EReal) (ix2 d l) = vSin m c (ix1 (⟨384 + d.val, by omega⟩ : Fin 512)) * ((1/2 : ℝ) : EReal) := s5_at m c t d l
  have eO : (vin0 m c t .so : S128x128.Idx → EReal) (ix2 d l) = vSout m c (ix1 d) * ((1/2 : ℝ) : EReal) := so_at m c t d l
  rw [eS, eO, gate_eq]
  refine congrArg₂ (· + ·) ?_ (congrArg₂ (· * ·) (congrArg Ideal.logistic (congrArg₂ (· * ·) (congrArg₂ (· * ·) (Finset.sum_congr rfl fun x _ => ?_) ?_) rfl)) (congrArg₂ (· * ·) (congrArg₂ (· * ·) (Finset.sum_congr rfl fun x _ => ?_) rfl) rfl))
  · refine (sum_eye (fun x => (Gen.iblk m c 3 t : S1x16x128x128.Idx → EReal) (ix4 0 r l x)) (fun x => bEye m c t (ix2 d x)) d (fun x => eye_at m c t d x)).trans ?_
    exact z_at m c t r l d R J hR hJ
  · exact (congrArg₂ (fun a b : EReal => a * b) (w5_at m c t d x) (q1_at m c t r l x R J hR hJ)).trans (mul_comm (G := EReal) _ _)
  · exact s1_at m c t r l R J hR hJ
  · exact (congrArg₂ (fun a b : EReal => a * b) (wo_at m c t d x) rfl).trans (mul_comm (G := EReal) _ _)

theorem fin13 : (vdats m 0 c).arrAt 13 cfg0.N = specZ (Gen.V m c main_arg0) (Gen.V m c main_arg1) (Gen.V m c main_arg2) (Gen.V m c main_arg3) (Gen.V m c main_arg9) (Gen.V m c main_arg10) (Gen.V m c main_arg4) (Gen.V m c main_arg5) (Gen.V m c main_arg6) (Gen.V m c main_arg7) (Gen.V m c main_arg8) (Gen.V m c main_arg11) (Gen.V m c main_arg12) := by
  refine (vdats m 0 c).arrAt_eq_of_covers 13 _ (covers13) (fun t hf y => ?_)
  blk_simp
  have h0 : ((win0_13.blk t).view.emb y) 0 = grid0.coords t 0 := by apply Fin.ext; blk_simp [idx_out t]
  have h1 : (((win0_13.blk t).view.emb y) 1).val = (8 * (grid0.coords t 1).val + (grid0.coords t 3).val) * 16 + (y 1).val := by blk_simp [idx_out t]
  have h2 : (((win0_13.blk t).view.emb y) 2).val = (grid0.coords t 2).val * 128 + (y 2).val := by blk_simp [idx_out t]
  have h3 : ((win0_13.blk t).view.emb y) 3 = y 3 := by apply Fin.ext; blk_simp [idx_out t]
  refine (zVal_at m c t (y 1) (y 2) (y 3) _ _ h1 h2).trans ?_
  rw [← h0, ← h3]; rfl

end Cert.KernelIdeal.Tri
-- ==== Proof.Val.RunK.lean ====
/- The kernel's run: the four results as functions of the arguments, every argument as it began. -/
module

public import proofs.«01_k».proof.Proof.Val.FinK

@[expose] public section

set_option maxRecDepth 16384

noncomputable section

namespace Cert.KernelIdeal.Tri

open Idealize.ShloMosaic Idealize.ShloMosaic.TcCoe Cert.TriMath Idealize.SL.Sem
open Cert.KernelIdeal Cert.KernelIdeal.Facts₀ Cert.KernelIdeal.Facts

variable (m : (ℓ : Loc nD τ sig) → Buf (Elt Ideal) ℓ) (ρ : Dev nD → PrngReg) (c : Dev nD)

theorem fin13' : (vdats m 0 c).arrAt 13 cfg0.N = specZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg9)) (m ((c.tc : Thread nD τ).loc main_arg10)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  rw [fin13, Gen.V_main_arg0, Gen.V_main_arg1, Gen.V_main_arg2, Gen.V_main_arg3, Gen.V_main_arg9, Gen.V_main_arg10, Gen.V_main_arg4, Gen.V_main_arg5, Gen.V_main_arg6, Gen.V_main_arg7, Gen.V_main_arg8, Gen.V_main_arg11, Gen.V_main_arg12]

theorem fin14' : (vdats m 0 c).arrAt 14 cfg0.N = specStd (m ((c.tc : Thread nD τ).loc main_arg0)) (m ((c.tc : Thread nD τ).loc main_arg1)) (m ((c.tc : Thread nD τ).loc main_arg2)) (m ((c.tc : Thread nD τ).loc main_arg3)) := by
  rw [fin14, Gen.V_main_arg0, Gen.V_main_arg1, Gen.V_main_arg2, Gen.V_main_arg3]

theorem fin15' : (vdats m 0 c).arrAt 15 cfg0.N = specQ2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg9)) (m ((c.tc : Thread nD τ).loc main_arg10)) := by
  rw [fin15, Gen.V_main_arg0, Gen.V_main_arg1, Gen.V_main_arg2, Gen.V_main_arg3, Gen.V_main_arg9, Gen.V_main_arg10]

theorem fin16' : (vdats m 0 c).arrAt 16 cfg0.N = specS2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg9)) (m ((c.tc : Thread nD τ).loc main_arg10)) := by
  rw [fin16, Gen.V_main_arg0, Gen.V_main_arg1, Gen.V_main_arg2, Gen.V_main_arg3, Gen.V_main_arg9, Gen.V_main_arg10]

section post
variable (r : PUnit × MemSt nD τ sig (Elt Ideal)) (h : Pipeline.FramePost cfgs (vdats m) (0 : Fin 1) (Gen.V m) r)
include h

theorem post0 : r.2.mem ((c.tc : Thread nD τ).loc main_v21_0) = specZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg9)) (m ((c.tc : Thread nD τ).loc main_arg10)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) :=
  ((h c).1 13).trans (fin13' m c)
theorem post1 : r.2.mem ((c.tc : Thread nD τ).loc main_v21_1) = specStd (m ((c.tc : Thread nD τ).loc main_arg0)) (m ((c.tc : Thread nD τ).loc main_arg1)) (m ((c.tc : Thread nD τ).loc main_arg2)) (m ((c.tc : Thread nD τ).loc main_arg3)) :=
  ((h c).1 14).trans (fin14' m c)
theorem post2 : r.2.mem ((c.tc : Thread nD τ).loc main_v21_2) = specQ2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg9)) (m ((c.tc : Thread nD τ).loc main_arg10)) :=
  ((h c).1 15).trans (fin15' m c)
theorem post3 : r.2.mem ((c.tc : Thread nD τ).loc main_v21_3) = specS2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg9)) (m ((c.tc : Thread nD τ).loc main_arg10)) :=
  ((h c).1 16).trans (fin16' m c)
theorem kept0 : r.2.mem ((c.tc : Thread nD τ).loc main_arg0) = m ((c.tc : Thread nD τ).loc main_arg0) :=
  ((h c).2 main_arg0 (Pipeline.mem_restRefs_of main_arg0 (by decide) (by decide))).trans (Gen.V_main_arg0 m c)
theorem kept1 : r.2.mem ((c.tc : Thread nD τ).loc main_arg1) = m ((c.tc : Thread nD τ).loc main_arg1) :=
  ((h c).2 main_arg1 (Pipeline.mem_restRefs_of main_arg1 (by decide) (by decide))).trans (Gen.V_main_arg1 m c)
theorem kept2 : r.2.mem ((c.tc : Thread nD τ).loc main_arg2) = m ((c.tc : Thread nD τ).loc main_arg2) :=
  ((h c).1 0).trans (((vdats m 0 c).arrAt_in 0 rfl _).trans (Gen.V_main_arg2 m c))
theorem kept3 : r.2.mem ((c.tc : Thread nD τ).loc main_arg3) = m ((c.tc : Thread nD τ).loc main_arg3) :=
  ((h c).1 2).trans (((vdats m 0 c).arrAt_in 2 rfl _).trans (Gen.V_main_arg3 m c))
theorem kept4 : r.2.mem ((c.tc : Thread nD τ).loc main_arg4) = m ((c.tc : Thread nD τ).loc main_arg4) :=
  ((h c).1 3).trans (((vdats m 0 c).arrAt_in 3 rfl _).trans (Gen.V_main_arg4 m c))
theorem kept5 : r.2.mem ((c.tc : Thread nD τ).loc main_arg5) = m ((c.tc : Thread nD τ).loc main_arg5) :=
  ((h c).1 4).trans (((vdats m 0 c).arrAt_in 4 rfl _).trans (Gen.V_main_arg5 m c))
theorem kept6 : r.2.mem ((c.tc : Thread nD τ).loc main_arg6) = m ((c.tc : Thread nD τ).loc main_arg6) :=
  ((h c).1 5).trans (((vdats m 0 c).arrAt_in 5 rfl _).trans (Gen.V_main_arg6 m c))
theorem kept7 : r.2.mem ((c.tc : Thread nD τ).loc main_arg7) = m ((c.tc : Thread nD τ).loc main_arg7) :=
  ((h c).2 main_arg7 (Pipeline.mem_restRefs_of main_arg7 (by decide) (by decide))).trans (Gen.V_main_arg7 m c)
theorem kept8 : r.2.mem ((c.tc : Thread nD τ).loc main_arg8) = m ((c.tc : Thread nD τ).loc main_arg8) :=
  ((h c).2 main_arg8 (Pipeline.mem_restRefs_of main_arg8 (by decide) (by decide))).trans (Gen.V_main_arg8 m c)
theorem kept9 : r.2.mem ((c.tc : Thread nD τ).loc main_arg9) = m ((c.tc : Thread nD τ).loc main_arg9) :=
  ((h c).2 main_arg9 (Pipeline.mem_restRefs_of main_arg9 (by decide) (by decide))).trans (Gen.V_main_arg9 m c)
theorem kept10 : r.2.mem ((c.tc : Thread nD τ).loc main_arg10) = m ((c.tc : Thread nD τ).loc main_arg10) :=
  ((h c).2 main_arg10 (Pipeline.mem_restRefs_of main_arg10 (by decide) (by decide))).trans (Gen.V_main_arg10 m c)
theorem kept11 : r.2.mem ((c.tc : Thread nD τ).loc main_arg11) = m ((c.tc : Thread nD τ).loc main_arg11) :=
  ((h c).2 main_arg11 (Pipeline.mem_restRefs_of main_arg11 (by decide) (by decide))).trans (Gen.V_main_arg11 m c)
theorem kept12 : r.2.mem ((c.tc : Thread nD τ).loc main_arg12) = m ((c.tc : Thread nD τ).loc main_arg12) :=
  ((h c).2 main_arg12 (Pipeline.mem_restRefs_of main_arg12 (by decide) (by decide))).trans (Gen.V_main_arg12 m c)

end post

theorem run_spec : θ_run defs (onTc (τ := τ) (main (F := Ideal))) ⟨m, fun _ => 0, ρ⟩ (fun r => ∀ c : Dev nD,
      r.2.mem ((c.tc : Thread nD τ).loc main_v21_0) = specZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg9)) (m ((c.tc : Thread nD τ).loc main_arg10)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12))
      ∧ r.2.mem ((c.tc : Thread nD τ).loc main_v21_1) = specStd (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v21_2) = specQ2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg9)) (m ((c.tc : Thread nD τ).loc main_arg10))
      ∧ r.2.mem ((c.tc : Thread nD τ).loc main_v21_3) = specS2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨post0 m c r h.1, post1 m c r h.1, post2 m c r h.1, post3 m c r h.1, kept0 m c r h.1, kept1 m c r h.1, kept2 m c r h.1, kept3 m c r h.1, kept4 m c r h.1, kept5 m c r h.1, kept6 m c r h.1, kept7 m c r h.1, kept8 m c r h.1, kept9 m c r h.1, kept10 m c r h.1, kept11 m c r h.1, kept12 m c r h.1⟩) (run_val m ρ)

end Cert.KernelIdeal.Tri
-- ==== Proof.Val.RefV.lean ====
/- The reference's four results at an index. -/
module

public import proofs.«01_k».proof.Proof.Val.Math2
public import proofs.«01_k».proof.Proof.Gen.ReferenceIdeal.Value
public import Idealize.ShloMosaic.Lib.Pipeline.ValueKit

@[expose] public section

set_option maxRecDepth 16384

noncomputable section

namespace Cert.ReferenceIdeal.Tri

open Idealize.ShloMosaic Idealize.ShloMosaic.TcCoe Cert.TriMath
open Cert.ReferenceIdeal Cert.ReferenceIdeal.Gen

section pays
variable (qa qb : FVec Ideal S2x96x640x640 .fp8e4m3) (fa fb : FVec Ideal S2x96x640 .f32) (ga be : FVec Ideal S96 .f32)

/-- The products of one position, over the channels. -/
def rowR (b : Fin 2) (R J : Fin 640) : Fin 96 → EReal := fun c =>
  (∑ k : Fin 640, (qa (ix4 b c R k) : EReal) * qb (ix4 b c k J)) * fa (ix3 b c R) * fb (ix3 b c J)

theorem pay3_at (b : Fin 2) (R J : Fin 640) (c : Fin 96) : k0_pay3 (F := Ideal) qa qb fa fb (ix4 b R J c) = rXc (rowR qa qb fa fb b R J) c := by
  unfold k0_pay3
  pointwise
  rw [div_96]
  rfl

theorem pay4_at (b : Fin 2) (R J : Fin 640) (u : Fin 1) : k0_pay4 (F := Ideal) qa qb fa fb (ix4 b R J u) = rStd (rowR qa qb fa fb b R J) := by
  unfold k0_pay4
  pointwise
  simp only [pay3_at, div_96]
  rfl

theorem pay8_at (v : FVec Ideal S2x640x640x1 .f32) (b : Fin 2) (R J : Fin 640) : k0_pay8 (F := Ideal) v (ix3 b R J) = v (ix4 b R J 0) := by
  unfold k0_pay8
  pointwise

theorem pay6_at (u v w : Fin 1) (c : Fin 96) : k0_pay6 (F := Ideal) be (ix4 u v w c) = be (ix1 c) := by
  unfold k0_pay6
  pointwise
theorem pay7_at (b : Fin 2) (R J : Fin 640) (c : Fin 96) : k0_pay7 (F := Ideal) (k0_pay5 (F := Ideal) qa qb fa fb ga) (k0_pay6 (F := Ideal) be) (ix4 b R J c)
    = rY (rowR qa qb fa fb b R J) (fun c => ga (ix1 c)) (fun c => be (ix1 c)) c := by
  unfold k0_pay7 k0_pay5
  pointwise
  rw [pay3_at, pay4_at, pay6_at, rY_eq]

theorem bc96 (q : FVec Ideal S2x640x640 .f32) (b : Fin 2) (R J : Fin 640) (c : Fin 96) :
    broadcastTo S2x640x640x96 (shapeCast S2x640x640x1 q shapeCasts_S2x640x640_S2x640x640x1) broadcasts_S2x640x640x1_S2x640x640x96 (ix4 b R J c) = q (ix3 b R J) := by
  pointwise

theorem bc128 (q : FVec Ideal S2x640x640 .f32) (b : Fin 2) (R J : Fin 640) (c : Fin 128) :
    broadcastTo S2x640x640x128 (shapeCast S2x640x640x1 q shapeCasts_S2x640x640_S2x640x640x1) broadcasts_S2x640x640x1_S2x640x640x128 (ix4 b R J c) = q (ix3 b R J) := by
  pointwise

theorem mr (p : FVec Ideal S2x640x640x96 .f32) (b : Fin 2) (R J : Fin 640) :
    (multiReduction FKind.maximumf [3] S2x640x640 p (4286578688#32) reduces_S2x640x640x96_S2x640x640 (.inl rfl) rfl) (ix3 b R J) = Finset.fold max ⊥ (fun c => (p (ix4 b R J c) : EReal)) Finset.univ := by
  pointwise
  have e : Ideal.ofBits FTy.f32 4286578688#32 = ⊥ := by simp [Ideal.ofBits, Ideal.ieee]
  rw [e]

theorem mm (p : FVec Ideal S2x640x640x96 .fp8e4m3) (w : FVec Ideal S96x128 .fp8e4m3) (b : Fin 2) (R J : Fin 640) (d : Fin 128) :
    matmul dot_S2x640x640x96_S96x128_S2x640x640x128_3_0_012_1_n_n none p w (constant (F := Ideal) S2x640x640x128 .f32 0x00000000#32) (ix4 b R J d) = ∑ x : Fin 96, (p (ix4 b R J x) : EReal) * w (ix2 x d) := by
  pointwise

theorem mn (p q : FVec Ideal S2x640x640x96 .f32) (b : Fin 2) (R J : Fin 640) (c : Fin 96) :
    truncf FTy.fp8e4m3
      (minimumf (broadcast S2x640x640x96 (FloatOps.ofBits FTy.f32 1138753536#32))
        (maximumf (broadcast S2x640x640x96 (FloatOps.ofBits FTy.f32 3286237184#32))
          (divf p q)))
      bitsLt_fp8e4m3_f32 (ix4 b R J c) = min top (max bot (Ideal.div (p (ix4 b R J c)) (q (ix4 b R J c)))) := rfl

theorem sl (f : FVec Ideal S2x640x640 .f32) (b : Fin 2) (R J : Fin 640) :
   select (cmpf CmpFPredicate.ogt f (broadcast S2x640x640 (FloatOps.ofBits FTy.f32 0#32))) (divf f (broadcast S2x640x640 (FloatOps.ofBits FTy.f32 1138753536#32)))
      (broadcast S2x640x640 (FloatOps.ofBits FTy.f32 1065353216#32)) (ix3 b R J) = scaleOf (f (ix3 b R J)) := by
  pointwise
  rfl

theorem pay9_at (v : FVec Ideal S2x640x640x96 .f32) (w : FVec Ideal S1x1x1x96 .f32) (b : Fin 2) (R J : Fin 640) : k0_pay9 (F := Ideal) v w (ix3 b R J)
    = scaleOf (maxTo (fun c => k0_pay7 (F := Ideal) v w (ix4 b R J c)) 96) := by
  unfold k0_pay9
  refine (sl (multiReduction FKind.maximumf [3] S2x640x640 (absf (k0_pay7 (F := Ideal) v w)) (4286578688#32) reduces_S2x640x640x96_S2x640x640 (.inl rfl) rfl) b R J).trans ?_
  rw [mr, ← fold_abs]
  rfl

theorem pay10_at (v : FVec Ideal S2x640x640x96 .f32) (w : FVec Ideal S1x1x1x96 .f32) (b : Fin 2) (R J : Fin 640) (c : Fin 96) : k0_pay10 (F := Ideal) v w (ix4 b R J c)
    = min top (max bot (Ideal.div (k0_pay7 (F := Ideal) v w (ix4 b R J c)) (k0_pay9 (F := Ideal) v w (ix3 b R J)))) := by
  unfold k0_pay10
  refine (mn (k0_pay7 (F := Ideal) v w) (broadcastTo S2x640x640x96 (shapeCast S2x640x640x1 (k0_pay9 (F := Ideal) v w) shapeCasts_S2x640x640_S2x640x640x1) broadcasts_S2x640x640x1_S2x640x640x96) b R J c).trans ?_
  rw [bc96]

theorem out_at (x y : FVec Ideal S2x640x640x128 .f32) (so : FVec Ideal S128 .f32) (b : Fin 2) (R J : Fin 640) (d : Fin 128) :
    mulf (mulf x y) (broadcastTo S2x640x640x128 (shapeCast S1x1x1x128 so shapeCasts_S128_S1x1x1x128) broadcasts_S1x1x1x128_S2x640x640x128) (ix4 b R J d)
      = (x (ix4 b R J d) : EReal) * y (ix4 b R J d) * so (ix1 d) := by
  pointwise

theorem pay11_at (v : FVec Ideal S2x640x640x96 .f32) (w : FVec Ideal S1x1x1x96 .f32) (wo : FVec Ideal S96x128 .fp8e4m3) (so : FVec Ideal S128 .f32)
    (b : Fin 2) (R J : Fin 640) (d : Fin 128) : k0_pay11 (F := Ideal) v w wo so (ix4 b R J d)
    = (∑ x : Fin 96, (k0_pay10 (F := Ideal) v w (ix4 b R J x) : EReal) * wo (ix2 x d)) * k0_pay9 (F := Ideal) v w (ix3 b R J) * so (ix1 d) := by
  unfold k0_pay11
  refine (out_at _ _ so b R J d).trans ?_
  rw [mm, bc128]

theorem pay12_at (q1 : FVec Ideal S2x640x640x128 .fp8e4m3) (wg : FVec Ideal S128x128 .fp8e4m3) (s1 : FVec Ideal S2x640x640 .f32)
    (b : Fin 2) (R J : Fin 640) (d : Fin 128) : k0_pay12 (F := Ideal) q1 wg s1 (ix4 b R J d)
    = (∑ x : Fin 128, (q1 (ix4 b R J x) : EReal) * wg (ix2 x d)) * s1 (ix3 b R J) := by
  unfold k0_pay12
  pointwise

theorem pay1_at (o p : FVec Ideal S2x640x640x128 .f32) (s : FVec Ideal S128 .f32) (z : FVec Ideal S2x640x640x128 .bf16)
    (b : Fin 2) (R J : Fin 640) (d : Fin 128) : k0_pay1 (F := Ideal) o p (k0_pay13 (F := Ideal) s) z (ix4 b R J d)
    = (z (ix4 b R J d) : EReal) + Ideal.logistic ((p (ix4 b R J d) : EReal) * s (ix1 d)) * o (ix4 b R J d) := by
  unfold k0_pay1 k0_pay13
  pointwise
theorem pay2_at (v : FVec Ideal S2x640x640x96 .fp8e4m3) (b : Fin 2) (R J : Fin 640) (c : Fin 96) : k0_pay2 (F := Ideal) v (ix4 b R c J) = v (ix4 b R J c) := by
  unfold k0_pay2
  pointwise

end pays

end Cert.ReferenceIdeal.Tri
-- ==== Proof.Val.FinR.lean ====
/- The reference's four result arrays as the same functions of its arguments. -/
module

public import proofs.«01_k».proof.Proof.Val.Spec
public import proofs.«01_k».proof.Proof.Val.RefV

@[expose] public section

set_option maxRecDepth 16384

noncomputable section

namespace Cert.ReferenceIdeal.Tri

open Idealize.ShloMosaic Idealize.ShloMosaic.TcCoe Cert.TriMath
open Cert.ReferenceIdeal Cert.ReferenceIdeal.Gen

variable (m : (ℓ : Loc nD τ sig) → Buf (Elt Ideal) ℓ) (c : Dev nD)

theorem idx_all : ∀ t : Fin cfg0.N, win0_0.index t = ![0, 0, 0, 0] ∧ win0_1.index t = ![0, 0, 0, 0] ∧ win0_2.index t = ![0, 0, 0] ∧ win0_3.index t = ![0, 0, 0]
    ∧ win0_4.index t = ![0, 0, 0, 0] ∧ win0_5.index t = ![0, 0, 0, 0] ∧ win0_6.index t = ![0, 0, 0] ∧ win0_7.index t = ![0, 0] ∧ win0_8.index t = ![0]
    ∧ win0_9.index t = ![0] ∧ win0_10.index t = ![0] ∧ win0_11.index t = ![0, 0] ∧ win0_12.index t = ![0]
    ∧ win0_13.index t = ![0, 0, 0, 0] ∧ win0_14.index t = ![0, 0, 0] ∧ win0_15.index t = ![0, 0, 0, 0] ∧ win0_16.index t = ![0, 0, 0] := (by decide +kernel : ∀ t : Fin grid0.N, _)

theorem qa_at (b : Fin 2) (x : Fin 96) (R k : Fin 640) : (iblk m c 0 t0_0 : S2x96x640x640.Idx → EReal) (ix4 b x R k)
    = (m ((c : Thread nD τ).loc main_arg0) : S2x5x96x128x640.Idx → EReal) (ix5 b (⟨R.val / 128, by omega⟩ : Fin 5) x (⟨R.val % 128, by omega⟩ : Fin 128) k) := by
  have e : (iblk m c 0 t0_0 : S2x96x640x640.Idx → EReal) (ix4 b x R k) = (V m c main_v1 : S2x96x640x640.Idx → EReal) (ix4 b x R k) := by
    blk_ext [iblk, idx_all t0_0]
  rw [e]
  entry_read
  pointwise
theorem qb_at (b : Fin 2) (x : Fin 96) (k J : Fin 640) : (iblk m c 1 t0_0 : S2x96x640x640.Idx → EReal) (ix4 b x k J)
    = (m ((c : Thread nD τ).loc main_arg1) : S2x5x96x640x128.Idx → EReal) (ix5 b (⟨J.val / 128, by omega⟩ : Fin 5) x k (⟨J.val % 128, by omega⟩ : Fin 128)) := by
  have e : (iblk m c 1 t0_0 : S2x96x640x640.Idx → EReal) (ix4 b x k J) = (V m c main_v3 : S2x96x640x640.Idx → EReal) (ix4 b x k J) := by
    blk_ext [iblk, idx_all t0_0]
  rw [e]
  entry_read
  pointwise
theorem fa_at (b : Fin 2) (x : Fin 96) (R : Fin 640) : (iblk m c 2 t0_0 : S2x96x640.Idx → EReal) (ix3 b x R) = (m ((c : Thread nD τ).loc main_arg2) : S2x96x640.Idx → EReal) (ix3 b x R) := by
  blk_ext [iblk, V, idx_all t0_0]
theorem fb_at (b : Fin 2) (x : Fin 96) (R : Fin 640) : (iblk m c 3 t0_0 : S2x96x640.Idx → EReal) (ix3 b x R) = (m ((c : Thread nD τ).loc main_arg3) : S2x96x640.Idx → EReal) (ix3 b x R) := by
  blk_ext [iblk, V, idx_all t0_0]
theorem z_at (b : Fin 2) (R J : Fin 640) (d : Fin 128) : (iblk m c 4 t0_0 : S2x640x640x128.Idx → EReal) (ix4 b R J d) = (m ((c : Thread nD τ).loc main_arg4) : S2x640x640x128.Idx → EReal) (ix4 b R J d) := by
  blk_ext [iblk, V, idx_all t0_0]
theorem q1_at (b : Fin 2) (R J : Fin 640) (d : Fin 128) : (iblk m c 5 t0_0 : S2x640x640x128.Idx → EReal) (ix4 b R J d) = (m ((c : Thread nD τ).loc main_arg5) : S2x640x640x128.Idx → EReal) (ix4 b R J d) := by
  blk_ext [iblk, V, idx_all t0_0]
theorem s1_at (b : Fin 2) (R J : Fin 640) : (iblk m c 6 t0_0 : S2x640x640.Idx → EReal) (ix3 b R J) = (m ((c : Thread nD τ).loc main_arg6) : S2x640x640.Idx → EReal) (ix3 b R J) := by
  blk_ext [iblk, V, idx_all t0_0]
theorem wg_at (x d : Fin 128) : (iblk m c 7 t0_0 : S128x128.Idx → EReal) (ix2 x d) = (m ((c : Thread nD τ).loc main_arg7) : S128x512.Idx → EReal) (ix2 x (⟨384 + d.val, by omega⟩ : Fin 512)) := by
  have e : (iblk m c 7 t0_0 : S128x128.Idx → EReal) (ix2 x d) = (V m c main_v4 : S128x128.Idx → EReal) (ix2 x d) := by
    blk_ext [iblk, idx_all t0_0]
  rw [e]
  entry_read
  pointwise
theorem sg_at (d : Fin 128) : (iblk m c 8 t0_0 : S128.Idx → EReal) (ix1 d) = (m ((c : Thread nD τ).loc main_arg8) : S512.Idx → EReal) (ix1 (⟨384 + d.val, by omega⟩ : Fin 512)) := by
  have e : (iblk m c 8 t0_0 : S128.Idx → EReal) (ix1 d) = (V m c main_v5 : S128.Idx → EReal) (ix1 d) := by
    blk_ext [iblk, idx_all t0_0]
  rw [e]
  entry_read
  pointwise
theorem ga_at (x : Fin 96) : (iblk m c 9 t0_0 : S96.Idx → EReal) (ix1 x) = (m ((c : Thread nD τ).loc main_arg9) : S96.Idx → EReal) (ix1 x) := by
  blk_ext [iblk, V, idx_all t0_0]
theorem be_at (x : Fin 96) : (iblk m c 10 t0_0 : S96.Idx → EReal) (ix1 x) = (m ((c : Thread nD τ).loc main_arg10) : S96.Idx → EReal) (ix1 x) := by
  blk_ext [iblk, V, idx_all t0_0]
theorem wo_at (x : Fin 96) (d : Fin 128) : (iblk m c 11 t0_0 : S96x128.Idx → EReal) (ix2 x d) = (m ((c : Thread nD τ).loc main_arg11) : S96x128.Idx → EReal) (ix2 x d) := by
  blk_ext [iblk, V, idx_all t0_0]
theorem so_at (d : Fin 128) : (iblk m c 12 t0_0 : S128.Idx → EReal) (ix1 d) = (m ((c : Thread nD τ).loc main_arg12) : S128.Idx → EReal) (ix1 d) := by
  blk_ext [iblk, V, idx_all t0_0]

abbrev rowV (b : Fin 2) (R J : Fin 640) : Fin 96 → EReal := rowS (m ((c : Thread nD τ).loc main_arg0)) (m ((c : Thread nD τ).loc main_arg1)) (m ((c : Thread nD τ).loc main_arg2)) (m ((c : Thread nD τ).loc main_arg3)) b R J
abbrev gaV : Fin 96 → EReal := gaS (m ((c : Thread nD τ).loc main_arg9))
abbrev beV : Fin 96 → EReal := gaS (m ((c : Thread nD τ).loc main_arg10))

theorem rowR_at (b : Fin 2) (R J : Fin 640) : rowR (iblk m c 0 t0_0) (iblk m c 1 t0_0) (iblk m c 2 t0_0) (iblk m c 3 t0_0) b R J = rowV m c b R J := by
  funext x
  exact congrArg₂ (fun a b : EReal => a * b) (congrArg₂ (fun a b : EReal => a * b) (Finset.sum_congr rfl fun k _ => congrArg₂ (fun a b : EReal => a * b) (qa_at m c b x R k) (qb_at m c b x k J))
    (fa_at m c b x R)) (fb_at m c b x J)

theorem p7_at (b : Fin 2) (R J : Fin 640) (x : Fin 96) :
    k0_pay7 (F := Ideal) (k0_pay5 (F := Ideal) (iblk m c 0 t0_0) (iblk m c 1 t0_0) (iblk m c 2 t0_0) (iblk m c 3 t0_0) (iblk m c 9 t0_0)) (k0_pay6 (F := Ideal) (iblk m c 10 t0_0)) (ix4 b R J x) = rY (rowV m c b R J) (gaV m c) (beV m c) x := by
  refine (pay7_at (iblk m c 0 t0_0) (iblk m c 1 t0_0) (iblk m c 2 t0_0) (iblk m c 3 t0_0) (iblk m c 9 t0_0) (iblk m c 10 t0_0) b R J x).trans ?_
  rw [rowR_at, show (fun x => (iblk m c 9 t0_0 : S96.Idx → EReal) (ix1 x)) = gaV m c from funext (ga_at m c), show (fun x => (iblk m c 10 t0_0 : S96.Idx → EReal) (ix1 x)) = beV m c from funext (be_at m c)]

theorem p9_at (b : Fin 2) (R J : Fin 640) :
    k0_pay9 (F := Ideal) (k0_pay5 (F := Ideal) (iblk m c 0 t0_0) (iblk m c 1 t0_0) (iblk m c 2 t0_0) (iblk m c 3 t0_0) (iblk m c 9 t0_0)) (k0_pay6 (F := Ideal) (iblk m c 10 t0_0)) (ix3 b R J) = rScale (rowV m c b R J) (gaV m c) (beV m c) := by
  refine (pay9_at _ _ b R J).trans ?_
  unfold rScale
  exact congrArg scaleOf (congrArg (fun f => maxTo f 96) (funext fun x => p7_at m c b R J x))

theorem p10_at (b : Fin 2) (R J : Fin 640) (x : Fin 96) :
    k0_pay10 (F := Ideal) (k0_pay5 (F := Ideal) (iblk m c 0 t0_0) (iblk m c 1 t0_0) (iblk m c 2 t0_0) (iblk m c 3 t0_0) (iblk m c 9 t0_0)) (k0_pay6 (F := Ideal) (iblk m c 10 t0_0)) (ix4 b R J x) = rCode (rowV m c b R J) (gaV m c) (beV m c) x := by
  refine (pay10_at _ _ b R J x).trans ?_
  rw [rCode_eq, p7_at, p9_at]

theorem std_at (b : Fin 2) (R J : Fin 640) :
    k0_pay8 (F := Ideal) (k0_pay4 (F := Ideal) (iblk m c 0 t0_0) (iblk m c 1 t0_0) (iblk m c 2 t0_0) (iblk m c 3 t0_0)) (ix3 b R J) = specStd (m ((c : Thread nD τ).loc main_arg0)) (m ((c : Thread nD τ).loc main_arg1)) (m ((c : Thread nD τ).loc main_arg2)) (m ((c : Thread nD τ).loc main_arg3)) (ix3 b R J) := by
  refine (pay8_at _ b R J).trans ((pay4_at _ _ _ _ b R J 0).trans ?_)
  rw [rowR_at]; rfl

theorem s2_at (b : Fin 2) (R J : Fin 640) :
    k0_pay9 (F := Ideal) (k0_pay5 (F := Ideal) (iblk m c 0 t0_0) (iblk m c 1 t0_0) (iblk m c 2 t0_0) (iblk m c 3 t0_0) (iblk m c 9 t0_0)) (k0_pay6 (F := Ideal) (iblk m c 10 t0_0)) (ix3 b R J) = specS2 (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (ix3 b R J) := by
  rw [p9_at]; rfl

theorem q2_at (b : Fin 2) (R : Fin 640) (x : Fin 96) (J : Fin 640) :
    k0_pay2 (F := Ideal) (k0_pay10 (F := Ideal) (k0_pay5 (F := Ideal) (iblk m c 0 t0_0) (iblk m c 1 t0_0) (iblk m c 2 t0_0) (iblk m c 3 t0_0) (iblk m c 9 t0_0)) (k0_pay6 (F := Ideal) (iblk m c 10 t0_0))) (ix4 b R x J) = specQ2 (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (ix4 b R x J) := by
  rw [pay2_at, p10_at]; rfl

theorem zo_at (b : Fin 2) (R J : Fin 640) (d : Fin 128) :
    k0_pay1 (F := Ideal) (k0_pay11 (F := Ideal) (k0_pay5 (F := Ideal) (iblk m c 0 t0_0) (iblk m c 1 t0_0) (iblk m c 2 t0_0) (iblk m c 3 t0_0) (iblk m c 9 t0_0)) (k0_pay6 (F := Ideal) (iblk m c 10 t0_0)) (iblk m c 11 t0_0) (iblk m c 12 t0_0)) (k0_pay12 (F := Ideal) (iblk m c 5 t0_0) (iblk m c 7 t0_0) (iblk m c 6 t0_0)) (k0_pay13 (F := Ideal) (iblk m c 8 t0_0)) (iblk m c 4 t0_0) (ix4 b R J d)
      = specZ (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (ix4 b R J d) := by
  rw [pay1_at, pay12_at, pay11_at, p9_at]
  refine congrArg₂ (fun a b : EReal => a + b) (z_at m c b R J d) (congrArg₂ (fun a b : EReal => a * b) (congrArg Ideal.logistic (congrArg₂ (fun a b : EReal => a * b) ?_ (sg_at m c d))) ?_)
  · exact congrArg₂ (fun a b : EReal => a * b) (Finset.sum_congr rfl fun x _ => congrArg₂ (fun a b : EReal => a * b) (q1_at m c b R J x) (wg_at m c x d)) (s1_at m c b R J)
  · refine congrArg₂ (fun a b : EReal => a * b) (congrArg₂ (fun a b : EReal => a * b) (Finset.sum_congr rfl fun x _ => ?_) rfl) (so_at m c d)
    rw [p10_at]
    exact congrArg (fun a : EReal => rCode (rowV m c b R J) (gaV m c) (beV m c) x * a) (wo_at m c x d)

theorem fin14 : (dats m 0 c).arrAt 14 cfg0.N = specStd (m ((c : Thread nD τ).loc main_arg0)) (m ((c : Thread nD τ).loc main_arg1)) (m ((c : Thread nD τ).loc main_arg2)) (m ((c : Thread nD τ).loc main_arg3)) := by
  refine (dats m 0 c).arrAt_eq_of_after_last 14 t0_0 (by decide +kernel) _ fun j => ?_
  blk_simp
  rw [after0_14]
  frame_out
  have e : j = (ix3 (j 0) (j 1) (j 2) : S2x640x640.Idx) := by funext a; match a with | ⟨0, _⟩ => rfl | ⟨1, _⟩ => rfl | ⟨2, _⟩ => rfl
  rw [e]
  exact std_at m c (j 0) (j 1) (j 2)

theorem fin16 : (dats m 0 c).arrAt 16 cfg0.N = specS2 (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) := by
  refine (dats m 0 c).arrAt_eq_of_after_last 16 t0_0 (by decide +kernel) _ fun j => ?_
  blk_simp
  rw [after0_16]
  frame_out
  unfold k0_pay14 k0_pay15
  frame_out
  have e : j = (ix3 (j 0) (j 1) (j 2) : S2x640x640.Idx) := by funext a; match a with | ⟨0, _⟩ => rfl | ⟨1, _⟩ => rfl | ⟨2, _⟩ => rfl
  rw [e]
  exact s2_at m c (j 0) (j 1) (j 2)

theorem fin15 : (dats m 0 c).arrAt 15 cfg0.N = specQ2 (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) := by
  refine (dats m 0 c).arrAt_eq_of_after_last 15 t0_0 (by decide +kernel) _ fun j => ?_
  blk_simp
  rw [after0_15]
  frame_out
  unfold k0_pay14 k0_pay15
  frame_out
  have e : j = (ix4 (j 0) (j 1) (j 2) (j 3) : S2x640x96x640.Idx) := by funext a; match a with | ⟨0, _⟩ => rfl | ⟨1, _⟩ => rfl | ⟨2, _⟩ => rfl | ⟨3, _⟩ => rfl
  rw [e]
  exact q2_at m c (j 0) (j 1) (j 2) (j 3)

theorem fin13 : (dats m 0 c).arrAt 13 cfg0.N = specZ (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) := by
  refine (dats m 0 c).arrAt_eq_of_after_last 13 t0_0 (by decide +kernel) _ fun j => ?_
  blk_simp
  rw [after0_13]
  frame_out
  unfold k0_pay14 k0_pay15
  frame_out
  have e : j = (ix4 (j 0) (j 1) (j 2) (j 3) : S2x640x640x128.Idx) := by funext a; match a with | ⟨0, _⟩ => rfl | ⟨1, _⟩ => rfl | ⟨2, _⟩ => rfl | ⟨3, _⟩ => rfl
  rw [e]
  exact zo_at m c (j 0) (j 1) (j 2) (j 3)

end Cert.ReferenceIdeal.Tri
-- ==== Proof.Val.RunR.lean ====
/- The reference's run: the four results as functions of the arguments, every argument as it began. -/
module

public import proofs.«01_k».proof.Proof.Val.FinR

@[expose] public section

set_option maxRecDepth 16384

noncomputable section

namespace Cert.ReferenceIdeal.Tri

open Idealize.ShloMosaic Idealize.ShloMosaic.TcCoe Cert.TriMath Idealize.SL.Sem
open Cert.ReferenceIdeal Cert.ReferenceIdeal.Gen

variable (m : (ℓ : Loc nD τ sig) → Buf (Elt Ideal) ℓ) (ρ : Dev nD → PrngReg)

theorem run_spec : θ_run defs (onTc (τ := τ) (main (F := Ideal))) ⟨m, fun _ => 0, ρ⟩ (fun r => ∀ c : Dev nD,
      r.2.mem ((c.tc : Thread nD τ).loc main_v6_0) = specZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg9)) (m ((c.tc : Thread nD τ).loc main_arg10)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12))
      ∧ r.2.mem ((c.tc : Thread nD τ).loc main_v6_1) = specStd (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v6_2) = specQ2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg9)) (m ((c.tc : Thread nD τ).loc main_arg10))
      ∧ r.2.mem ((c.tc : Thread nD τ).loc main_v6_3) = specS2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨((h c).1).trans (fin13 m c),
      ((h c).2.1).trans (fin14 m c),
      ((h c).2.2.1).trans (fin15 m c),
      ((h c).2.2.2.1).trans (fin16 m c),
      (h c).2.2.2.2⟩) (Value.run_blocks m ρ)

end Cert.ReferenceIdeal.Tri
-- ==== Proof.Val.Alg.lean ====
/- The kernel and the reference give the same four results. -/
module

public import proofs.«01_k».proof.Defs
public import proofs.«01_k».proof.Proof.Val.RunK
public import proofs.«01_k».proof.Proof.Val.RunR

@[expose] public section

noncomputable section

namespace Cert.TriMath

open Idealize.ShloMosaic Idealize.SL.Sem

section congr
open Cert.KernelIdeal

theorem specZ_congr {a0 b0 : S2x5x96x128x640.Idx → EReal} {a1 b1 : S2x5x96x640x128.Idx → EReal} {a2 b2 : S2x96x640.Idx → EReal} {a3 b3 : S2x96x640.Idx → EReal} {a9 b9 : S96.Idx → EReal} {a10 b10 : S96.Idx → EReal} {a4 b4 : S2x640x640x128.Idx → EReal} {a5 b5 : S2x640x640x128.Idx → EReal} {a6 b6 : S2x640x640.Idx → EReal} {a7 b7 : S128x512.Idx → EReal} {a8 b8 : S512.Idx → EReal} {a11 b11 : S96x128.Idx → EReal} {a12 b12 : S128.Idx → EReal} (h0 : b0 = a0) (h1 : b1 = a1) (h2 : b2 = a2) (h3 : b3 = a3) (h9 : b9 = a9) (h10 : b10 = a10) (h4 : b4 = a4) (h5 : b5 = a5) (h6 : b6 = a6) (h7 : b7 = a7) (h8 : b8 = a8) (h11 : b11 = a11) (h12 : b12 = a12) :
    specZ b0 b1 b2 b3 b9 b10 b4 b5 b6 b7 b8 b11 b12 = specZ a0 a1 a2 a3 a9 a10 a4 a5 a6 a7 a8 a11 a12 := by
  rw [h0, h1, h2, h3, h9, h10, h4, h5, h6, h7, h8, h11, h12]

theorem specStd_congr {a0 b0 : S2x5x96x128x640.Idx → EReal} {a1 b1 : S2x5x96x640x128.Idx → EReal} {a2 b2 : S2x96x640.Idx → EReal} {a3 b3 : S2x96x640.Idx → EReal} (h0 : b0 = a0) (h1 : b1 = a1) (h2 : b2 = a2) (h3 : b3 = a3) :
    specStd b0 b1 b2 b3 = specStd a0 a1 a2 a3 := by
  rw [h0, h1, h2, h3]

theorem specQ2_congr {a0 b0 : S2x5x96x128x640.Idx → EReal} {a1 b1 : S2x5x96x640x128.Idx → EReal} {a2 b2 : S2x96x640.Idx → EReal} {a3 b3 : S2x96x640.Idx → EReal} {a9 b9 : S96.Idx → EReal} {a10 b10 : S96.Idx → EReal} (h0 : b0 = a0) (h1 : b1 = a1) (h2 : b2 = a2) (h3 : b3 = a3) (h9 : b9 = a9) (h10 : b10 = a10) :
    specQ2 b0 b1 b2 b3 b9 b10 = specQ2 a0 a1 a2 a3 a9 a10 := by
  rw [h0, h1, h2, h3, h9, h10]

theorem specS2_congr {a0 b0 : S2x5x96x128x640.Idx → EReal} {a1 b1 : S2x5x96x640x128.Idx → EReal} {a2 b2 : S2x96x640.Idx → EReal} {a3 b3 : S2x96x640.Idx → EReal} {a9 b9 : S96.Idx → EReal} {a10 b10 : S96.Idx → EReal} (h0 : b0 = a0) (h1 : b1 = a1) (h2 : b2 = a2) (h3 : b3 = a3) (h9 : b9 = a9) (h10 : b10 = a10) :
    specS2 b0 b1 b2 b3 b9 b10 = specS2 a0 a1 a2 a3 a9 a10 := by
  rw [h0, h1, h2, h3, h9, h10]

end congr

theorem algebraic : Cert.algebraic_KernelIdeal_ReferenceIdeal (hKernelIdeal := Cert.KernelIdeal.Gen.facts) (hReferenceIdeal := Cert.ReferenceIdeal.Gen.facts) := by
  intro m g m' g' _ hargs
  refine ⟨fun c => specZ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => specStd (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => specQ2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => specS2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), Cert.KernelIdeal.Tri.run_spec m g, ?_⟩
  refine (θ_run _ _ _).mono (fun r h c => ?_) (Cert.ReferenceIdeal.Tri.run_spec m' g')
  obtain ⟨e0, e1, e2, e3, e4, e5, e6, e7, e8, e9, e10, e11, e12⟩ := hargs c
  exact ⟨(h c).1.trans (specZ_congr e0 e1 e2 e3 e9 e10 e4 e5 e6 e7 e8 e11 e12),
    (h c).2.1.trans (specStd_congr e0 e1 e2 e3),
    (h c).2.2.1.trans (specQ2_congr e0 e1 e2 e3 e9 e10),
    (h c).2.2.2.1.trans (specS2_congr e0 e1 e2 e3 e9 e10), (h c).2.2.2.2⟩

end Cert.TriMath
-- ==== Proof.Ln.Math.lean ====
/- The first layer norm of one row, centred by a product with the matrix `1 - 1/128` or by subtracting the mean, over the extended reals. -/
module

public import proofs.«01_k».proof.Proof.Val.Math2

@[expose] public section

noncomputable section

namespace Cert.Ln1Math

open Idealize.ShloMosaic Cert.TriMath

/-- One part in 128. -/
def dinv : EReal := ((1/128 : ℝ) : EReal)
/-- The centring matrix. -/
def cen (i j : Fin 128) : EReal := (((if i = j then 1 else 0) - 1/128 : ℝ) : EReal)

section row
variable (x v ga be : Fin 128 → EReal)

/-- The row through the centring matrix. -/
def kV (i : Fin 128) : EReal := ∑ j, cen i j * x j
def kStd : EReal := Ideal.sqrt ((∑ i, v i * v i) * dinv + eps)
def kY (i : Fin 128) : EReal := v i * Ideal.div 1 (kStd v) * ga i + be i
def kScale (y : Fin 128 → EReal) : EReal := scaleOf (Finset.univ.fold max ⊥ fun i => max (y i) (-y i))
def kCode (y : Fin 128 → EReal) (i : Fin 128) : EReal := min top (max bot (y i * Ideal.div 1 (kScale y)))

/-- The row less its mean. -/
def rX (i : Fin 128) : EReal := x i - Ideal.div (∑ j, x j) (Ideal.ofBits FTy.f32 0x43000000#32)
def rS : EReal := Ideal.sqrt (Ideal.div (∑ i, rX x i * rX x i) (Ideal.ofBits FTy.f32 0x43000000#32) + eps)
def rYn (i : Fin 128) : EReal := Ideal.div (rX x i) (rS x) * ga i + be i

end row

theorem ofBits_128 : Ideal.ofBits FTy.f32 0x43000000#32 = ((128 : ℝ) : EReal) := by
  simp [Ideal.ofBits, Ideal.ieee, -EReal.coe_mul]; norm_num
theorem ofBits_dinv : Ideal.ofBits FTy.f32 0x3C000000#32 = dinv := by
  unfold dinv; simp [Ideal.ofBits, Ideal.ieee, -EReal.coe_mul]; norm_num
theorem div_128 (x : EReal) : Ideal.div x (Ideal.ofBits FTy.f32 0x43000000#32) = x * dinv := by
  rw [ofBits_128, div_coe x (by norm_num)]
  unfold dinv; norm_num
theorem dinv_pos : 0 < dinv := by unfold dinv; exact_mod_cast (by norm_num : (0:ℝ) < 1/128)

/-! ## Infinite rows -/

/-- Of infinite magnitude. -/
def Inf (a : EReal) : Prop := a = ⊤ ∨ a = ⊥

theorem Inf.add {a : EReal} (h : Inf a) (b : EReal) : Inf (a + b) := by
  rcases h with rfl | rfl
  · induction b using EReal.rec with
    | bot => right; simp
    | top => left; simp
    | coe r => left; simp
  · right; simp
theorem Inf.neg {a : EReal} (h : Inf a) : Inf (-a) := by
  rcases h with rfl | rfl
  · right; simp
  · left; simp
theorem Inf.sum {n : ℕ} {f : Fin n → EReal} {k : Fin n} (h : Inf (f k)) : Inf (∑ i, f i) := by
  rw [← Finset.add_sum_erase _ _ (Finset.mem_univ k)]
  exact h.add _
theorem Inf.coe_mul {a : EReal} (h : Inf a) {r : ℝ} (hr : r ≠ 0) : Inf ((r : EReal) * a) := by
  rcases lt_or_gt_of_ne hr with h0 | h0
  · rcases h with rfl | rfl
    · right; exact EReal.coe_mul_top_of_neg h0
    · left; exact EReal.coe_mul_bot_of_neg h0
  · rcases h with rfl | rfl
    · left; exact EReal.coe_mul_top_of_pos h0
    · right; exact EReal.coe_mul_bot_of_pos h0
theorem Inf.sq {a : EReal} (h : Inf a) : a * a = ⊤ := by
  rcases h with rfl | rfl <;> simp
theorem inf_or (a : EReal) : Inf a ∨ ∃ r : ℝ, a = r := by
  induction a using EReal.rec with
  | bot => exact .inl (.inr rfl)
  | top => exact .inl (.inl rfl)
  | coe r => exact .inr ⟨r, rfl⟩

/-- The deviation of a row of infinite entries. -/
theorem kStd_top {v : Fin 128 → EReal} (h : ∀ i, Inf (v i)) : kStd v = ⊤ := by
  have h0 : (∑ i, v i * v i) = ⊤ := by
    rcases (Inf.sum (f := fun i => v i * v i) (k := 0) (.inl (h 0).sq)) with e | e
    · exact e
    · have : (0 : EReal) ≤ ∑ i, v i * v i := Finset.sum_nonneg fun c _ => mul_self_nonneg' _
      rw [e] at this
      exact absurd this (by simp)
  unfold kStd
  rw [h0, EReal.top_mul_of_pos dinv_pos, EReal.top_add_of_ne_bot (ne_bot_of_gt eps_pos)]
  rfl

theorem div_top (a : EReal) : Ideal.div a ⊤ = 0 := by
  unfold Ideal.div
  rw [if_neg (by simp), EReal.inv_top, mul_zero]

theorem cen_ne (i j : Fin 128) : ((if i = j then 1 else 0) - 1/128 : ℝ) ≠ 0 := by
  split_ifs <;> norm_num

theorem kV_inf {x : Fin 128 → EReal} {k : Fin 128} (h : Inf (x k)) (i : Fin 128) : Inf (kV x i) :=
  Inf.sum (f := fun j => cen i j * x j) (k := k) (h.coe_mul (cen_ne i k))

theorem rX_inf {x : Fin 128 → EReal} {k : Fin 128} (h : Inf (x k)) (i : Fin 128) : Inf (rX x i) := by
  unfold rX
  rw [div_128, sub_eq_add_neg, add_comm, mul_comm]
  exact ((h.sum).coe_mul (by norm_num)).neg.add _

theorem coe_sum' {n : ℕ} (f : Fin n → ℝ) : (∑ i, (f i : EReal)) = ((∑ i, f i : ℝ) : EReal) := by
  induction n with
  | zero => simp
  | succ n ih => rw [Fin.sum_univ_succ, Fin.sum_univ_succ, ih, EReal.coe_add]

/-- On finite rows the two centrings agree. -/
theorem kV_coe (r : Fin 128 → ℝ) (i : Fin 128) : kV (fun j => (r j : EReal)) i = rX (fun j => (r j : EReal)) i := by
  unfold kV rX cen
  rw [div_128]
  unfold dinv
  simp only [← EReal.coe_mul, coe_sum', ← EReal.coe_sub]
  congr 1
  simp only [sub_mul, Finset.sum_sub_distrib, ite_mul, one_mul, zero_mul, Finset.sum_ite_eq, Finset.mem_univ, if_true, ← Finset.mul_sum]
  ring

theorem rS_eq (x : Fin 128 → EReal) : rS x = kStd (rX x) := by
  unfold rS kStd; rw [div_128]

theorem kStd_ne_zero (v : Fin 128 → EReal) : kStd v ≠ 0 := by
  unfold kStd
  refine sqrt_ne_zero ?_
  have h : 0 ≤ (∑ c, v c * v c) * dinv := EReal.mul_nonneg (Finset.sum_nonneg fun c _ => mul_self_nonneg' _) dinv_pos.le
  calc 0 < eps := eps_pos
    _ = 0 + eps := (zero_add _).symm
    _ ≤ _ := add_le_add_left h _

/-- The two normalised rows are equal. -/
theorem y_eq (x ga be : Fin 128 → EReal) : kY (kV x) ga be = rYn x ga be := by
  funext i
  unfold kY rYn
  rw [rS_eq]
  by_cases h : ∃ k, Inf (x k)
  · obtain ⟨k, hk⟩ := h
    rw [kStd_top (kV_inf hk), kStd_top (rX_inf hk), div_top, div_top, mul_zero]
  · have hr : ∀ j, ∃ r : ℝ, x j = r := fun j => (inf_or (x j)).resolve_left fun h' => h ⟨j, h'⟩
    choose r hr using hr
    obtain rfl : x = fun j => (r j : EReal) := funext hr
    have e : kV (fun j => (r j : EReal)) = rX (fun j => (r j : EReal)) := funext (kV_coe r)
    rw [e, div_one_mul _ (kStd_ne_zero _)]

/-- The two codes are equal. -/
theorem code_eq (y : Fin 128 → EReal) (i : Fin 128) : kCode y i = min top (max bot (Ideal.div (y i) (kScale y))) := by
  unfold kCode kScale; rw [div_one_mul _ (scaleOf_ne_zero _)]

end Cert.Ln1Math
-- ==== Proof.Ln.Tile.lean ====
/- The kernel's tiles: one hundred and twenty-eight positions centred, normalised and quantised, and the two blocks a grid point writes. -/
module

public import proofs.«01_k».proof.Proof.Ln.Math
public import proofs.«01_k».proof.Proof.Gen.Ln1Ideal.Value
public import Idealize.ShloMosaic.Lib.Pipeline.ValueKit
public import Idealize.ShloMosaic.Lib.Pipeline.ReadBack

@[expose] public section

set_option maxRecDepth 16384

noncomputable section

namespace Cert.Ln1Ideal.Ln

open Idealize.ShloMosaic Idealize.ShloMosaic.TcCoe Cert.TriMath Cert.Ln1Math
open Cert.Ln1Ideal Cert.Ln1Ideal.Gen

variable (x0 : Vec Ideal S1x8x640x128 .bf16) (x1 : Vec Ideal S128x128 .bf16) (x2 x3 : Vec Ideal S128x128 .f32)

/-- The centred tile: 256 of the 1280 positions of two rows through the matrix, and one half of those. -/
def tileV (k o o' : ℕ) (hin : ∀ a, (![0, k, 0, 0] : Fin 4 → ℕ) a + S1x2x640x128.size a ≤ S1x8x640x128.size a)
    (hs : S1280x128.Slices ![o, 0] S256x128) (hs' : S128x256.Slices ![0, o'] S128x128) : FVec Ideal S128x128 .f32 :=
  extractStridedSlice S128x128 ![0, o'] (matmul dot_S128x128_S256x128_S128x256_1_1_0_0_n_n none (k0_pay4 (View.ld x1 r0_0))
    (extractStridedSlice S256x128 ![o, 0] (k0_pay5 (View.ld x0 (Rect.unit (s := S1x8x640x128) ![0, k, 0, 0] S1x2x640x128.size hin))) hs)
    (constant S128x256 .f32 0x00000000#32)) hs'

/-- Its reciprocal deviations. -/
def tR (v : FVec Ideal S128x128 .f32) : FVec Ideal S1x128 .f32 :=
  divf (broadcast S1x128 (Scalar.ofBits .f32 0x3F800000#32)) (sqrt (addf (mulf (shapeCast S1x128 (multiReduction .add [0] S128 (mulf v v) 0x00000000#32 reduces_S128x128_S128 (.inl rfl) rfl) shapeCasts_S128_S1x128)
    (broadcast S1x128 (Scalar.ofBits .f32 0x3C000000#32))) (broadcast S1x128 (Scalar.ofBits .f32 0x3727C5AC#32))))
/-- Its normalisation. -/
def tY (v : FVec Ideal S128x128 .f32) (g b : Vec Ideal S128x128 .f32) : FVec Ideal S128x128 .f32 :=
  addf (mulf (mulf v (broadcastTo S128x128 (tR v) broadcasts_S1x128_S128x128)) (shapeCast S128x128 g shapeCasts_S128x128_S128x128)) (shapeCast S128x128 b shapeCasts_S128x128_S128x128)

theorem tR_at (v : FVec Ideal S128x128 .f32) (l : Fin 128) : tR v (ix2 0 l) = Ideal.div 1 (kStd fun i => v (ix2 i l)) := by
  unfold tR kStd
  rw [← ofBits_dinv]
  pointwise
  rfl
theorem tY_at' (v : FVec Ideal S128x128 .f32) (r : FVec Ideal S1x128 .f32) (g b : Vec Ideal S128x128 .f32) (i l : Fin 128) :
    addf (mulf (mulf v (broadcastTo S128x128 r broadcasts_S1x128_S128x128)) (shapeCast S128x128 g shapeCasts_S128x128_S128x128)) (shapeCast S128x128 b shapeCasts_S128x128_S128x128) (ix2 i l)
      = v (ix2 i l) * r (ix2 0 l) * g (ix2 i l) + b (ix2 i l) := by
  pointwise
theorem tY_at (v : FVec Ideal S128x128 .f32) (g b : Vec Ideal S128x128 .f32) (i l : Fin 128) :
    tY v g b (ix2 i l) = kY (fun i => v (ix2 i l)) (fun i => g (ix2 i l)) (fun i => b (ix2 i l)) i := by
  unfold tY
  rw [tY_at', tR_at]
  rfl

theorem mr (p : FVec Ideal S128x128 .f32) (l : Fin 128) :
    (multiReduction FKind.maximumf [0] S128 p (4286578688#32) reduces_S128x128_S128 (.inl rfl) rfl) (ix1 l) = Finset.fold max ⊥ (fun i => (p (ix2 i l) : EReal)) Finset.univ := by
  pointwise
  have e : Ideal.ofBits FTy.f32 4286578688#32 = ⊥ := by simp [Ideal.ofBits, Ideal.ieee]
  rw [e]
theorem sl (f : FVec Ideal S128 .f32) (l : Fin 128) :
    select (cmpf CmpFPredicate.ogt (shapeCast S1x128 f shapeCasts_S128_S1x128) (broadcast S1x128 (Scalar.ofBits FTy.f32 0#32)))
      (divf (shapeCast S1x128 f shapeCasts_S128_S1x128) (broadcast S1x128 (Scalar.ofBits FTy.f32 1138753536#32)))
      (broadcast S1x128 (Scalar.ofBits FTy.f32 1065353216#32)) (ix2 0 l) = scaleOf (f (ix1 l)) := by
  pointwise
  rfl
theorem scale_at (y : FVec Ideal S128x128 .f32) (l : Fin 128) : k0_pay1 (F := Ideal) (absf y) (ix2 0 l) = kScale (fun i => y (ix2 i l)) := by
  unfold k0_pay1
  refine (sl (multiReduction FKind.maximumf [0] S128 (absf y) (4286578688#32) reduces_S128x128_S128 (.inl rfl) rfl) l).trans ?_
  rw [mr]
  rfl
theorem pay3_at' (s : FVec Ideal S1x128 .f32) (l : Fin 128) : shapeCast S1x1x128 s shapeCasts_S1x128_S1x1x128 (ix3 0 0 l) = s (ix2 0 l) := by
  pointwise
theorem pay3_at (y : FVec Ideal S128x128 .f32) (l : Fin 128) : k0_pay3 (F := Ideal) (absf y) (ix3 0 0 l) = kScale (fun i => y (ix2 i l)) := by
  unfold k0_pay3
  exact (pay3_at' _ l).trans (scale_at y l)
theorem pay2_at' (y : FVec Ideal S128x128 .f32) (s : FVec Ideal S1x128 .f32) (l i : Fin 128) :
    shapeCast S1x1x128x128 (truncf FTy.fp8e4m3 (transpose S128x128 [1, 0] (minimumf (broadcast S128x128 (Scalar.ofBits .f32 0x43E00000#32)) (maximumf (broadcast S128x128 (Scalar.ofBits .f32 0xC3E00000#32))
      (mulf y (broadcastTo S128x128 (divf (broadcast S1x128 (Scalar.ofBits .f32 0x3F800000#32)) s) broadcasts_S1x128_S128x128)))) transposes_S128x128_p1_0_S128x128) bitsLt_fp8e4m3_f32)
      shapeCasts_S128x128_S1x1x128x128 (ix4 0 0 l i) = min top (max bot (y (ix2 i l) * Ideal.div 1 (s (ix2 0 l)))) := by
  unfold top bot
  pointwise
theorem pay2_at (y : FVec Ideal S128x128 .f32) (l i : Fin 128) : k0_pay2 (F := Ideal) y (absf y) (ix4 0 0 l i) = kCode (fun i => y (ix2 i l)) i := by
  unfold k0_pay2
  refine (pay2_at' y (k0_pay1 (F := Ideal) (absf y)) l i).trans ?_
  rw [scale_at]
  rfl

/-! ## The centred tile -/

theorem mm (a : FVec Ideal S128x128 .bf16) (b : FVec Ideal S256x128 .bf16) (i : Fin 128) (l : Fin 256) :
    matmul dot_S128x128_S256x128_S128x256_1_1_0_0_n_n none a b (constant (F := Ideal) S128x256 .f32 0x00000000#32) (ix2 i l) = ∑ j : Fin 128, (a (ix2 i j) : EReal) * b (ix2 l j) := by
  pointwise
theorem pay4_at (i j : Fin 128) : k0_pay4 (F := Ideal) (View.ld x1 r0_0) (ix2 i j) = x1 (ix2 i j) := by
  unfold k0_pay4
  frame_out
  pointwise
theorem pay5_at (w : Vec Ideal S1x2x640x128 .bf16) (n : Fin 1280) (j : Fin 128) :
    k0_pay5 (F := Ideal) w (ix2 n j) = w (ix4 0 (⟨n.val / 640, by omega⟩ : Fin 2) (⟨n.val % 640, by omega⟩ : Fin 640) j) := by
  unfold k0_pay5
  pointwise

theorem tileV_at (k o o' : ℕ) (hin : ∀ a, (![0, k, 0, 0] : Fin 4 → ℕ) a + S1x2x640x128.size a ≤ S1x8x640x128.size a)
    (hs : S1280x128.Slices ![o, 0] S256x128) (hs' : S128x256.Slices ![0, o'] S128x128) (i l : Fin 128) (q : Fin 8) (L : Fin 640)
    (h : 640 * q.val + L.val = 640 * k + o + o' + l.val) :
    tileV x0 x1 k o o' hin hs hs' (ix2 i l) = ∑ j : Fin 128, (x1 (ix2 i j) : EReal) * x0 (ix4 0 q L j) := by
  have ho : o + 256 ≤ 1280 := hs.2 0
  have ho' : o' + 128 ≤ 256 := hs'.2 1
  unfold tileV
  refine (extractStridedSlice_apply _ _ hs' _ (ix2 i (⟨o' + l.val, by omega⟩ : Fin 256)) ?_).trans ?_
  · intro a; fin_cases a <;> simp [ix2]
  rw [mm]
  refine Finset.sum_congr rfl fun j _ => ?_
  rw [pay4_at]
  congr 1
  refine (extractStridedSlice_apply _ _ hs _ (ix2 (⟨o + (o' + l.val), by omega⟩ : Fin 1280) j) ?_).trans ?_
  · intro a; fin_cases a <;> simp [ix2]
  rw [pay5_at]
  show x0 ((Rect.unit (s := S1x8x640x128) ![0, k, 0, 0] S1x2x640x128.size hin).emb _) = _
  congr 1
  funext a
  apply Fin.ext
  fin_cases a
  · rfl
  · show k + 1 * ((o + (o' + l.val)) / 640) = q.val
    omega
  · show 0 + 1 * ((o + (o' + l.val)) % 640) = L.val
    omega
  · show 0 + 1 * j.val = j.val
    omega

/-! ## The blocks -/

/-- The centred row at one position of the block, and the lane's copy of a parameter. -/
def bRow (q : Fin 8) (L : Fin 640) : Fin 128 → EReal := fun i => ∑ j : Fin 128, (x1 (ix2 i j) : EReal) * x0 (ix4 0 q L j)
def lane (g : Vec Ideal S128x128 .f32) (L : Fin 640) : Fin 128 → EReal := fun i => g (ix2 i (⟨L.val % 128, by omega⟩ : Fin 128))
def bY (q : Fin 8) (L : Fin 640) : Fin 128 → EReal := kY (bRow x0 x1 q L) (lane x2 L) (lane x3 L)
/-- The block of codes and the block of factors. -/
def G4 : Vec Ideal S1x8x640x128 .fp8e4m3 := fun y => kCode (bY x0 x1 x2 x3 (y 1) (y 2)) (y 3)
def G5 : Vec Ideal S1x8x640 .f32 := fun y => kScale (bY x0 x1 x2 x3 (y 1) (y 2))

theorem ldw (i j : Fin 128) : (View.ld x2 r0_0 : Vec Ideal S128x128 .f32) (ix2 i j) = x2 (ix2 i j) := by
  show x2 (r0_0.emb _) = _
  congr 1
  funext a
  apply Fin.ext
  fin_cases a
  · show 0 + 1 * i.val = i.val
    omega
  · show 0 + 1 * j.val = j.val
    omega

theorem tile_col (k q a o o' : ℕ) (hin : ∀ a, (![0, k, 0, 0] : Fin 4 → ℕ) a + S1x2x640x128.size a ≤ S1x8x640x128.size a)
    (hs : S1280x128.Slices ![o, 0] S256x128) (hs' : S128x256.Slices ![0, o'] S128x128) (h : 640 * q + a = 640 * k + o + o') (ha : a % 128 = 0)
    (l : Fin 128) (Q : Fin 8) (L : Fin 640) (hQ : Q.val = q) (hL : L.val = a + l.val) :
    (fun i => tY (tileV x0 x1 k o o' hin hs hs') (View.ld x2 r0_0) (View.ld x3 r0_0) (ix2 i l)) = bY x0 x1 x2 x3 Q L := by
  funext i
  have e : (⟨L.val % 128, by omega⟩ : Fin 128) = l := Fin.ext (by show L.val % 128 = l.val; omega)
  rw [tY_at]
  unfold bY lane
  simp only [e]
  congr 1
  · funext i
    exact tileV_at x0 x1 k o o' hin hs hs' i l Q L (by omega)
  · funext i
    exact ldw x2 i l
  · funext i
    exact ldw x3 i l

theorem piece4 (k q a o o' : ℕ) (hin : ∀ a, (![0, k, 0, 0] : Fin 4 → ℕ) a + S1x2x640x128.size a ≤ S1x8x640x128.size a)
    (hs : S1280x128.Slices ![o, 0] S256x128) (hs' : S128x256.Slices ![0, o'] S128x128) (h : 640 * q + a = 640 * k + o + o') (ha : a % 128 = 0)
    (hr : ∀ b, (![0, q, a, 0] : Fin 4 → ℕ) b + S1x1x128x128.size b ≤ S1x8x640x128.size b) (x : S1x1x128x128.Idx) :
    k0_pay2 (F := Ideal) (tY (tileV x0 x1 k o o' hin hs hs') (View.ld x2 r0_0) (View.ld x3 r0_0)) (absf (tY (tileV x0 x1 k o o' hin hs hs') (View.ld x2 r0_0) (View.ld x3 r0_0))) x
      = G4 x0 x1 x2 x3 ((Rect.unit (s := S1x8x640x128) ![0, q, a, 0] S1x1x128x128.size hr).emb x) := by
  have ex : x = ix4 0 0 (x 2) (x 3) := by
    funext b; fin_cases b
    · exact Subsingleton.elim (α := Fin 1) _ _
    · exact Subsingleton.elim (α := Fin 1) _ _
    · rfl
    · rfl
  have e1 : ((Rect.unit (s := S1x8x640x128) ![0, q, a, 0] S1x1x128x128.size hr).emb x 1).val = q := by
    show q + 1 * (x 1).val = q
    have : (x 1).val < 1 := (x 1).isLt
    omega
  have e2 : ((Rect.unit (s := S1x8x640x128) ![0, q, a, 0] S1x1x128x128.size hr).emb x 2).val = a + (x 2).val := by
    show a + 1 * (x 2).val = _
    omega
  have e3 : ((Rect.unit (s := S1x8x640x128) ![0, q, a, 0] S1x1x128x128.size hr).emb x 3) = x 3 := by
    apply Fin.ext
    show 0 + 1 * (x 3).val = _
    omega
  unfold G4
  rw [e3, ← tile_col x0 x1 x2 x3 k q a o o' hin hs hs' h ha (x 2) _ _ e1 e2]
  refine (congrArg _ ex).trans ?_
  exact pay2_at _ (x 2) (x 3)

theorem piece5 (k q a o o' : ℕ) (hin : ∀ a, (![0, k, 0, 0] : Fin 4 → ℕ) a + S1x2x640x128.size a ≤ S1x8x640x128.size a)
    (hs : S1280x128.Slices ![o, 0] S256x128) (hs' : S128x256.Slices ![0, o'] S128x128) (h : 640 * q + a = 640 * k + o + o') (ha : a % 128 = 0)
    (hr : ∀ b, (![0, q, a] : Fin 3 → ℕ) b + S1x1x128.size b ≤ S1x8x640.size b) (x : S1x1x128.Idx) :
    k0_pay3 (F := Ideal) (absf (tY (tileV x0 x1 k o o' hin hs hs') (View.ld x2 r0_0) (View.ld x3 r0_0))) x
      = G5 x0 x1 x2 x3 ((Rect.unit (s := S1x8x640) ![0, q, a] S1x1x128.size hr).emb x) := by
  have ex : x = ix3 0 0 (x 2) := by
    funext b; fin_cases b
    · exact Subsingleton.elim (α := Fin 1) _ _
    · exact Subsingleton.elim (α := Fin 1) _ _
    · rfl
  have e1 : ((Rect.unit (s := S1x8x640) ![0, q, a] S1x1x128.size hr).emb x 1).val = q := by
    show q + 1 * (x 1).val = q
    have : (x 1).val < 1 := (x 1).isLt
    omega
  have e2 : ((Rect.unit (s := S1x8x640) ![0, q, a] S1x1x128.size hr).emb x 2).val = a + (x 2).val := by
    show a + 1 * (x 2).val = _
    omega
  unfold G5
  rw [← tile_col x0 x1 x2 x3 k q a o o' hin hs hs' h ha (x 2) _ _ e1 e2]
  refine (congrArg _ ex).trans ?_
  exact pay3_at _ (x 2)

end Cert.Ln1Ideal.Ln
-- ==== Proof.Ln.Block.lean ====
/- The two blocks a grid point writes: forty tiles each, one function of the blocks read. -/
module

public import proofs.«01_k».proof.Proof.Ln.Tile

@[expose] public section

set_option maxRecDepth 65536

noncomputable section

namespace Cert.Ln1Ideal.Ln

open Idealize.ShloMosaic Idealize.ShloMosaic.TcCoe Cert.TriMath Cert.Ln1Math
open Cert.Ln1Ideal Cert.Ln1Ideal.Gen

variable (x0 : Vec Ideal S1x8x640x128 .bf16) (x1 : Vec Ideal S128x128 .bf16) (x2 x3 : Vec Ideal S128x128 .f32)

theorem out4_eq : out0_4 (F := Ideal) x0 x1 x2 x3 = G4 x0 x1 x2 x3 := by
  funext y
  unfold out0_4
  refine View.canon_append_of_piecesOf (G4 x0 x1 x2 x3) [] _ ?_ y (cover0_4 _ _ _ _ _ _ _ _ _ _ _ _ _ _ _ _ _ _ _ _ _ _ _ _ _ _ _ _ _ _ _ _ _ _ _ _ _ _ _ _ y)
  exact ⟨
    piece4 x0 x1 x2 x3 6 7 512 1024 128 inb_S1x8x640x128_S1x2x640x128_0_6_0_0 slices_S1280x128_o1024_0_S256x128 slices_S128x256_o0_128_S128x128 rfl rfl (by decide),
    piece4 x0 x1 x2 x3 6 7 384 1024 0 inb_S1x8x640x128_S1x2x640x128_0_6_0_0 slices_S1280x128_o1024_0_S256x128 slices_S128x256_o0_0_S128x128 rfl rfl (by decide),
    piece4 x0 x1 x2 x3 6 7 256 768 128 inb_S1x8x640x128_S1x2x640x128_0_6_0_0 slices_S1280x128_o768_0_S256x128 slices_S128x256_o0_128_S128x128 rfl rfl (by decide),
    piece4 x0 x1 x2 x3 6 7 128 768 0 inb_S1x8x640x128_S1x2x640x128_0_6_0_0 slices_S1280x128_o768_0_S256x128 slices_S128x256_o0_0_S128x128 rfl rfl (by decide),
    piece4 x0 x1 x2 x3 6 7 0 512 128 inb_S1x8x640x128_S1x2x640x128_0_6_0_0 slices_S1280x128_o512_0_S256x128 slices_S128x256_o0_128_S128x128 rfl rfl (by decide),
    piece4 x0 x1 x2 x3 6 6 512 512 0 inb_S1x8x640x128_S1x2x640x128_0_6_0_0 slices_S1280x128_o512_0_S256x128 slices_S128x256_o0_0_S128x128 rfl rfl (by decide),
    piece4 x0 x1 x2 x3 6 6 384 256 128 inb_S1x8x640x128_S1x2x640x128_0_6_0_0 slices_S1280x128_o256_0_S256x128 slices_S128x256_o0_128_S128x128 rfl rfl (by decide),
    piece4 x0 x1 x2 x3 6 6 256 256 0 inb_S1x8x640x128_S1x2x640x128_0_6_0_0 slices_S1280x128_o256_0_S256x128 slices_S128x256_o0_0_S128x128 rfl rfl (by decide),
    piece4 x0 x1 x2 x3 6 6 128 0 128 inb_S1x8x640x128_S1x2x640x128_0_6_0_0 slices_S1280x128_o0_0_S256x128 slices_S128x256_o0_128_S128x128 rfl rfl (by decide),
    piece4 x0 x1 x2 x3 6 6 0 0 0 inb_S1x8x640x128_S1x2x640x128_0_6_0_0 slices_S1280x128_o0_0_S256x128 slices_S128x256_o0_0_S128x128 rfl rfl (by decide),
    piece4 x0 x1 x2 x3 4 5 512 1024 128 inb_S1x8x640x128_S1x2x640x128_0_4_0_0 slices_S1280x128_o1024_0_S256x128 slices_S128x256_o0_128_S128x128 rfl rfl (by decide),
    piece4 x0 x1 x2 x3 4 5 384 1024 0 inb_S1x8x640x128_S1x2x640x128_0_4_0_0 slices_S1280x128_o1024_0_S256x128 slices_S128x256_o0_0_S128x128 rfl rfl (by decide),
    piece4 x0 x1 x2 x3 4 5 256 768 128 inb_S1x8x640x128_S1x2x640x128_0_4_0_0 slices_S1280x128_o768_0_S256x128 slices_S128x256_o0_128_S128x128 rfl rfl (by decide),
    piece4 x0 x1 x2 x3 4 5 128 768 0 inb_S1x8x640x128_S1x2x640x128_0_4_0_0 slices_S1280x128_o768_0_S256x128 slices_S128x256_o0_0_S128x128 rfl rfl (by decide),
    piece4 x0 x1 x2 x3 4 5 0 512 128 inb_S1x8x640x128_S1x2x640x128_0_4_0_0 slices_S1280x128_o512_0_S256x128 slices_S128x256_o0_128_S128x128 rfl rfl (by decide),
    piece4 x0 x1 x2 x3 4 4 512 512 0 inb_S1x8x640x128_S1x2x640x128_0_4_0_0 slices_S1280x128_o512_0_S256x128 slices_S128x256_o0_0_S128x128 rfl rfl (by decide),
    piece4 x0 x1 x2 x3 4 4 384 256 128 inb_S1x8x640x128_S1x2x640x128_0_4_0_0 slices_S1280x128_o256_0_S256x128 slices_S128x256_o0_128_S128x128 rfl rfl (by decide),
    piece4 x0 x1 x2 x3 4 4 256 256 0 inb_S1x8x640x128_S1x2x640x128_0_4_0_0 slices_S1280x128_o256_0_S256x128 slices_S128x256_o0_0_S128x128 rfl rfl (by decide),
    piece4 x0 x1 x2 x3 4 4 128 0 128 inb_S1x8x640x128_S1x2x640x128_0_4_0_0 slices_S1280x128_o0_0_S256x128 slices_S128x256_o0_128_S128x128 rfl rfl (by decide),
    piece4 x0 x1 x2 x3 4 4 0 0 0 inb_S1x8x640x128_S1x2x640x128_0_4_0_0 slices_S1280x128_o0_0_S256x128 slices_S128x256_o0_0_S128x128 rfl rfl (by decide),
    piece4 x0 x1 x2 x3 2 3 512 1024 128 inb_S1x8x640x128_S1x2x640x128_0_2_0_0 slices_S1280x128_o1024_0_S256x128 slices_S128x256_o0_128_S128x128 rfl rfl (by decide),
    piece4 x0 x1 x2 x3 2 3 384 1024 0 inb_S1x8x640x128_S1x2x640x128_0_2_0_0 slices_S1280x128_o1024_0_S256x128 slices_S128x256_o0_0_S128x128 rfl rfl (by decide),
    piece4 x0 x1 x2 x3 2 3 256 768 128 inb_S1x8x640x128_S1x2x640x128_0_2_0_0 slices_S1280x128_o768_0_S256x128 slices_S128x256_o0_128_S128x128 rfl rfl (by decide),
    piece4 x0 x1 x2 x3 2 3 128 768 0 inb_S1x8x640x128_S1x2x640x128_0_2_0_0 slices_S1280x128_o768_0_S256x128 slices_S128x256_o0_0_S128x128 rfl rfl (by decide),
    piece4 x0 x1 x2 x3 2 3 0 512 128 inb_S1x8x640x128_S1x2x640x128_0_2_0_0 slices_S1280x128_o512_0_S256x128 slices_S128x256_o0_128_S128x128 rfl rfl (by decide),
    piece4 x0 x1 x2 x3 2 2 512 512 0 inb_S1x8x640x128_S1x2x640x128_0_2_0_0 slices_S1280x128_o512_0_S256x128 slices_S128x256_o0_0_S128x128 rfl rfl (by decide),
    piece4 x0 x1 x2 x3 2 2 384 256 128 inb_S1x8x640x128_S1x2x640x128_0_2_0_0 slices_S1280x128_o256_0_S256x128 slices_S128x256_o0_128_S128x128 rfl rfl (by decide),
    piece4 x0 x1 x2 x3 2 2 256 256 0 inb_S1x8x640x128_S1x2x640x128_0_2_0_0 slices_S1280x128_o256_0_S256x128 slices_S128x256_o0_0_S128x128 rfl rfl (by decide),
    piece4 x0 x1 x2 x3 2 2 128 0 128 inb_S1x8x640x128_S1x2x640x128_0_2_0_0 slices_S1280x128_o0_0_S256x128 slices_S128x256_o0_128_S128x128 rfl rfl (by decide),
    piece4 x0 x1 x2 x3 2 2 0 0 0 inb_S1x8x640x128_S1x2x640x128_0_2_0_0 slices_S1280x128_o0_0_S256x128 slices_S128x256_o0_0_S128x128 rfl rfl (by decide),
    piece4 x0 x1 x2 x3 0 1 512 1024 128 inb_S1x8x640x128_S1x2x640x128_0_0_0_0 slices_S1280x128_o1024_0_S256x128 slices_S128x256_o0_128_S128x128 rfl rfl (by decide),
    piece4 x0 x1 x2 x3 0 1 384 1024 0 inb_S1x8x640x128_S1x2x640x128_0_0_0_0 slices_S1280x128_o1024_0_S256x128 slices_S128x256_o0_0_S128x128 rfl rfl (by decide),
    piece4 x0 x1 x2 x3 0 1 256 768 128 inb_S1x8x640x128_S1x2x640x128_0_0_0_0 slices_S1280x128_o768_0_S256x128 slices_S128x256_o0_128_S128x128 rfl rfl (by decide),
    piece4 x0 x1 x2 x3 0 1 128 768 0 inb_S1x8x640x128_S1x2x640x128_0_0_0_0 slices_S1280x128_o768_0_S256x128 slices_S128x256_o0_0_S128x128 rfl rfl (by decide),
    piece4 x0 x1 x2 x3 0 1 0 512 128 inb_S1x8x640x128_S1x2x640x128_0_0_0_0 slices_S1280x128_o512_0_S256x128 slices_S128x256_o0_128_S128x128 rfl rfl (by decide),
    piece4 x0 x1 x2 x3 0 0 512 512 0 inb_S1x8x640x128_S1x2x640x128_0_0_0_0 slices_S1280x128_o512_0_S256x128 slices_S128x256_o0_0_S128x128 rfl rfl (by decide),
    piece4 x0 x1 x2 x3 0 0 384 256 128 inb_S1x8x640x128_S1x2x640x128_0_0_0_0 slices_S1280x128_o256_0_S256x128 slices_S128x256_o0_128_S128x128 rfl rfl (by decide),
    piece4 x0 x1 x2 x3 0 0 256 256 0 inb_S1x8x640x128_S1x2x640x128_0_0_0_0 slices_S1280x128_o256_0_S256x128 slices_S128x256_o0_0_S128x128 rfl rfl (by decide),
    piece4 x0 x1 x2 x3 0 0 128 0 128 inb_S1x8x640x128_S1x2x640x128_0_0_0_0 slices_S1280x128_o0_0_S256x128 slices_S128x256_o0_128_S128x128 rfl rfl (by decide),
    piece4 x0 x1 x2 x3 0 0 0 0 0 inb_S1x8x640x128_S1x2x640x128_0_0_0_0 slices_S1280x128_o0_0_S256x128 slices_S128x256_o0_0_S128x128 rfl rfl (by decide),
    trivial⟩

theorem out5_eq : out0_5 (F := Ideal) x0 x1 x2 x3 = G5 x0 x1 x2 x3 := by
  funext y
  unfold out0_5
  refine View.canon_append_of_piecesOf (G5 x0 x1 x2 x3) [] _ ?_ y (cover0_5 _ _ _ _ _ _ _ _ _ _ _ _ _ _ _ _ _ _ _ _ _ _ _ _ _ _ _ _ _ _ _ _ _ _ _ _ _ _ _ _ y)
  exact ⟨
    piece5 x0 x1 x2 x3 6 7 512 1024 128 inb_S1x8x640x128_S1x2x640x128_0_6_0_0 slices_S1280x128_o1024_0_S256x128 slices_S128x256_o0_128_S128x128 rfl rfl (by decide),
    piece5 x0 x1 x2 x3 6 7 384 1024 0 inb_S1x8x640x128_S1x2x640x128_0_6_0_0 slices_S1280x128_o1024_0_S256x128 slices_S128x256_o0_0_S128x128 rfl rfl (by decide),
    piece5 x0 x1 x2 x3 6 7 256 768 128 inb_S1x8x640x128_S1x2x640x128_0_6_0_0 slices_S1280x128_o768_0_S256x128 slices_S128x256_o0_128_S128x128 rfl rfl (by decide),
    piece5 x0 x1 x2 x3 6 7 128 768 0 inb_S1x8x640x128_S1x2x640x128_0_6_0_0 slices_S1280x128_o768_0_S256x128 slices_S128x256_o0_0_S128x128 rfl rfl (by decide),
    piece5 x0 x1 x2 x3 6 7 0 512 128 inb_S1x8x640x128_S1x2x640x128_0_6_0_0 slices_S1280x128_o512_0_S256x128 slices_S128x256_o0_128_S128x128 rfl rfl (by decide),
    piece5 x0 x1 x2 x3 6 6 512 512 0 inb_S1x8x640x128_S1x2x640x128_0_6_0_0 slices_S1280x128_o512_0_S256x128 slices_S128x256_o0_0_S128x128 rfl rfl (by decide),
    piece5 x0 x1 x2 x3 6 6 384 256 128 inb_S1x8x640x128_S1x2x640x128_0_6_0_0 slices_S1280x128_o256_0_S256x128 slices_S128x256_o0_128_S128x128 rfl rfl (by decide),
    piece5 x0 x1 x2 x3 6 6 256 256 0 inb_S1x8x640x128_S1x2x640x128_0_6_0_0 slices_S1280x128_o256_0_S256x128 slices_S128x256_o0_0_S128x128 rfl rfl (by decide),
    piece5 x0 x1 x2 x3 6 6 128 0 128 inb_S1x8x640x128_S1x2x640x128_0_6_0_0 slices_S1280x128_o0_0_S256x128 slices_S128x256_o0_128_S128x128 rfl rfl (by decide),
    piece5 x0 x1 x2 x3 6 6 0 0 0 inb_S1x8x640x128_S1x2x640x128_0_6_0_0 slices_S1280x128_o0_0_S256x128 slices_S128x256_o0_0_S128x128 rfl rfl (by decide),
    piece5 x0 x1 x2 x3 4 5 512 1024 128 inb_S1x8x640x128_S1x2x640x128_0_4_0_0 slices_S1280x128_o1024_0_S256x128 slices_S128x256_o0_128_S128x128 rfl rfl (by decide),
    piece5 x0 x1 x2 x3 4 5 384 1024 0 inb_S1x8x640x128_S1x2x640x128_0_4_0_0 slices_S1280x128_o1024_0_S256x128 slices_S128x256_o0_0_S128x128 rfl rfl (by decide),
    piece5 x0 x1 x2 x3 4 5 256 768 128 inb_S1x8x640x128_S1x2x640x128_0_4_0_0 slices_S1280x128_o768_0_S256x128 slices_S128x256_o0_128_S128x128 rfl rfl (by decide),
    piece5 x0 x1 x2 x3 4 5 128 768 0 inb_S1x8x640x128_S1x2x640x128_0_4_0_0 slices_S1280x128_o768_0_S256x128 slices_S128x256_o0_0_S128x128 rfl rfl (by decide),
    piece5 x0 x1 x2 x3 4 5 0 512 128 inb_S1x8x640x128_S1x2x640x128_0_4_0_0 slices_S1280x128_o512_0_S256x128 slices_S128x256_o0_128_S128x128 rfl rfl (by decide),
    piece5 x0 x1 x2 x3 4 4 512 512 0 inb_S1x8x640x128_S1x2x640x128_0_4_0_0 slices_S1280x128_o512_0_S256x128 slices_S128x256_o0_0_S128x128 rfl rfl (by decide),
    piece5 x0 x1 x2 x3 4 4 384 256 128 inb_S1x8x640x128_S1x2x640x128_0_4_0_0 slices_S1280x128_o256_0_S256x128 slices_S128x256_o0_128_S128x128 rfl rfl (by decide),
    piece5 x0 x1 x2 x3 4 4 256 256 0 inb_S1x8x640x128_S1x2x640x128_0_4_0_0 slices_S1280x128_o256_0_S256x128 slices_S128x256_o0_0_S128x128 rfl rfl (by decide),
    piece5 x0 x1 x2 x3 4 4 128 0 128 inb_S1x8x640x128_S1x2x640x128_0_4_0_0 slices_S1280x128_o0_0_S256x128 slices_S128x256_o0_128_S128x128 rfl rfl (by decide),
    piece5 x0 x1 x2 x3 4 4 0 0 0 inb_S1x8x640x128_S1x2x640x128_0_4_0_0 slices_S1280x128_o0_0_S256x128 slices_S128x256_o0_0_S128x128 rfl rfl (by decide),
    piece5 x0 x1 x2 x3 2 3 512 1024 128 inb_S1x8x640x128_S1x2x640x128_0_2_0_0 slices_S1280x128_o1024_0_S256x128 slices_S128x256_o0_128_S128x128 rfl rfl (by decide),
    piece5 x0 x1 x2 x3 2 3 384 1024 0 inb_S1x8x640x128_S1x2x640x128_0_2_0_0 slices_S1280x128_o1024_0_S256x128 slices_S128x256_o0_0_S128x128 rfl rfl (by decide),
    piece5 x0 x1 x2 x3 2 3 256 768 128 inb_S1x8x640x128_S1x2x640x128_0_2_0_0 slices_S1280x128_o768_0_S256x128 slices_S128x256_o0_128_S128x128 rfl rfl (by decide),
    piece5 x0 x1 x2 x3 2 3 128 768 0 inb_S1x8x640x128_S1x2x640x128_0_2_0_0 slices_S1280x128_o768_0_S256x128 slices_S128x256_o0_0_S128x128 rfl rfl (by decide),
    piece5 x0 x1 x2 x3 2 3 0 512 128 inb_S1x8x640x128_S1x2x640x128_0_2_0_0 slices_S1280x128_o512_0_S256x128 slices_S128x256_o0_128_S128x128 rfl rfl (by decide),
    piece5 x0 x1 x2 x3 2 2 512 512 0 inb_S1x8x640x128_S1x2x640x128_0_2_0_0 slices_S1280x128_o512_0_S256x128 slices_S128x256_o0_0_S128x128 rfl rfl (by decide),
    piece5 x0 x1 x2 x3 2 2 384 256 128 inb_S1x8x640x128_S1x2x640x128_0_2_0_0 slices_S1280x128_o256_0_S256x128 slices_S128x256_o0_128_S128x128 rfl rfl (by decide),
    piece5 x0 x1 x2 x3 2 2 256 256 0 inb_S1x8x640x128_S1x2x640x128_0_2_0_0 slices_S1280x128_o256_0_S256x128 slices_S128x256_o0_0_S128x128 rfl rfl (by decide),
    piece5 x0 x1 x2 x3 2 2 128 0 128 inb_S1x8x640x128_S1x2x640x128_0_2_0_0 slices_S1280x128_o0_0_S256x128 slices_S128x256_o0_128_S128x128 rfl rfl (by decide),
    piece5 x0 x1 x2 x3 2 2 0 0 0 inb_S1x8x640x128_S1x2x640x128_0_2_0_0 slices_S1280x128_o0_0_S256x128 slices_S128x256_o0_0_S128x128 rfl rfl (by decide),
    piece5 x0 x1 x2 x3 0 1 512 1024 128 inb_S1x8x640x128_S1x2x640x128_0_0_0_0 slices_S1280x128_o1024_0_S256x128 slices_S128x256_o0_128_S128x128 rfl rfl (by decide),
    piece5 x0 x1 x2 x3 0 1 384 1024 0 inb_S1x8x640x128_S1x2x640x128_0_0_0_0 slices_S1280x128_o1024_0_S256x128 slices_S128x256_o0_0_S128x128 rfl rfl (by decide),
    piece5 x0 x1 x2 x3 0 1 256 768 128 inb_S1x8x640x128_S1x2x640x128_0_0_0_0 slices_S1280x128_o768_0_S256x128 slices_S128x256_o0_128_S128x128 rfl rfl (by decide),
    piece5 x0 x1 x2 x3 0 1 128 768 0 inb_S1x8x640x128_S1x2x640x128_0_0_0_0 slices_S1280x128_o768_0_S256x128 slices_S128x256_o0_0_S128x128 rfl rfl (by decide),
    piece5 x0 x1 x2 x3 0 1 0 512 128 inb_S1x8x640x128_S1x2x640x128_0_0_0_0 slices_S1280x128_o512_0_S256x128 slices_S128x256_o0_128_S128x128 rfl rfl (by decide),
    piece5 x0 x1 x2 x3 0 0 512 512 0 inb_S1x8x640x128_S1x2x640x128_0_0_0_0 slices_S1280x128_o512_0_S256x128 slices_S128x256_o0_0_S128x128 rfl rfl (by decide),
    piece5 x0 x1 x2 x3 0 0 384 256 128 inb_S1x8x640x128_S1x2x640x128_0_0_0_0 slices_S1280x128_o256_0_S256x128 slices_S128x256_o0_128_S128x128 rfl rfl (by decide),
    piece5 x0 x1 x2 x3 0 0 256 256 0 inb_S1x8x640x128_S1x2x640x128_0_0_0_0 slices_S1280x128_o256_0_S256x128 slices_S128x256_o0_0_S128x128 rfl rfl (by decide),
    piece5 x0 x1 x2 x3 0 0 128 0 128 inb_S1x8x640x128_S1x2x640x128_0_0_0_0 slices_S1280x128_o0_0_S256x128 slices_S128x256_o0_128_S128x128 rfl rfl (by decide),
    piece5 x0 x1 x2 x3 0 0 0 0 0 inb_S1x8x640x128_S1x2x640x128_0_0_0_0 slices_S1280x128_o0_0_S256x128 slices_S128x256_o0_0_S128x128 rfl rfl (by decide),
    trivial⟩

end Cert.Ln1Ideal.Ln
-- ==== Proof.Ln.FinK.lean ====
/- The kernel's two result arrays as functions of the arguments: the blocks written back cover each array, and every block read is its
   argument at the block's place. -/
module

public import proofs.«01_k».proof.Proof.Ln.Block
public import proofs.«01_k».proof.Proof.Val.Inv

@[expose] public section

set_option maxRecDepth 16384

noncomputable section

namespace Cert.Ln1Math

open Idealize.ShloMosaic Cert.TriMath
open Cert.Ln1Ideal

/-- One normalised row of the input. -/
def specY (z : S2x640x640x128.Idx → EReal) (ga be : S128.Idx → EReal) (b : Fin 2) (R J : Fin 640) : Fin 128 → EReal :=
  rYn (fun j => z (ix4 b R J j)) (fun i => ga (ix1 i)) (fun i => be (ix1 i))

/-- The codes. -/
def specQ (z : S2x640x640x128.Idx → EReal) (ga be : S128.Idx → EReal) : S2x640x640x128.Idx → EReal := fun y => kCode (specY z ga be (y 0) (y 1) (y 2)) (y 3)
/-- The factors. -/
def specS (z : S2x640x640x128.Idx → EReal) (ga be : S128.Idx → EReal) : S2x640x640.Idx → EReal := fun y => kScale (specY z ga be (y 0) (y 1) (y 2))

end Cert.Ln1Math

namespace Cert.Ln1Ideal.Ln

open Idealize.ShloMosaic Idealize.ShloMosaic.TcCoe Cert.TriMath Cert.Ln1Math
open Cert.Ln1Ideal Cert.Ln1Ideal.Gen

variable (m : (ℓ : Loc nD τ sig) → Buf (Elt Ideal) ℓ) (c : Dev nD)

theorem idx_all : ∀ t : Fin cfg0.N, win0_0.index t = ![(grid0.coords t 0).val, (grid0.coords t 1).val, 0, 0]
    ∧ win0_1.index t = ![0, 0] ∧ win0_2.index t = ![0, 0] ∧ win0_3.index t = ![0, 0]
    ∧ win0_4.index t = ![(grid0.coords t 0).val, (grid0.coords t 1).val, 0, 0]
    ∧ win0_5.index t = ![(grid0.coords t 0).val, (grid0.coords t 1).val, 0] := (by decide +kernel : ∀ t : Fin grid0.N, _)

abbrev aZ : S2x640x640x128.Idx → EReal := V m c main_arg0
abbrev aGa : S128.Idx → EReal := V m c main_arg1
abbrev aBe : S128.Idx → EReal := V m c main_arg2

theorem cen_at (t : Fin cfg0.N) (i j : Fin 128) : (iblk m c 1 t : S128x128.Idx → EReal) (ix2 i j) = cen i j := by
  have e : (iblk m c 1 t : S128x128.Idx → EReal) (ix2 i j) = (V m c main_v8 : S128x128.Idx → EReal) (ix2 i j) := by
    blk_ext [iblk, idx_all t]
  rw [e]
  entry_read
  pointwise
  have hd : BitVec.ofNat 32 i.val + 0#32 = BitVec.ofNat 32 j.val ↔ i = j := by
    rw [BitVec.add_zero, ← BitVec.toNat_inj, BitVec.toNat_ofNat, BitVec.toNat_ofNat, Fin.ext_iff]; omega
  show (((BitVec.ofBool (BitVec.ofNat 32 i.val + 0#32 == BitVec.ofNat 32 j.val)).toNat : ℝ) : EReal) - Ideal.ofBits FTy.f32 0x3C000000#32 = _
  rw [ofBits_dinv]
  unfold dinv cen
  rw [← EReal.coe_sub]
  by_cases h : i = j
  · rw [if_pos h, beq_iff_eq.mpr (hd.mpr h), show (BitVec.ofBool true).toNat = 1 from rfl, Nat.cast_one]
  · rw [if_neg h, beq_eq_false_iff_ne.mpr (fun e => h (hd.mp e))]; norm_num

theorem ga_at (t : Fin cfg0.N) (i l : Fin 128) : (iblk m c 2 t : S128x128.Idx → EReal) (ix2 i l) = aGa m c (ix1 i) := by
  have e : (iblk m c 2 t : S128x128.Idx → EReal) (ix2 i l) = (V m c main_v10 : S128x128.Idx → EReal) (ix2 i l) := by
    blk_ext [iblk, idx_all t]
  rw [e]; unfold aGa; rw [V_main_arg1]
  entry_read
  pointwise
theorem be_at (t : Fin cfg0.N) (i l : Fin 128) : (iblk m c 3 t : S128x128.Idx → EReal) (ix2 i l) = aBe m c (ix1 i) := by
  have e : (iblk m c 3 t : S128x128.Idx → EReal) (ix2 i l) = (V m c main_v12 : S128x128.Idx → EReal) (ix2 i l) := by
    blk_ext [iblk, idx_all t]
  rw [e]; unfold aBe; rw [V_main_arg2]
  entry_read
  pointwise

theorem z_at (t : Fin cfg0.N) (q : Fin 8) (L : Fin 640) (j : Fin 128) (R : Fin 640) (hR : R.val = (grid0.coords t 1).val * 8 + q.val) :
    (iblk m c 0 t : S1x8x640x128.Idx → EReal) (ix4 0 q L j) = aZ m c (ix4 (grid0.coords t 0) R L j) := by
  blk_ext [iblk, idx_all t]

theorem bY_at (t : Fin cfg0.N) (q : Fin 8) (L : Fin 640) (R : Fin 640) (hR : R.val = (grid0.coords t 1).val * 8 + q.val) :
    bY (iblk m c 0 t) (iblk m c 1 t) (iblk m c 2 t) (iblk m c 3 t) q L = specY (aZ m c) (aGa m c) (aBe m c) (grid0.coords t 0) R L := by
  unfold bY specY
  rw [← y_eq]
  congr 1
  · funext i
    exact Finset.sum_congr rfl fun j _ => congrArg₂ (fun a b : EReal => a * b) (cen_at m c t i j) (z_at m c t q L j R hR)
  · funext i
    exact ga_at m c t i _
  · funext i
    exact be_at m c t i _

theorem covers4 : (cfg0.win 4).Covers := by decide +kernel
theorem covers5 : (cfg0.win 5).Covers := by decide +kernel

theorem fin4 : (dats m 0 c).arrAt 4 cfg0.N = specQ (aZ m c) (aGa m c) (aBe m c) := by
  refine (dats m 0 c).arrAt_eq_of_covers 4 _ covers4 (fun t hf y => ?_)
  blk_simp
  rw [after0_4, out4_eq]
  have h0 : ((win0_4.blk t).view.emb y) 0 = grid0.coords t 0 := by apply Fin.ext; blk_simp [idx_all t]
  have h1 : (((win0_4.blk t).view.emb y) 1).val = (grid0.coords t 1).val * 8 + (y 1).val := by blk_simp [idx_all t]
  have h2 : ((win0_4.blk t).view.emb y) 2 = y 2 := by apply Fin.ext; blk_simp [idx_all t]
  have h3 : ((win0_4.blk t).view.emb y) 3 = y 3 := by apply Fin.ext; blk_simp [idx_all t]
  unfold G4
  refine (congrFun (congrArg kCode (bY_at m c t (y 1) (y 2) _ h1)) (y 3)).trans ?_
  rw [← h0, ← h2, ← h3]; rfl

theorem fin5 : (dats m 0 c).arrAt 5 cfg0.N = specS (aZ m c) (aGa m c) (aBe m c) := by
  refine (dats m 0 c).arrAt_eq_of_covers 5 _ covers5 (fun t hf y => ?_)
  blk_simp
  rw [after0_5, out5_eq]
  have h0 : ((win0_5.blk t).view.emb y) 0 = grid0.coords t 0 := by apply Fin.ext; blk_simp [idx_all t]
  have h1 : (((win0_5.blk t).view.emb y) 1).val = (grid0.coords t 1).val * 8 + (y 1).val := by blk_simp [idx_all t]
  have h2 : ((win0_5.blk t).view.emb y) 2 = y 2 := by apply Fin.ext; blk_simp [idx_all t]
  unfold G5
  refine (congrArg kScale (bY_at m c t (y 1) (y 2) _ h1)).trans ?_
  rw [← h0, ← h2]; rfl

end Cert.Ln1Ideal.Ln
-- ==== Proof.Ln.RefV.lean ====
/- The reference's layer norm and quantiser at an index. -/
module

public import proofs.«01_k».proof.Proof.Ln.Math
public import proofs.«01_k».proof.Proof.Gen.Ln1ReferenceIdeal.Run
public import Idealize.ShloMosaic.Lib.Pipeline.ValueKit

@[expose] public section

set_option maxRecDepth 16384

noncomputable section

namespace Cert.Ln1ReferenceIdeal.Ln

open Idealize.ShloMosaic Idealize.ShloMosaic.TcCoe Cert.TriMath Cert.Ln1Math
open Cert.Ln1ReferenceIdeal Cert.Ln1ReferenceIdeal.Gen

section terms
variable (z : FVec Ideal S2x640x640x128 .bf16) (ga be : FVec Ideal S128 .f32) (x y : FVec Ideal S2x640x640x128 .f32) (s : FVec Ideal S2x640x640 .f32)

/-- The centred input, its normalisation, the factors and the codes, as the program writes them. -/
def hX : FVec Ideal S2x640x640x128 .f32 :=
  subf (extf .f32 z bitsLt_bf16_f32) (broadcastInDim S2x640x640x128 ![0, 1, 2, 3] bcast_S2x640x640x1_S2x640x640x128_0_1_2_3 (Host.divf (broadcastInDim S2x640x640x1 ![0, 1, 2] bcast_S2x640x640_S2x640x640x1_0_1_2 (Host.reduceAdd (extf .f32 z bitsLt_bf16_f32) (constant S_ .f32 0x00000000#32) reducesTo_S2x640x640x128_S2x640x640_d3 h_S_)) (broadcastInDim S2x640x640x1 ![] bcast_S_S2x640x640x1 (constant S_ .f32 0x43000000#32))))
def hY : FVec Ideal S2x640x640x128 .f32 :=
  addf (mulf (Host.divf x (broadcastInDim S2x640x640x128 ![0, 1, 2, 3] bcast_S2x640x640x1_S2x640x640x128_0_1_2_3 (Host.sqrt (addf (Host.divf (broadcastInDim S2x640x640x1 ![0, 1, 2] bcast_S2x640x640_S2x640x640x1_0_1_2 (Host.reduceAdd (mulf x x) (constant S_ .f32 0x00000000#32) reducesTo_S2x640x640x128_S2x640x640_d3 h_S_)) (broadcastInDim S2x640x640x1 ![] bcast_S_S2x640x640x1 (constant S_ .f32 0x43000000#32))) (broadcastInDim S2x640x640x1 ![] bcast_S_S2x640x640x1 (constant S_ .f32 0x3727C5AC#32)))))) (broadcastInDim S2x640x640x128 ![0, 1, 2, 3] bcast_S1x1x1x128_S2x640x640x128_0_1_2_3 (broadcastInDim S1x1x1x128 ![3] bcast_S128_S1x1x1x128_3 ga))) (broadcastInDim S2x640x640x128 ![0, 1, 2, 3] bcast_S1x1x1x128_S2x640x640x128_0_1_2_3 (broadcastInDim S1x1x1x128 ![3] bcast_S128_S1x1x1x128_3 be))
def hS : FVec Ideal S2x640x640 .f32 :=
  select (cmpf .ogt (Host.reduce FloatOps.maximumf (Host.absf y) (constant S_ .f32 0xFF800000#32) reducesTo_S2x640x640x128_S2x640x640_d3 h_S_) (broadcastInDim S2x640x640 ![] bcast_S_S2x640x640 (constant S_ .f32 0x00000000#32))) (Host.divf (Host.reduce FloatOps.maximumf (Host.absf y) (constant S_ .f32 0xFF800000#32) reducesTo_S2x640x640x128_S2x640x640_d3 h_S_) (broadcastInDim S2x640x640 ![] bcast_S_S2x640x640 (constant S_ .f32 0x43E00000#32))) (broadcastInDim S2x640x640 ![] bcast_S_S2x640x640 (id (constant S_ .f32 0x3F800000#32)))
def hQ : FVec Ideal S2x640x640x128 .fp8e4m3 :=
  Host.convertf .fp8e4m3 (minimumf (broadcastInDim S2x640x640x128 ![] bcast_S_S2x640x640x128 (id (constant S_ .f32 0x43E00000#32))) (maximumf (broadcastInDim S2x640x640x128 ![] bcast_S_S2x640x640x128 (id (constant S_ .f32 0xC3E00000#32))) (Host.divf y (broadcastInDim S2x640x640x128 ![0, 1, 2, 3] bcast_S2x640x640x1_S2x640x640x128_0_1_2_3 (broadcastInDim S2x640x640x1 ![0, 1, 2] bcast_S2x640x640_S2x640x640x1_0_1_2 s)))))

end terms

section values
variable (z : FVec Ideal S2x640x640x128 .bf16) (ga be : FVec Ideal S128 .f32) (x y : FVec Ideal S2x640x640x128 .f32) (s : FVec Ideal S2x640x640 .f32)

/-- One row of the input. -/
def rowZ (b : Fin 2) (R J : Fin 640) : Fin 128 → EReal := fun j => z (ix4 b R J j)
def vec (g : FVec Ideal S128 .f32) : Fin 128 → EReal := fun i => g (ix1 i)

theorem rA (p : FVec Ideal S2x640x640x128 .f32) (b : Fin 2) (R J : Fin 640) :
    (Host.reduceAdd p (constant S_ .f32 0x00000000#32) reducesTo_S2x640x640x128_S2x640x640_d3 h_S_ : FVec Ideal S2x640x640 .f32) (ix3 b R J) = ∑ c : Fin 128, (p (ix4 b R J c) : EReal) := by
  pointwise

theorem rM (p : FVec Ideal S2x640x640x128 .f32) (b : Fin 2) (R J : Fin 640) :
    (Host.reduce FloatOps.maximumf p (constant S_ .f32 0xFF800000#32) reducesTo_S2x640x640x128_S2x640x640_d3 h_S_ : FVec Ideal S2x640x640 .f32) (ix3 b R J) = Finset.fold max ⊥ (fun c => (p (ix4 b R J c) : EReal)) Finset.univ := by
  pointwise
  have e : Ideal.ofBits FTy.f32 4286578688#32 = ⊥ := by simp [Ideal.ofBits, Ideal.ieee]
  rw [e]

/-! Each term with its reduction as a variable. -/

theorem xg (q : FVec Ideal S2x640x640 .f32) (b : Fin 2) (R J : Fin 640) (i : Fin 128) :
    (subf (extf .f32 z bitsLt_bf16_f32) (broadcastInDim S2x640x640x128 ![0, 1, 2, 3] bcast_S2x640x640x1_S2x640x640x128_0_1_2_3 (Host.divf (broadcastInDim S2x640x640x1 ![0, 1, 2] bcast_S2x640x640_S2x640x640x1_0_1_2 q) (broadcastInDim S2x640x640x1 ![] bcast_S_S2x640x640x1 (constant S_ .f32 0x43000000#32))))) (ix4 b R J i) = z (ix4 b R J i) - Ideal.div (q (ix3 b R J)) (Ideal.ofBits FTy.f32 0x43000000#32) := by
  pointwise
  try rfl
theorem yg (q : FVec Ideal S2x640x640 .f32) (b : Fin 2) (R J : Fin 640) (i : Fin 128) :
    (addf (mulf (Host.divf x (broadcastInDim S2x640x640x128 ![0, 1, 2, 3] bcast_S2x640x640x1_S2x640x640x128_0_1_2_3 (Host.sqrt (addf (Host.divf (broadcastInDim S2x640x640x1 ![0, 1, 2] bcast_S2x640x640_S2x640x640x1_0_1_2 q) (broadcastInDim S2x640x640x1 ![] bcast_S_S2x640x640x1 (constant S_ .f32 0x43000000#32))) (broadcastInDim S2x640x640x1 ![] bcast_S_S2x640x640x1 (constant S_ .f32 0x3727C5AC#32)))))) (broadcastInDim S2x640x640x128 ![0, 1, 2, 3] bcast_S1x1x1x128_S2x640x640x128_0_1_2_3 (broadcastInDim S1x1x1x128 ![3] bcast_S128_S1x1x1x128_3 ga))) (broadcastInDim S2x640x640x128 ![0, 1, 2, 3] bcast_S1x1x1x128_S2x640x640x128_0_1_2_3 (broadcastInDim S1x1x1x128 ![3] bcast_S128_S1x1x1x128_3 be))) (ix4 b R J i)
      = Ideal.div (x (ix4 b R J i)) (Ideal.sqrt (Ideal.div (q (ix3 b R J)) (Ideal.ofBits FTy.f32 0x43000000#32) + eps)) * ga (ix1 i) + be (ix1 i) := by
  pointwise
  rfl
theorem sg (q : FVec Ideal S2x640x640 .f32) (b : Fin 2) (R J : Fin 640) :
    (select (cmpf .ogt q (broadcastInDim S2x640x640 ![] bcast_S_S2x640x640 (constant S_ .f32 0x00000000#32))) (Host.divf q (broadcastInDim S2x640x640 ![] bcast_S_S2x640x640 (constant S_ .f32 0x43E00000#32))) (broadcastInDim S2x640x640 ![] bcast_S_S2x640x640 (id (constant S_ .f32 0x3F800000#32)))) (ix3 b R J) = scaleOf (q (ix3 b R J)) := by
  pointwise
  have e : Ideal.ofBits FTy.f32 0x3F800000#32 = 1 := Ideal.ofBits_one_f32
  show (if 0 < q (ix3 b R J) then Ideal.div (q (ix3 b R J)) (Ideal.ofBits FTy.f32 1138753536#32) else Ideal.ofBits FTy.f32 0x3F800000#32) = _
  rw [e]
  rfl

theorem hX_at (b : Fin 2) (R J : Fin 640) (i : Fin 128) : hX z (ix4 b R J i) = rX (rowZ z b R J) i := by
  unfold hX
  rw [xg, rA]
  rfl

theorem hY_at (b : Fin 2) (R J : Fin 640) (i : Fin 128) : hY ga be (hX z) (ix4 b R J i) = rYn (rowZ z b R J) (vec ga) (vec be) i := by
  unfold hY
  rw [yg, rA]
  unfold rYn rS
  rw [hX_at]
  have e : ∀ c : Fin 128, (mulf (hX z) (hX z) (ix4 b R J c) : EReal) = rX (rowZ z b R J) c * rX (rowZ z b R J) c := fun c => congrArg₂ (fun u w : EReal => u * w) (hX_at z b R J c) (hX_at z b R J c)
  simp only [e]
  rfl

theorem hS_at (b : Fin 2) (R J : Fin 640) : hS y (ix3 b R J) = kScale fun i => y (ix4 b R J i) := by
  unfold hS
  rw [sg, rM]
  rfl

theorem hQ_at (b : Fin 2) (R J : Fin 640) (i : Fin 128) : hQ y s (ix4 b R J i) = min top (max bot (Ideal.div (y (ix4 b R J i)) (s (ix3 b R J)))) := by
  unfold hQ
  pointwise
  rfl

end values

variable (m : (ℓ : Loc nD τ sig) → Buf (Elt Ideal) ℓ) (c : Dev nD)

abbrev yOf : FVec Ideal S2x640x640x128 .f32 := hY (m ((c.tc : Thread nD τ).loc main_arg1)) (m ((c.tc : Thread nD τ).loc main_arg2)) (hX (m ((c.tc : Thread nD τ).loc main_arg0)))

theorem out1_eq : Value.res_out1 m c = hS (yOf m c) := by
  unfold Value.res_out1 Value.res_main_v30 yOf hS hY hX
  with_reducible rfl
theorem out0_eq : Value.res_out0 m c = hQ (yOf m c) (hS (yOf m c)) := by
  unfold Value.res_out0 Value.res_main_v35 yOf hQ hS hY hX
  with_reducible rfl

end Cert.Ln1ReferenceIdeal.Ln
-- ==== Proof.Ln.Alg.lean ====
/- The kernel and the reference give the same codes and the same factors. -/
module

public import proofs.«01_k».proof.Defs
public import Idealize.ShloMosaic.Lib.Quiescent
public import proofs.«01_k».proof.Proof.Ln.FinK
public import proofs.«01_k».proof.Proof.Ln.RefV

@[expose] public section

set_option maxRecDepth 16384

noncomputable section

namespace Cert.Ln1ReferenceIdeal.Ln

open Idealize.ShloMosaic Idealize.ShloMosaic.TcCoe Cert.TriMath Cert.Ln1Math Idealize.SL.Sem
open Cert.Ln1ReferenceIdeal Cert.Ln1ReferenceIdeal.Gen

variable (m : (ℓ : Loc nD τ sig) → Buf (Elt Ideal) ℓ) (ρ : Dev nD → PrngReg)

theorem q_eq (c : Dev nD) : Value.res_out0 m c = specQ (m ((c.tc : Thread nD τ).loc main_arg0)) (m ((c.tc : Thread nD τ).loc main_arg1)) (m ((c.tc : Thread nD τ).loc main_arg2)) := by
  rw [out0_eq]
  funext y
  obtain ⟨b, R, J, i, e⟩ : ∃ (b : Fin 2) (R J : Fin 640) (i : Fin 128), y = (ix4 b R J i : S2x640x640x128.Idx) :=
    ⟨y 0, y 1, y 2, y 3, by funext a; match a with | ⟨0, _⟩ => rfl | ⟨1, _⟩ => rfl | ⟨2, _⟩ => rfl | ⟨3, _⟩ => rfl⟩
  subst e
  rw [hQ_at, hS_at]
  simp only [hY_at]
  exact (code_eq _ _).symm
theorem s_eq (c : Dev nD) : Value.res_out1 m c = specS (m ((c.tc : Thread nD τ).loc main_arg0)) (m ((c.tc : Thread nD τ).loc main_arg1)) (m ((c.tc : Thread nD τ).loc main_arg2)) := by
  rw [out1_eq]
  funext y
  obtain ⟨b, R, J, e⟩ : ∃ (b : Fin 2) (R J : Fin 640), y = (ix3 b R J : S2x640x640.Idx) :=
    ⟨y 0, y 1, y 2, by funext a; match a with | ⟨0, _⟩ => rfl | ⟨1, _⟩ => rfl | ⟨2, _⟩ => rfl⟩
  subst e
  rw [hS_at]
  simp only [hY_at]
  rfl

theorem run_spec : θ_run defs (onTc (τ := τ) (main (F := Ideal))) ⟨m, fun _ => 0, ρ⟩ (fun r => ∀ c : Dev nD,
      r.2.mem ((c.tc : Thread nD τ).loc main_v35) = specQ (m ((c.tc : Thread nD τ).loc main_arg0)) (m ((c.tc : Thread nD τ).loc main_arg1)) (m ((c.tc : Thread nD τ).loc main_arg2))
      ∧ r.2.mem ((c.tc : Thread nD τ).loc main_v30) = specS (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (q_eq m c), (h c).2.1.trans (s_eq m c), (h c).2.2⟩) (Value.run m ρ)

/-- Every argument ends as it began; the program declares no semaphore. -/
theorem frame_main : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2.2, Idealize.ShloMosaic.sem_eq_zero_of_no_sems (by decide) r.2⟩) (Value.run m ρ)

end Cert.Ln1ReferenceIdeal.Ln

namespace Cert.Ln1Ideal.Ln

open Idealize.ShloMosaic Idealize.ShloMosaic.TcCoe Cert.TriMath Cert.Ln1Math Idealize.SL.Sem
open Cert.Ln1Ideal Cert.Ln1Ideal.Gen

variable (m : (ℓ : Loc nD τ sig) → Buf (Elt Ideal) ℓ) (ρ : Dev nD → PrngReg)

theorem args_eq (c : Dev nD) : aZ m c = m ((c.tc : Thread nD τ).loc main_arg0) ∧ aGa m c = m ((c.tc : Thread nD τ).loc main_arg1) ∧ aBe m c = m ((c.tc : Thread nD τ).loc main_arg2) :=
  ⟨V_main_arg0 m c, V_main_arg1 m c, V_main_arg2 m c⟩

theorem run_spec : θ_run defs (onTc (τ := τ) (main (F := Ideal))) ⟨m, fun _ => 0, ρ⟩ (fun r => ∀ c : Dev nD,
      r.2.mem ((c.tc : Thread nD τ).loc main_v13_0) = specQ (m ((c.tc : Thread nD τ).loc main_arg0)) (m ((c.tc : Thread nD τ).loc main_arg1)) (m ((c.tc : Thread nD τ).loc main_arg2))
      ∧ r.2.mem ((c.tc : Thread nD τ).loc main_v13_1) = specS (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans ((fin4 m c).trans (by rw [(args_eq m c).1, (args_eq m c).2.1, (args_eq m c).2.2])),
    (h c).2.1.trans ((fin5 m c).trans (by rw [(args_eq m c).1, (args_eq m c).2.1, (args_eq m c).2.2])), (h c).2.2⟩) (Value.run_blocks m ρ)

end Cert.Ln1Ideal.Ln

namespace Cert.Ln1Math

open Idealize.ShloMosaic Idealize.SL.Sem

section congr
open Cert.Ln1Ideal

theorem specQ_congr {a b : S2x640x640x128.Idx → EReal} {g g' e e' : S128.Idx → EReal} (h0 : b = a) (h1 : g' = g) (h2 : e' = e) : specQ b g' e' = specQ a g e := by
  rw [h0, h1, h2]
theorem specS_congr {a b : S2x640x640x128.Idx → EReal} {g g' e e' : S128.Idx → EReal} (h0 : b = a) (h1 : g' = g) (h2 : e' = e) : specS b g' e' = specS a g e := by
  rw [h0, h1, h2]

end congr

theorem algebraic : Cert.algebraic_Ln1Ideal_Ln1ReferenceIdeal (hLn1Ideal := Cert.Ln1Ideal.Gen.facts) (hLn1ReferenceIdeal := Cert.Ln1ReferenceIdeal.Gen.facts) := by
  intro m g m' g' _ hargs
  refine ⟨fun c => specQ (m ((c.tc : Thread Cert.Ln1Ideal.nD Cert.Ln1Ideal.τ).loc Cert.Ln1Ideal.main_arg0)) (m ((c.tc : Thread Cert.Ln1Ideal.nD Cert.Ln1Ideal.τ).loc Cert.Ln1Ideal.main_arg1)) (m ((c.tc : Thread Cert.Ln1Ideal.nD Cert.Ln1Ideal.τ).loc Cert.Ln1Ideal.main_arg2)),
    fun c => specS (m ((c.tc : Thread Cert.Ln1Ideal.nD Cert.Ln1Ideal.τ).loc Cert.Ln1Ideal.main_arg0)) (m ((c.tc : Thread Cert.Ln1Ideal.nD Cert.Ln1Ideal.τ).loc Cert.Ln1Ideal.main_arg1)) (m ((c.tc : Thread Cert.Ln1Ideal.nD Cert.Ln1Ideal.τ).loc Cert.Ln1Ideal.main_arg2)), Cert.Ln1Ideal.Ln.run_spec m g, ?_⟩
  refine (θ_run _ _ _).mono (fun r h c => ?_) (Cert.Ln1ReferenceIdeal.Ln.run_spec m' g')
  obtain ⟨e0, e1, e2⟩ := hargs c
  exact ⟨(h c).1.trans (specQ_congr e0 e1 e2), (h c).2.1.trans (specS_congr e0 e1 e2), (h c).2.2⟩

end Cert.Ln1Math
-- ==== Proof.lean ====
module

public import proofs.«01_k».proof.Defs
public import proofs.«01_k».proof.Proof.Gen.Ln1
public import proofs.«01_k».proof.Proof.Gen.Ln1.Frame
public import proofs.«01_k».proof.Proof.Gen.Ln1Ideal
public import proofs.«01_k».proof.Proof.Gen.Ln1ReferenceIdeal
public import proofs.«01_k».proof.Proof.Gen.Ln1ReferenceIdeal.Run
public import proofs.«01_k».proof.Proof.Gen.Ln1Ideal.Value
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Value
public import proofs.«01_k».proof.Proof.FrameK
public import proofs.«01_k».proof.Proof.Ideal.FrameK
public import proofs.«01_k».proof.Proof.Val.Alg
public import proofs.«01_k».proof.Proof.Ln.Alg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Ln1.Gen.facts, Cert.Ln1Ideal.Gen.facts, Cert.Ln1ReferenceIdeal.Gen.facts, by
  exact ⟨fun m g _ => Cert.Kernel.Tri.frame_main m g, fun m g _ => Cert.KernelIdeal.Tri.frame_main m g, fun m g _ => Cert.ReferenceIdeal.Gen.frame m g,
    fun m g _ => Cert.Ln1.Gen.frame m g, fun m g _ => Cert.Ln1Ideal.Gen.frame m g, fun m g _ => Cert.Ln1ReferenceIdeal.Ln.frame_main m g,
    IdealRules.named_const.statement Cert.KernelIdeal.κ "inv_c" .f32 0x3C2AAAAB#32 ((1 / 96 : ℝ) : EReal) rfl, Cert.TriMath.algebraic,
    trivial, Cert.Ln1Math.algebraic⟩⟩

end Cert.Proof

end
